-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_v18) = v3 c
          ∧ r.2.mem ((c.tc : Thread Cert.ReferenceIdeal.nD Cert.ReferenceIdeal.τ).loc Cert.ReferenceIdeal.main_v17) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v19)) (v1 : (c : Dev Cert.Kernel2Ideal.nD) → Buf (Elt Ideal) ((c.tc : Thread Cert.Kernel2Ideal.nD Cert.Kernel2Ideal.τ).loc Cert.Kernel2Ideal.main_v41)) (v2 : (c : Dev Cert.Kernel2Ideal.nD) → Buf (Elt Ideal) ((c.tc : Thread Cert.Kernel2Ideal.nD Cert.Kernel2Ideal.τ).loc Cert.Kernel2Ideal.main_v39)) (v3 : (c : Dev Cert.Kernel2Ideal.nD) → Buf (Elt Ideal) ((c.tc : Thread Cert.Kernel2Ideal.nD Cert.Kernel2Ideal.τ).loc Cert.Kernel2Ideal.main_v32)) (v4 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_v41) = v1 c
          ∧ r.2.mem ((c.tc : Thread Cert.Kernel2Ideal.nD Cert.Kernel2Ideal.τ).loc Cert.Kernel2Ideal.main_v39) = v2 c
          ∧ r.2.mem ((c.tc : Thread Cert.Kernel2Ideal.nD Cert.Kernel2Ideal.τ).loc Cert.Kernel2Ideal.main_v32) = v3 c
          ∧ r.2.mem ((c.tc : Thread Cert.Kernel2Ideal.nD Cert.Kernel2Ideal.τ).loc Cert.Kernel2Ideal.main_v24) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_v15) = v2 c
          ∧ r.2.mem ((c.tc : Thread Cert.Reference2Ideal.nD Cert.Reference2Ideal.τ).loc Cert.Reference2Ideal.main_v11) = v3 c
          ∧ r.2.mem ((c.tc : Thread Cert.Reference2Ideal.nD Cert.Reference2Ideal.τ).loc Cert.Reference2Ideal.main_v6) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)) (v1 : (c : Dev Cert.Kernel3Ideal.nD) → Buf (Elt Ideal) ((c.tc : Thread Cert.Kernel3Ideal.nD Cert.Kernel3Ideal.τ).loc Cert.Kernel3Ideal.main_v17)) (v2 : (c : Dev Cert.Kernel3Ideal.nD) → Buf (Elt Ideal) ((c.tc : Thread Cert.Kernel3Ideal.nD Cert.Kernel3Ideal.τ).loc Cert.Kernel3Ideal.main_v16)) (v3 : (c : Dev Cert.Kernel3Ideal.nD) → Buf (Elt Ideal) ((c.tc : Thread Cert.Kernel3Ideal.nD Cert.Kernel3Ideal.τ).loc Cert.Kernel3Ideal.main_v11)) (v4 : (c : Dev Cert.Kernel3Ideal.nD) → Buf (Elt Ideal) ((c.tc : Thread Cert.Kernel3Ideal.nD Cert.Kernel3Ideal.τ).loc Cert.Kernel3Ideal.main_v23)) (v5 : (c : Dev Cert.Kernel3Ideal.nD) → Buf (Elt Ideal) ((c.tc : Thread Cert.Kernel3Ideal.nD Cert.Kernel3Ideal.τ).loc Cert.Kernel3Ideal.main_v22)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_v17) = v1 c
          ∧ r.2.mem ((c.tc : Thread Cert.Kernel3Ideal.nD Cert.Kernel3Ideal.τ).loc Cert.Kernel3Ideal.main_v16) = v2 c
          ∧ r.2.mem ((c.tc : Thread Cert.Kernel3Ideal.nD Cert.Kernel3Ideal.τ).loc Cert.Kernel3Ideal.main_v11) = v3 c
          ∧ r.2.mem ((c.tc : Thread Cert.Kernel3Ideal.nD Cert.Kernel3Ideal.τ).loc Cert.Kernel3Ideal.main_v23) = v4 c
          ∧ r.2.mem ((c.tc : Thread Cert.Kernel3Ideal.nD Cert.Kernel3Ideal.τ).loc Cert.Kernel3Ideal.main_v22) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_v4) = v1 c
          ∧ r.2.mem ((c.tc : Thread Cert.Reference3Ideal.nD Cert.Reference3Ideal.τ).loc Cert.Reference3Ideal.main_v3) = v2 c
          ∧ r.2.mem ((c.tc : Thread Cert.Reference3Ideal.nD Cert.Reference3Ideal.τ).loc Cert.Reference3Ideal.main_v1) = v3 c
          ∧ r.2.mem ((c.tc : Thread Cert.Reference3Ideal.nD Cert.Reference3Ideal.τ).loc Cert.Reference3Ideal.main_v7) = v4 c
          ∧ r.2.mem ((c.tc : Thread Cert.Reference3Ideal.nD Cert.Reference3Ideal.τ).loc Cert.Reference3Ideal.main_v6) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_v26) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v26) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_v26) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_v26) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v26) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v26) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v26) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v24) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v26) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v24) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v26) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v26) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v26) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2_0)) (v1 : (c : Dev Cert.Kernel15Ideal.nD) → Buf (Elt Ideal) ((c.tc : Thread Cert.Kernel15Ideal.nD Cert.Kernel15Ideal.τ).loc Cert.Kernel15Ideal.main_v2_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2_0) = v0 c
          ∧ r.2.mem ((c.tc : Thread Cert.Kernel15Ideal.nD Cert.Kernel15Ideal.τ).loc Cert.Kernel15Ideal.main_v2_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v16) = v0 c
          ∧ r.2.mem ((c.tc : Thread Cert.Reference15Ideal.nD Cert.Reference15Ideal.τ).loc Cert.Reference15Ideal.main_v18) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)) (v2 : (c : Dev Cert.Kernel16Ideal.nD) → Buf (Elt Ideal) ((c.tc : Thread Cert.Kernel16Ideal.nD Cert.Kernel16Ideal.τ).loc Cert.Kernel16Ideal.main_v4_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_v4_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v26) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Kernel.lean ====
abbrev S8x32x64x128 : Shape := ⟨4, ![8, 32, 64, 128]⟩
abbrev S8x32x64x256 : Shape := ⟨4, ![8, 32, 64, 256]⟩
abbrev S8x32x128x1 : Shape := ⟨4, ![8, 32, 128, 1]⟩
abbrev S8x32x128x256 : Shape := ⟨4, ![8, 32, 128, 256]⟩
abbrev S1x1x64x128 : Shape := ⟨4, ![1, 1, 64, 128]⟩
abbrev S1x1x64x256 : Shape := ⟨4, ![1, 1, 64, 256]⟩
abbrev S1x1x128x1 : Shape := ⟨4, ![1, 1, 128, 1]⟩
abbrev S1x1x128x256 : Shape := ⟨4, ![1, 1, 128, 256]⟩
abbrev S128x256 : Shape := ⟨2, ![128, 256]⟩
abbrev S64x128 : Shape := ⟨2, ![64, 128]⟩
abbrev S64x256 : Shape := ⟨2, ![64, 256]⟩
abbrev S128x1 : Shape := ⟨2, ![128, 1]⟩
abbrev S128 : Shape := ⟨1, ![128]⟩

abbrev nBuf : Space → Nat
  | .hbm => 11
  | .vmem => 34
  | .smem => 0
  | _ => 0

abbrev bufTy : (tb : Table) → Fin (tcTables nBuf tb) → BufTy
  | .hbm, ⟨0, _⟩ => ⟨S8x32x64x128, .f32⟩
  | .hbm, ⟨1, _⟩ => ⟨S8x32x64x128, .f32⟩
  | .hbm, ⟨2, _⟩ => ⟨S8x32x64x256, .f32⟩
  | .hbm, ⟨3, _⟩ => ⟨S8x32x128x1, .f32⟩
  | .hbm, ⟨4, _⟩ => ⟨S8x32x64x256, .f32⟩
  | .hbm, ⟨5, _⟩ => ⟨S8x32x64x256, .f32⟩
  | .hbm, ⟨6, _⟩ => ⟨S8x32x128x256, .f32⟩
  | .hbm, ⟨7, _⟩ => ⟨S8x32x64x128, .f32⟩
  | .hbm, ⟨8, _⟩ => ⟨S8x32x64x128, .f32⟩
  | .hbm, ⟨9, _⟩ => ⟨S8x32x64x256, .f32⟩
  | .hbm, ⟨10, _⟩ => ⟨S8x32x128x1, .f32⟩
  | .local _ .vmem, ⟨0, _⟩ => ⟨S1x1x64x128, .f32⟩
  | .local _ .vmem, ⟨1, _⟩ => ⟨S1x1x64x128, .f32⟩
  | .local _ .vmem, ⟨2, _⟩ => ⟨S1x1x64x128, .f32⟩
  | .local _ .vmem, ⟨3, _⟩ => ⟨S1x1x64x128, .f32⟩
  | .local _ .vmem, ⟨4, _⟩ => ⟨S1x1x64x256, .f32⟩
  | .local _ .vmem, ⟨5, _⟩ => ⟨S1x1x64x256, .f32⟩
  | .local _ .vmem, ⟨6, _⟩ => ⟨S1x1x128x1, .f32⟩
  | .local _ .vmem, ⟨7, _⟩ => ⟨S1x1x128x1, .f32⟩
  | .local _ .vmem, ⟨8, _⟩ => ⟨S1x1x64x256, .f32⟩
  | .local _ .vmem, ⟨9, _⟩ => ⟨S1x1x64x256, .f32⟩
  | .local _ .vmem, ⟨10, _⟩ => ⟨S1x1x128x256, .f32⟩
  | .local _ .vmem, ⟨11, _⟩ => ⟨S1x1x128x256, .f32⟩
  | .local _ .vmem, ⟨12, _⟩ => ⟨S128x256, .f32⟩
  | .local _ .vmem, ⟨13, _⟩ => ⟨S1x1x64x128, .f32⟩
  | .local _ .vmem, ⟨14, _⟩ => ⟨S1x1x64x128, .f32⟩
  | .local _ .vmem, ⟨15, _⟩ => ⟨S1x1x64x128, .f32⟩
  | .local _ .vmem, ⟨16, _⟩ => ⟨S1x1x64x128, .f32⟩
  | .local _ .vmem, ⟨17, _⟩ => ⟨S1x1x64x256, .f32⟩
  | .local _ .vmem, ⟨18, _⟩ => ⟨S1x1x64x256, .f32⟩
  | .local _ .vmem, ⟨19, _⟩ => ⟨S1x1x128x1, .f32⟩
  | .local _ .vmem, ⟨20, _⟩ => ⟨S1x1x128x1, .f32⟩
  | .local _ .vmem, ⟨21, _⟩ => ⟨S1x1x128x256, .f32⟩
  | .local _ .vmem, ⟨22, _⟩ => ⟨S1x1x128x256, .f32⟩
  | .local _ .vmem, ⟨23, _⟩ => ⟨S1x1x64x256, .f32⟩
  | .local _ .vmem, ⟨24, _⟩ => ⟨S1x1x64x256, .f32⟩
  | .local _ .vmem, ⟨25, _⟩ => ⟨S1x1x64x128, .f32⟩
  | .local _ .vmem, ⟨26, _⟩ => ⟨S1x1x64x128, .f32⟩
  | .local _ .vmem, ⟨27, _⟩ => ⟨S1x1x64x128, .f32⟩
  | .local _ .vmem, ⟨28, _⟩ => ⟨S1x1x64x128, .f32⟩
  | .local _ .vmem, ⟨29, _⟩ => ⟨S1x1x64x256, .f32⟩
  | .local _ .vmem, ⟨30, _⟩ => ⟨S1x1x64x256, .f32⟩
  | .local _ .vmem, ⟨31, _⟩ => ⟨S1x1x128x1, .f32⟩
  | .local _ .vmem, ⟨32, _⟩ => ⟨S1x1x128x1, .f32⟩
  | .local _ .vmem, ⟨33, _⟩ => ⟨S128x256, .f32⟩
  | _, _ => ⟨S8x32x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨2, ![8, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 32], ![false, false]⟩

def cc1_transform_0 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_8 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_9 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

abbrev stage1_0 : Fin 2 → Memref sig .tc .vmem S1x1x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x64x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x128x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x128x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x64x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x64x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1x64x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x1x64x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x1x128x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== ReferenceIdeal.lean ====
abbrev S8x32x64x128 : Shape := ⟨4, ![8, 32, 64, 128]⟩
abbrev S8x32x64x256 : Shape := ⟨4, ![8, 32, 64, 256]⟩
abbrev S8x32x128x1 : Shape := ⟨4, ![8, 32, 128, 1]⟩
abbrev S32x8x64x128 : Shape := ⟨4, ![32, 8, 64, 128]⟩
abbrev S32x8x64x256 : Shape := ⟨4, ![32, 8, 64, 256]⟩
abbrev S32x8x128x1 : Shape := ⟨4, ![32, 8, 128, 1]⟩
abbrev S_ : Shape := ⟨0, ![]⟩
abbrev S8x128x256 : Shape := ⟨3, ![8, 128, 256]⟩
abbrev S32x8x128x256 : Shape := ⟨4, ![32, 8, 128, 256]⟩
abbrev S1x8x64x128 : Shape := ⟨4, ![1, 8, 64, 128]⟩
abbrev S8x64x128 : Shape := ⟨3, ![8, 64, 128]⟩
abbrev S1x8x64x256 : Shape := ⟨4, ![1, 8, 64, 256]⟩
abbrev S8x64x256 : Shape := ⟨3, ![8, 64, 256]⟩
abbrev S1x8x128x1 : Shape := ⟨4, ![1, 8, 128, 1]⟩
abbrev S8x128x1 : Shape := ⟨3, ![8, 128, 1]⟩
abbrev S1x8x128x256 : Shape := ⟨4, ![1, 8, 128, 256]⟩
abbrev S8x256x64 : Shape := ⟨3, ![8, 256, 64]⟩
abbrev S8x128x64 : Shape := ⟨3, ![8, 128, 64]⟩
abbrev S8x128 : Shape := ⟨2, ![8, 128]⟩
abbrev S8x256x128 : Shape := ⟨3, ![8, 256, 128]⟩

abbrev nBuf : Space → Nat
  | .hbm => 166
  | .vmem => 0
  | .smem => 0
  | _ => 0

abbrev hbmTy0_0 (i : Nat) : BufTy := match i % 128 with
  | 0 => ⟨S8x32x64x128, .f32⟩
  | 1 => ⟨S8x32x64x128, .f32⟩
  | 2 => ⟨S8x32x64x256, .f32⟩
  | 3 => ⟨S8x32x128x1, .f32⟩
  | 4 => ⟨S8x32x64x256, .f32⟩
  | 5 => ⟨S32x8x64x128, .f32⟩
  | 6 => ⟨S32x8x64x128, .f32⟩
  | 7 => ⟨S32x8x64x256, .f32⟩
  | 8 => ⟨S32x8x128x1, .f32⟩
  | 9 => ⟨S_, .f32⟩
  | 10 => ⟨S8x128x256, .f32⟩
  | 11 => ⟨S_, .f32⟩
  | 12 => ⟨S32x8x64x256, .f32⟩
  | 13 => ⟨S_, .f32⟩
  | 14 => ⟨S32x8x128x256, .f32⟩
  | 15 => ⟨S_, .i32⟩
  | 16 => ⟨S32x8x64x128, .f32⟩
  | 17 => ⟨S32x8x64x128, .f32⟩
  | 18 => ⟨S32x8x64x256, .f32⟩
  | 19 => ⟨S32x8x128x1, .f32⟩
  | 20 => ⟨S_, .i32⟩
  | 21 => ⟨S8x128x256, .f32⟩
  | 22 => ⟨S32x8x64x256, .f32⟩
  | 23 => ⟨S32x8x128x256, .f32⟩
  | 24 => ⟨S_, .i32⟩
  | 25 => ⟨S_, .i1⟩
  | 26 => ⟨S_, .i32⟩
  | 27 => ⟨S_, .i32⟩
  | 28 => ⟨S_, .i32⟩
  | 29 => ⟨S1x8x64x128, .f32⟩
  | 30 => ⟨S8x64x128, .f32⟩
  | 31 => ⟨S_, .i32⟩
  | 32 => ⟨S_, .i32⟩
  | 33 => ⟨S_, .i32⟩
  | 34 => ⟨S1x8x64x128, .f32⟩
  | 35 => ⟨S8x64x128, .f32⟩
  | 36 => ⟨S_, .i32⟩
  | 37 => ⟨S_, .i32⟩
  | 38 => ⟨S_, .i32⟩
  | 39 => ⟨S1x8x64x256, .f32⟩
  | 40 => ⟨S8x64x256, .f32⟩
  | 41 => ⟨S_, .i32⟩
  | 42 => ⟨S_, .i32⟩
  | 43 => ⟨S_, .i32⟩
  | 44 => ⟨S1x8x128x1, .f32⟩
  | 45 => ⟨S8x128x1, .f32⟩
  | 46 => ⟨S8x64x256, .f32⟩
  | 47 => ⟨S8x128x256, .f32⟩
  | 48 => ⟨S8x128x256, .f32⟩
  | 49 => ⟨S8x128x256, .f32⟩
  | 50 => ⟨S8x128x256, .f32⟩
  | 51 => ⟨S1x8x64x256, .f32⟩
  | 52 => ⟨S_, .i32⟩
  | 53 => ⟨S_, .i32⟩
  | 54 => ⟨S_, .i32⟩
  | 55 => ⟨S32x8x64x256, .f32⟩
  | 56 => ⟨S1x8x128x256, .f32⟩
  | 57 => ⟨S_, .i32⟩
  | 58 => ⟨S_, .i32⟩
  | 59 => ⟨S_, .i32⟩
  | 60 => ⟨S32x8x128x256, .f32⟩
  | 61 => ⟨S_, .i32⟩
  | 62 => ⟨S_, .i32⟩
  | 63 => ⟨S8x32x64x256, .f32⟩
  | 64 => ⟨S_, .f32⟩
  | 65 => ⟨S8x128x256, .f32⟩
  | 66 => ⟨S32x8x64x256, .f32⟩
  | 67 => ⟨S_, .f32⟩
  | 68 => ⟨S8x128x256, .f32⟩
  | 69 => ⟨S_, .f32⟩
  | 70 => ⟨S32x8x64x128, .f32⟩
  | 71 => ⟨S_, .f32⟩
  | 72 => ⟨S32x8x64x128, .f32⟩
  | 73 => ⟨S_, .f32⟩
  | 74 => ⟨S32x8x64x256, .f32⟩
  | 75 => ⟨S_, .f32⟩
  | 76 => ⟨S32x8x128x1, .f32⟩
  | 77 => ⟨S_, .i32⟩
  | 78 => ⟨S32x8x64x256, .f32⟩
  | 79 => ⟨S32x8x128x256, .f32⟩
  | 80 => ⟨S32x8x64x128, .f32⟩
  | 81 => ⟨S32x8x128x1, .f32⟩
  | 82 => ⟨S32x8x64x256, .f32⟩
  | 83 => ⟨S32x8x64x128, .f32⟩
  | 84 => ⟨S_, .i32⟩
  | 85 => ⟨S8x128x256, .f32⟩
  | 86 => ⟨S32x8x64x128, .f32⟩
  | 87 => ⟨S32x8x64x128, .f32⟩
  | 88 => ⟨S32x8x64x256, .f32⟩
  | 89 => ⟨S32x8x128x1, .f32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S1x8x64x256, .f32⟩
  | 100 => ⟨S8x64x256, .f32⟩
  | 101 => ⟨S_, .i32⟩
  | 102 => ⟨S_, .i32⟩
  | 103 => ⟨S_, .i32⟩
  | 104 => ⟨S1x8x128x256, .f32⟩
  | 105 => ⟨S8x128x256, .f32⟩
  | 106 => ⟨S_, .i32⟩
  | 107 => ⟨S_, .i32⟩
  | 108 => ⟨S_, .i32⟩
  | 109 => ⟨S1x8x64x128, .f32⟩
  | 110 => ⟨S8x64x128, .f32⟩
  | 111 => ⟨S_, .i32⟩
  | 112 => ⟨S_, .i32⟩
  | 113 => ⟨S_, .i32⟩
  | 114 => ⟨S1x8x128x1, .f32⟩
  | 115 => ⟨S8x128x1, .f32⟩
  | 116 => ⟨S_, .i32⟩
  | 117 => ⟨S_, .i32⟩
  | 118 => ⟨S_, .i32⟩
  | 119 => ⟨S1x8x64x256, .f32⟩
  | 120 => ⟨S8x64x256, .f32⟩
  | 121 => ⟨S_, .i32⟩
  | 122 => ⟨S_, .i32⟩
  | 123 => ⟨S_, .i32⟩
  | 124 => ⟨S1x8x64x128, .f32⟩
  | 125 => ⟨S8x64x128, .f32⟩
  | 126 => ⟨S8x256x64, .f32⟩
  | 127 => ⟨S8x64x256, .f32⟩
  | _ => ⟨S8x32x64x128, .f32⟩

abbrev hbmTy0_1 (i : Nat) : BufTy := match i % 128 with
  | 0 => ⟨S8x128x64, .f32⟩
  | 1 => ⟨S8x64x128, .f32⟩
  | 2 => ⟨S8x128x256, .f32⟩
  | 3 => ⟨S_, .f32⟩
  | 4 => ⟨S8x128, .f32⟩
  | 5 => ⟨S8x128x1, .f32⟩
  | 6 => ⟨S8x128x256, .f32⟩
  | 7 => ⟨S8x128x256, .f32⟩
  | 8 => ⟨S8x256x128, .f32⟩
  | 9 => ⟨S8x128x256, .f32⟩
  | 10 => ⟨S8x128x256, .f32⟩
  | 11 => ⟨S8x64x128, .f32⟩
  | 12 => ⟨S1x8x64x128, .f32⟩
  | 13 => ⟨S_, .i32⟩
  | 14 => ⟨S_, .i32⟩
  | 15 => ⟨S_, .i32⟩
  | 16 => ⟨S32x8x64x128, .f32⟩
  | 17 => ⟨S1x8x64x128, .f32⟩
  | 18 => ⟨S_, .i32⟩
  | 19 => ⟨S_, .i32⟩
  | 20 => ⟨S_, .i32⟩
  | 21 => ⟨S32x8x64x128, .f32⟩
  | 22 => ⟨S1x8x64x256, .f32⟩
  | 23 => ⟨S_, .i32⟩
  | 24 => ⟨S_, .i32⟩
  | 25 => ⟨S_, .i32⟩
  | 26 => ⟨S32x8x64x256, .f32⟩
  | 27 => ⟨S1x8x128x1, .f32⟩
  | 28 => ⟨S_, .i32⟩
  | 29 => ⟨S_, .i32⟩
  | 30 => ⟨S_, .i32⟩
  | 31 => ⟨S32x8x128x1, .f32⟩
  | 32 => ⟨S_, .i32⟩
  | 33 => ⟨S_, .i32⟩
  | 34 => ⟨S8x32x128x1, .f32⟩
  | 35 => ⟨S8x32x64x256, .f32⟩
  | 36 => ⟨S8x32x64x128, .f32⟩
  | 37 => ⟨S8x32x64x128, .f32⟩
  | _ => ⟨S8x32x64x128, .f32⟩

abbrev hbmTy (i : Nat) : BufTy := match i / 128 with
  | 0 => hbmTy0_0 i
  | 1 => hbmTy0_1 i
  | _ => ⟨S8x32x64x128, .f32⟩

abbrev bufTy : (tb : Table) → Fin (tcTables nBuf tb) → BufTy
  | .hbm, ⟨i, _⟩ => hbmTy i
  | _, _ => ⟨S8x32x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_c : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_v7_6 : Ref sig .tc := ⟨.hbm, 22, rfl⟩
abbrev main_v7_7 : Ref sig .tc := ⟨.hbm, 23, rfl⟩
abbrev main_while0c_c_16 : Ref sig .tc := ⟨.hbm, 24, rfl⟩
abbrev main_while0c_v21 : Ref sig .tc := ⟨.hbm, 25, rfl⟩
abbrev main_while0b_call0_c : Ref sig .tc := ⟨.hbm, 26, rfl⟩
abbrev main_while0b_call0_c_0 : Ref sig .tc := ⟨.hbm, 27, rfl⟩
abbrev main_while0b_call0_c_1 : Ref sig .tc := ⟨.hbm, 28, rfl⟩
abbrev main_while0b_call0_v0 : Ref sig .tc := ⟨.hbm, 29, rfl⟩
abbrev main_while0b_v21 : Ref sig .tc := ⟨.hbm, 30, rfl⟩
abbrev main_while0b_call1_c : Ref sig .tc := ⟨.hbm, 31, rfl⟩
abbrev main_while0b_call1_c_0 : Ref sig .tc := ⟨.hbm, 32, rfl⟩
abbrev main_while0b_call1_c_1 : Ref sig .tc := ⟨.hbm, 33, rfl⟩
abbrev main_while0b_call1_v0 : Ref sig .tc := ⟨.hbm, 34, rfl⟩
abbrev main_while0b_v22 : Ref sig .tc := ⟨.hbm, 35, rfl⟩
abbrev main_while0b_call2_c : Ref sig .tc := ⟨.hbm, 36, rfl⟩
abbrev main_while0b_call2_c_0 : Ref sig .tc := ⟨.hbm, 37, rfl⟩
abbrev main_while0b_call2_c_1 : Ref sig .tc := ⟨.hbm, 38, rfl⟩
abbrev main_while0b_call2_v0 : Ref sig .tc := ⟨.hbm, 39, rfl⟩
abbrev main_while0b_v23 : Ref sig .tc := ⟨.hbm, 40, rfl⟩
abbrev main_while0b_call3_c : Ref sig .tc := ⟨.hbm, 41, rfl⟩
abbrev main_while0b_call3_c_0 : Ref sig .tc := ⟨.hbm, 42, rfl⟩
abbrev main_while0b_call3_c_1 : Ref sig .tc := ⟨.hbm, 43, rfl⟩
abbrev main_while0b_call3_v0 : Ref sig .tc := ⟨.hbm, 44, rfl⟩
abbrev main_while0b_v24 : Ref sig .tc := ⟨.hbm, 45, rfl⟩
abbrev main_while0b_v25 : Ref sig .tc := ⟨.hbm, 46, rfl⟩
abbrev main_while0b_v26 : Ref sig .tc := ⟨.hbm, 47, rfl⟩
abbrev main_while0b_v27 : Ref sig .tc := ⟨.hbm, 48, rfl⟩
abbrev main_while0b_v28 : Ref sig .tc := ⟨.hbm, 49, rfl⟩
abbrev main_while0b_v29 : Ref sig .tc := ⟨.hbm, 50, rfl⟩
abbrev main_while0b_call4_v0 : Ref sig .tc := ⟨.hbm, 51, rfl⟩
abbrev main_while0b_call4_c : Ref sig .tc := ⟨.hbm, 52, rfl⟩
abbrev main_while0b_call4_c_0 : Ref sig .tc := ⟨.hbm, 53, rfl⟩
abbrev main_while0b_call4_c_1 : Ref sig .tc := ⟨.hbm, 54, rfl⟩
abbrev main_while0b_v30 : Ref sig .tc := ⟨.hbm, 55, rfl⟩
abbrev main_while0b_call5_v0 : Ref sig .tc := ⟨.hbm, 56, rfl⟩
abbrev main_while0b_call5_c : Ref sig .tc := ⟨.hbm, 57, rfl⟩
abbrev main_while0b_call5_c_0 : Ref sig .tc := ⟨.hbm, 58, rfl⟩
abbrev main_while0b_call5_c_1 : Ref sig .tc := ⟨.hbm, 59, rfl⟩
abbrev main_while0b_v31 : Ref sig .tc := ⟨.hbm, 60, rfl⟩
abbrev main_while0b_c_16 : Ref sig .tc := ⟨.hbm, 61, rfl⟩
abbrev main_while0b_v32 : Ref sig .tc := ⟨.hbm, 62, rfl⟩
abbrev main_v8 : Ref sig .tc := ⟨.hbm, 63, rfl⟩
abbrev main_cst_2 : Ref sig .tc := ⟨.hbm, 64, rfl⟩
abbrev main_v9 : Ref sig .tc := ⟨.hbm, 65, rfl⟩
abbrev main_v10 : Ref sig .tc := ⟨.hbm, 66, rfl⟩
abbrev main_cst_3 : Ref sig .tc := ⟨.hbm, 67, rfl⟩
abbrev main_v11 : Ref sig .tc := ⟨.hbm, 68, rfl⟩
abbrev main_cst_4 : Ref sig .tc := ⟨.hbm, 69, rfl⟩
abbrev main_v12 : Ref sig .tc := ⟨.hbm, 70, rfl⟩
abbrev main_cst_5 : Ref sig .tc := ⟨.hbm, 71, rfl⟩
abbrev main_v13 : Ref sig .tc := ⟨.hbm, 72, rfl⟩
abbrev main_cst_6 : Ref sig .tc := ⟨.hbm, 73, rfl⟩
abbrev main_v14 : Ref sig .tc := ⟨.hbm, 74, rfl⟩
abbrev main_cst_7 : Ref sig .tc := ⟨.hbm, 75, rfl⟩
abbrev main_v15 : Ref sig .tc := ⟨.hbm, 76, rfl⟩
abbrev main_c_8 : Ref sig .tc := ⟨.hbm, 77, rfl⟩
abbrev main_v16_0 : Ref sig .tc := ⟨.hbm, 78, rfl⟩
abbrev main_v16_1 : Ref sig .tc := ⟨.hbm, 79, rfl⟩
abbrev main_v16_2 : Ref sig .tc := ⟨.hbm, 80, rfl⟩
abbrev main_v16_3 : Ref sig .tc := ⟨.hbm, 81, rfl⟩
abbrev main_v16_4 : Ref sig .tc := ⟨.hbm, 82, rfl⟩
abbrev main_v16_5 : Ref sig .tc := ⟨.hbm, 83, rfl⟩
abbrev main_v16_6 : Ref sig .tc := ⟨.hbm, 84, rfl⟩
abbrev main_v16_7 : Ref sig .tc := ⟨.hbm, 85, rfl⟩
abbrev main_v16_8 : Ref sig .tc := ⟨.hbm, 86, rfl⟩
abbrev main_v16_9 : Ref sig .tc := ⟨.hbm, 87, rfl⟩
abbrev main_v16_10 : Ref sig .tc := ⟨.hbm, 88, rfl⟩
abbrev main_v16_11 : Ref sig .tc := ⟨.hbm, 89, rfl⟩
abbrev main_while1c_c_20 : Ref sig .tc := ⟨.hbm, 90, rfl⟩
abbrev main_while1c_v21 : Ref sig .tc := ⟨.hbm, 91, rfl⟩
abbrev main_while1b_c_20 : Ref sig .tc := ⟨.hbm, 92, rfl⟩
abbrev main_while1b_v21 : Ref sig .tc := ⟨.hbm, 93, rfl⟩
abbrev main_while1b_c_21 : Ref sig .tc := ⟨.hbm, 94, rfl⟩
abbrev main_while1b_v22 : Ref sig .tc := ⟨.hbm, 95, rfl⟩
abbrev main_while1b_call6_c : Ref sig .tc := ⟨.hbm, 96, rfl⟩
abbrev main_while1b_call6_c_0 : Ref sig .tc := ⟨.hbm, 97, rfl⟩
abbrev main_while1b_call6_c_1 : Ref sig .tc := ⟨.hbm, 98, rfl⟩
abbrev main_while1b_call6_v0 : Ref sig .tc := ⟨.hbm, 99, rfl⟩
abbrev main_while1b_v23 : Ref sig .tc := ⟨.hbm, 100, rfl⟩
abbrev main_while1b_call7_c : Ref sig .tc := ⟨.hbm, 101, rfl⟩
abbrev main_while1b_call7_c_0 : Ref sig .tc := ⟨.hbm, 102, rfl⟩
abbrev main_while1b_call7_c_1 : Ref sig .tc := ⟨.hbm, 103, rfl⟩
abbrev main_while1b_call7_v0 : Ref sig .tc := ⟨.hbm, 104, rfl⟩
abbrev main_while1b_v24 : Ref sig .tc := ⟨.hbm, 105, rfl⟩
abbrev main_while1b_call8_c : Ref sig .tc := ⟨.hbm, 106, rfl⟩
abbrev main_while1b_call8_c_0 : Ref sig .tc := ⟨.hbm, 107, rfl⟩
abbrev main_while1b_call8_c_1 : Ref sig .tc := ⟨.hbm, 108, rfl⟩
abbrev main_while1b_call8_v0 : Ref sig .tc := ⟨.hbm, 109, rfl⟩
abbrev main_while1b_v25 : Ref sig .tc := ⟨.hbm, 110, rfl⟩
abbrev main_while1b_call9_c : Ref sig .tc := ⟨.hbm, 111, rfl⟩
abbrev main_while1b_call9_c_0 : Ref sig .tc := ⟨.hbm, 112, rfl⟩
abbrev main_while1b_call9_c_1 : Ref sig .tc := ⟨.hbm, 113, rfl⟩
abbrev main_while1b_call9_v0 : Ref sig .tc := ⟨.hbm, 114, rfl⟩
abbrev main_while1b_v26 : Ref sig .tc := ⟨.hbm, 115, rfl⟩
abbrev main_while1b_call10_c : Ref sig .tc := ⟨.hbm, 116, rfl⟩
abbrev main_while1b_call10_c_0 : Ref sig .tc := ⟨.hbm, 117, rfl⟩
abbrev main_while1b_call10_c_1 : Ref sig .tc := ⟨.hbm, 118, rfl⟩
abbrev main_while1b_call10_v0 : Ref sig .tc := ⟨.hbm, 119, rfl⟩
abbrev main_while1b_v27 : Ref sig .tc := ⟨.hbm, 120, rfl⟩
abbrev main_while1b_call11_c : Ref sig .tc := ⟨.hbm, 121, rfl⟩
abbrev main_while1b_call11_c_0 : Ref sig .tc := ⟨.hbm, 122, rfl⟩
abbrev main_while1b_call11_c_1 : Ref sig .tc := ⟨.hbm, 123, rfl⟩
abbrev main_while1b_call11_v0 : Ref sig .tc := ⟨.hbm, 124, rfl⟩
abbrev main_while1b_v28 : Ref sig .tc := ⟨.hbm, 125, rfl⟩
abbrev main_while1b_v29 : Ref sig .tc := ⟨.hbm, 126, rfl⟩
abbrev main_while1b_v30 : Ref sig .tc := ⟨.hbm, 127, rfl⟩
abbrev main_while1b_v31 : Ref sig .tc := ⟨.hbm, 128, rfl⟩
abbrev main_while1b_v32 : Ref sig .tc := ⟨.hbm, 129, rfl⟩
abbrev main_while1b_v33 : Ref sig .tc := ⟨.hbm, 130, rfl⟩
abbrev main_while1b_cst_22 : Ref sig .tc := ⟨.hbm, 131, rfl⟩
abbrev main_while1b_v34 : Ref sig .tc := ⟨.hbm, 132, rfl⟩
abbrev main_while1b_v35 : Ref sig .tc := ⟨.hbm, 133, rfl⟩
abbrev main_while1b_v36 : Ref sig .tc := ⟨.hbm, 134, rfl⟩
abbrev main_while1b_v37 : Ref sig .tc := ⟨.hbm, 135, rfl⟩
abbrev main_while1b_v38 : Ref sig .tc := ⟨.hbm, 136, rfl⟩
abbrev main_while1b_v39 : Ref sig .tc := ⟨.hbm, 137, rfl⟩
abbrev main_while1b_v40 : Ref sig .tc := ⟨.hbm, 138, rfl⟩
abbrev main_while1b_v41 : Ref sig .tc := ⟨.hbm, 139, rfl⟩
abbrev main_while1b_call12_v0 : Ref sig .tc := ⟨.hbm, 140, rfl⟩
abbrev main_while1b_call12_c : Ref sig .tc := ⟨.hbm, 141, rfl⟩
abbrev main_while1b_call12_c_0 : Ref sig .tc := ⟨.hbm, 142, rfl⟩
abbrev main_while1b_call12_c_1 : Ref sig .tc := ⟨.hbm, 143, rfl⟩
abbrev main_while1b_v42 : Ref sig .tc := ⟨.hbm, 144, rfl⟩
abbrev main_while1b_call13_v0 : Ref sig .tc := ⟨.hbm, 145, rfl⟩
abbrev main_while1b_call13_c : Ref sig .tc := ⟨.hbm, 146, rfl⟩
abbrev main_while1b_call13_c_0 : Ref sig .tc := ⟨.hbm, 147, rfl⟩
abbrev main_while1b_call13_c_1 : Ref sig .tc := ⟨.hbm, 148, rfl⟩
abbrev main_while1b_v43 : Ref sig .tc := ⟨.hbm, 149, rfl⟩
abbrev main_while1b_call14_v0 : Ref sig .tc := ⟨.hbm, 150, rfl⟩
abbrev main_while1b_call14_c : Ref sig .tc := ⟨.hbm, 151, rfl⟩
abbrev main_while1b_call14_c_0 : Ref sig .tc := ⟨.hbm, 152, rfl⟩
abbrev main_while1b_call14_c_1 : Ref sig .tc := ⟨.hbm, 153, rfl⟩
abbrev main_while1b_v44 : Ref sig .tc := ⟨.hbm, 154, rfl⟩
abbrev main_while1b_call15_v0 : Ref sig .tc := ⟨.hbm, 155, rfl⟩
abbrev main_while1b_call15_c : Ref sig .tc := ⟨.hbm, 156, rfl⟩
abbrev main_while1b_call15_c_0 : Ref sig .tc := ⟨.hbm, 157, rfl⟩
abbrev main_while1b_call15_c_1 : Ref sig .tc := ⟨.hbm, 158, rfl⟩
abbrev main_while1b_v45 : Ref sig .tc := ⟨.hbm, 159, rfl⟩
abbrev main_while1b_c_23 : Ref sig .tc := ⟨.hbm, 160, rfl⟩
abbrev main_while1b_v46 : Ref sig .tc := ⟨.hbm, 161, rfl⟩
abbrev main_v17 : Ref sig .tc := ⟨.hbm, 162, rfl⟩
abbrev main_v18 : Ref sig .tc := ⟨.hbm, 163, rfl⟩
abbrev main_v19 : Ref sig .tc := ⟨.hbm, 164, rfl⟩
abbrev main_v20 : Ref sig .tc := ⟨.hbm, 165, rfl⟩

abbrev nD : Nat := 1
abbrev τ : Topo := Topo.v7x

variable {F : FTy → Type} [FloatOps F]

abbrev main_while0_count : Scf.Loop 32 := ⟨0#32, 32#32, 1#32⟩

abbrev main_while1_count : Scf.Loop 32 := ⟨0#32, 32#32, 1#32⟩
-- ==== Kernel2.lean ====
abbrev S2x2048x2048 : Shape := ⟨3, ![2, 2048, 2048]⟩
abbrev S2048x5632 : Shape := ⟨2, ![2048, 5632]⟩
abbrev S5632x2048 : Shape := ⟨2, ![5632, 2048]⟩
abbrev S1x4096x2048 : Shape := ⟨3, ![1, 4096, 2048]⟩
abbrev S1x2048x5632 : Shape := ⟨3, ![1, 2048, 5632]⟩
abbrev S1x4096x5632 : Shape := ⟨3, ![1, 4096, 5632]⟩
abbrev S1x1024x2048 : Shape := ⟨3, ![1, 1024, 2048]⟩
abbrev S1x2048x512 : Shape := ⟨3, ![1, 2048, 512]⟩
abbrev S1x1024x512 : Shape := ⟨3, ![1, 1024, 512]⟩
abbrev S1024x2048 : Shape := ⟨2, ![1024, 2048]⟩
abbrev S2048x512 : Shape := ⟨2, ![2048, 512]⟩
abbrev S1024x512 : Shape := ⟨2, ![1024, 512]⟩
abbrev S2x2048x5632 : Shape := ⟨3, ![2, 2048, 5632]⟩
abbrev S_ : Shape := ⟨0, ![]⟩
abbrev S1x5632x2048 : Shape := ⟨3, ![1, 5632, 2048]⟩
abbrev S1x1024x1408 : Shape := ⟨3, ![1, 1024, 1408]⟩
abbrev S1x1408x1024 : Shape := ⟨3, ![1, 1408, 1024]⟩
abbrev S1x1024x1024 : Shape := ⟨3, ![1, 1024, 1024]⟩
abbrev S1024x1024 : Shape := ⟨2, ![1024, 1024]⟩
abbrev S1024x1408 : Shape := ⟨2, ![1024, 1408]⟩
abbrev S1408x1024 : Shape := ⟨2, ![1408, 1024]⟩
abbrev S1x512x2048 : Shape := ⟨3, ![1, 512, 2048]⟩
abbrev S512x2048 : Shape := ⟨2, ![512, 2048]⟩
abbrev S1x2048x1024 : Shape := ⟨3, ![1, 2048, 1024]⟩
abbrev S1x512x1024 : Shape := ⟨3, ![1, 512, 1024]⟩
abbrev S512x1024 : Shape := ⟨2, ![512, 1024]⟩
abbrev S2048x1024 : Shape := ⟨2, ![2048, 1024]⟩

abbrev nBuf : Space → Nat
  | .hbm => 65
  | .vmem => 60
  | .smem => 0
  | _ => 0

abbrev bufTy : (tb : Table) → Fin (tcTables nBuf tb) → BufTy
  | .hbm, ⟨0, _⟩ => ⟨S2x2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2x2048x2048, .f32⟩
  | .hbm, ⟨5, _⟩ => ⟨S1x4096x2048, .f32⟩
  | .hbm, ⟨6, _⟩ => ⟨S1x2048x5632, .f32⟩
  | .hbm, ⟨7, _⟩ => ⟨S1x4096x2048, .bf16⟩
  | .hbm, ⟨8, _⟩ => ⟨S1x2048x5632, .bf16⟩
  | .hbm, ⟨9, _⟩ => ⟨S1x4096x5632, .f32⟩
  | .hbm, ⟨10, _⟩ => ⟨S2x2048x5632, .f32⟩
  | .hbm, ⟨11, _⟩ => ⟨S2x2048x5632, .f32⟩
  | .hbm, ⟨12, _⟩ => ⟨S2x2048x5632, .f32⟩
  | .hbm, ⟨13, _⟩ => ⟨S_, .f32⟩
  | .hbm, ⟨14, _⟩ => ⟨S2x2048x5632, .f32⟩
  | .hbm, ⟨15, _⟩ => ⟨S2x2048x5632, .f32⟩
  | .hbm, ⟨16, _⟩ => ⟨S_, .f32⟩
  | .hbm, ⟨17, _⟩ => ⟨S2x2048x5632, .f32⟩
  | .hbm, ⟨18, _⟩ => ⟨S2x2048x5632, .f32⟩
  | .hbm, ⟨19, _⟩ => ⟨S_, .f32⟩
  | .hbm, ⟨20, _⟩ => ⟨S2x2048x5632, .f32⟩
  | .hbm, ⟨21, _⟩ => ⟨S2x2048x5632, .f32⟩
  | .hbm, ⟨22, _⟩ => ⟨S2x2048x5632, .f32⟩
  | .hbm, ⟨23, _⟩ => ⟨S2x2048x5632, .f32⟩
  | .hbm, ⟨24, _⟩ => ⟨S1x4096x2048, .f32⟩
  | .hbm, ⟨25, _⟩ => ⟨S1x2048x5632, .f32⟩
  | .hbm, ⟨26, _⟩ => ⟨S1x4096x2048, .bf16⟩
  | .hbm, ⟨27, _⟩ => ⟨S1x2048x5632, .bf16⟩
  | .hbm, ⟨28, _⟩ => ⟨S1x4096x5632, .f32⟩
  | .hbm, ⟨29, _⟩ => ⟨S2x2048x5632, .f32⟩
  | .hbm, ⟨30, _⟩ => ⟨S2x2048x5632, .f32⟩
  | .hbm, ⟨31, _⟩ => ⟨S1x4096x5632, .f32⟩
  | .hbm, ⟨32, _⟩ => ⟨S1x5632x2048, .f32⟩
  | .hbm, ⟨33, _⟩ => ⟨S1x4096x5632, .bf16⟩
  | .hbm, ⟨34, _⟩ => ⟨S1x5632x2048, .bf16⟩
  | .hbm, ⟨35, _⟩ => ⟨S1x4096x2048, .f32⟩
  | .hbm, ⟨36, _⟩ => ⟨S2x2048x2048, .f32⟩
  | .hbm, ⟨37, _⟩ => ⟨S1x4096x2048, .f32⟩
  | .hbm, ⟨38, _⟩ => ⟨S1x4096x2048, .bf16⟩
  | .hbm, ⟨39, _⟩ => ⟨S1x4096x5632, .f32⟩
  | .hbm, ⟨40, _⟩ => ⟨S1x5632x2048, .f32⟩
  | .hbm, ⟨41, _⟩ => ⟨S_, .f32⟩
  | .hbm, ⟨42, _⟩ => ⟨S5632x2048, .f32⟩
  | .hbm, ⟨43, _⟩ => ⟨S2x2048x5632, .f32⟩
  | .hbm, ⟨44, _⟩ => ⟨S2x2048x5632, .f32⟩
  | .hbm, ⟨45, _⟩ => ⟨S2x2048x5632, .f32⟩
  | .hbm, ⟨46, _⟩ => ⟨S1x4096x5632, .f32⟩
  | .hbm, ⟨47, _⟩ => ⟨S1x4096x5632, .bf16⟩
  | .hbm, ⟨48, _⟩ => ⟨S1x4096x2048, .f32⟩
  | .hbm, ⟨49, _⟩ => ⟨S1x2048x5632, .f32⟩
  | .hbm, ⟨50, _⟩ => ⟨S_, .f32⟩
  | .hbm, ⟨51, _⟩ => ⟨S2048x5632, .f32⟩
  | .hbm, ⟨52, _⟩ => ⟨S2x2048x2048, .f32⟩
  | .hbm, ⟨53, _⟩ => ⟨S2x2048x5632, .f32⟩
  | .hbm, ⟨54, _⟩ => ⟨S2x2048x5632, .f32⟩
  | .hbm, ⟨55, _⟩ => ⟨S2x2048x5632, .f32⟩
  | .hbm, ⟨56, _⟩ => ⟨S2x2048x5632, .f32⟩
  | .hbm, ⟨57, _⟩ => ⟨S1x4096x5632, .f32⟩
  | .hbm, ⟨58, _⟩ => ⟨S1x4096x5632, .bf16⟩
  | .hbm, ⟨59, _⟩ => ⟨S1x4096x2048, .f32⟩
  | .hbm, ⟨60, _⟩ => ⟨S1x2048x5632, .f32⟩
  | .hbm, ⟨61, _⟩ => ⟨S_, .f32⟩
  | .hbm, ⟨62, _⟩ => ⟨S2048x5632, .f32⟩
  | .hbm, ⟨63, _⟩ => ⟨S2x2048x2048, .f32⟩
  | .hbm, ⟨64, _⟩ => ⟨S2x2048x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1024x2048, .bf16⟩
  | .local _ .vmem, ⟨7, _⟩ => ⟨S1x1024x2048, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x1024x512, .f32⟩
  | .local _ .vmem, ⟨11, _⟩ => ⟨S1x1024x512, .f32⟩
  | .local _ .vmem, ⟨12, _⟩ => ⟨S1x1024x1408, .bf16⟩
  | .local _ .vmem, ⟨13, _⟩ => ⟨S1x1024x1408, .bf16⟩
  | .local _ .vmem, ⟨14, _⟩ => ⟨S1x1408x1024, .bf16⟩
  | .local _ .vmem, ⟨15, _⟩ => ⟨S1x1408x1024, .bf16⟩
  | .local _ .vmem, ⟨16, _⟩ => ⟨S1x1024x1024, .f32⟩
  | .local _ .vmem, ⟨17, _⟩ => ⟨S1x1024x1024, .f32⟩
  | .local _ .vmem, ⟨18, _⟩ => ⟨S1x1024x1024, .f32⟩
  | .local _ .vmem, ⟨19, _⟩ => ⟨S1x1024x2048, .bf16⟩
  | .local _ .vmem, ⟨20, _⟩ => ⟨S1x1024x2048, .bf16⟩
  | .local _ .vmem, ⟨21, _⟩ => ⟨S1x512x2048, .bf16⟩
  | .local _ .vmem, ⟨22, _⟩ => ⟨S1x512x2048, .bf16⟩
  | .local _ .vmem, ⟨23, _⟩ => ⟨S1x1024x512, .f32⟩
  | .local _ .vmem, ⟨24, _⟩ => ⟨S1x1024x512, .f32⟩
  | .local _ .vmem, ⟨25, _⟩ => ⟨S1x2048x512, .bf16⟩
  | .local _ .vmem, ⟨26, _⟩ => ⟨S1x2048x512, .bf16⟩
  | .local _ .vmem, ⟨27, _⟩ => ⟨S1x2048x1024, .bf16⟩
  | .local _ .vmem, ⟨28, _⟩ => ⟨S1x2048x1024, .bf16⟩
  | .local _ .vmem, ⟨29, _⟩ => ⟨S1x512x1024, .f32⟩
  | .local _ .vmem, ⟨30, _⟩ => ⟨S1x512x1024, .f32⟩
  | .local _ .vmem, ⟨31, _⟩ => ⟨S1x512x1024, .f32⟩
  | .local _ .vmem, ⟨32, _⟩ => ⟨S1x1024x1408, .bf16⟩
  | .local _ .vmem, ⟨33, _⟩ => ⟨S1x1024x1408, .bf16⟩
  | .local _ .vmem, ⟨34, _⟩ => ⟨S1x1024x1408, .bf16⟩
  | .local _ .vmem, ⟨35, _⟩ => ⟨S1x1024x1408, .bf16⟩
  | .local _ .vmem, ⟨36, _⟩ => ⟨S1x1024x1024, .f32⟩
  | .local _ .vmem, ⟨37, _⟩ => ⟨S1x1024x1024, .f32⟩
  | .local _ .vmem, ⟨38, _⟩ => ⟨S1x1024x1024, .f32⟩
  | .local _ .vmem, ⟨39, _⟩ => ⟨S1x2048x1024, .bf16⟩
  | .local _ .vmem, ⟨40, _⟩ => ⟨S1x2048x1024, .bf16⟩
  | .local _ .vmem, ⟨41, _⟩ => ⟨S1x2048x512, .bf16⟩
  | .local _ .vmem, ⟨42, _⟩ => ⟨S1x2048x512, .bf16⟩
  | .local _ .vmem, ⟨43, _⟩ => ⟨S1x1024x512, .f32⟩
  | .local _ .vmem, ⟨44, _⟩ => ⟨S1x1024x512, .f32⟩
  | .local _ .vmem, ⟨45, _⟩ => ⟨S1x1024x512, .f32⟩
  | .local _ .vmem, ⟨46, _⟩ => ⟨S1x1024x1408, .bf16⟩
  | .local _ .vmem, ⟨47, _⟩ => ⟨S1x1024x1408, .bf16⟩
  | .local _ .vmem, ⟨48, _⟩ => ⟨S1x1024x1408, .bf16⟩
  | .local _ .vmem, ⟨49, _⟩ => ⟨S1x1024x1408, .bf16⟩
  | .local _ .vmem, ⟨50, _⟩ => ⟨S1x1024x1024, .f32⟩
  | .local _ .vmem, ⟨51, _⟩ => ⟨S1x1024x1024, .f32⟩
  | .local _ .vmem, ⟨52, _⟩ => ⟨S1x1024x1024, .f32⟩
  | .local _ .vmem, ⟨53, _⟩ => ⟨S1x2048x1024, .bf16⟩
  | .local _ .vmem, ⟨54, _⟩ => ⟨S1x2048x1024, .bf16⟩
  | .local _ .vmem, ⟨55, _⟩ => ⟨S1x2048x512, .bf16⟩
  | .local _ .vmem, ⟨56, _⟩ => ⟨S1x2048x512, .bf16⟩
  | .local _ .vmem, ⟨57, _⟩ => ⟨S1x1024x512, .f32⟩
  | .local _ .vmem, ⟨58, _⟩ => ⟨S1x1024x512, .f32⟩
  | .local _ .vmem, ⟨59, _⟩ => ⟨S1x1024x512, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v6_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v6_1 : Ref sig .tc := ⟨.hbm, 22, rfl⟩
abbrev main_v6_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_0 : Ref sig .tc := ⟨.hbm, 50, rfl⟩
abbrev main_v32 : Ref sig .tc := ⟨.hbm, 51, rfl⟩
abbrev main_v33 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_1 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_scratch0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_scratch0 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg1_1 : Ref sig .tc := ⟨.vmem, 42, rfl⟩
abbrev cc6_stg2_0 : Ref sig .tc := ⟨.vmem, 43, rfl⟩
abbrev cc6_stg2_1 : Ref sig .tc := ⟨.vmem, 44, rfl⟩
abbrev cc6_scratch0 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg2_1 : Ref sig .tc := ⟨.vmem, 51, rfl⟩
abbrev cc7_scratch0 : Ref sig .tc := ⟨.vmem, 52, rfl⟩
abbrev cc8_stg0_0 : Ref sig .tc := ⟨.vmem, 53, rfl⟩
abbrev cc8_stg0_1 : Ref sig .tc := ⟨.vmem, 54, rfl⟩
abbrev cc8_stg1_0 : Ref sig .tc := ⟨.vmem, 55, rfl⟩
abbrev cc8_stg1_1 : Ref sig .tc := ⟨.vmem, 56, rfl⟩
abbrev cc8_stg2_0 : Ref sig .tc := ⟨.vmem, 57, rfl⟩
abbrev cc8_stg2_1 : Ref sig .tc := ⟨.vmem, 58, rfl⟩
abbrev cc8_scratch0 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53

abbrev nD : Nat := 1
abbrev τ : Topo := Topo.v7x

variable {F : FTy → Type} [FloatOps F]

abbrev grid0 : Pipeline.Grid := ⟨4, ![1, 4, 11, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev grid1 : Pipeline.Grid := ⟨4, ![1, 4, 11, 1], ![false, false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage1_0 : Fin 2 → Memref sig .tc .vmem S1x1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false, true]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true, true]

abbrev stage1_2 : Fin 2 → Memref sig .tc .vmem S1x1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, false]

abbrev grid2 : Pipeline.Grid := ⟨4, ![1, 4, 2, 4], ![false, false, false, false]⟩

def k2_cond2 (i : grid2.Coords) : BitVec 1 :=
  let arg3 : BitVec 32 := BitVec.ofNat 32 (i 3).val
  let c3_i32 : BitVec 32 := 3#32
  let v14 : BitVec 1 := Scalar.cmpi .eq arg3 c3_i32
  let v15 : BitVec 32 := Scalar.extui v14
  let c0_i32_12 : BitVec 32 := 0#32
  let v16 : BitVec 1 := Scalar.cmpi .ne v15 c0_i32_12
  v16

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage2_0 : Fin 2 → Memref sig .tc .vmem S1x1024x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false, true]

abbrev stage2_1 : Fin 2 → Memref sig .tc .vmem S1x1408x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true, true]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true, false]

abbrev grid3 : Pipeline.Grid := ⟨4, ![1, 4, 11, 1], ![false, false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage3_0 : Fin 2 → Memref sig .tc .vmem S1x1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false, true]

abbrev stage3_1 : Fin 2 → Memref sig .tc .vmem S1x512x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true, true]

abbrev stage3_2 : Fin 2 → Memref sig .tc .vmem S1x1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true, false]

abbrev grid4 : Pipeline.Grid := ⟨4, ![1, 11, 2, 2], ![false, false, false, false]⟩

def k4_cond2 (i : grid4.Coords) : BitVec 1 :=
  let arg3 : BitVec 32 := BitVec.ofNat 32 (i 3).val
  let c1_i32 : BitVec 32 := 1#32
  let v14 : BitVec 1 := Scalar.cmpi .eq arg3 c1_i32
  let v15 : BitVec 32 := Scalar.extui v14
  let c0_i32_12 : BitVec 32 := 0#32
  let v16 : BitVec 1 := Scalar.cmpi .ne v15 c0_i32_12
  v16

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage4_0 : Fin 2 → Memref sig .tc .vmem S1x2048x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, false, true]

abbrev stage4_1 : Fin 2 → Memref sig .tc .vmem S1x2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true, true]

abbrev stage4_2 : Fin 2 → Memref sig .tc .vmem S1x512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, true, false]

abbrev grid5 : Pipeline.Grid := ⟨4, ![1, 4, 2, 4], ![false, false, false, false]⟩

def k5_cond2 (i : grid5.Coords) : BitVec 1 :=
  let arg3 : BitVec 32 := BitVec.ofNat 32 (i 3).val
  let c3_i32 : BitVec 32 := 3#32
  let v14 : BitVec 1 := Scalar.cmpi .eq arg3 c3_i32
  let v15 : BitVec 32 := Scalar.extui v14
  let c0_i32_12 : BitVec 32 := 0#32
  let v16 : BitVec 1 := Scalar.cmpi .ne v15 c0_i32_12
  v16

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage5_0 : Fin 2 → Memref sig .tc .vmem S1x1024x1408 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true, false, true]

abbrev stage5_1 : Fin 2 → Memref sig .tc .vmem S1x1024x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true, true]

abbrev stage5_2 : Fin 2 → Memref sig .tc .vmem S1x1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, true, false]

abbrev grid6 : Pipeline.Grid := ⟨4, ![1, 2, 11, 2], ![false, false, false, false]⟩

def k6_cond2 (i : grid6.Coords) : BitVec 1 :=
  let arg3 : BitVec 32 := BitVec.ofNat 32 (i 3).val
  let c1_i32 : BitVec 32 := 1#32
  let v14 : BitVec 1 := Scalar.cmpi .eq arg3 c1_i32
  let v15 : BitVec 32 := Scalar.extui v14
  let c0_i32_12 : BitVec 32 := 0#32
  let v16 : BitVec 1 := Scalar.cmpi .ne v15 c0_i32_12
  v16

def cc6_transform_0 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage6_0 : Fin 2 → Memref sig .tc .vmem S1x2048x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true, false, true]

abbrev stage6_1 : Fin 2 → Memref sig .tc .vmem S1x2048x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false, true, true]

abbrev stage6_2 : Fin 2 → Memref sig .tc .vmem S1x1024x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, true, false]

abbrev grid7 : Pipeline.Grid := ⟨4, ![1, 4, 2, 4], ![false, false, false, false]⟩

def k7_cond2 (i : grid7.Coords) : BitVec 1 :=
  let arg3 : BitVec 32 := BitVec.ofNat 32 (i 3).val
  let c3_i32 : BitVec 32 := 3#32
  let v14 : BitVec 1 := Scalar.cmpi .eq arg3 c3_i32
  let v15 : BitVec 32 := Scalar.extui v14
  let c0_i32_12 : BitVec 32 := 0#32
  let v16 : BitVec 1 := Scalar.cmpi .ne v15 c0_i32_12
  v16

def cc7_transform_0 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc7_transform_1 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage7_0 : Fin 2 → Memref sig .tc .vmem S1x1024x1408 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true, false, true]

abbrev stage7_1 : Fin 2 → Memref sig .tc .vmem S1x1024x1408 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false, true, true]

abbrev stage7_2 : Fin 2 → Memref sig .tc .vmem S1x1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, true, false]

abbrev grid8 : Pipeline.Grid := ⟨4, ![1, 2, 11, 2], ![false, false, false, false]⟩

def k8_cond2 (i : grid8.Coords) : BitVec 1 :=
  let arg3 : BitVec 32 := BitVec.ofNat 32 (i 3).val
  let c1_i32 : BitVec 32 := 1#32
  let v14 : BitVec 1 := Scalar.cmpi .eq arg3 c1_i32
  let v15 : BitVec 32 := Scalar.extui v14
  let c0_i32_12 : BitVec 32 := 0#32
  let v16 : BitVec 1 := Scalar.cmpi .ne v15 c0_i32_12
  v16

def cc8_transform_0 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc8_transform_1 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc8_transform_2 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage8_0 : Fin 2 → Memref sig .tc .vmem S1x2048x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true, false, true]

abbrev stage8_1 : Fin 2 → Memref sig .tc .vmem S1x2048x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, false, true, true]

abbrev stage8_2 : Fin 2 → Memref sig .tc .vmem S1x1024x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, true, false]
-- ==== Reference2Ideal.lean ====
abbrev S2x2048x2048 : Shape := ⟨3, ![2, 2048, 2048]⟩
abbrev S2048x5632 : Shape := ⟨2, ![2048, 5632]⟩
abbrev S5632x2048 : Shape := ⟨2, ![5632, 2048]⟩
abbrev S2x2048x5632 : Shape := ⟨3, ![2, 2048, 5632]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2x2048x2048, .f32⟩
  | .hbm, ⟨5, _⟩ => ⟨S2x2048x5632, .f32⟩
  | .hbm, ⟨6, _⟩ => ⟨S2x2048x5632, .f32⟩
  | .hbm, ⟨7, _⟩ => ⟨S2x2048x5632, .f32⟩
  | .hbm, ⟨8, _⟩ => ⟨S_, .f32⟩
  | .hbm, ⟨9, _⟩ => ⟨S2x2048x5632, .f32⟩
  | .hbm, ⟨10, _⟩ => ⟨S2x2048x5632, .f32⟩
  | .hbm, ⟨11, _⟩ => ⟨S_, .f32⟩
  | .hbm, ⟨12, _⟩ => ⟨S2x2048x5632, .f32⟩
  | .hbm, ⟨13, _⟩ => ⟨S2x2048x5632, .f32⟩
  | .hbm, ⟨14, _⟩ => ⟨S_, .f32⟩
  | .hbm, ⟨15, _⟩ => ⟨S2x2048x5632, .f32⟩
  | .hbm, ⟨16, _⟩ => ⟨S2x2048x5632, .f32⟩
  | .hbm, ⟨17, _⟩ => ⟨S2x2048x5632, .f32⟩
  | .hbm, ⟨18, _⟩ => ⟨S2x2048x5632, .f32⟩
  | .hbm, ⟨19, _⟩ => ⟨S2x2048x5632, .f32⟩
  | .hbm, ⟨20, _⟩ => ⟨S2x2048x5632, .f32⟩
  | .hbm, ⟨21, _⟩ => ⟨S2x2048x2048, .f32⟩
  | .hbm, ⟨22, _⟩ => ⟨S2048x5632, .f32⟩
  | .hbm, ⟨23, _⟩ => ⟨S5632x2048, .f32⟩
  | .hbm, ⟨24, _⟩ => ⟨S2x2048x5632, .f32⟩
  | .hbm, ⟨25, _⟩ => ⟨S2x2048x5632, .f32⟩
  | .hbm, ⟨26, _⟩ => ⟨S2x2048x5632, .f32⟩
  | .hbm, ⟨27, _⟩ => ⟨S5632x2048, .f32⟩
  | .hbm, ⟨28, _⟩ => ⟨S2048x5632, .f32⟩
  | .hbm, ⟨29, _⟩ => ⟨S2x2048x2048, .f32⟩
  | .hbm, ⟨30, _⟩ => ⟨S2x2048x5632, .f32⟩
  | .hbm, ⟨31, _⟩ => ⟨S2x2048x5632, .f32⟩
  | .hbm, ⟨32, _⟩ => ⟨S2x2048x5632, .f32⟩
  | .hbm, ⟨33, _⟩ => ⟨S2x2048x5632, .f32⟩
  | .hbm, ⟨34, _⟩ => ⟨S5632x2048, .f32⟩
  | .hbm, ⟨35, _⟩ => ⟨S2048x5632, .f32⟩
  | .hbm, ⟨36, _⟩ => ⟨S2x2048x2048, .f32⟩
  | .hbm, ⟨37, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩

abbrev nD : Nat := 1
abbrev τ : Topo := Topo.v7x

variable {F : FTy → Type} [FloatOps F]
-- ==== Kernel3.lean ====
abbrev S2x2048x2048 : Shape := ⟨3, ![2, 2048, 2048]⟩
abbrev S2048x2048 : Shape := ⟨2, ![2048, 2048]⟩
abbrev S2048x6656 : Shape := ⟨2, ![2048, 6656]⟩
abbrev S2x2048x6656 : Shape := ⟨3, ![2, 2048, 6656]⟩
abbrev S1x4096x2048 : Shape := ⟨3, ![1, 4096, 2048]⟩
abbrev S1x2048x2048 : Shape := ⟨3, ![1, 2048, 2048]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩
abbrev S1x2048x6656 : Shape := ⟨3, ![1, 2048, 6656]⟩
abbrev S1x4096x6656 : Shape := ⟨3, ![1, 4096, 6656]⟩
abbrev S1x2048x512 : Shape := ⟨3, ![1, 2048, 512]⟩
abbrev S1x1024x512 : Shape := ⟨3, ![1, 1024, 512]⟩
abbrev S2048x512 : Shape := ⟨2, ![2048, 512]⟩
abbrev S1024x512 : Shape := ⟨2, ![1024, 512]⟩
abbrev S_ : Shape := ⟨0, ![]⟩
abbrev S1x1024x1664 : Shape := ⟨3, ![1, 1024, 1664]⟩
abbrev S1024x1664 : Shape := ⟨2, ![1024, 1664]⟩

abbrev nBuf : Space → Nat
  | .hbm => 31
  | .vmem => 39
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048x6656, .f32⟩
  | .hbm, ⟨3, _⟩ => ⟨S2x2048x2048, .f32⟩
  | .hbm, ⟨4, _⟩ => ⟨S2x2048x6656, .f32⟩
  | .hbm, ⟨5, _⟩ => ⟨S1x4096x2048, .f32⟩
  | .hbm, ⟨6, _⟩ => ⟨S1x2048x2048, .f32⟩
  | .hbm, ⟨7, _⟩ => ⟨S1x4096x2048, .bf16⟩
  | .hbm, ⟨8, _⟩ => ⟨S1x2048x2048, .bf16⟩
  | .hbm, ⟨9, _⟩ => ⟨S1x4096x2048, .f32⟩
  | .hbm, ⟨10, _⟩ => ⟨S2x2048x2048, .f32⟩
  | .hbm, ⟨11, _⟩ => ⟨S1x4096x2048, .f32⟩
  | .hbm, ⟨12, _⟩ => ⟨S1x2048x6656, .f32⟩
  | .hbm, ⟨13, _⟩ => ⟨S1x4096x2048, .bf16⟩
  | .hbm, ⟨14, _⟩ => ⟨S1x2048x6656, .bf16⟩
  | .hbm, ⟨15, _⟩ => ⟨S1x4096x6656, .f32⟩
  | .hbm, ⟨16, _⟩ => ⟨S2x2048x6656, .f32⟩
  | .hbm, ⟨17, _⟩ => ⟨S1x4096x2048, .f32⟩
  | .hbm, ⟨18, _⟩ => ⟨S1x4096x2048, .bf16⟩
  | .hbm, ⟨19, _⟩ => ⟨S1x4096x2048, .f32⟩
  | .hbm, ⟨20, _⟩ => ⟨S1x2048x2048, .f32⟩
  | .hbm, ⟨21, _⟩ => ⟨S_, .f32⟩
  | .hbm, ⟨22, _⟩ => ⟨S2048x2048, .f32⟩
  | .hbm, ⟨23, _⟩ => ⟨S2x2048x2048, .f32⟩
  | .hbm, ⟨24, _⟩ => ⟨S1x4096x6656, .f32⟩
  | .hbm, ⟨25, _⟩ => ⟨S1x4096x6656, .bf16⟩
  | .hbm, ⟨26, _⟩ => ⟨S1x4096x2048, .f32⟩
  | .hbm, ⟨27, _⟩ => ⟨S1x2048x6656, .f32⟩
  | .hbm, ⟨28, _⟩ => ⟨S_, .f32⟩
  | .hbm, ⟨29, _⟩ => ⟨S2048x6656, .f32⟩
  | .hbm, ⟨30, _⟩ => ⟨S2x2048x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x2048, .bf16⟩
  | .local _ .vmem, ⟨7, _⟩ => ⟨S1x1024x2048, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x1024x512, .f32⟩
  | .local _ .vmem, ⟨11, _⟩ => ⟨S1x1024x512, .f32⟩
  | .local _ .vmem, ⟨12, _⟩ => ⟨S1x1024x2048, .bf16⟩
  | .local _ .vmem, ⟨13, _⟩ => ⟨S1x1024x2048, .bf16⟩
  | .local _ .vmem, ⟨14, _⟩ => ⟨S1x1024x2048, .bf16⟩
  | .local _ .vmem, ⟨15, _⟩ => ⟨S1x1024x2048, .bf16⟩
  | .local _ .vmem, ⟨16, _⟩ => ⟨S1x1024x1024, .f32⟩
  | .local _ .vmem, ⟨17, _⟩ => ⟨S1x1024x1024, .f32⟩
  | .local _ .vmem, ⟨18, _⟩ => ⟨S1x2048x1024, .bf16⟩
  | .local _ .vmem, ⟨19, _⟩ => ⟨S1x2048x1024, .bf16⟩
  | .local _ .vmem, ⟨20, _⟩ => ⟨S1x2048x1024, .bf16⟩
  | .local _ .vmem, ⟨21, _⟩ => ⟨S1x2048x1024, .bf16⟩
  | .local _ .vmem, ⟨22, _⟩ => ⟨S1x1024x1024, .f32⟩
  | .local _ .vmem, ⟨23, _⟩ => ⟨S1x1024x1024, .f32⟩
  | .local _ .vmem, ⟨24, _⟩ => ⟨S1x1024x1024, .f32⟩
  | .local _ .vmem, ⟨25, _⟩ => ⟨S1x1024x1664, .bf16⟩
  | .local _ .vmem, ⟨26, _⟩ => ⟨S1x1024x1664, .bf16⟩
  | .local _ .vmem, ⟨27, _⟩ => ⟨S1x1024x1664, .bf16⟩
  | .local _ .vmem, ⟨28, _⟩ => ⟨S1x1024x1664, .bf16⟩
  | .local _ .vmem, ⟨29, _⟩ => ⟨S1x1024x1024, .f32⟩
  | .local _ .vmem, ⟨30, _⟩ => ⟨S1x1024x1024, .f32⟩
  | .local _ .vmem, ⟨31, _⟩ => ⟨S1x1024x1024, .f32⟩
  | .local _ .vmem, ⟨32, _⟩ => ⟨S1x2048x1024, .bf16⟩
  | .local _ .vmem, ⟨33, _⟩ => ⟨S1x2048x1024, .bf16⟩
  | .local _ .vmem, ⟨34, _⟩ => ⟨S1x2048x512, .bf16⟩
  | .local _ .vmem, ⟨35, _⟩ => ⟨S1x2048x512, .bf16⟩
  | .local _ .vmem, ⟨36, _⟩ => ⟨S1x1024x512, .f32⟩
  | .local _ .vmem, ⟨37, _⟩ => ⟨S1x1024x512, .f32⟩
  | .local _ .vmem, ⟨38, _⟩ => ⟨S1x1024x512, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_scratch0 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_scratch0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨4, ![1, 4, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev grid1 : Pipeline.Grid := ⟨4, ![1, 4, 13, 1], ![false, false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage1_0 : Fin 2 → Memref sig .tc .vmem S1x1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false, true]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true, true]

abbrev stage1_2 : Fin 2 → Memref sig .tc .vmem S1x1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, false]

abbrev grid2 : Pipeline.Grid := ⟨4, ![1, 4, 2, 1], ![false, false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage2_0 : Fin 2 → Memref sig .tc .vmem S1x1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false, true]

abbrev stage2_1 : Fin 2 → Memref sig .tc .vmem S1x1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true, true]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true, false]

abbrev grid3 : Pipeline.Grid := ⟨4, ![1, 2, 2, 2], ![false, false, false, false]⟩

def k3_cond2 (i : grid3.Coords) : BitVec 1 :=
  let arg3 : BitVec 32 := BitVec.ofNat 32 (i 3).val
  let c1_i32 : BitVec 32 := 1#32
  let v14 : BitVec 1 := Scalar.cmpi .eq arg3 c1_i32
  let v15 : BitVec 32 := Scalar.extui v14
  let c0_i32_12 : BitVec 32 := 0#32
  let v16 : BitVec 1 := Scalar.cmpi .ne v15 c0_i32_12
  v16

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage3_0 : Fin 2 → Memref sig .tc .vmem S1x2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false, true]

abbrev stage3_1 : Fin 2 → Memref sig .tc .vmem S1x2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true, true]

abbrev stage3_2 : Fin 2 → Memref sig .tc .vmem S1x1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true, false]

abbrev grid4 : Pipeline.Grid := ⟨4, ![1, 4, 2, 4], ![false, false, false, false]⟩

def k4_cond2 (i : grid4.Coords) : BitVec 1 :=
  let arg3 : BitVec 32 := BitVec.ofNat 32 (i 3).val
  let c3_i32 : BitVec 32 := 3#32
  let v14 : BitVec 1 := Scalar.cmpi .eq arg3 c3_i32
  let v15 : BitVec 32 := Scalar.extui v14
  let c0_i32_12 : BitVec 32 := 0#32
  let v16 : BitVec 1 := Scalar.cmpi .ne v15 c0_i32_12
  v16

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage4_0 : Fin 2 → Memref sig .tc .vmem S1x1024x1664 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, false, true]

abbrev stage4_1 : Fin 2 → Memref sig .tc .vmem S1x1024x1664 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true, true]

abbrev stage4_2 : Fin 2 → Memref sig .tc .vmem S1x1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, true, false]

abbrev grid5 : Pipeline.Grid := ⟨4, ![1, 2, 13, 2], ![false, false, false, false]⟩

def k5_cond2 (i : grid5.Coords) : BitVec 1 :=
  let arg3 : BitVec 32 := BitVec.ofNat 32 (i 3).val
  let c1_i32 : BitVec 32 := 1#32
  let v14 : BitVec 1 := Scalar.cmpi .eq arg3 c1_i32
  let v15 : BitVec 32 := Scalar.extui v14
  let c0_i32_12 : BitVec 32 := 0#32
  let v16 : BitVec 1 := Scalar.cmpi .ne v15 c0_i32_12
  v16

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage5_0 : Fin 2 → Memref sig .tc .vmem S1x2048x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true, false, true]

abbrev stage5_1 : Fin 2 → Memref sig .tc .vmem S1x2048x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true, true]

abbrev stage5_2 : Fin 2 → Memref sig .tc .vmem S1x1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, true, false]
-- ==== Reference3Ideal.lean ====
abbrev S2x2048x2048 : Shape := ⟨3, ![2, 2048, 2048]⟩
abbrev S2048x2048 : Shape := ⟨2, ![2048, 2048]⟩
abbrev S2048x6656 : Shape := ⟨2, ![2048, 6656]⟩
abbrev S2x2048x6656 : Shape := ⟨3, ![2, 2048, 6656]⟩
abbrev S6656x2048 : Shape := ⟨2, ![6656, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048x6656, .f32⟩
  | .hbm, ⟨3, _⟩ => ⟨S2x2048x2048, .f32⟩
  | .hbm, ⟨4, _⟩ => ⟨S2x2048x6656, .f32⟩
  | .hbm, ⟨5, _⟩ => ⟨S2x2048x2048, .f32⟩
  | .hbm, ⟨6, _⟩ => ⟨S2x2048x6656, .f32⟩
  | .hbm, ⟨7, _⟩ => ⟨S2048x2048, .f32⟩
  | .hbm, ⟨8, _⟩ => ⟨S2048x2048, .f32⟩
  | .hbm, ⟨9, _⟩ => ⟨S2x2048x2048, .f32⟩
  | .hbm, ⟨10, _⟩ => ⟨S6656x2048, .f32⟩
  | .hbm, ⟨11, _⟩ => ⟨S2048x6656, .f32⟩
  | .hbm, ⟨12, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S1x2048x980 : Shape := ⟨3, ![1, 2048, 980]⟩
abbrev S2048x980 : Shape := ⟨2, ![2048, 980]⟩
abbrev S256x980 : Shape := ⟨2, ![256, 980]⟩

abbrev nBuf : Space → Nat
  | .hbm => 11
  | .vmem => 14
  | .smem => 0
  | _ => 0

abbrev bufTy : (tb : Table) → Fin (tcTables nBuf tb) → BufTy
  | .hbm, ⟨0, _⟩ => ⟨S1x2048x980, .f32⟩
  | .hbm, ⟨1, _⟩ => ⟨S1x2048x980, .f32⟩
  | .hbm, ⟨2, _⟩ => ⟨S1x2048x980, .f32⟩
  | .hbm, ⟨3, _⟩ => ⟨S1x2048x980, .f32⟩
  | .hbm, ⟨4, _⟩ => ⟨S2048x980, .f32⟩
  | .hbm, ⟨5, _⟩ => ⟨S2048x980, .f32⟩
  | .hbm, ⟨6, _⟩ => ⟨S2048x980, .f32⟩
  | .hbm, ⟨7, _⟩ => ⟨S2048x980, .f32⟩
  | .hbm, ⟨8, _⟩ => ⟨S2048x980, .f32⟩
  | .hbm, ⟨9, _⟩ => ⟨S2048x980, .f32⟩
  | .hbm, ⟨10, _⟩ => ⟨S2048x980, .f32⟩
  | .local _ .vmem, ⟨0, _⟩ => ⟨S256x980, .f32⟩
  | .local _ .vmem, ⟨1, _⟩ => ⟨S256x980, .f32⟩
  | .local _ .vmem, ⟨2, _⟩ => ⟨S256x980, .f32⟩
  | .local _ .vmem, ⟨3, _⟩ => ⟨S256x980, .f32⟩
  | .local _ .vmem, ⟨4, _⟩ => ⟨S256x980, .f32⟩
  | .local _ .vmem, ⟨5, _⟩ => ⟨S256x980, .f32⟩
  | .local _ .vmem, ⟨6, _⟩ => ⟨S256x980, .f32⟩
  | .local _ .vmem, ⟨7, _⟩ => ⟨S256x980, .f32⟩
  | .local _ .vmem, ⟨8, _⟩ => ⟨S256x980, .f32⟩
  | .local _ .vmem, ⟨9, _⟩ => ⟨S256x980, .f32⟩
  | .local _ .vmem, ⟨10, _⟩ => ⟨S256x980, .f32⟩
  | .local _ .vmem, ⟨11, _⟩ => ⟨S256x980, .f32⟩
  | .local _ .vmem, ⟨12, _⟩ => ⟨S256x980, .f32⟩
  | .local _ .vmem, ⟨13, _⟩ => ⟨S256x980, .f32⟩
  | _, _ => ⟨S1x2048x980, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x980 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x980 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x980 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x980 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x980 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x980 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x980 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel4Ideal.lean ====
abbrev S1x2048x980 : Shape := ⟨3, ![1, 2048, 980]⟩
abbrev S2048x980 : Shape := ⟨2, ![2048, 980]⟩
abbrev S256x980 : Shape := ⟨2, ![256, 980]⟩

abbrev nBuf : Space → Nat
  | .hbm => 11
  | .vmem => 14
  | .smem => 0
  | _ => 0

abbrev bufTy : (tb : Table) → Fin (tcTables nBuf tb) → BufTy
  | .hbm, ⟨0, _⟩ => ⟨S1x2048x980, .f32⟩
  | .hbm, ⟨1, _⟩ => ⟨S1x2048x980, .f32⟩
  | .hbm, ⟨2, _⟩ => ⟨S1x2048x980, .f32⟩
  | .hbm, ⟨3, _⟩ => ⟨S1x2048x980, .f32⟩
  | .hbm, ⟨4, _⟩ => ⟨S2048x980, .f32⟩
  | .hbm, ⟨5, _⟩ => ⟨S2048x980, .f32⟩
  | .hbm, ⟨6, _⟩ => ⟨S2048x980, .f32⟩
  | .hbm, ⟨7, _⟩ => ⟨S2048x980, .f32⟩
  | .hbm, ⟨8, _⟩ => ⟨S2048x980, .f32⟩
  | .hbm, ⟨9, _⟩ => ⟨S2048x980, .f32⟩
  | .hbm, ⟨10, _⟩ => ⟨S2048x980, .f32⟩
  | .local _ .vmem, ⟨0, _⟩ => ⟨S256x980, .f32⟩
  | .local _ .vmem, ⟨1, _⟩ => ⟨S256x980, .f32⟩
  | .local _ .vmem, ⟨2, _⟩ => ⟨S256x980, .f32⟩
  | .local _ .vmem, ⟨3, _⟩ => ⟨S256x980, .f32⟩
  | .local _ .vmem, ⟨4, _⟩ => ⟨S256x980, .f32⟩
  | .local _ .vmem, ⟨5, _⟩ => ⟨S256x980, .f32⟩
  | .local _ .vmem, ⟨6, _⟩ => ⟨S256x980, .f32⟩
  | .local _ .vmem, ⟨7, _⟩ => ⟨S256x980, .f32⟩
  | .local _ .vmem, ⟨8, _⟩ => ⟨S256x980, .f32⟩
  | .local _ .vmem, ⟨9, _⟩ => ⟨S256x980, .f32⟩
  | .local _ .vmem, ⟨10, _⟩ => ⟨S256x980, .f32⟩
  | .local _ .vmem, ⟨11, _⟩ => ⟨S256x980, .f32⟩
  | .local _ .vmem, ⟨12, _⟩ => ⟨S256x980, .f32⟩
  | .local _ .vmem, ⟨13, _⟩ => ⟨S256x980, .f32⟩
  | _, _ => ⟨S1x2048x980, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x980 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x980 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x980 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x980 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x980 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x980 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x980 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S1x2048x980 : Shape := ⟨3, ![1, 2048, 980]⟩
abbrev S_ : Shape := ⟨0, ![]⟩
abbrev S2048x980 : Shape := ⟨2, ![2048, 980]⟩

abbrev nBuf : Space → Nat
  | .hbm => 40
  | .vmem => 0
  | .smem => 0
  | _ => 0

abbrev bufTy : (tb : Table) → Fin (tcTables nBuf tb) → BufTy
  | .hbm, ⟨0, _⟩ => ⟨S1x2048x980, .f32⟩
  | .hbm, ⟨1, _⟩ => ⟨S1x2048x980, .f32⟩
  | .hbm, ⟨2, _⟩ => ⟨S1x2048x980, .f32⟩
  | .hbm, ⟨3, _⟩ => ⟨S1x2048x980, .f32⟩
  | .hbm, ⟨4, _⟩ => ⟨S_, .f32⟩
  | .hbm, ⟨5, _⟩ => ⟨S1x2048x980, .f32⟩
  | .hbm, ⟨6, _⟩ => ⟨S1x2048x980, .f32⟩
  | .hbm, ⟨7, _⟩ => ⟨S_, .f32⟩
  | .hbm, ⟨8, _⟩ => ⟨S1x2048x980, .f32⟩
  | .hbm, ⟨9, _⟩ => ⟨S1x2048x980, .f32⟩
  | .hbm, ⟨10, _⟩ => ⟨S1x2048x980, .f32⟩
  | .hbm, ⟨11, _⟩ => ⟨S_, .f32⟩
  | .hbm, ⟨12, _⟩ => ⟨S1x2048x980, .f32⟩
  | .hbm, ⟨13, _⟩ => ⟨S1x2048x980, .f32⟩
  | .hbm, ⟨14, _⟩ => ⟨S1x2048x980, .f32⟩
  | .hbm, ⟨15, _⟩ => ⟨S_, .f32⟩
  | .hbm, ⟨16, _⟩ => ⟨S1x2048x980, .f32⟩
  | .hbm, ⟨17, _⟩ => ⟨S1x2048x980, .f32⟩
  | .hbm, ⟨18, _⟩ => ⟨S1x2048x980, .f32⟩
  | .hbm, ⟨19, _⟩ => ⟨S_, .f32⟩
  | .hbm, ⟨20, _⟩ => ⟨S1x2048x980, .f32⟩
  | .hbm, ⟨21, _⟩ => ⟨S1x2048x980, .f32⟩
  | .hbm, ⟨22, _⟩ => ⟨S_, .f32⟩
  | .hbm, ⟨23, _⟩ => ⟨S1x2048x980, .f32⟩
  | .hbm, ⟨24, _⟩ => ⟨S1x2048x980, .f32⟩
  | .hbm, ⟨25, _⟩ => ⟨S1x2048x980, .f32⟩
  | .hbm, ⟨26, _⟩ => ⟨S_, .f32⟩
  | .hbm, ⟨27, _⟩ => ⟨S1x2048x980, .f32⟩
  | .hbm, ⟨28, _⟩ => ⟨S1x2048x980, .f32⟩
  | .hbm, ⟨29, _⟩ => ⟨S1x2048x980, .f32⟩
  | .hbm, ⟨30, _⟩ => ⟨S_, .f32⟩
  | .hbm, ⟨31, _⟩ => ⟨S1x2048x980, .f32⟩
  | .hbm, ⟨32, _⟩ => ⟨S1x2048x980, .f32⟩
  | .hbm, ⟨33, _⟩ => ⟨S1x2048x980, .f32⟩
  | .hbm, ⟨34, _⟩ => ⟨S_, .f32⟩
  | .hbm, ⟨35, _⟩ => ⟨S1x2048x980, .f32⟩
  | .hbm, ⟨36, _⟩ => ⟨S1x2048x980, .f32⟩
  | .hbm, ⟨37, _⟩ => ⟨S2048x980, .f32⟩
  | .hbm, ⟨38, _⟩ => ⟨S2048x980, .f32⟩
  | .hbm, ⟨39, _⟩ => ⟨S2048x980, .f32⟩
  | _, _ => ⟨S1x2048x980, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel5.lean ====
abbrev S1x512x384 : Shape := ⟨3, ![1, 512, 384]⟩
abbrev S512x384 : Shape := ⟨2, ![512, 384]⟩

abbrev nBuf : Space → Nat
  | .hbm => 11
  | .vmem => 7
  | .smem => 0
  | _ => 0

abbrev bufTy : (tb : Table) → Fin (tcTables nBuf tb) → BufTy
  | .hbm, ⟨0, _⟩ => ⟨S1x512x384, .f32⟩
  | .hbm, ⟨1, _⟩ => ⟨S1x512x384, .f32⟩
  | .hbm, ⟨2, _⟩ => ⟨S1x512x384, .f32⟩
  | .hbm, ⟨3, _⟩ => ⟨S1x512x384, .f32⟩
  | .hbm, ⟨4, _⟩ => ⟨S512x384, .f32⟩
  | .hbm, ⟨5, _⟩ => ⟨S512x384, .f32⟩
  | .hbm, ⟨6, _⟩ => ⟨S512x384, .f32⟩
  | .hbm, ⟨7, _⟩ => ⟨S512x384, .f32⟩
  | .hbm, ⟨8, _⟩ => ⟨S512x384, .f32⟩
  | .hbm, ⟨9, _⟩ => ⟨S512x384, .f32⟩
  | .hbm, ⟨10, _⟩ => ⟨S512x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | _, _ => ⟨S1x512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel5Ideal.lean ====
abbrev S1x512x384 : Shape := ⟨3, ![1, 512, 384]⟩
abbrev S512x384 : Shape := ⟨2, ![512, 384]⟩

abbrev nBuf : Space → Nat
  | .hbm => 11
  | .vmem => 7
  | .smem => 0
  | _ => 0

abbrev bufTy : (tb : Table) → Fin (tcTables nBuf tb) → BufTy
  | .hbm, ⟨0, _⟩ => ⟨S1x512x384, .f32⟩
  | .hbm, ⟨1, _⟩ => ⟨S1x512x384, .f32⟩
  | .hbm, ⟨2, _⟩ => ⟨S1x512x384, .f32⟩
  | .hbm, ⟨3, _⟩ => ⟨S1x512x384, .f32⟩
  | .hbm, ⟨4, _⟩ => ⟨S512x384, .f32⟩
  | .hbm, ⟨5, _⟩ => ⟨S512x384, .f32⟩
  | .hbm, ⟨6, _⟩ => ⟨S512x384, .f32⟩
  | .hbm, ⟨7, _⟩ => ⟨S512x384, .f32⟩
  | .hbm, ⟨8, _⟩ => ⟨S512x384, .f32⟩
  | .hbm, ⟨9, _⟩ => ⟨S512x384, .f32⟩
  | .hbm, ⟨10, _⟩ => ⟨S512x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | _, _ => ⟨S1x512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference5Ideal.lean ====
abbrev S1x512x384 : Shape := ⟨3, ![1, 512, 384]⟩
abbrev S_ : Shape := ⟨0, ![]⟩
abbrev S512x384 : Shape := ⟨2, ![512, 384]⟩

abbrev nBuf : Space → Nat
  | .hbm => 40
  | .vmem => 0
  | .smem => 0
  | _ => 0

abbrev bufTy : (tb : Table) → Fin (tcTables nBuf tb) → BufTy
  | .hbm, ⟨0, _⟩ => ⟨S1x512x384, .f32⟩
  | .hbm, ⟨1, _⟩ => ⟨S1x512x384, .f32⟩
  | .hbm, ⟨2, _⟩ => ⟨S1x512x384, .f32⟩
  | .hbm, ⟨3, _⟩ => ⟨S1x512x384, .f32⟩
  | .hbm, ⟨4, _⟩ => ⟨S_, .f32⟩
  | .hbm, ⟨5, _⟩ => ⟨S1x512x384, .f32⟩
  | .hbm, ⟨6, _⟩ => ⟨S1x512x384, .f32⟩
  | .hbm, ⟨7, _⟩ => ⟨S_, .f32⟩
  | .hbm, ⟨8, _⟩ => ⟨S1x512x384, .f32⟩
  | .hbm, ⟨9, _⟩ => ⟨S1x512x384, .f32⟩
  | .hbm, ⟨10, _⟩ => ⟨S1x512x384, .f32⟩
  | .hbm, ⟨11, _⟩ => ⟨S_, .f32⟩
  | .hbm, ⟨12, _⟩ => ⟨S1x512x384, .f32⟩
  | .hbm, ⟨13, _⟩ => ⟨S1x512x384, .f32⟩
  | .hbm, ⟨14, _⟩ => ⟨S1x512x384, .f32⟩
  | .hbm, ⟨15, _⟩ => ⟨S_, .f32⟩
  | .hbm, ⟨16, _⟩ => ⟨S1x512x384, .f32⟩
  | .hbm, ⟨17, _⟩ => ⟨S1x512x384, .f32⟩
  | .hbm, ⟨18, _⟩ => ⟨S1x512x384, .f32⟩
  | .hbm, ⟨19, _⟩ => ⟨S_, .f32⟩
  | .hbm, ⟨20, _⟩ => ⟨S1x512x384, .f32⟩
  | .hbm, ⟨21, _⟩ => ⟨S1x512x384, .f32⟩
  | .hbm, ⟨22, _⟩ => ⟨S_, .f32⟩
  | .hbm, ⟨23, _⟩ => ⟨S1x512x384, .f32⟩
  | .hbm, ⟨24, _⟩ => ⟨S1x512x384, .f32⟩
  | .hbm, ⟨25, _⟩ => ⟨S1x512x384, .f32⟩
  | .hbm, ⟨26, _⟩ => ⟨S_, .f32⟩
  | .hbm, ⟨27, _⟩ => ⟨S1x512x384, .f32⟩
  | .hbm, ⟨28, _⟩ => ⟨S1x512x384, .f32⟩
  | .hbm, ⟨29, _⟩ => ⟨S1x512x384, .f32⟩
  | .hbm, ⟨30, _⟩ => ⟨S_, .f32⟩
  | .hbm, ⟨31, _⟩ => ⟨S1x512x384, .f32⟩
  | .hbm, ⟨32, _⟩ => ⟨S1x512x384, .f32⟩
  | .hbm, ⟨33, _⟩ => ⟨S1x512x384, .f32⟩
  | .hbm, ⟨34, _⟩ => ⟨S_, .f32⟩
  | .hbm, ⟨35, _⟩ => ⟨S1x512x384, .f32⟩
  | .hbm, ⟨36, _⟩ => ⟨S1x512x384, .f32⟩
  | .hbm, ⟨37, _⟩ => ⟨S512x384, .f32⟩
  | .hbm, ⟨38, _⟩ => ⟨S512x384, .f32⟩
  | .hbm, ⟨39, _⟩ => ⟨S512x384, .f32⟩
  | _, _ => ⟨S1x512x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel6.lean ====
abbrev S1x256x512 : Shape := ⟨3, ![1, 256, 512]⟩
abbrev S256x512 : Shape := ⟨2, ![256, 512]⟩

abbrev nBuf : Space → Nat
  | .hbm => 11
  | .vmem => 7
  | .smem => 0
  | _ => 0

abbrev bufTy : (tb : Table) → Fin (tcTables nBuf tb) → BufTy
  | .hbm, ⟨0, _⟩ => ⟨S1x256x512, .f32⟩
  | .hbm, ⟨1, _⟩ => ⟨S1x256x512, .f32⟩
  | .hbm, ⟨2, _⟩ => ⟨S1x256x512, .f32⟩
  | .hbm, ⟨3, _⟩ => ⟨S1x256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel6Ideal.lean ====
abbrev S1x256x512 : Shape := ⟨3, ![1, 256, 512]⟩
abbrev S256x512 : Shape := ⟨2, ![256, 512]⟩

abbrev nBuf : Space → Nat
  | .hbm => 11
  | .vmem => 7
  | .smem => 0
  | _ => 0

abbrev bufTy : (tb : Table) → Fin (tcTables nBuf tb) → BufTy
  | .hbm, ⟨0, _⟩ => ⟨S1x256x512, .f32⟩
  | .hbm, ⟨1, _⟩ => ⟨S1x256x512, .f32⟩
  | .hbm, ⟨2, _⟩ => ⟨S1x256x512, .f32⟩
  | .hbm, ⟨3, _⟩ => ⟨S1x256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference6Ideal.lean ====
abbrev S1x256x512 : Shape := ⟨3, ![1, 256, 512]⟩
abbrev S_ : Shape := ⟨0, ![]⟩
abbrev S256x512 : Shape := ⟨2, ![256, 512]⟩

abbrev nBuf : Space → Nat
  | .hbm => 40
  | .vmem => 0
  | .smem => 0
  | _ => 0

abbrev bufTy : (tb : Table) → Fin (tcTables nBuf tb) → BufTy
  | .hbm, ⟨0, _⟩ => ⟨S1x256x512, .f32⟩
  | .hbm, ⟨1, _⟩ => ⟨S1x256x512, .f32⟩
  | .hbm, ⟨2, _⟩ => ⟨S1x256x512, .f32⟩
  | .hbm, ⟨3, _⟩ => ⟨S1x256x512, .f32⟩
  | .hbm, ⟨4, _⟩ => ⟨S_, .f32⟩
  | .hbm, ⟨5, _⟩ => ⟨S1x256x512, .f32⟩
  | .hbm, ⟨6, _⟩ => ⟨S1x256x512, .f32⟩
  | .hbm, ⟨7, _⟩ => ⟨S_, .f32⟩
  | .hbm, ⟨8, _⟩ => ⟨S1x256x512, .f32⟩
  | .hbm, ⟨9, _⟩ => ⟨S1x256x512, .f32⟩
  | .hbm, ⟨10, _⟩ => ⟨S1x256x512, .f32⟩
  | .hbm, ⟨11, _⟩ => ⟨S_, .f32⟩
  | .hbm, ⟨12, _⟩ => ⟨S1x256x512, .f32⟩
  | .hbm, ⟨13, _⟩ => ⟨S1x256x512, .f32⟩
  | .hbm, ⟨14, _⟩ => ⟨S1x256x512, .f32⟩
  | .hbm, ⟨15, _⟩ => ⟨S_, .f32⟩
  | .hbm, ⟨16, _⟩ => ⟨S1x256x512, .f32⟩
  | .hbm, ⟨17, _⟩ => ⟨S1x256x512, .f32⟩
  | .hbm, ⟨18, _⟩ => ⟨S1x256x512, .f32⟩
  | .hbm, ⟨19, _⟩ => ⟨S_, .f32⟩
  | .hbm, ⟨20, _⟩ => ⟨S1x256x512, .f32⟩
  | .hbm, ⟨21, _⟩ => ⟨S1x256x512, .f32⟩
  | .hbm, ⟨22, _⟩ => ⟨S_, .f32⟩
  | .hbm, ⟨23, _⟩ => ⟨S1x256x512, .f32⟩
  | .hbm, ⟨24, _⟩ => ⟨S1x256x512, .f32⟩
  | .hbm, ⟨25, _⟩ => ⟨S1x256x512, .f32⟩
  | .hbm, ⟨26, _⟩ => ⟨S_, .f32⟩
  | .hbm, ⟨27, _⟩ => ⟨S1x256x512, .f32⟩
  | .hbm, ⟨28, _⟩ => ⟨S1x256x512, .f32⟩
  | .hbm, ⟨29, _⟩ => ⟨S1x256x512, .f32⟩
  | .hbm, ⟨30, _⟩ => ⟨S_, .f32⟩
  | .hbm, ⟨31, _⟩ => ⟨S1x256x512, .f32⟩
  | .hbm, ⟨32, _⟩ => ⟨S1x256x512, .f32⟩
  | .hbm, ⟨33, _⟩ => ⟨S1x256x512, .f32⟩
  | .hbm, ⟨34, _⟩ => ⟨S_, .f32⟩
  | .hbm, ⟨35, _⟩ => ⟨S1x256x512, .f32⟩
  | .hbm, ⟨36, _⟩ => ⟨S1x256x512, .f32⟩
  | .hbm, ⟨37, _⟩ => ⟨S256x512, .f32⟩
  | .hbm, ⟨38, _⟩ => ⟨S256x512, .f32⟩
  | .hbm, ⟨39, _⟩ => ⟨S256x512, .f32⟩
  | _, _ => ⟨S1x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel7.lean ====
abbrev S1x16x128 : Shape := ⟨3, ![1, 16, 128]⟩
abbrev S16x128 : Shape := ⟨2, ![16, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x16x128, .f32⟩
  | .hbm, ⟨1, _⟩ => ⟨S1x16x128, .f32⟩
  | .hbm, ⟨2, _⟩ => ⟨S1x16x128, .f32⟩
  | .hbm, ⟨3, _⟩ => ⟨S1x16x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S1x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel7Ideal.lean ====
abbrev S1x16x128 : Shape := ⟨3, ![1, 16, 128]⟩
abbrev S16x128 : Shape := ⟨2, ![16, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x16x128, .f32⟩
  | .hbm, ⟨1, _⟩ => ⟨S1x16x128, .f32⟩
  | .hbm, ⟨2, _⟩ => ⟨S1x16x128, .f32⟩
  | .hbm, ⟨3, _⟩ => ⟨S1x16x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S1x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference7Ideal.lean ====
abbrev S1x16x128 : Shape := ⟨3, ![1, 16, 128]⟩
abbrev S_ : Shape := ⟨0, ![]⟩
abbrev S16x128 : Shape := ⟨2, ![16, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x16x128, .f32⟩
  | .hbm, ⟨1, _⟩ => ⟨S1x16x128, .f32⟩
  | .hbm, ⟨2, _⟩ => ⟨S1x16x128, .f32⟩
  | .hbm, ⟨3, _⟩ => ⟨S1x16x128, .f32⟩
  | .hbm, ⟨4, _⟩ => ⟨S_, .f32⟩
  | .hbm, ⟨5, _⟩ => ⟨S1x16x128, .f32⟩
  | .hbm, ⟨6, _⟩ => ⟨S1x16x128, .f32⟩
  | .hbm, ⟨7, _⟩ => ⟨S_, .f32⟩
  | .hbm, ⟨8, _⟩ => ⟨S1x16x128, .f32⟩
  | .hbm, ⟨9, _⟩ => ⟨S1x16x128, .f32⟩
  | .hbm, ⟨10, _⟩ => ⟨S1x16x128, .f32⟩
  | .hbm, ⟨11, _⟩ => ⟨S_, .f32⟩
  | .hbm, ⟨12, _⟩ => ⟨S1x16x128, .f32⟩
  | .hbm, ⟨13, _⟩ => ⟨S1x16x128, .f32⟩
  | .hbm, ⟨14, _⟩ => ⟨S1x16x128, .f32⟩
  | .hbm, ⟨15, _⟩ => ⟨S_, .f32⟩
  | .hbm, ⟨16, _⟩ => ⟨S1x16x128, .f32⟩
  | .hbm, ⟨17, _⟩ => ⟨S1x16x128, .f32⟩
  | .hbm, ⟨18, _⟩ => ⟨S1x16x128, .f32⟩
  | .hbm, ⟨19, _⟩ => ⟨S_, .f32⟩
  | .hbm, ⟨20, _⟩ => ⟨S1x16x128, .f32⟩
  | .hbm, ⟨21, _⟩ => ⟨S1x16x128, .f32⟩
  | .hbm, ⟨22, _⟩ => ⟨S_, .f32⟩
  | .hbm, ⟨23, _⟩ => ⟨S1x16x128, .f32⟩
  | .hbm, ⟨24, _⟩ => ⟨S1x16x128, .f32⟩
  | .hbm, ⟨25, _⟩ => ⟨S1x16x128, .f32⟩
  | .hbm, ⟨26, _⟩ => ⟨S_, .f32⟩
  | .hbm, ⟨27, _⟩ => ⟨S1x16x128, .f32⟩
  | .hbm, ⟨28, _⟩ => ⟨S1x16x128, .f32⟩
  | .hbm, ⟨29, _⟩ => ⟨S1x16x128, .f32⟩
  | .hbm, ⟨30, _⟩ => ⟨S_, .f32⟩
  | .hbm, ⟨31, _⟩ => ⟨S1x16x128, .f32⟩
  | .hbm, ⟨32, _⟩ => ⟨S1x16x128, .f32⟩
  | .hbm, ⟨33, _⟩ => ⟨S1x16x128, .f32⟩
  | .hbm, ⟨34, _⟩ => ⟨S_, .f32⟩
  | .hbm, ⟨35, _⟩ => ⟨S1x16x128, .f32⟩
  | .hbm, ⟨36, _⟩ => ⟨S1x16x128, .f32⟩
  | .hbm, ⟨37, _⟩ => ⟨S16x128, .f32⟩
  | .hbm, ⟨38, _⟩ => ⟨S16x128, .f32⟩
  | .hbm, ⟨39, _⟩ => ⟨S16x128, .f32⟩
  | _, _ => ⟨S1x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel8.lean ====
abbrev S1x512x2048 : Shape := ⟨3, ![1, 512, 2048]⟩
abbrev S512x2048 : Shape := ⟨2, ![512, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel8Ideal.lean ====
abbrev S1x512x2048 : Shape := ⟨3, ![1, 512, 2048]⟩
abbrev S512x2048 : Shape := ⟨2, ![512, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S1x512x2048 : Shape := ⟨3, ![1, 512, 2048]⟩
abbrev S_ : Shape := ⟨0, ![]⟩
abbrev S512x2048 : Shape := ⟨2, ![512, 2048]⟩

abbrev nBuf : Space → Nat
  | .hbm => 40
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S_, .f32⟩
  | .hbm, ⟨5, _⟩ => ⟨S1x512x2048, .f32⟩
  | .hbm, ⟨6, _⟩ => ⟨S1x512x2048, .f32⟩
  | .hbm, ⟨7, _⟩ => ⟨S_, .f32⟩
  | .hbm, ⟨8, _⟩ => ⟨S1x512x2048, .f32⟩
  | .hbm, ⟨9, _⟩ => ⟨S1x512x2048, .f32⟩
  | .hbm, ⟨10, _⟩ => ⟨S1x512x2048, .f32⟩
  | .hbm, ⟨11, _⟩ => ⟨S_, .f32⟩
  | .hbm, ⟨12, _⟩ => ⟨S1x512x2048, .f32⟩
  | .hbm, ⟨13, _⟩ => ⟨S1x512x2048, .f32⟩
  | .hbm, ⟨14, _⟩ => ⟨S1x512x2048, .f32⟩
  | .hbm, ⟨15, _⟩ => ⟨S_, .f32⟩
  | .hbm, ⟨16, _⟩ => ⟨S1x512x2048, .f32⟩
  | .hbm, ⟨17, _⟩ => ⟨S1x512x2048, .f32⟩
  | .hbm, ⟨18, _⟩ => ⟨S1x512x2048, .f32⟩
  | .hbm, ⟨19, _⟩ => ⟨S_, .f32⟩
  | .hbm, ⟨20, _⟩ => ⟨S1x512x2048, .f32⟩
  | .hbm, ⟨21, _⟩ => ⟨S1x512x2048, .f32⟩
  | .hbm, ⟨22, _⟩ => ⟨S_, .f32⟩
  | .hbm, ⟨23, _⟩ => ⟨S1x512x2048, .f32⟩
  | .hbm, ⟨24, _⟩ => ⟨S1x512x2048, .f32⟩
  | .hbm, ⟨25, _⟩ => ⟨S1x512x2048, .f32⟩
  | .hbm, ⟨26, _⟩ => ⟨S_, .f32⟩
  | .hbm, ⟨27, _⟩ => ⟨S1x512x2048, .f32⟩
  | .hbm, ⟨28, _⟩ => ⟨S1x512x2048, .f32⟩
  | .hbm, ⟨29, _⟩ => ⟨S1x512x2048, .f32⟩
  | .hbm, ⟨30, _⟩ => ⟨S_, .f32⟩
  | .hbm, ⟨31, _⟩ => ⟨S1x512x2048, .f32⟩
  | .hbm, ⟨32, _⟩ => ⟨S1x512x2048, .f32⟩
  | .hbm, ⟨33, _⟩ => ⟨S1x512x2048, .f32⟩
  | .hbm, ⟨34, _⟩ => ⟨S_, .f32⟩
  | .hbm, ⟨35, _⟩ => ⟨S1x512x2048, .f32⟩
  | .hbm, ⟨36, _⟩ => ⟨S1x512x2048, .f32⟩
  | .hbm, ⟨37, _⟩ => ⟨S512x2048, .f32⟩
  | .hbm, ⟨38, _⟩ => ⟨S512x2048, .f32⟩
  | .hbm, ⟨39, _⟩ => ⟨S512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel9.lean ====
abbrev S1x2048x1648 : Shape := ⟨3, ![1, 2048, 1648]⟩
abbrev S2048x1648 : Shape := ⟨2, ![2048, 1648]⟩
abbrev S128x1648 : Shape := ⟨2, ![128, 1648]⟩

abbrev nBuf : Space → Nat
  | .hbm => 11
  | .vmem => 14
  | .smem => 0
  | _ => 0

abbrev bufTy : (tb : Table) → Fin (tcTables nBuf tb) → BufTy
  | .hbm, ⟨0, _⟩ => ⟨S1x2048x1648, .f32⟩
  | .hbm, ⟨1, _⟩ => ⟨S1x2048x1648, .f32⟩
  | .hbm, ⟨2, _⟩ => ⟨S1x2048x1648, .f32⟩
  | .hbm, ⟨3, _⟩ => ⟨S1x2048x1648, .f32⟩
  | .hbm, ⟨4, _⟩ => ⟨S2048x1648, .f32⟩
  | .hbm, ⟨5, _⟩ => ⟨S2048x1648, .f32⟩
  | .hbm, ⟨6, _⟩ => ⟨S2048x1648, .f32⟩
  | .hbm, ⟨7, _⟩ => ⟨S2048x1648, .f32⟩
  | .hbm, ⟨8, _⟩ => ⟨S2048x1648, .f32⟩
  | .hbm, ⟨9, _⟩ => ⟨S2048x1648, .f32⟩
  | .hbm, ⟨10, _⟩ => ⟨S2048x1648, .f32⟩
  | .local _ .vmem, ⟨0, _⟩ => ⟨S128x1648, .f32⟩
  | .local _ .vmem, ⟨1, _⟩ => ⟨S128x1648, .f32⟩
  | .local _ .vmem, ⟨2, _⟩ => ⟨S128x1648, .f32⟩
  | .local _ .vmem, ⟨3, _⟩ => ⟨S128x1648, .f32⟩
  | .local _ .vmem, ⟨4, _⟩ => ⟨S128x1648, .f32⟩
  | .local _ .vmem, ⟨5, _⟩ => ⟨S128x1648, .f32⟩
  | .local _ .vmem, ⟨6, _⟩ => ⟨S128x1648, .f32⟩
  | .local _ .vmem, ⟨7, _⟩ => ⟨S128x1648, .f32⟩
  | .local _ .vmem, ⟨8, _⟩ => ⟨S128x1648, .f32⟩
  | .local _ .vmem, ⟨9, _⟩ => ⟨S128x1648, .f32⟩
  | .local _ .vmem, ⟨10, _⟩ => ⟨S128x1648, .f32⟩
  | .local _ .vmem, ⟨11, _⟩ => ⟨S128x1648, .f32⟩
  | .local _ .vmem, ⟨12, _⟩ => ⟨S128x1648, .f32⟩
  | .local _ .vmem, ⟨13, _⟩ => ⟨S128x1648, .f32⟩
  | _, _ => ⟨S1x2048x1648, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1648 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1648 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1648 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1648 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1648 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1648 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1648 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel9Ideal.lean ====
abbrev S1x2048x1648 : Shape := ⟨3, ![1, 2048, 1648]⟩
abbrev S2048x1648 : Shape := ⟨2, ![2048, 1648]⟩
abbrev S128x1648 : Shape := ⟨2, ![128, 1648]⟩

abbrev nBuf : Space → Nat
  | .hbm => 11
  | .vmem => 14
  | .smem => 0
  | _ => 0

abbrev bufTy : (tb : Table) → Fin (tcTables nBuf tb) → BufTy
  | .hbm, ⟨0, _⟩ => ⟨S1x2048x1648, .f32⟩
  | .hbm, ⟨1, _⟩ => ⟨S1x2048x1648, .f32⟩
  | .hbm, ⟨2, _⟩ => ⟨S1x2048x1648, .f32⟩
  | .hbm, ⟨3, _⟩ => ⟨S1x2048x1648, .f32⟩
  | .hbm, ⟨4, _⟩ => ⟨S2048x1648, .f32⟩
  | .hbm, ⟨5, _⟩ => ⟨S2048x1648, .f32⟩
  | .hbm, ⟨6, _⟩ => ⟨S2048x1648, .f32⟩
  | .hbm, ⟨7, _⟩ => ⟨S2048x1648, .f32⟩
  | .hbm, ⟨8, _⟩ => ⟨S2048x1648, .f32⟩
  | .hbm, ⟨9, _⟩ => ⟨S2048x1648, .f32⟩
  | .hbm, ⟨10, _⟩ => ⟨S2048x1648, .f32⟩
  | .local _ .vmem, ⟨0, _⟩ => ⟨S128x1648, .f32⟩
  | .local _ .vmem, ⟨1, _⟩ => ⟨S128x1648, .f32⟩
  | .local _ .vmem, ⟨2, _⟩ => ⟨S128x1648, .f32⟩
  | .local _ .vmem, ⟨3, _⟩ => ⟨S128x1648, .f32⟩
  | .local _ .vmem, ⟨4, _⟩ => ⟨S128x1648, .f32⟩
  | .local _ .vmem, ⟨5, _⟩ => ⟨S128x1648, .f32⟩
  | .local _ .vmem, ⟨6, _⟩ => ⟨S128x1648, .f32⟩
  | .local _ .vmem, ⟨7, _⟩ => ⟨S128x1648, .f32⟩
  | .local _ .vmem, ⟨8, _⟩ => ⟨S128x1648, .f32⟩
  | .local _ .vmem, ⟨9, _⟩ => ⟨S128x1648, .f32⟩
  | .local _ .vmem, ⟨10, _⟩ => ⟨S128x1648, .f32⟩
  | .local _ .vmem, ⟨11, _⟩ => ⟨S128x1648, .f32⟩
  | .local _ .vmem, ⟨12, _⟩ => ⟨S128x1648, .f32⟩
  | .local _ .vmem, ⟨13, _⟩ => ⟨S128x1648, .f32⟩
  | _, _ => ⟨S1x2048x1648, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1648 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1648 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1648 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1648 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1648 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1648 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1648 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S1x2048x1648 : Shape := ⟨3, ![1, 2048, 1648]⟩
abbrev S_ : Shape := ⟨0, ![]⟩
abbrev S2048x1648 : Shape := ⟨2, ![2048, 1648]⟩

abbrev nBuf : Space → Nat
  | .hbm => 40
  | .vmem => 0
  | .smem => 0
  | _ => 0

abbrev bufTy : (tb : Table) → Fin (tcTables nBuf tb) → BufTy
  | .hbm, ⟨0, _⟩ => ⟨S1x2048x1648, .f32⟩
  | .hbm, ⟨1, _⟩ => ⟨S1x2048x1648, .f32⟩
  | .hbm, ⟨2, _⟩ => ⟨S1x2048x1648, .f32⟩
  | .hbm, ⟨3, _⟩ => ⟨S1x2048x1648, .f32⟩
  | .hbm, ⟨4, _⟩ => ⟨S_, .f32⟩
  | .hbm, ⟨5, _⟩ => ⟨S1x2048x1648, .f32⟩
  | .hbm, ⟨6, _⟩ => ⟨S1x2048x1648, .f32⟩
  | .hbm, ⟨7, _⟩ => ⟨S_, .f32⟩
  | .hbm, ⟨8, _⟩ => ⟨S1x2048x1648, .f32⟩
  | .hbm, ⟨9, _⟩ => ⟨S1x2048x1648, .f32⟩
  | .hbm, ⟨10, _⟩ => ⟨S1x2048x1648, .f32⟩
  | .hbm, ⟨11, _⟩ => ⟨S_, .f32⟩
  | .hbm, ⟨12, _⟩ => ⟨S1x2048x1648, .f32⟩
  | .hbm, ⟨13, _⟩ => ⟨S1x2048x1648, .f32⟩
  | .hbm, ⟨14, _⟩ => ⟨S1x2048x1648, .f32⟩
  | .hbm, ⟨15, _⟩ => ⟨S_, .f32⟩
  | .hbm, ⟨16, _⟩ => ⟨S1x2048x1648, .f32⟩
  | .hbm, ⟨17, _⟩ => ⟨S1x2048x1648, .f32⟩
  | .hbm, ⟨18, _⟩ => ⟨S1x2048x1648, .f32⟩
  | .hbm, ⟨19, _⟩ => ⟨S_, .f32⟩
  | .hbm, ⟨20, _⟩ => ⟨S1x2048x1648, .f32⟩
  | .hbm, ⟨21, _⟩ => ⟨S1x2048x1648, .f32⟩
  | .hbm, ⟨22, _⟩ => ⟨S_, .f32⟩
  | .hbm, ⟨23, _⟩ => ⟨S1x2048x1648, .f32⟩
  | .hbm, ⟨24, _⟩ => ⟨S1x2048x1648, .f32⟩
  | .hbm, ⟨25, _⟩ => ⟨S1x2048x1648, .f32⟩
  | .hbm, ⟨26, _⟩ => ⟨S_, .f32⟩
  | .hbm, ⟨27, _⟩ => ⟨S1x2048x1648, .f32⟩
  | .hbm, ⟨28, _⟩ => ⟨S1x2048x1648, .f32⟩
  | .hbm, ⟨29, _⟩ => ⟨S1x2048x1648, .f32⟩
  | .hbm, ⟨30, _⟩ => ⟨S_, .f32⟩
  | .hbm, ⟨31, _⟩ => ⟨S1x2048x1648, .f32⟩
  | .hbm, ⟨32, _⟩ => ⟨S1x2048x1648, .f32⟩
  | .hbm, ⟨33, _⟩ => ⟨S1x2048x1648, .f32⟩
  | .hbm, ⟨34, _⟩ => ⟨S_, .f32⟩
  | .hbm, ⟨35, _⟩ => ⟨S1x2048x1648, .f32⟩
  | .hbm, ⟨36, _⟩ => ⟨S1x2048x1648, .f32⟩
  | .hbm, ⟨37, _⟩ => ⟨S2048x1648, .f32⟩
  | .hbm, ⟨38, _⟩ => ⟨S2048x1648, .f32⟩
  | .hbm, ⟨39, _⟩ => ⟨S2048x1648, .f32⟩
  | _, _ => ⟨S1x2048x1648, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel10.lean ====
abbrev S1x96x256 : Shape := ⟨3, ![1, 96, 256]⟩
abbrev S96x256 : Shape := ⟨2, ![96, 256]⟩

abbrev nBuf : Space → Nat
  | .hbm => 11
  | .vmem => 7
  | .smem => 0
  | _ => 0

abbrev bufTy : (tb : Table) → Fin (tcTables nBuf tb) → BufTy
  | .hbm, ⟨0, _⟩ => ⟨S1x96x256, .f32⟩
  | .hbm, ⟨1, _⟩ => ⟨S1x96x256, .f32⟩
  | .hbm, ⟨2, _⟩ => ⟨S1x96x256, .f32⟩
  | .hbm, ⟨3, _⟩ => ⟨S1x96x256, .f32⟩
  | .hbm, ⟨4, _⟩ => ⟨S96x256, .f32⟩
  | .hbm, ⟨5, _⟩ => ⟨S96x256, .f32⟩
  | .hbm, ⟨6, _⟩ => ⟨S96x256, .f32⟩
  | .hbm, ⟨7, _⟩ => ⟨S96x256, .f32⟩
  | .hbm, ⟨8, _⟩ => ⟨S96x256, .f32⟩
  | .hbm, ⟨9, _⟩ => ⟨S96x256, .f32⟩
  | .hbm, ⟨10, _⟩ => ⟨S96x256, .f32⟩
  | .local _ .vmem, ⟨0, _⟩ => ⟨S96x256, .f32⟩
  | .local _ .vmem, ⟨1, _⟩ => ⟨S96x256, .f32⟩
  | .local _ .vmem, ⟨2, _⟩ => ⟨S96x256, .f32⟩
  | .local _ .vmem, ⟨3, _⟩ => ⟨S96x256, .f32⟩
  | .local _ .vmem, ⟨4, _⟩ => ⟨S96x256, .f32⟩
  | .local _ .vmem, ⟨5, _⟩ => ⟨S96x256, .f32⟩
  | .local _ .vmem, ⟨6, _⟩ => ⟨S96x256, .f32⟩
  | _, _ => ⟨S1x96x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S96x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S96x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel10Ideal.lean ====
abbrev S1x96x256 : Shape := ⟨3, ![1, 96, 256]⟩
abbrev S96x256 : Shape := ⟨2, ![96, 256]⟩

abbrev nBuf : Space → Nat
  | .hbm => 11
  | .vmem => 7
  | .smem => 0
  | _ => 0

abbrev bufTy : (tb : Table) → Fin (tcTables nBuf tb) → BufTy
  | .hbm, ⟨0, _⟩ => ⟨S1x96x256, .f32⟩
  | .hbm, ⟨1, _⟩ => ⟨S1x96x256, .f32⟩
  | .hbm, ⟨2, _⟩ => ⟨S1x96x256, .f32⟩
  | .hbm, ⟨3, _⟩ => ⟨S1x96x256, .f32⟩
  | .hbm, ⟨4, _⟩ => ⟨S96x256, .f32⟩
  | .hbm, ⟨5, _⟩ => ⟨S96x256, .f32⟩
  | .hbm, ⟨6, _⟩ => ⟨S96x256, .f32⟩
  | .hbm, ⟨7, _⟩ => ⟨S96x256, .f32⟩
  | .hbm, ⟨8, _⟩ => ⟨S96x256, .f32⟩
  | .hbm, ⟨9, _⟩ => ⟨S96x256, .f32⟩
  | .hbm, ⟨10, _⟩ => ⟨S96x256, .f32⟩
  | .local _ .vmem, ⟨0, _⟩ => ⟨S96x256, .f32⟩
  | .local _ .vmem, ⟨1, _⟩ => ⟨S96x256, .f32⟩
  | .local _ .vmem, ⟨2, _⟩ => ⟨S96x256, .f32⟩
  | .local _ .vmem, ⟨3, _⟩ => ⟨S96x256, .f32⟩
  | .local _ .vmem, ⟨4, _⟩ => ⟨S96x256, .f32⟩
  | .local _ .vmem, ⟨5, _⟩ => ⟨S96x256, .f32⟩
  | .local _ .vmem, ⟨6, _⟩ => ⟨S96x256, .f32⟩
  | _, _ => ⟨S1x96x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S96x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S96x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference10Ideal.lean ====
abbrev S1x96x256 : Shape := ⟨3, ![1, 96, 256]⟩
abbrev S_ : Shape := ⟨0, ![]⟩
abbrev S96x256 : Shape := ⟨2, ![96, 256]⟩

abbrev nBuf : Space → Nat
  | .hbm => 40
  | .vmem => 0
  | .smem => 0
  | _ => 0

abbrev bufTy : (tb : Table) → Fin (tcTables nBuf tb) → BufTy
  | .hbm, ⟨0, _⟩ => ⟨S1x96x256, .f32⟩
  | .hbm, ⟨1, _⟩ => ⟨S1x96x256, .f32⟩
  | .hbm, ⟨2, _⟩ => ⟨S1x96x256, .f32⟩
  | .hbm, ⟨3, _⟩ => ⟨S1x96x256, .f32⟩
  | .hbm, ⟨4, _⟩ => ⟨S_, .f32⟩
  | .hbm, ⟨5, _⟩ => ⟨S1x96x256, .f32⟩
  | .hbm, ⟨6, _⟩ => ⟨S1x96x256, .f32⟩
  | .hbm, ⟨7, _⟩ => ⟨S_, .f32⟩
  | .hbm, ⟨8, _⟩ => ⟨S1x96x256, .f32⟩
  | .hbm, ⟨9, _⟩ => ⟨S1x96x256, .f32⟩
  | .hbm, ⟨10, _⟩ => ⟨S1x96x256, .f32⟩
  | .hbm, ⟨11, _⟩ => ⟨S_, .f32⟩
  | .hbm, ⟨12, _⟩ => ⟨S1x96x256, .f32⟩
  | .hbm, ⟨13, _⟩ => ⟨S1x96x256, .f32⟩
  | .hbm, ⟨14, _⟩ => ⟨S1x96x256, .f32⟩
  | .hbm, ⟨15, _⟩ => ⟨S_, .f32⟩
  | .hbm, ⟨16, _⟩ => ⟨S1x96x256, .f32⟩
  | .hbm, ⟨17, _⟩ => ⟨S1x96x256, .f32⟩
  | .hbm, ⟨18, _⟩ => ⟨S1x96x256, .f32⟩
  | .hbm, ⟨19, _⟩ => ⟨S_, .f32⟩
  | .hbm, ⟨20, _⟩ => ⟨S1x96x256, .f32⟩
  | .hbm, ⟨21, _⟩ => ⟨S1x96x256, .f32⟩
  | .hbm, ⟨22, _⟩ => ⟨S_, .f32⟩
  | .hbm, ⟨23, _⟩ => ⟨S1x96x256, .f32⟩
  | .hbm, ⟨24, _⟩ => ⟨S1x96x256, .f32⟩
  | .hbm, ⟨25, _⟩ => ⟨S1x96x256, .f32⟩
  | .hbm, ⟨26, _⟩ => ⟨S_, .f32⟩
  | .hbm, ⟨27, _⟩ => ⟨S1x96x256, .f32⟩
  | .hbm, ⟨28, _⟩ => ⟨S1x96x256, .f32⟩
  | .hbm, ⟨29, _⟩ => ⟨S1x96x256, .f32⟩
  | .hbm, ⟨30, _⟩ => ⟨S_, .f32⟩
  | .hbm, ⟨31, _⟩ => ⟨S1x96x256, .f32⟩
  | .hbm, ⟨32, _⟩ => ⟨S1x96x256, .f32⟩
  | .hbm, ⟨33, _⟩ => ⟨S1x96x256, .f32⟩
  | .hbm, ⟨34, _⟩ => ⟨S_, .f32⟩
  | .hbm, ⟨35, _⟩ => ⟨S1x96x256, .f32⟩
  | .hbm, ⟨36, _⟩ => ⟨S1x96x256, .f32⟩
  | .hbm, ⟨37, _⟩ => ⟨S96x256, .f32⟩
  | .hbm, ⟨38, _⟩ => ⟨S96x256, .f32⟩
  | .hbm, ⟨39, _⟩ => ⟨S96x256, .f32⟩
  | _, _ => ⟨S1x96x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel11.lean ====
abbrev S1x256x256 : Shape := ⟨3, ![1, 256, 256]⟩
abbrev S256x256 : Shape := ⟨2, ![256, 256]⟩

abbrev nBuf : Space → Nat
  | .hbm => 11
  | .vmem => 7
  | .smem => 0
  | _ => 0

abbrev bufTy : (tb : Table) → Fin (tcTables nBuf tb) → BufTy
  | .hbm, ⟨0, _⟩ => ⟨S1x256x256, .f32⟩
  | .hbm, ⟨1, _⟩ => ⟨S1x256x256, .f32⟩
  | .hbm, ⟨2, _⟩ => ⟨S1x256x256, .f32⟩
  | .hbm, ⟨3, _⟩ => ⟨S1x256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel11Ideal.lean ====
abbrev S1x256x256 : Shape := ⟨3, ![1, 256, 256]⟩
abbrev S256x256 : Shape := ⟨2, ![256, 256]⟩

abbrev nBuf : Space → Nat
  | .hbm => 11
  | .vmem => 7
  | .smem => 0
  | _ => 0

abbrev bufTy : (tb : Table) → Fin (tcTables nBuf tb) → BufTy
  | .hbm, ⟨0, _⟩ => ⟨S1x256x256, .f32⟩
  | .hbm, ⟨1, _⟩ => ⟨S1x256x256, .f32⟩
  | .hbm, ⟨2, _⟩ => ⟨S1x256x256, .f32⟩
  | .hbm, ⟨3, _⟩ => ⟨S1x256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference11Ideal.lean ====
abbrev S1x256x256 : Shape := ⟨3, ![1, 256, 256]⟩
abbrev S_ : Shape := ⟨0, ![]⟩
abbrev S256x256 : Shape := ⟨2, ![256, 256]⟩

abbrev nBuf : Space → Nat
  | .hbm => 40
  | .vmem => 0
  | .smem => 0
  | _ => 0

abbrev bufTy : (tb : Table) → Fin (tcTables nBuf tb) → BufTy
  | .hbm, ⟨0, _⟩ => ⟨S1x256x256, .f32⟩
  | .hbm, ⟨1, _⟩ => ⟨S1x256x256, .f32⟩
  | .hbm, ⟨2, _⟩ => ⟨S1x256x256, .f32⟩
  | .hbm, ⟨3, _⟩ => ⟨S1x256x256, .f32⟩
  | .hbm, ⟨4, _⟩ => ⟨S_, .f32⟩
  | .hbm, ⟨5, _⟩ => ⟨S1x256x256, .f32⟩
  | .hbm, ⟨6, _⟩ => ⟨S1x256x256, .f32⟩
  | .hbm, ⟨7, _⟩ => ⟨S_, .f32⟩
  | .hbm, ⟨8, _⟩ => ⟨S1x256x256, .f32⟩
  | .hbm, ⟨9, _⟩ => ⟨S1x256x256, .f32⟩
  | .hbm, ⟨10, _⟩ => ⟨S1x256x256, .f32⟩
  | .hbm, ⟨11, _⟩ => ⟨S_, .f32⟩
  | .hbm, ⟨12, _⟩ => ⟨S1x256x256, .f32⟩
  | .hbm, ⟨13, _⟩ => ⟨S1x256x256, .f32⟩
  | .hbm, ⟨14, _⟩ => ⟨S1x256x256, .f32⟩
  | .hbm, ⟨15, _⟩ => ⟨S_, .f32⟩
  | .hbm, ⟨16, _⟩ => ⟨S1x256x256, .f32⟩
  | .hbm, ⟨17, _⟩ => ⟨S1x256x256, .f32⟩
  | .hbm, ⟨18, _⟩ => ⟨S1x256x256, .f32⟩
  | .hbm, ⟨19, _⟩ => ⟨S_, .f32⟩
  | .hbm, ⟨20, _⟩ => ⟨S1x256x256, .f32⟩
  | .hbm, ⟨21, _⟩ => ⟨S1x256x256, .f32⟩
  | .hbm, ⟨22, _⟩ => ⟨S_, .f32⟩
  | .hbm, ⟨23, _⟩ => ⟨S1x256x256, .f32⟩
  | .hbm, ⟨24, _⟩ => ⟨S1x256x256, .f32⟩
  | .hbm, ⟨25, _⟩ => ⟨S1x256x256, .f32⟩
  | .hbm, ⟨26, _⟩ => ⟨S_, .f32⟩
  | .hbm, ⟨27, _⟩ => ⟨S1x256x256, .f32⟩
  | .hbm, ⟨28, _⟩ => ⟨S1x256x256, .f32⟩
  | .hbm, ⟨29, _⟩ => ⟨S1x256x256, .f32⟩
  | .hbm, ⟨30, _⟩ => ⟨S_, .f32⟩
  | .hbm, ⟨31, _⟩ => ⟨S1x256x256, .f32⟩
  | .hbm, ⟨32, _⟩ => ⟨S1x256x256, .f32⟩
  | .hbm, ⟨33, _⟩ => ⟨S1x256x256, .f32⟩
  | .hbm, ⟨34, _⟩ => ⟨S_, .f32⟩
  | .hbm, ⟨35, _⟩ => ⟨S1x256x256, .f32⟩
  | .hbm, ⟨36, _⟩ => ⟨S1x256x256, .f32⟩
  | .hbm, ⟨37, _⟩ => ⟨S256x256, .f32⟩
  | .hbm, ⟨38, _⟩ => ⟨S256x256, .f32⟩
  | .hbm, ⟨39, _⟩ => ⟨S256x256, .f32⟩
  | _, _ => ⟨S1x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel12.lean ====
abbrev S2x512x2048 : Shape := ⟨3, ![2, 512, 2048]⟩
abbrev S1024x2048 : Shape := ⟨2, ![1024, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel12Ideal.lean ====
abbrev S2x512x2048 : Shape := ⟨3, ![2, 512, 2048]⟩
abbrev S1024x2048 : Shape := ⟨2, ![1024, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S2x512x2048 : Shape := ⟨3, ![2, 512, 2048]⟩
abbrev S_ : Shape := ⟨0, ![]⟩
abbrev S1024x2048 : Shape := ⟨2, ![1024, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S_, .f32⟩
  | .hbm, ⟨5, _⟩ => ⟨S2x512x2048, .f32⟩
  | .hbm, ⟨6, _⟩ => ⟨S2x512x2048, .f32⟩
  | .hbm, ⟨7, _⟩ => ⟨S_, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | .hbm, ⟨37, _⟩ => ⟨S1024x2048, .f32⟩
  | .hbm, ⟨38, _⟩ => ⟨S1024x2048, .f32⟩
  | .hbm, ⟨39, _⟩ => ⟨S1024x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel13.lean ====
abbrev S2x2048x1408 : Shape := ⟨3, ![2, 2048, 1408]⟩
abbrev S4096x1408 : Shape := ⟨2, ![4096, 1408]⟩
abbrev S128x1408 : Shape := ⟨2, ![128, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel13Ideal.lean ====
abbrev S2x2048x1408 : Shape := ⟨3, ![2, 2048, 1408]⟩
abbrev S4096x1408 : Shape := ⟨2, ![4096, 1408]⟩
abbrev S128x1408 : Shape := ⟨2, ![128, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S2x2048x1408 : Shape := ⟨3, ![2, 2048, 1408]⟩
abbrev S_ : Shape := ⟨0, ![]⟩
abbrev S4096x1408 : Shape := ⟨2, ![4096, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S_, .f32⟩
  | .hbm, ⟨5, _⟩ => ⟨S2x2048x1408, .f32⟩
  | .hbm, ⟨6, _⟩ => ⟨S2x2048x1408, .f32⟩
  | .hbm, ⟨7, _⟩ => ⟨S_, .f32⟩
  | .hbm, ⟨8, _⟩ => ⟨S2x2048x1408, .f32⟩
  | .hbm, ⟨9, _⟩ => ⟨S2x2048x1408, .f32⟩
  | .hbm, ⟨10, _⟩ => ⟨S2x2048x1408, .f32⟩
  | .hbm, ⟨11, _⟩ => ⟨S_, .f32⟩
  | .hbm, ⟨12, _⟩ => ⟨S2x2048x1408, .f32⟩
  | .hbm, ⟨13, _⟩ => ⟨S2x2048x1408, .f32⟩
  | .hbm, ⟨14, _⟩ => ⟨S2x2048x1408, .f32⟩
  | .hbm, ⟨15, _⟩ => ⟨S_, .f32⟩
  | .hbm, ⟨16, _⟩ => ⟨S2x2048x1408, .f32⟩
  | .hbm, ⟨17, _⟩ => ⟨S2x2048x1408, .f32⟩
  | .hbm, ⟨18, _⟩ => ⟨S2x2048x1408, .f32⟩
  | .hbm, ⟨19, _⟩ => ⟨S_, .f32⟩
  | .hbm, ⟨20, _⟩ => ⟨S2x2048x1408, .f32⟩
  | .hbm, ⟨21, _⟩ => ⟨S2x2048x1408, .f32⟩
  | .hbm, ⟨22, _⟩ => ⟨S_, .f32⟩
  | .hbm, ⟨23, _⟩ => ⟨S2x2048x1408, .f32⟩
  | .hbm, ⟨24, _⟩ => ⟨S2x2048x1408, .f32⟩
  | .hbm, ⟨25, _⟩ => ⟨S2x2048x1408, .f32⟩
  | .hbm, ⟨26, _⟩ => ⟨S_, .f32⟩
  | .hbm, ⟨27, _⟩ => ⟨S2x2048x1408, .f32⟩
  | .hbm, ⟨28, _⟩ => ⟨S2x2048x1408, .f32⟩
  | .hbm, ⟨29, _⟩ => ⟨S2x2048x1408, .f32⟩
  | .hbm, ⟨30, _⟩ => ⟨S_, .f32⟩
  | .hbm, ⟨31, _⟩ => ⟨S2x2048x1408, .f32⟩
  | .hbm, ⟨32, _⟩ => ⟨S2x2048x1408, .f32⟩
  | .hbm, ⟨33, _⟩ => ⟨S2x2048x1408, .f32⟩
  | .hbm, ⟨34, _⟩ => ⟨S_, .f32⟩
  | .hbm, ⟨35, _⟩ => ⟨S2x2048x1408, .f32⟩
  | .hbm, ⟨36, _⟩ => ⟨S2x2048x1408, .f32⟩
  | .hbm, ⟨37, _⟩ => ⟨S4096x1408, .f32⟩
  | .hbm, ⟨38, _⟩ => ⟨S4096x1408, .f32⟩
  | .hbm, ⟨39, _⟩ => ⟨S4096x1408, .f32⟩
  | _, _ => ⟨S2x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel14.lean ====
abbrev S2x1408x2048 : Shape := ⟨3, ![2, 1408, 2048]⟩
abbrev S2816x2048 : Shape := ⟨2, ![2816, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S2x1408x2048, .f32⟩
  | .hbm, ⟨4, _⟩ => ⟨S2816x2048, .f32⟩
  | .hbm, ⟨5, _⟩ => ⟨S2816x2048, .f32⟩
  | .hbm, ⟨6, _⟩ => ⟨S2816x2048, .f32⟩
  | .hbm, ⟨7, _⟩ => ⟨S2816x2048, .f32⟩
  | .hbm, ⟨8, _⟩ => ⟨S2816x2048, .f32⟩
  | .hbm, ⟨9, _⟩ => ⟨S2816x2048, .f32⟩
  | .hbm, ⟨10, _⟩ => ⟨S2816x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel14Ideal.lean ====
abbrev S2x1408x2048 : Shape := ⟨3, ![2, 1408, 2048]⟩
abbrev S2816x2048 : Shape := ⟨2, ![2816, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S2x1408x2048, .f32⟩
  | .hbm, ⟨4, _⟩ => ⟨S2816x2048, .f32⟩
  | .hbm, ⟨5, _⟩ => ⟨S2816x2048, .f32⟩
  | .hbm, ⟨6, _⟩ => ⟨S2816x2048, .f32⟩
  | .hbm, ⟨7, _⟩ => ⟨S2816x2048, .f32⟩
  | .hbm, ⟨8, _⟩ => ⟨S2816x2048, .f32⟩
  | .hbm, ⟨9, _⟩ => ⟨S2816x2048, .f32⟩
  | .hbm, ⟨10, _⟩ => ⟨S2816x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S2x1408x2048 : Shape := ⟨3, ![2, 1408, 2048]⟩
abbrev S_ : Shape := ⟨0, ![]⟩
abbrev S2816x2048 : Shape := ⟨2, ![2816, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S2x1408x2048, .f32⟩
  | .hbm, ⟨4, _⟩ => ⟨S_, .f32⟩
  | .hbm, ⟨5, _⟩ => ⟨S2x1408x2048, .f32⟩
  | .hbm, ⟨6, _⟩ => ⟨S2x1408x2048, .f32⟩
  | .hbm, ⟨7, _⟩ => ⟨S_, .f32⟩
  | .hbm, ⟨8, _⟩ => ⟨S2x1408x2048, .f32⟩
  | .hbm, ⟨9, _⟩ => ⟨S2x1408x2048, .f32⟩
  | .hbm, ⟨10, _⟩ => ⟨S2x1408x2048, .f32⟩
  | .hbm, ⟨11, _⟩ => ⟨S_, .f32⟩
  | .hbm, ⟨12, _⟩ => ⟨S2x1408x2048, .f32⟩
  | .hbm, ⟨13, _⟩ => ⟨S2x1408x2048, .f32⟩
  | .hbm, ⟨14, _⟩ => ⟨S2x1408x2048, .f32⟩
  | .hbm, ⟨15, _⟩ => ⟨S_, .f32⟩
  | .hbm, ⟨16, _⟩ => ⟨S2x1408x2048, .f32⟩
  | .hbm, ⟨17, _⟩ => ⟨S2x1408x2048, .f32⟩
  | .hbm, ⟨18, _⟩ => ⟨S2x1408x2048, .f32⟩
  | .hbm, ⟨19, _⟩ => ⟨S_, .f32⟩
  | .hbm, ⟨20, _⟩ => ⟨S2x1408x2048, .f32⟩
  | .hbm, ⟨21, _⟩ => ⟨S2x1408x2048, .f32⟩
  | .hbm, ⟨22, _⟩ => ⟨S_, .f32⟩
  | .hbm, ⟨23, _⟩ => ⟨S2x1408x2048, .f32⟩
  | .hbm, ⟨24, _⟩ => ⟨S2x1408x2048, .f32⟩
  | .hbm, ⟨25, _⟩ => ⟨S2x1408x2048, .f32⟩
  | .hbm, ⟨26, _⟩ => ⟨S_, .f32⟩
  | .hbm, ⟨27, _⟩ => ⟨S2x1408x2048, .f32⟩
  | .hbm, ⟨28, _⟩ => ⟨S2x1408x2048, .f32⟩
  | .hbm, ⟨29, _⟩ => ⟨S2x1408x2048, .f32⟩
  | .hbm, ⟨30, _⟩ => ⟨S_, .f32⟩
  | .hbm, ⟨31, _⟩ => ⟨S2x1408x2048, .f32⟩
  | .hbm, ⟨32, _⟩ => ⟨S2x1408x2048, .f32⟩
  | .hbm, ⟨33, _⟩ => ⟨S2x1408x2048, .f32⟩
  | .hbm, ⟨34, _⟩ => ⟨S_, .f32⟩
  | .hbm, ⟨35, _⟩ => ⟨S2x1408x2048, .f32⟩
  | .hbm, ⟨36, _⟩ => ⟨S2x1408x2048, .f32⟩
  | .hbm, ⟨37, _⟩ => ⟨S2816x2048, .f32⟩
  | .hbm, ⟨38, _⟩ => ⟨S2816x2048, .f32⟩
  | .hbm, ⟨39, _⟩ => ⟨S2816x2048, .f32⟩
  | _, _ => ⟨S2x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel15.lean ====
abbrev S2x2048x2048 : Shape := ⟨3, ![2, 2048, 2048]⟩
abbrev S4096x2048 : Shape := ⟨2, ![4096, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩

abbrev nBuf : Space → Nat
  | .hbm => 6
  | .vmem => 7
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x1, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference15Ideal.lean ====
abbrev S2x2048x2048 : Shape := ⟨3, ![2, 2048, 2048]⟩
abbrev S_ : Shape := ⟨0, ![]⟩
abbrev S2x2048 : Shape := ⟨2, ![2, 2048]⟩
abbrev S4096x2048 : Shape := ⟨2, ![4096, 2048]⟩
abbrev S1x1 : Shape := ⟨2, ![1, 1]⟩

abbrev nBuf : Space → Nat
  | .hbm => 30
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S2x2048x2048, .f32⟩
  | .hbm, ⟨4, _⟩ => ⟨S_, .f32⟩
  | .hbm, ⟨5, _⟩ => ⟨S2x2048x2048, .f32⟩
  | .hbm, ⟨6, _⟩ => ⟨S2x2048x2048, .f32⟩
  | .hbm, ⟨7, _⟩ => ⟨S_, .f32⟩
  | .hbm, ⟨8, _⟩ => ⟨S2x2048, .f32⟩
  | .hbm, ⟨9, _⟩ => ⟨S_, .f32⟩
  | .hbm, ⟨10, _⟩ => ⟨S2x2048, .f32⟩
  | .hbm, ⟨11, _⟩ => ⟨S2x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x2048, .f32⟩
  | .hbm, ⟨20, _⟩ => ⟨S_, .f32⟩
  | .hbm, ⟨21, _⟩ => ⟨S2x2048, .f32⟩
  | .hbm, ⟨22, _⟩ => ⟨S2x2048, .f32⟩
  | .hbm, ⟨23, _⟩ => ⟨S2x2048x2048, .f32⟩
  | .hbm, ⟨24, _⟩ => ⟨S2x2048x2048, .f32⟩
  | .hbm, ⟨25, _⟩ => ⟨S2x2048x2048, .f32⟩
  | .hbm, ⟨26, _⟩ => ⟨S4096x2048, .f32⟩
  | .hbm, ⟨27, _⟩ => ⟨S_, .f32⟩
  | .hbm, ⟨28, _⟩ => ⟨S_, .f32⟩
  | .hbm, ⟨29, _⟩ => ⟨S1x1, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Kernel16.lean ====
abbrev S1x248x128 : Shape := ⟨3, ![1, 248, 128]⟩
abbrev S248x128 : Shape := ⟨2, ![248, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x248x128, .f32⟩
  | .hbm, ⟨1, _⟩ => ⟨S1x248x128, .f32⟩
  | .hbm, ⟨2, _⟩ => ⟨S1x248x128, .f32⟩
  | .hbm, ⟨3, _⟩ => ⟨S1x248x128, .f32⟩
  | .hbm, ⟨4, _⟩ => ⟨S248x128, .f32⟩
  | .hbm, ⟨5, _⟩ => ⟨S248x128, .f32⟩
  | .hbm, ⟨6, _⟩ => ⟨S248x128, .f32⟩
  | .hbm, ⟨7, _⟩ => ⟨S248x128, .f32⟩
  | .hbm, ⟨8, _⟩ => ⟨S248x128, .f32⟩
  | .hbm, ⟨9, _⟩ => ⟨S248x128, .f32⟩
  | .hbm, ⟨10, _⟩ => ⟨S248x128, .f32⟩
  | .local _ .vmem, ⟨0, _⟩ => ⟨S248x128, .f32⟩
  | .local _ .vmem, ⟨1, _⟩ => ⟨S248x128, .f32⟩
  | .local _ .vmem, ⟨2, _⟩ => ⟨S248x128, .f32⟩
  | .local _ .vmem, ⟨3, _⟩ => ⟨S248x128, .f32⟩
  | .local _ .vmem, ⟨4, _⟩ => ⟨S248x128, .f32⟩
  | .local _ .vmem, ⟨5, _⟩ => ⟨S248x128, .f32⟩
  | .local _ .vmem, ⟨6, _⟩ => ⟨S248x128, .f32⟩
  | _, _ => ⟨S1x248x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S248x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S248x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S248x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S248x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S248x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S248x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S248x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S1x248x128 : Shape := ⟨3, ![1, 248, 128]⟩
abbrev S_ : Shape := ⟨0, ![]⟩
abbrev S248x128 : Shape := ⟨2, ![248, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x248x128, .f32⟩
  | .hbm, ⟨1, _⟩ => ⟨S1x248x128, .f32⟩
  | .hbm, ⟨2, _⟩ => ⟨S1x248x128, .f32⟩
  | .hbm, ⟨3, _⟩ => ⟨S1x248x128, .f32⟩
  | .hbm, ⟨4, _⟩ => ⟨S_, .f32⟩
  | .hbm, ⟨5, _⟩ => ⟨S1x248x128, .f32⟩
  | .hbm, ⟨6, _⟩ => ⟨S1x248x128, .f32⟩
  | .hbm, ⟨7, _⟩ => ⟨S_, .f32⟩
  | .hbm, ⟨8, _⟩ => ⟨S1x248x128, .f32⟩
  | .hbm, ⟨9, _⟩ => ⟨S1x248x128, .f32⟩
  | .hbm, ⟨10, _⟩ => ⟨S1x248x128, .f32⟩
  | .hbm, ⟨11, _⟩ => ⟨S_, .f32⟩
  | .hbm, ⟨12, _⟩ => ⟨S1x248x128, .f32⟩
  | .hbm, ⟨13, _⟩ => ⟨S1x248x128, .f32⟩
  | .hbm, ⟨14, _⟩ => ⟨S1x248x128, .f32⟩
  | .hbm, ⟨15, _⟩ => ⟨S_, .f32⟩
  | .hbm, ⟨16, _⟩ => ⟨S1x248x128, .f32⟩
  | .hbm, ⟨17, _⟩ => ⟨S1x248x128, .f32⟩
  | .hbm, ⟨18, _⟩ => ⟨S1x248x128, .f32⟩
  | .hbm, ⟨19, _⟩ => ⟨S_, .f32⟩
  | .hbm, ⟨20, _⟩ => ⟨S1x248x128, .f32⟩
  | .hbm, ⟨21, _⟩ => ⟨S1x248x128, .f32⟩
  | .hbm, ⟨22, _⟩ => ⟨S_, .f32⟩
  | .hbm, ⟨23, _⟩ => ⟨S1x248x128, .f32⟩
  | .hbm, ⟨24, _⟩ => ⟨S1x248x128, .f32⟩
  | .hbm, ⟨25, _⟩ => ⟨S1x248x128, .f32⟩
  | .hbm, ⟨26, _⟩ => ⟨S_, .f32⟩
  | .hbm, ⟨27, _⟩ => ⟨S1x248x128, .f32⟩
  | .hbm, ⟨28, _⟩ => ⟨S1x248x128, .f32⟩
  | .hbm, ⟨29, _⟩ => ⟨S1x248x128, .f32⟩
  | .hbm, ⟨30, _⟩ => ⟨S_, .f32⟩
  | .hbm, ⟨31, _⟩ => ⟨S1x248x128, .f32⟩
  | .hbm, ⟨32, _⟩ => ⟨S1x248x128, .f32⟩
  | .hbm, ⟨33, _⟩ => ⟨S1x248x128, .f32⟩
  | .hbm, ⟨34, _⟩ => ⟨S_, .f32⟩
  | .hbm, ⟨35, _⟩ => ⟨S1x248x128, .f32⟩
  | .hbm, ⟨36, _⟩ => ⟨S1x248x128, .f32⟩
  | .hbm, ⟨37, _⟩ => ⟨S248x128, .f32⟩
  | .hbm, ⟨38, _⟩ => ⟨S248x128, .f32⟩
  | .hbm, ⟨39, _⟩ => ⟨S248x128, .f32⟩
  | _, _ => ⟨S1x248x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel17.lean ====
abbrev S8x248x128 : Shape := ⟨3, ![8, 248, 128]⟩
abbrev S248x128 : Shape := ⟨2, ![248, 128]⟩
abbrev S1x248x128 : Shape := ⟨3, ![1, 248, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x248x128, .f32⟩
  | .hbm, ⟨1, _⟩ => ⟨S248x128, .f32⟩
  | .local _ .vmem, ⟨0, _⟩ => ⟨S8x248x128, .f32⟩
  | .local _ .vmem, ⟨1, _⟩ => ⟨S248x128, .f32⟩
  | _, _ => ⟨S8x248x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x248x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S248x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Kernel17Ideal.lean ====
abbrev S8x248x128 : Shape := ⟨3, ![8, 248, 128]⟩
abbrev S248x128 : Shape := ⟨2, ![248, 128]⟩
abbrev S1x248x128 : Shape := ⟨3, ![1, 248, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x248x128, .f32⟩
  | .hbm, ⟨1, _⟩ => ⟨S248x128, .f32⟩
  | .local _ .vmem, ⟨0, _⟩ => ⟨S8x248x128, .f32⟩
  | .local _ .vmem, ⟨1, _⟩ => ⟨S248x128, .f32⟩
  | _, _ => ⟨S8x248x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x248x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S248x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference17Ideal.lean ====
abbrev S8x248x128 : Shape := ⟨3, ![8, 248, 128]⟩
abbrev S_ : Shape := ⟨0, ![]⟩
abbrev S248x128 : Shape := ⟨2, ![248, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x248x128, .f32⟩
  | .hbm, ⟨1, _⟩ => ⟨S_, .f32⟩
  | .hbm, ⟨2, _⟩ => ⟨S248x128, .f32⟩
  | _, _ => ⟨S8x248x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .local _ .vmem, ⟨0, _⟩ => ⟨S8x256x1024, .bf16⟩
  | .local _ .vmem, ⟨1, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Kernel18Ideal.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .local _ .vmem, ⟨0, _⟩ => ⟨S8x256x1024, .bf16⟩
  | .local _ .vmem, ⟨1, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference18Ideal.lean ====
abbrev S8x256x1024 : Shape := ⟨3, ![8, 256, 1024]⟩
abbrev S_ : Shape := ⟨0, ![]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .f32⟩
  | .hbm, ⟨2, _⟩ => ⟨S_, .f32⟩
  | .hbm, ⟨3, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S8x2048x1408 : Shape := ⟨3, ![8, 2048, 1408]⟩
abbrev S2048x1408 : Shape := ⟨2, ![2048, 1408]⟩
abbrev S8x128x1408 : Shape := ⟨3, ![8, 128, 1408]⟩
abbrev S128x1408 : Shape := ⟨2, ![128, 1408]⟩
abbrev S1x128x1408 : Shape := ⟨3, ![1, 128, 1408]⟩

abbrev nBuf : Space → Nat
  | .hbm => 2
  | .vmem => 4
  | .smem => 0
  | _ => 0

abbrev bufTy : (tb : Table) → Fin (tcTables nBuf tb) → BufTy
  | .hbm, ⟨0, _⟩ => ⟨S8x2048x1408, .bf16⟩
  | .hbm, ⟨1, _⟩ => ⟨S2048x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S128x1408, .f32⟩
  | .local _ .vmem, ⟨3, _⟩ => ⟨S128x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference19Ideal.lean ====
abbrev S8x2048x1408 : Shape := ⟨3, ![8, 2048, 1408]⟩
abbrev S_ : Shape := ⟨0, ![]⟩
abbrev S2048x1408 : Shape := ⟨2, ![2048, 1408]⟩

abbrev nBuf : Space → Nat
  | .hbm => 4
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .f32⟩
  | .hbm, ⟨2, _⟩ => ⟨S_, .f32⟩
  | .hbm, ⟨3, _⟩ => ⟨S2048x1408, .f32⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Acc.lean ====
module

public import Idealize.ShloMosaic.Lib.Pipeline.Kit
public import Idealize.ShloMosaic.Lib.Pipeline.FrameBody
public import Idealize.ShloMosaic.Lib.Pipeline.Regions
public import Idealize.ShloMosaic.Lib.Ring
public import Idealize.ShloMosaic.Lib.Tactic
public import Idealize.ShloMosaic.Lib.WordCmp
public import Idealize.ShloMosaic.Lib.VecWindow

/-!
# Regions that multiply two blocked matrices

The regions of the gated feed-forward layer and of the projections have three windows each: two inputs and one output. Some
store a product at every point. The others walk the contraction in `J` steps: a VMEM scratch is cleared at the first step,
adds one block product at every step, and is copied to the output at the last. This module proves both kinds once, for any
program and any configuration with three windows, from the triple of the body alone.
-/

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {nD : ℕ} {τ : Topo} {sig : RefSig} {F : FTy → Type} [FloatOps F]

local notation "𝕄" => MT nD τ sig Unit (Elt F) ℕ (UR sig nD τ) ℕ

/-- What a scratch holds before point `n`: cleared at every `J`-th point, one `step` added at every point. -/
def fold {S : Type} (J : ℕ) (zero : S) (step : ℕ → S → S) : ℕ → S
  | 0 => zero
  | n + 1 => step n (if n % J = 0 then zero else fold J zero step n)

theorem fold_first {S : Type} (J : ℕ) (zero : S) (step : ℕ → S → S) (n : ℕ) (h : n % J = 0) :
    fold J zero step (n + 1) = step n zero := by rw [fold, if_pos h]

theorem fold_later {S : Type} (J : ℕ) (zero : S) (step : ℕ → S → S) (n : ℕ) (h : ¬n % J = 0) :
    fold J zero step (n + 1) = step n (fold J zero step n) := by rw [fold, if_neg h]

/-- Between points: the scratch at some contents, those of the fold unless the next point clears it; and the other scoped
    buffers `X`. -/
def inv {s : Shape} {e : EltTy} (c : Dev nD) (scr : Memref sig .tc .vmem s e) (X : sProp 𝕄) (J : ℕ)
    (acc : ℕ → s.Idx → Elt F e) (n : ℕ) : sProp 𝕄 :=
  iprop(∃ d, ⌜n % J = 0 ∨ d = acc n⌝ ∗ owns (c : Thread nD τ) scr fullShare d ∗ X)

theorem inv_in {s : Shape} {e : EltTy} (c : Dev nD) (scr : Memref sig .tc .vmem s e) (X R : sProp 𝕄) (J : ℕ)
    (acc : ℕ → s.Idx → Elt F e) (n : ℕ) (hn : n % J = 0) (hR : R = iprop((∃ d, owns (c : Thread nD τ) scr fullShare d) ∗ X)) :
    iprop(R ∗ (BI.emp : sProp 𝕄)) ⊢ inv c scr X J acc n := by
  subst hR; unfold inv
  iintro ⟨⟨⟨%d, HS⟩, HX⟩, -⟩
  iexists d
  isplitr; · ipureintro; exact .inl hn
  isplitl [HS]; · iexact HS
  iexact HX

theorem inv_out {s : Shape} {e : EltTy} (c : Dev nD) (scr : Memref sig .tc .vmem s e) (X R : sProp 𝕄) (J : ℕ)
    (acc : ℕ → s.Idx → Elt F e) (n : ℕ) (hR : R = iprop((∃ d, owns (c : Thread nD τ) scr fullShare d) ∗ X)) :
    inv c scr X J acc n ⊢ iprop(R ∗ (BI.emp : sProp 𝕄)) := by
  subst hR; unfold inv
  iintro ⟨%d, -, HS, HX⟩
  isplitl [HS HX]
  · isplitl [HS]; · iexists _; iexact HS
    iexact HX
  iempintro

variable {Λ₀ : Labels} {cfg : Cfg sig Λ₀} {c : Dev nD} {bodies : Defs nD τ sig (Elt F) Λ₀}

/-- The obligation of a region that adds up products: from the body's triple at every point, whatever the scratch and
    the output's buffer held. -/
theorem obligation_fold (dat : Dat τ (Elt F) Unit ℕ (UR sig nD τ) ℕ cfg c) (a b o : Fin cfg.W)
    (hsep : ∀ Φ : Fin cfg.W → sProp 𝕄, bigSep Finset.univ Φ = iprop(Φ a ∗ Φ b ∗ Φ o))
    {s : Shape} {e : EltTy} (scr : Memref sig .tc .vmem s e) (X : sProp 𝕄) (J : ℕ) (zero : s.Idx → Elt F e)
    (step : ℕ → (s.Idx → Elt F e) → (s.Idx → Elt F e)) (out : (s.Idx → Elt F e) → ((cfg.win o).block.Idx → Elt F (cfg.win o).elt))
    (hΦ : ∀ t : Fin cfg.N, dat.Φ t.castSucc = inv c scr X J (fold J zero step) t.val)
    (hΦ' : ∀ t : Fin cfg.N, dat.Φ t.succ = inv c scr X J (fold J zero step) (t.val + 1))
    (howes : ∀ t : Fin cfg.N, dat.owesAt () t.succ = dat.owesAt () t.castSucc)
    (ha : ∀ t d, dat.before a t d = dat.after a t) (hb : ∀ t d, dat.before b t d = dat.after b t)
    (hia : ∀ t : Fin cfg.N, cfg.idle a (cfg.grid.coords t) = false) (hib : ∀ t : Fin cfg.N, cfg.idle b (cfg.grid.coords t) = false)
    (hlive : ∀ t : Fin cfg.N, t.val % J = J - 1 → cfg.idle o (cfg.grid.coords t) = false)
    (hidle : ∀ t : Fin cfg.N, ¬t.val % J = J - 1 → cfg.idle o (cfg.grid.coords t) = true)
    (hflush : ∀ t : Fin cfg.N, ¬t.val % J = J - 1 → (cfg.win o).flush t = false)
    (ho : ∀ t : Fin cfg.N, t.val % J = J - 1 → dat.after o t = out (fold J zero step (t.val + 1)))
    (body : ∀ (t : Fin cfg.N) (d : (cfg.win o).block.Idx → Elt F (cfg.win o).elt) (x : s.Idx → Elt F e) (Q : sProp 𝕄),
      iprop(owns (c : Thread nD τ) ((cfg.win a).stage (cfg.slots t a)) fullShare (dat.after a t)
          ∗ owns (c : Thread nD τ) ((cfg.win b).stage (cfg.slots t b)) fullShare (dat.after b t)
          ∗ owns (c : Thread nD τ) ((cfg.win o).stage (cfg.slots t o)) fullShare d
          ∗ owns (c : Thread nD τ) scr fullShare x
          ∗ (iprop(owns (c : Thread nD τ) ((cfg.win a).stage (cfg.slots t a)) fullShare (dat.after a t)
              ∗ owns (c : Thread nD τ) ((cfg.win b).stage (cfg.slots t b)) fullShare (dat.after b t)
              ∗ owns (c : Thread nD τ) ((cfg.win o).stage (cfg.slots t o)) fullShare
                  (if t.val % J = J - 1 then out (step t.val (if t.val % J = 0 then zero else x)) else d)
              ∗ owns (c : Thread nD τ) scr fullShare (step t.val (if t.val % J = 0 then zero else x))) -∗ Q))
        ⊢ wp frame (wpE bodies Variants.none c none) Set.univ (bodies .tc cfg.body (cfg.bodyArgs t (cfg.slots t))) fun _ => Q) :
    BodyObligation dat bodies Variants.none () Set.univ := fun t => by
  rw [hsep, hsep, hΦ, hΦ', howes]
  simp only [hia, hib, ha, hb]
  unfold inv
  have key : ∀ x : s.Idx → Elt F e, (t.val % J = 0 ∨ x = fold J zero step t.val) →
      step t.val (if t.val % J = 0 then zero else x) = fold J zero step (t.val + 1) := by
    intro x hx
    by_cases h0 : t.val % J = 0
    · rw [if_pos h0, fold_first _ _ _ _ h0]
    · rw [if_neg h0, fold_later _ _ _ _ h0, hx.resolve_left h0]
  by_cases hl : t.val % J = J - 1
  · simp only [hlive t hl]
    iintro ⟨⟨%x, %hx, HS, HX⟩, Ho, ⟨%d0, H0⟩, ⟨%d1, H1⟩, ⟨%d2, H2⟩⟩
    iapply (body t _ x _)
    isplitl [H0]; · iexact H0
    isplitl [H1]; · iexact H1
    isplitl [H2]; · iexact H2
    isplitl [HS]; · iexact HS
    rw [key x hx, if_pos hl, ← ho t hl]
    iintro ⟨G0, G1, G2, GS⟩
    isplitl [GS HX]
    · iexists _
      isplitr; · ipureintro; exact .inr rfl
      isplitl [GS]; · iexact GS
      iexact HX
    isplitl [Ho]; · iexact Ho
    isplitl [G0]; · iexact G0
    isplitl [G1]; · iexact G1
    iexact G2
  · simp only [hidle t hl, hflush t hl]
    iintro ⟨⟨%x, %hx, HS, HX⟩, Ho, ⟨%d0, H0⟩, ⟨%d1, H1⟩, ⟨%d2, H2⟩⟩
    iapply (body t _ x _)
    isplitl [H0]; · iexact H0
    isplitl [H1]; · iexact H1
    isplitl [H2]; · iexact H2
    isplitl [HS]; · iexact HS
    rw [key x hx, if_neg hl]
    iintro ⟨G0, G1, G2, GS⟩
    isplitl [GS HX]
    · iexists _
      isplitr; · ipureintro; exact .inr rfl
      isplitl [GS]; · iexact GS
      iexact HX
    isplitl [Ho]; · iexact Ho
    isplitl [G0]; · iexact G0
    isplitl [G1]; · iexact G1
    iexists _; iexact G2

/-- The obligation of a region that stores one product at every point. -/
theorem obligation_once (dat : Dat τ (Elt F) Unit ℕ (UR sig nD τ) ℕ cfg c) (a b o : Fin cfg.W)
    (hsep : ∀ Φ : Fin cfg.W → sProp 𝕄, bigSep Finset.univ Φ = iprop(Φ a ∗ Φ b ∗ Φ o))
    (hΦ : ∀ t : Fin cfg.N, dat.Φ t.succ = dat.Φ t.castSucc)
    (howes : ∀ t : Fin cfg.N, dat.owesAt () t.succ = dat.owesAt () t.castSucc)
    (ha : ∀ t d, dat.before a t d = dat.after a t) (hb : ∀ t d, dat.before b t d = dat.after b t)
    (hia : ∀ t : Fin cfg.N, cfg.idle a (cfg.grid.coords t) = false) (hib : ∀ t : Fin cfg.N, cfg.idle b (cfg.grid.coords t) = false)
    (hio : ∀ t : Fin cfg.N, cfg.idle o (cfg.grid.coords t) = false)
    (body : ∀ (t : Fin cfg.N) (d : (cfg.win o).block.Idx → Elt F (cfg.win o).elt) (Q : sProp 𝕄),
      iprop(owns (c : Thread nD τ) ((cfg.win a).stage (cfg.slots t a)) fullShare (dat.after a t)
          ∗ owns (c : Thread nD τ) ((cfg.win b).stage (cfg.slots t b)) fullShare (dat.after b t)
          ∗ owns (c : Thread nD τ) ((cfg.win o).stage (cfg.slots t o)) fullShare d
          ∗ (iprop(owns (c : Thread nD τ) ((cfg.win a).stage (cfg.slots t a)) fullShare (dat.after a t)
              ∗ owns (c : Thread nD τ) ((cfg.win b).stage (cfg.slots t b)) fullShare (dat.after b t)
              ∗ owns (c : Thread nD τ) ((cfg.win o).stage (cfg.slots t o)) fullShare (dat.after o t)) -∗ Q))
        ⊢ wp frame (wpE bodies Variants.none c none) Set.univ (bodies .tc cfg.body (cfg.bodyArgs t (cfg.slots t))) fun _ => Q) :
    BodyObligation dat bodies Variants.none () Set.univ := fun t => by
  rw [hsep, hsep, hΦ, howes]
  simp only [hia, hib, hio, ha, hb]
  iintro ⟨HX, Ho, ⟨%d0, H0⟩, ⟨%d1, H1⟩, ⟨%d2, H2⟩⟩
  iapply (body t _ _)
  isplitl [H0]; · iexact H0
  isplitl [H1]; · iexact H1
  isplitl [H2]; · iexact H2
  iintro ⟨G0, G1, G2⟩
  isplitl [HX]; · iexact HX
  isplitl [Ho]; · iexact Ho
  isplitl [G0]; · iexact G0
  isplitl [G1]; · iexact G1
  iexact G2

end Cert.Ffn
-- ==== Proof.Body.lean ====
module

public import Idealize.ShloMosaic.Lib.Pipeline.Kit
public import Idealize.ShloMosaic.Lib.Pipeline.FrameBody
public import Idealize.ShloMosaic.Lib.Pipeline.Regions
public import Idealize.ShloMosaic.Lib.Ring
public import Idealize.ShloMosaic.Lib.Tactic
public import Idealize.ShloMosaic.Lib.WordCmp
public import Idealize.ShloMosaic.Lib.VecWindow

/-!
# The two bodies of a blocked matrix product

A region that multiplies two blocked matrices either stores a product at every point, or adds up products in a VMEM
scratch. The two bodies are stated here over any shapes and any program, each with its triple.
-/

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {nD : ℕ} {τ : Topo} {sig : RefSig} {F : FTy → Type} [FloatOps F]

local notation "𝕄" => MT nD τ sig Unit (Elt F) ℕ (UR sig nD τ) ℕ

variable {Λ₀ : Labels} {bodies : Defs nD τ sig (Elt F) Λ₀}

/-- The offsets and the extents at which a body reads a whole buffer of shape `s`. -/
structure At (s : Shape) where
  off : Fin s.rank → ℕ
  inb : ∀ a, off a + s.size a ≤ s.size a
  pos : 0 < s.numel

/-- Reads a whole buffer. -/
abbrev loadAll {s : Shape} {e : EltTy} (x : At s) (r : Memref sig .tc .vmem s e) : Prog (TpuEff nD τ sig (Elt F) Λ₀ .tc) (Vec F s e) :=
  Prog.lift (.load r (Rect.unit (s := s) x.off s.size x.inb).toLoadRect (View.loadsAt_vmem x.pos))

/-- Overwrites a whole buffer of 32-bit elements. -/
abbrev storeAll {s : Shape} (x : At s) (r : Memref sig .tc .vmem s .f32) (v : Vec F s .f32) : Prog (TpuEff nD τ sig (Elt F) Λ₀ .tc) PUnit :=
  Prog.lift (.store r (Rect.unit (s := s) x.off s.size x.inb) v Finset.univ (View.stores_vmem_bits_univ x.pos rfl) (.inl rfl))

variable {sa sb so : Shape} {ea eb : EltTy} (xa : At sa) (xb : At sb) (xo : At so)

/-- The body of a region that stores a product at every point. -/
def onceBody (pay : Vec F sa ea → Vec F sb eb → Vec F so .f32) (ra : Memref sig .tc .vmem sa ea) (rb : Memref sig .tc .vmem sb eb)
    (ro : Memref sig .tc .vmem so .f32) : Prog (TpuEff nD τ sig (Elt F) Λ₀ .tc) PUnit := do
  let a ← loadAll xa ra
  let b ← loadAll xb rb
  let _ ← loadAll xo ro
  storeAll xo ro (pay a b)
  pure ⟨⟩

/-- The body of a region that adds up products in a scratch: cleared where `c₁` is set, copied out where `c₂` is. -/
def foldBody (c₁ c₂ : BitVec 1) (zero : Vec F so .f32) (pay : Vec F so .f32 → Vec F sa ea → Vec F sb eb → Vec F so .f32)
    (ra : Memref sig .tc .vmem sa ea) (rb : Memref sig .tc .vmem sb eb) (ro rs : Memref sig .tc .vmem so .f32) :
    Prog (TpuEff nD τ sig (Elt F) Λ₀ .tc) PUnit := do
  if _h₁ : c₁ = 1#1 then do
    let _ ← loadAll xo rs
    storeAll xo rs zero
    pure ⟨⟩
  else do
    pure ⟨⟩
  let x ← loadAll xo rs
  let a ← loadAll xa ra
  let b ← loadAll xb rb
  let _ ← loadAll xo rs
  storeAll xo rs (pay x a b)
  if _h₂ : c₂ = 1#1 then do
    let y ← loadAll xo rs
    let _ ← loadAll xo ro
    storeAll xo ro y
    pure ⟨⟩
  else do
    pure ⟨⟩
  pure ⟨⟩

set_option maxHeartbeats 1000000 in
/-- The first body: the output's buffer takes the product of the two inputs' blocks. -/
theorem once_triple (c : Dev nD) (pay : Vec F sa ea → Vec F sb eb → Vec F so .f32) (ra : Memref sig .tc .vmem sa ea) (wa : ra.IsWhole)
    (rb : Memref sig .tc .vmem sb eb) (wb : rb.IsWhole) (ro : Memref sig .tc .vmem so .f32) (wo : ro.IsWhole)
    (a : Vec F sa ea) (b : Vec F sb eb) (d : Vec F so .f32) (Q : sProp 𝕄) :
    iprop(owns (c : Thread nD τ) ra fullShare a ∗ owns (c : Thread nD τ) rb fullShare b ∗ owns (c : Thread nD τ) ro fullShare d
        ∗ (iprop(owns (c : Thread nD τ) ra fullShare a ∗ owns (c : Thread nD τ) rb fullShare b
            ∗ owns (c : Thread nD τ) ro fullShare (pay a b)) -∗ Q))
      ⊢ wp frame (wpE bodies Variants.none c none) Set.univ (onceBody xa xb xo pay ra rb ro) fun _ => Q := by
  unfold onceBody owns
  iintro ⟨⟨%f0, %hf0, H0⟩, ⟨%f1, %hf1, H1⟩, ⟨%f2, %hf2, H2⟩, Hk⟩
  obtain rfl := wa.eq_unread hf0; obtain rfl := wb.eq_unread hf1; obtain rfl := wo.eq_unread hf2
  sl_exec
  sl_step
  iapply Hk
  isplitl [H0]
  · iexists _; isplitr
    · ipureintro; exact wa.read_unread _
    iexact H0
  isplitl [H1]
  · iexists _; isplitr
    · ipureintro; exact wb.read_unread _
    iexact H1
  iexists _; isplitr
  swap; · iexact H2
  ipureintro
  exact (View.read_writes_full _ _ _ _ _).trans (congrArg₂ pay ((View.readAt_full _ _ _).trans hf0) ((View.readAt_full _ _ _).trans hf1))

set_option maxHeartbeats 2000000 in
/-- The second body: the scratch, cleared where `c₁` is set, takes on a product, and the output takes the scratch where
    `c₂` is set. -/
theorem fold_triple (c : Dev nD) (c₁ c₂ : BitVec 1) (zero : Vec F so .f32) (pay : Vec F so .f32 → Vec F sa ea → Vec F sb eb → Vec F so .f32)
    (ra : Memref sig .tc .vmem sa ea) (wa : ra.IsWhole) (rb : Memref sig .tc .vmem sb eb) (wb : rb.IsWhole)
    (ro : Memref sig .tc .vmem so .f32) (wo : ro.IsWhole) (rs : Memref sig .tc .vmem so .f32) (ws : rs.IsWhole)
    (a : Vec F sa ea) (b : Vec F sb eb) (d x : Vec F so .f32) (Q : sProp 𝕄) :
    iprop(owns (c : Thread nD τ) ra fullShare a ∗ owns (c : Thread nD τ) rb fullShare b ∗ owns (c : Thread nD τ) ro fullShare d
        ∗ owns (c : Thread nD τ) rs fullShare x
        ∗ (iprop(owns (c : Thread nD τ) ra fullShare a ∗ owns (c : Thread nD τ) rb fullShare b
            ∗ owns (c : Thread nD τ) ro fullShare (if c₂ = 1#1 then pay (if c₁ = 1#1 then zero else x) a b else d)
            ∗ owns (c : Thread nD τ) rs fullShare (pay (if c₁ = 1#1 then zero else x) a b)) -∗ Q))
      ⊢ wp frame (wpE bodies Variants.none c none) Set.univ (foldBody xa xb xo c₁ c₂ zero pay ra rb ro rs) fun _ => Q := by
  unfold foldBody owns
  by_cases hc : c₁ = 1#1 <;> by_cases hl : c₂ = 1#1
  all_goals
    first | rw [if_pos hc] | rw [if_neg hc]
    first | rw [if_pos hl] | rw [if_neg hl]
    iintro ⟨⟨%f0, %hf0, H0⟩, ⟨%f1, %hf1, H1⟩, ⟨%f2, %hf2, H2⟩, ⟨%fs, %hfs, HS⟩, Hk⟩
    obtain rfl := wa.eq_unread hf0; obtain rfl := wb.eq_unread hf1
    obtain rfl := wo.eq_unread hf2; obtain rfl := ws.eq_unread hfs
    sl_exec (disch := first | sl_exact hc | sl_exact hl)
    sl_step
    iapply Hk
    isplitl [H0]
    · iexists _; isplitr
      · ipureintro; exact wa.read_unread _
      iexact H0
    isplitl [H1]
    · iexists _; isplitr
      · ipureintro; exact wb.read_unread _
      iexact H1
    isplitl [H2]
    · iexists _; isplitr
      swap; · iexact H2
      ipureintro
      first
        | with_reducible exact wo.read_unread _
        | refine (View.read_writes_full _ _ _ _ _).trans ((View.readAt_writes_full _ _ _ _ _ _).trans ?_)
      try refine congr (congrArg₂ pay ?_ ((View.readAt_full _ _ _).trans hf0)) ((View.readAt_full _ _ _).trans hf1)
      try first | exact (View.readAt_full _ _ _).trans hfs | exact View.readAt_writes_full _ _ _ _ _ _
    iexists _; isplitr
    swap; · iexact HS
    ipureintro
    refine (View.read_writes_full _ _ _ _ _).trans
      (congr (congrArg₂ pay ?_ ((View.readAt_full _ _ _).trans hf0)) ((View.readAt_full _ _ _).trans hf1))
    first | exact (View.readAt_full _ _ _).trans hfs | exact View.readAt_writes_full _ _ _ _ _ _

end Cert.Ffn
-- ==== Proof.Region.lean ====
module

public import proofs.«01_k».proof.Proof.Acc
public import proofs.«01_k».proof.Proof.Body

/-!
# A region that multiplies two blocked matrices

Such a region has three windows: two inputs and an output. Some regions store a product at every point. The others walk the
contraction in `J` steps: a VMEM scratch is cleared at the first step, takes on one block product at every step, and is
copied to the output at the last. Both kinds are proved here once, over any program and any such configuration.
-/

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {nD : ℕ} {τ : Topo} {sig : RefSig} {F : FTy → Type} [FloatOps F]

local notation "𝕄" => MT nD τ sig Unit (Elt F) ℕ (UR sig nD τ) ℕ

variable {Λ₀ : Labels}

/-- A printed test of a grid coordinate against a constant. -/
theorem test_iff (n k : ℕ) (hn : n < 2 ^ 32) (hk : k < 2 ^ 32) :
    Scalar.cmpi .ne (Scalar.extui (Scalar.cmpi .eq (BitVec.ofNat 32 n) (BitVec.ofNat 32 k))) 0#32 = 1#1 ↔ n = k := by
  word_cmp

/-- The same test of coordinate `a` of a grid's point, where the axis is the innermost. -/
theorem axis_test {G : Pipeline.Grid} (t : Fin G.N) (a : Fin G.rank) {J : ℕ} (k : ℕ) (hS : G.stride a = 1) (hJ : G.bound a = J)
    (hJ' : J < 2 ^ 32) (hk : k < 2 ^ 32) :
    Scalar.cmpi .ne (Scalar.extui (Scalar.cmpi .eq (BitVec.ofNat 32 (G.coords t a).val) (BitVec.ofNat 32 k))) 0#32 = 1#1 ↔ t.val % J = k := by
  rw [test_iff _ k (Nat.lt_trans (Nat.lt_of_lt_of_eq (G.coords t a).isLt hJ) hJ') hk, Pipeline.Grid.coords_val t a hS hJ, Nat.div_one]

/-- The scoped buffers beside a region's windows are its scratch `b` and the others. -/
theorem scratch_split {W g : ℕ} (spec : Fin W → Pipeline.WinSpec sig g) (c : Dev nD) (b : Ref sig .tc)
    (hb : b.isScoped = true ∧ ∀ (w : Fin W) (s : Fin (spec w).nbuf), ((spec w).stage s).view.ref ≠ b) :
    (Pipeline.scopedRest spec c : sProp 𝕄)
      = iprop((∃ d, owns (c : Thread nD τ) (Memref.whole b) fullShare d) ∗ Pipeline.scopedRestBut spec c [b]) := by
  rw [Pipeline.scopedRest_split_of_list spec c [b] hb (List.nodup_singleton b), bigSepL_singleton]
  simp only [owns_whole]; rfl

/-- What a run of several regions needs of the region `cfg` with the proof data `dat`, entered with the contents `V`. -/
structure RegionOk (bodies : Defs nD τ sig (Elt F) Λ₀) (cfg : Cfg sig Λ₀)
    (dat : ∀ c : Dev nD, Dat τ (Elt F) Unit ℕ (UR sig nD τ) ℕ cfg c) (V : Dev nD → Valuation τ sig (Elt F)) : Prop where
  body : ∀ c, BodyObligation (dat c) bodies Variants.none () Set.univ
  owes : ∀ c t, (dat c).owed t = 0
  waits : ∀ c, (dat c).recorded 0 = Set.univ
  share : ∀ c w, (dat c).share w = fullShare
  enter : ∀ c, iprop(Pipeline.scopedRest cfg.spec c ∗ (BI.emp : sProp 𝕄)) ⊢ (dat c).Φ 0
  leave : ∀ c, (dat c).Φ (Fin.last cfg.N) ⊢ iprop(Pipeline.scopedRest cfg.spec c ∗ (BI.emp : sProp 𝕄))
  array : ∀ c w, (dat c).A w = V c (Proc.devRef .tc (Pipeline.arrRef cfg.spec w))

section
variable (cfg : Cfg sig Λ₀) (V : Dev nD → Valuation τ sig (Elt F)) (c : Dev nD)

/-- The block of window `w`'s array at point `t`, over the contents at entry. -/
def blk (w : Fin cfg.W) (t : Fin cfg.N) : ((cfg.win w).xblock (cfg.grid.coords t)).Idx → Elt F (cfg.win w).elt :=
  ((cfg.win w).blk t).view.read (Elt F) (V c (Proc.devRef .tc (Pipeline.arrRef cfg.spec w)))

/-- The proof data of a region that leaves `after` in its windows' buffers and keeps `Φ` between points. -/
def mulDat (after : (w : Fin cfg.W) → Fin cfg.N → (cfg.win w).block.Idx → Elt F (cfg.win w).elt) (Φ : ℕ → sProp 𝕄) :
    Dat τ (Elt F) Unit ℕ (UR sig nD τ) ℕ cfg c where
  A w := V c (Proc.devRef .tc (Pipeline.arrRef cfg.spec w))
  after := after
  Φ t := Φ t.val
  q _ := fullShare
  owed _ := 0
end

/-- What the lemmas below ask of an input window `w`: it is always read, its block is whole, and the body leaves the block in
    the buffer. -/
structure Input {cfg : Cfg sig Λ₀} {c : Dev nD} (dat : Dat τ (Elt F) Unit ℕ (UR sig nD τ) ℕ cfg c) (w : Fin cfg.W) : Prop where
  isIn : (cfg.win w).isOut = false
  live : ∀ i, cfg.idle w i = false
  clip : ∀ t t' : Fin cfg.N, (cfg.win w).index t = (cfg.win w).index t' →
    (cfg.win w).clip (cfg.grid.coords t) = (cfg.win w).clip (cfg.grid.coords t')
  cut : ∀ t, (cfg.win w).cut (cfg.grid.coords t) (dat.after w t) = dat.blockOf w t
  fill : ∀ t d, dat.fetched w t d = dat.after w t

theorem Input.before {cfg : Cfg sig Λ₀} {c : Dev nD} {dat : Dat τ (Elt F) Unit ℕ (UR sig nD τ) ℕ cfg c} {w : Fin cfg.W}
    (h : Input dat w) (t : Fin cfg.N) (d) : dat.before w t d = dat.after w t :=
  (dat.before_in_eq_fetched w h.isIn h.live h.clip h.cut t d).trans (h.fill t d)

variable {cfg : Cfg sig Λ₀} {V : Dev nD → Valuation τ sig (Elt F)} {bodies : Defs nD τ sig (Elt F) Λ₀}
variable (after : Dev nD → (w : Fin cfg.W) → Fin cfg.N → (cfg.win w).block.Idx → Elt F (cfg.win w).elt)

/-- The proof data of a region that stores a product at every point. -/
abbrev onceDat (V : Dev nD → Valuation τ sig (Elt F)) (c : Dev nD) : Dat τ (Elt F) Unit ℕ (UR sig nD τ) ℕ cfg c :=
  mulDat cfg V c (after c) fun _ => Pipeline.scopedRest cfg.spec c

/-- A region that stores a product at every point. -/
theorem once_ok (a b o : Fin cfg.W) (hsep : ∀ Φ : Fin cfg.W → sProp 𝕄, bigSep Finset.univ Φ = iprop(Φ a ∗ Φ b ∗ Φ o))
    (ia : ∀ c, Input (onceDat after V c) a) (ib : ∀ c, Input (onceDat after V c) b) (live : ∀ i, cfg.idle o i = false)
    (body : ∀ (c : Dev nD) (t : Fin cfg.N) (d : (cfg.win o).block.Idx → Elt F (cfg.win o).elt) (Q : sProp 𝕄),
      iprop(owns (c : Thread nD τ) ((cfg.win a).stage (cfg.slots t a)) fullShare (after c a t)
          ∗ owns (c : Thread nD τ) ((cfg.win b).stage (cfg.slots t b)) fullShare (after c b t)
          ∗ owns (c : Thread nD τ) ((cfg.win o).stage (cfg.slots t o)) fullShare d
          ∗ (iprop(owns (c : Thread nD τ) ((cfg.win a).stage (cfg.slots t a)) fullShare (after c a t)
              ∗ owns (c : Thread nD τ) ((cfg.win b).stage (cfg.slots t b)) fullShare (after c b t)
              ∗ owns (c : Thread nD τ) ((cfg.win o).stage (cfg.slots t o)) fullShare (after c o t)) -∗ Q))
        ⊢ wp frame (wpE bodies Variants.none c none) Set.univ (bodies .tc cfg.body (cfg.bodyArgs t (cfg.slots t))) fun _ => Q) :
    RegionOk bodies cfg (onceDat after V) V where
  body c := obligation_once (onceDat after V c) a b o hsep (fun _ => rfl) (fun _ => rfl) (ia c).before (ib c).before
    (fun _ => (ia c).live _) (fun _ => (ib c).live _) (fun _ => live _) (body c)
  owes _ _ := rfl
  waits _ := rfl
  share c := (onceDat after V c).share_full fun _ => rfl
  enter c := by
    show iprop(Pipeline.scopedRest cfg.spec c ∗ (BI.emp : sProp 𝕄)) ⊢ Pipeline.scopedRest cfg.spec c
    iintro ⟨H, -⟩; iexact H
  leave c := by
    show Pipeline.scopedRest cfg.spec c ⊢ iprop(Pipeline.scopedRest cfg.spec c ∗ (BI.emp : sProp 𝕄))
    iintro H
    isplitl [H]; · iexact H
    iempintro
  array _ _ := rfl

/-- What point `n` makes of the scratch. -/
def stepAt {N : ℕ} {S : Type} (f : Fin N → S → S) (n : ℕ) (x : S) : S := if h : n < N then f ⟨n, h⟩ x else x

theorem stepAt_val {N : ℕ} {S : Type} (f : Fin N → S → S) (t : Fin N) (x : S) : stepAt f t.val x = f t x := dif_pos t.isLt

/-- The proof data of a region that adds up products in the scratch `scr`, `f t` at point `t`, beside the other scoped
    buffers `X`. -/
abbrev foldDat {s : Shape} {e : EltTy} (scr : Memref sig .tc .vmem s e) (X : Dev nD → sProp 𝕄) (J : ℕ) (zero : s.Idx → Elt F e)
    (f : Dev nD → Fin cfg.N → (s.Idx → Elt F e) → (s.Idx → Elt F e)) (V : Dev nD → Valuation τ sig (Elt F)) (c : Dev nD) :
    Dat τ (Elt F) Unit ℕ (UR sig nD τ) ℕ cfg c :=
  mulDat cfg V c (after c) fun n => inv c scr (X c) J (fold J zero (stepAt (f c))) n

/-- A region that adds up products. The body clears the scratch where `c₁` is set and copies it to the output where `c₂` is. -/
theorem fold_ok (a b o : Fin cfg.W) (hsep : ∀ Φ : Fin cfg.W → sProp 𝕄, bigSep Finset.univ Φ = iprop(Φ a ∗ Φ b ∗ Φ o))
    {s : Shape} {e : EltTy} (scr : Memref sig .tc .vmem s e) (X : Dev nD → sProp 𝕄) (J : ℕ) (zero : s.Idx → Elt F e)
    (f : Dev nD → Fin cfg.N → (s.Idx → Elt F e) → (s.Idx → Elt F e)) (out : (s.Idx → Elt F e) → ((cfg.win o).block.Idx → Elt F (cfg.win o).elt))
    (split : ∀ c, (Pipeline.scopedRest cfg.spec c : sProp 𝕄) = iprop((∃ d, owns (c : Thread nD τ) scr fullShare d) ∗ X c))
    (ia : ∀ c, Input (foldDat after scr X J zero f V c) a) (ib : ∀ c, Input (foldDat after scr X J zero f V c) b)
    (c₁ c₂ : Fin cfg.N → BitVec 1) (first : ∀ t, c₁ t = 1#1 ↔ t.val % J = 0) (final : ∀ t, c₂ t = 1#1 ↔ t.val % J = J - 1)
    (idle : ∀ t, cfg.idle o (cfg.grid.coords t) = !(c₂ t == 1#1)) (flush : ∀ t, (cfg.win o).flush t = true ↔ t.val % J = J - 1)
    (stores : ∀ c t, after c o t = out (fold J zero (stepAt (f c)) (t.val + 1)))
    (body : ∀ (c : Dev nD) (t : Fin cfg.N) (d : (cfg.win o).block.Idx → Elt F (cfg.win o).elt) (x : s.Idx → Elt F e) (Q : sProp 𝕄),
      iprop(owns (c : Thread nD τ) ((cfg.win a).stage (cfg.slots t a)) fullShare (after c a t)
          ∗ owns (c : Thread nD τ) ((cfg.win b).stage (cfg.slots t b)) fullShare (after c b t)
          ∗ owns (c : Thread nD τ) ((cfg.win o).stage (cfg.slots t o)) fullShare d
          ∗ owns (c : Thread nD τ) scr fullShare x
          ∗ (iprop(owns (c : Thread nD τ) ((cfg.win a).stage (cfg.slots t a)) fullShare (after c a t)
              ∗ owns (c : Thread nD τ) ((cfg.win b).stage (cfg.slots t b)) fullShare (after c b t)
              ∗ owns (c : Thread nD τ) ((cfg.win o).stage (cfg.slots t o)) fullShare
                  (if c₂ t = 1#1 then out (f c t (if c₁ t = 1#1 then zero else x)) else d)
              ∗ owns (c : Thread nD τ) scr fullShare (f c t (if c₁ t = 1#1 then zero else x))) -∗ Q))
        ⊢ wp frame (wpE bodies Variants.none c none) Set.univ (bodies .tc cfg.body (cfg.bodyArgs t (cfg.slots t))) fun _ => Q) :
    RegionOk bodies cfg (foldDat after scr X J zero f V) V where
  body c := obligation_fold (foldDat after scr X J zero f V c) a b o hsep scr (X c) J zero (stepAt (f c)) out
    (fun _ => rfl) (fun _ => rfl) (fun _ => rfl) (ia c).before (ib c).before (fun _ => (ia c).live _) (fun _ => (ib c).live _)
    (fun t h => by rw [idle, (final t).mpr h]; rfl)
    (fun t h => by rw [idle, beq_eq_false_iff_ne.mpr fun h' => h ((final t).mp h')]; rfl)
    (fun t h => Bool.eq_false_iff.mpr fun h' => h ((flush t).mp h'))
    (fun t _ => stores c t)
    (fun t d x Q => by
      have h := body c t d x Q
      simp only [first, final] at h
      rw [stepAt_val]
      exact h)
  owes _ _ := rfl
  waits _ := rfl
  share c := (foldDat after scr X J zero f V c).share_full fun _ => rfl
  enter c := inv_in c scr (X c) _ J _ 0 (Nat.zero_mod J) (split c)
  leave c := inv_out c scr (X c) _ J _ _ (split c)
  array _ _ := rfl

end Cert.Ffn
-- ==== Proof.Mat.lean ====
module

public import proofs.«01_k».proof.Proof.Region
public import Idealize.ShloMosaic.Lib.Pipeline.ValueKit

/-!
# Matrix products over the extended reals

The three products that a kernel call computes, entry by entry. A sum accumulated over several points, cleared at the first,
is the sum over all of them.
-/

@[expose] public section

set_option maxRecDepth 16384

noncomputable section

namespace Cert.Ffn

open Idealize.ShloMosaic Idealize.ShloMosaic.TcCoe Idealize.ShloMosaic.Tactic

/-- An array of extended reals with three axes, the first of length one. -/
abbrev Mat (a b : ℕ) := (⟨3, ![1, a, b]⟩ : Shape).Idx → EReal

/-- The product of two matrices. -/
def nn {M K N : ℕ} (a : Mat M K) (b : Mat K N) : Mat M N := fun i => ∑ k : Fin K, a (ix3 0 (i 1) k) * b (ix3 0 k (i 2))
/-- The product with the second matrix transposed. -/
def nt {M K N : ℕ} (a : Mat M K) (b : Mat N K) : Mat M N := fun i => ∑ k : Fin K, a (ix3 0 (i 1) k) * b (ix3 0 (i 2) k)
/-- The product with the first matrix transposed. -/
def tn {M K N : ℕ} (a : Mat K M) (b : Mat K N) : Mat M N := fun i => ∑ k : Fin K, a (ix3 0 k (i 1)) * b (ix3 0 k (i 2))

/-! ### An accumulated sum -/

section
variable {ι : Type} (J N : ℕ) (zero : ι → EReal) (step : ℕ → (ι → EReal) → ι → EReal) (p : ℕ → ι → EReal)

theorem fold_sum (hz : ∀ j, zero j = 0) (hs : ∀ n, n < N → ∀ x j, step n x j = x j + p n j) (q : ℕ) (j : ι) :
    ∀ r, r < J → J * q + r < N → fold J zero step (J * q + r + 1) j = ∑ s ∈ Finset.range (r + 1), p (J * q + s) j
  | 0, _, h => by
    rw [fold_first J zero step _ (by simp), hs (J * q) h, hz, Finset.sum_range_one, zero_add]
    rfl
  | r + 1, hr, h => by
    have e : (J * q + (r + 1)) % J = r + 1 := by rw [Nat.mul_add_mod]; exact Nat.mod_eq_of_lt hr
    rw [fold_later J zero step _ (by rw [e]; exact Nat.succ_ne_zero r), hs _ h, Finset.sum_range_succ,
      ← fold_sum hz hs q j r (Nat.lt_of_succ_lt hr) (by omega)]
    rfl

/-- After the last point of its run the accumulator holds the run's sum. -/
theorem fold_run (hz : ∀ j, zero j = 0) (hs : ∀ n, n < N → ∀ x j, step n x j = x j + p n j) (t : ℕ) (ht : t < N)
    (hJ : 0 < J) (hr : t % J = J - 1) (j : ι) :
    fold J zero step (t + 1) j = ∑ s : Fin J, p (J * (t / J) + s.val) j := by
  have e := Nat.div_add_mod t J
  have h := fold_sum J N zero step p hz hs (t / J) j (J - 1) (by omega) (by omega)
  rw [show J * (t / J) + (J - 1) + 1 = t + 1 by omega, show J - 1 + 1 = J by omega] at h
  rw [h, Finset.sum_range]
end

/-- The sum of the products of two rows. -/
def dot (n : ℕ) (f g : Fin n → EReal) : EReal := ∑ k : Fin n, f k * g k

/-- The products of `J` pieces of two rows add up to the product of the rows. -/
theorem dot_pieces {J n L : ℕ} (hL : L = J * n) (f g : Fin J → Fin n → EReal) (A B : Fin L → EReal)
    (hf : ∀ (s : Fin J) (k : Fin n) (hl : s.val * n + k.val < L), f s k = A ⟨s.val * n + k.val, hl⟩)
    (hg : ∀ (s : Fin J) (k : Fin n) (hl : s.val * n + k.val < L), g s k = B ⟨s.val * n + k.val, hl⟩) :
    ∑ s : Fin J, dot n (f s) (g s) = ∑ l : Fin L, A l * B l :=
  Fin.sum_mul_add_congr (F := fun s k => f s k * g s k) (fun s k hl => congrArg₂ (· * ·) (hf s k hl) (hg s k hl)) hL

/-- What a region that adds up products in `J` steps has in its scratch after the last step, at entry `y`: the product of two
    whole rows `a` and `b`, if point `t` adds the product of the `t % J`-th pieces of the rows. -/
theorem fold_dot {ι : Type} {J n L N : ℕ} (hL : L = J * n) (hJ : 0 < J) {zero : ι → EReal} {f : Fin N → (ι → EReal) → ι → EReal}
    (A B : Fin N → ι → Fin n → EReal) (hz : ∀ y, zero y = 0) (hf : ∀ t x y, f t x y = x y + dot n (A t y) (B t y))
    (t : Fin N) (ht : t.val % J = J - 1) (y : ι) (a b : Fin L → EReal)
    (ha : ∀ (p : Fin N) (k : Fin n) (s : ℕ) (hl : s * n + k.val < L), p.val % J = s → p.val / J = t.val / J → A p y k = a ⟨s * n + k.val, hl⟩)
    (hb : ∀ (p : Fin N) (k : Fin n) (s : ℕ) (hl : s * n + k.val < L), p.val % J = s → p.val / J = t.val / J → B p y k = b ⟨s * n + k.val, hl⟩) :
    fold J zero (stepAt f) (t.val + 1) y = ∑ l : Fin L, a l * b l := by
  have e := Nat.div_add_mod t.val J
  have hn : ∀ s : Fin J, J * (t.val / J) + s.val < N := fun s => Nat.lt_of_le_of_lt (by omega) t.isLt
  have hm : ∀ s : Fin J, (J * (t.val / J) + s.val) % J = s.val := fun s => by rw [Nat.mul_add_mod]; exact Nat.mod_eq_of_lt s.isLt
  have hd : ∀ s : Fin J, (J * (t.val / J) + s.val) / J = t.val / J := fun s => by
    rw [Nat.mul_add_div hJ, Nat.div_eq_of_lt s.isLt, Nat.add_zero]
  refine (fold_run J N zero (stepAt f) (fun m y => if h : m < N then dot n (A ⟨m, h⟩ y) (B ⟨m, h⟩ y) else 0) hz
    (fun m h x j => by rw [stepAt_val f ⟨m, h⟩, hf, dif_pos h]) t.val t.isLt hJ ht y).trans ?_
  exact (Finset.sum_congr rfl fun s _ => dif_pos (hn s)).trans (dot_pieces hL _ _ a b
    (fun s k hl => ha ⟨_, hn s⟩ k s.val hl (hm s) (hd s)) (fun s k hl => hb ⟨_, hn s⟩ k s.val hl (hm s) (hd s)))

/-- A sum over the 4096 rows is the sum over the two batches and their rows. -/
theorem sum_rows (f : Fin 2 → Fin 2048 → EReal) (h1 : ∀ r : Fin 4096, r.val / 2048 < 2) (h2 : ∀ r : Fin 4096, r.val % 2048 < 2048) :
    ∑ r : Fin 4096, f ⟨r.val / 2048, h1 r⟩ ⟨r.val % 2048, h2 r⟩ = ∑ b : Fin 2, ∑ s : Fin 2048, f b s :=
  Fin.sum_divmod_fin 2048 f (by decide)

end Cert.Ffn
-- ==== Proof.Loss.lean ====
module

public import proofs.«01_k».proof.Defs
public import proofs.«01_k».proof.Proof.Mat
public import proofs.«01_k».proof.Proof.Gen.Kernel15Ideal.Frame
public import proofs.«01_k».proof.Proof.Gen.Kernel15Ideal.Value
public import proofs.«01_k».proof.Proof.Gen.Reference15Ideal.Run

/-!
# The loss

The call walks the rows in sixteen blocks. It writes the gradient of the loss block by block, and adds each block's rows to a sum
that it clears at the first block.
-/

@[expose] public section

set_option maxRecDepth 16384
set_option maxHeartbeats 1000000

noncomputable section

namespace Cert.Loss

open Idealize.ShloMosaic Idealize.ShloMosaic.TcCoe Idealize.ShloMosaic.Tactic Idealize.SL.Sem

/-- The number of columns. -/
abbrev cols : EReal := Scalar.ofBits (F := Ideal) .f32 0x45000000#32

/-- The mean of the squares of a row. -/
def mse (x y : Fin 2048 → EReal) : EReal := Ideal.div (∑ k, (x k - y k) * (x k - y k)) cols

section
open Cert.Kernel15Ideal Cert.Kernel15Ideal.Gen

/-- The gradient that the body writes at an entry. -/
theorem pay3 (x y : Vec Ideal S256x2048 .f32) (j : S256x2048.Idx) : k0_pay3 x y j = Ideal.div (x j - y j) cols := by
  unfold k0_pay3 k0_pay2
  pointwise

/-- The body adds the means of its rows to the sum. -/
theorem pay4 (x y : Vec Ideal S256x2048 .f32) (v : Vec Ideal S1x1 .f32) (j : S1x1.Idx) :
    k0_pay4 x y v j = v j + ∑ r : Fin 256, mse (fun k => x (ix2 r k)) (fun k => y (ix2 r k)) := by
  unfold k0_pay4 k0_pay2 mse
  pointwise

/-- At the first block the sum is cleared. -/
theorem pay1 (j : S1x1.Idx) : k0_pay1 (F := Ideal) j = 0 := by
  unfold k0_pay1
  pointwise

variable (m : (ℓ : Loc nD τ sig) → Buf (Elt Ideal) ℓ) (c : Dev nD)

/-- The gradient after the last block. -/
theorem grads : (dats m 0 c).arrAt 2 cfg0.N = fun i => Ideal.div
    (shapeCast (α := Ideal .f32) S4096x2048 (m (c.tc.loc main_arg0)) shapeCasts_S2x2048x2048_S4096x2048 i
      - shapeCast S4096x2048 (m (c.tc.loc main_arg1)) shapeCasts_S2x2048x2048_S4096x2048 i) cols := by
  refine (dats m 0 c).arrAt_eq_of_covers 2 _ (by decide +kernel) fun t _ y => ?_
  rw [after0_2]
  by_cases h : t.val % 16 = 0
  · rw [outsAt0_A m c t h]
    frame_out
    rw [pay3]
    rfl
  · rw [outsAt0_B m c t h]
    frame_out
    rw [pay3]
    rfl

/-- The sum of block `t`'s rows. -/
def piece (t : ℕ) : EReal := if h : t < cfg0.N then ∑ r : Fin 256, mse (fun k => iblk m c 0 ⟨t, h⟩ (ix2 r k)) (fun k => iblk m c 1 ⟨t, h⟩ (ix2 r k)) else 0

/-- After block `t` the sum holds the rows of all blocks so far. -/
theorem sums (t : Fin cfg0.N) (j : S1x1.Idx) : (outsAt0 m c t.val t.isLt).2 j = ∑ k ∈ Finset.range (t.val + 1), piece m c k := by
  have e := Pipeline.eq_sum_of_reset_step_apply_single (fun n h => (outsAt0 m c n h).2) 16 (fun _ => (0 : EReal)) (fun n _ => piece m c n)
    (fun t h j => by
      show (outsAt0 m c t.val t.isLt).2 j = _
      rw [outsAt0_A m c t h]
      frame_out
      rw [pay4, pay1, piece, dif_pos t.isLt])
    (fun t h j => by
      show (outsAt0 m c t.val t.isLt).2 j = (outsAt0 m c (t.val - 1) _).2 j + _
      rw [outsAt0_B m c t h]
      frame_out
      rw [pay4, piece, dif_pos t.isLt]) (by decide) t j
  rw [e, zero_add]

/-- The sum after the last block. -/
theorem total : (dats m 0 c).arrAt 3 cfg0.N = fun _ => ∑ k ∈ Finset.range 16, piece m c k := by
  refine (dats m 0 c).arrAt_eq_of_covers 3 _ (by decide +kernel) fun t hf y => ?_
  have ht := (flush0_3 t).mp hf
  rw [after0_3]
  have e : t.val + 1 = 16 := by have := t.isLt.trans_eq N_0; omega
  exact (sums m c t _).trans (by rw [e])

/-- Block `t` of either argument is the `t`-th in order. -/
theorem index (t : Fin cfg0.N) : win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0) t

/-- A block's row is a row of one of the two batches. -/
theorem read0 (t : Fin cfg0.N) (r : Fin 256) (k : Fin 2048) (b : Fin 2) (s : Fin 2048) (h : t.val * 256 + r.val = b.val * 2048 + s.val) :
    iblk m c 0 t (ix2 r k) = m (c.tc.loc main_arg0) (ix3 b s k) := by
  obtain ⟨e0, e1, -, -⟩ := index t
  blk_ext! [iblk, e0, e1]

/-- The same for the target. -/
theorem read1 (t : Fin cfg0.N) (r : Fin 256) (k : Fin 2048) (b : Fin 2) (s : Fin 2048) (h : t.val * 256 + r.val = b.val * 2048 + s.val) :
    iblk m c 1 t (ix2 r k) = m (c.tc.loc main_arg1) (ix3 b s k) := by
  obtain ⟨-, -, e0, e1⟩ := index t
  blk_ext! [iblk, e0, e1]

/-- The sixteen blocks hold every row of both batches once. -/
theorem pieces : ∑ k ∈ Finset.range 16, piece m c k = ∑ b : Fin 2, ∑ s : Fin 2048,
    mse (fun k => m (c.tc.loc main_arg0) (ix3 b s k)) fun k => m (c.tc.loc main_arg1) (ix3 b s k) := by
  have hN : cfg0.N = 16 := N_0
  rw [← Cert.Ffn.sum_rows (fun b s => mse (fun k => m (c.tc.loc main_arg0) (ix3 b s k)) fun k => m (c.tc.loc main_arg1) (ix3 b s k))
    (fun r => by omega) (fun r => by omega), Finset.sum_range]
  refine (Finset.sum_congr rfl fun t _ => dif_pos (t.isLt.trans_eq hN.symm)).trans
    (Fin.sum_mul_add_congr (S := 16) (n := 256) (L := 4096) fun t r hl => ?_)
  refine congrArg₂ mse (funext fun k => read0 m c _ r k _ _ ?_) (funext fun k => read1 m c _ r k _ _ ?_) <;>
    exact (Nat.div_add_mod' _ _).symm

end

/-! ### The constants -/

theorem cols_eq : cols = ((2048 : ℝ) : EReal) := by
  show Ideal.ofBits .f32 0x45000000#32 = _
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem half_eq : Ideal.ofBits .f32 0x3F000000#32 = ((1 / 2 : ℝ) : EReal) := by
  simp [Ideal.ofBits, Ideal.ieee, -EReal.coe_mul]; norm_num

/-- Twice the half. -/
theorem two_half (x : EReal) : Ideal.ofBits .f32 0x40000000#32 * (Ideal.ofBits .f32 0x3F000000#32 * x) = x := by
  rw [two_eq, half_eq, ← mul_assoc, ← EReal.coe_mul, show (2 * (1 / 2) : ℝ) = 1 by norm_num, EReal.coe_one, one_mul]

/-- The gradient that the reference computes at an entry. -/
theorem grad_ref (x : EReal) : Ideal.div (Ideal.ofBits .f32 0x3F000000#32) cols * (Ideal.ofBits .f32 0x40000000#32 * x) = Ideal.div x cols := by
  have h : (2048 : ℝ) ≠ 0 := by norm_num
  rw [cols_eq, Ideal.div_coe h, Ideal.div_coe h, two_eq, half_eq, ← mul_assoc, ← EReal.coe_mul, ← EReal.coe_mul, mul_comm]
  congr 2
  norm_num

section
open Cert.Reference15Ideal Cert.Reference15Ideal.Gen StableHlo

/-- The gradient that the reference computes. -/
theorem ref0 (a b : Vec Ideal S2x2048x2048 .f32) :
    shapeCast _ (mulf (broadcastInDim S2x2048x2048 ![0, 1] bcast_S2x2048_S2x2048x2048_0_1 (Host.divf (broadcastInDim S2x2048 ![] bcast_S_S2x2048
      (mulf (constant (F := Ideal) S_ .f32 0x3F000000#32) (constant S_ .f32 0x3F800000#32))) (broadcastInDim S2x2048 ![] bcast_S_S2x2048 (constant S_ .f32 0x45000000#32))))
      (mulf (broadcastInDim S2x2048x2048 ![] bcast_S_S2x2048x2048 (constant S_ .f32 0x40000000#32)) (subf a b))) shapeCasts_S2x2048x2048_S4096x2048
    = fun i => Ideal.div (shapeCast S4096x2048 a shapeCasts_S2x2048x2048_S4096x2048 i - shapeCast S4096x2048 b shapeCasts_S2x2048x2048_S4096x2048 i) cols := by
  funext i
  pointwise
  exact grad_ref _

/-- Twice the loss that the reference computes. -/
theorem ref1 (a b : Vec Ideal S2x2048x2048 .f32) :
    shapeCast S1x1 (mulf (constant (F := Ideal) S_ .f32 0x40000000#32) (mulf (constant S_ .f32 0x3F000000#32) (Host.reduceAdd (Host.divf
      (Host.reduceAdd (mulf (subf a b) (subf a b)) (constant S_ .f32 0x00000000#32) reducesTo_S2x2048x2048_S2x2048_d2 h_S_)
      (broadcastInDim S2x2048 ![] bcast_S_S2x2048 (constant S_ .f32 0x45000000#32))) (constant S_ .f32 0x00000000#32) reducesTo_S2x2048_S_d0_1 h_S_))) shapeCasts_S_S1x1
    = fun _ => ∑ i : Fin 2, ∑ j : Fin 2048, mse (fun k => a (ix3 i j k)) fun k => b (ix3 i j k) := by
  funext i
  unfold mse
  pointwise
  exact two_half _

end

section
open Cert.Kernel15Ideal Cert.Kernel15Ideal.Gen

/-- The kernel's two results are the reference's. -/
theorem algebraic15 : Cert.algebraic_Kernel15Ideal_Reference15Ideal := by
  intro m g m' g' _ hargs
  refine ⟨fun c => (dats m 0 c).arrAt 2 cfg0.N, fun c => (dats m 0 c).arrAt 3 cfg0.N,
    Value.run_blocks (F := Ideal) m g,
    (θ_run _ _ _).mono (fun r h c => ?_) (Cert.Reference15Ideal.Value.run (F := Ideal) m' g')⟩
  obtain ⟨h0, h1, hk⟩ := h c
  obtain ⟨a0, a1⟩ := hargs c
  rw [a0, a1] at h0 h1
  exact ⟨h0.trans ((ref0 _ _).trans (grads m c).symm), h1.trans ((ref1 _ _).trans ((total m c).trans (funext fun _ => pieces m c)).symm), hk⟩

/-- The reference leaves its arguments as launched; it has no counters. -/
theorem frame_reference15 : Cert.quiescent_Reference15Ideal := fun m ρ _ =>
  (θ_run _ _ _).mono (fun _ h => ⟨fun c => (h c).2.2, funext fun g =>
      ((by decide : ∀ s : SemLoc Cert.Reference15Ideal.sig, False) g.2).elim⟩) (Cert.Reference15Ideal.Value.run (F := Ideal) m ρ)

end

end Cert.Loss

end
-- ==== Proof.Adam.lean ====
module

public import Idealize.ShloMosaic.Lib.Pipeline.ValueKit

/-!
# One AdamW step, entry by entry

The new moments and the change of the weight, for arrays of any shape, and the fact that laying the arrays out in another
shape before the step or after it gives the same.
-/

@[expose] public section

noncomputable section

namespace Cert.Adam

open Idealize.ShloMosaic Idealize.ShloMosaic.TcCoe

/-- The number that a float's word stands for. -/
abbrev num (b : BitVec 32) : Ideal .f32 := FloatOps.ofBits .f32 b

/-! ### One entry -/

/-- The new first moment: a tenth of the gradient added to nine tenths of the old one. -/
def mom (g m : Ideal .f32) : Ideal .f32 :=
  FloatOps.addf (FloatOps.mulf (num 0x3F666666#32) m) (FloatOps.mulf (num 0x3DCCCCCD#32) g)

/-- The new second moment, in the same way from the gradient's square. -/
def sec (g v : Ideal .f32) : Ideal .f32 :=
  FloatOps.addf (FloatOps.mulf (num 0x3F7FBE77#32) v) (FloatOps.mulf (num 0x3A83126F#32) (FloatOps.mulf g g))

/-- The weight's change: the first moment over the root of the second, each divided by its correction, and the weight's decay. -/
def chg (w g m v : Ideal .f32) : Ideal .f32 :=
  FloatOps.mulf (num 0xBA83126F#32) (FloatOps.addf
    (FloatOps.divf (FloatOps.divf (mom g m) (num 0x3F26BD02#32))
      (FloatOps.addf (FloatOps.sqrt (FloatOps.divf (sec g v) (num 0x3C231ACC#32))) (num 0x322BCC77#32)))
    (FloatOps.mulf (num 0x3C23D70A#32) w))

/-! ### Whole arrays, laid out in rows -/

section
variable {s t : Shape} (h : s.ShapeCasts t)

/-- The new first moments of arrays of shape `s`, laid out in shape `t`. -/
def moms (g m : Vec Ideal s .f32) : Vec Ideal t .f32 := fun i => mom (shapeCast t g h i) (shapeCast t m h i)
/-- The new second moments. -/
def secs (g v : Vec Ideal s .f32) : Vec Ideal t .f32 := fun i => sec (shapeCast t g h i) (shapeCast t v h i)
/-- The changes of the weights. -/
def chgs (w g m v : Vec Ideal s .f32) : Vec Ideal t .f32 :=
  fun i => chg (shapeCast t w h i) (shapeCast t g h i) (shapeCast t m h i) (shapeCast t v h i)

end

/-! ### A block's three results

A block is read whole, worked on entry by entry and written whole. -/

/-- Both offsets of a block's window are zero. -/
theorem hz : (![0, 0] : Fin 2 → Nat) = fun _ => 0 := funext fun a => by fin_cases a <;> rfl

section
variable {S : Shape} {off : Fin S.rank → Nat} (h : off = fun _ => 0) {inb : ∀ a, off a + S.size a ≤ S.size a} {hc : S.ShapeCasts S}

/-- A block as it is read, laid out in its own shape. -/
abbrev got (inb : ∀ a, off a + S.size a ≤ S.size a) (hc : S.ShapeCasts S) (x : Vec Ideal S .f32) : Vec Ideal S .f32 :=
  shapeCast S (View.ld x (Rect.unit off S.size inb)) hc

include h

/-- What is read is the block. -/
theorem got_eq (x : Vec Ideal S .f32) : got inb hc x = x :=
  (shapeCast_self _ hc).trans (View.ld_unit_zero h inb x)

/-- The written block of first moments. -/
theorem mom_block (g m : Vec Ideal S .f32) :
    View.canon [(⟨Rect.unit off S.size inb, fun y => mom (got inb hc g y) (got inb hc m y)⟩ : View.Piece (Elt Ideal) S .f32)]
      = fun y => mom (g y) (m y) := by
  rw [View.canon_unit_zero h, got_eq h, got_eq h]; rfl

/-- The written block of second moments. -/
theorem sec_block (g v : Vec Ideal S .f32) :
    View.canon [(⟨Rect.unit off S.size inb, fun y => sec (got inb hc g y) (got inb hc v y)⟩ : View.Piece (Elt Ideal) S .f32)]
      = fun y => sec (g y) (v y) := by
  rw [View.canon_unit_zero h, got_eq h, got_eq h]; rfl

/-- The written block of changes. -/
theorem chg_block (w g m v : Vec Ideal S .f32) :
    View.canon [(⟨Rect.unit off S.size inb,
        fun y => chg (got inb hc w y) (got inb hc g y) (got inb hc m y) (got inb hc v y)⟩ : View.Piece (Elt Ideal) S .f32)]
      = fun y => chg (w y) (g y) (m y) (v y) := by
  rw [View.canon_unit_zero h, got_eq h, got_eq h, got_eq h, got_eq h]; rfl

end

end Cert.Adam

end
-- ==== Proof.AdamVec.lean ====
module

public import proofs.«01_k».proof.Defs
public import proofs.«01_k».proof.Proof.Adam
public import proofs.«01_k».proof.Proof.Gen.Kernel16Ideal.Frame
public import proofs.«01_k».proof.Proof.Gen.Reference16Ideal.Run

/-!
# The AdamW step of the vectors

The nineteen vectors are packed into one array of 248 rows, which one block holds.
-/

@[expose] public section

set_option maxRecDepth 16384
set_option maxHeartbeats 1000000

noncomputable section

namespace Cert.Adam

open Idealize.ShloMosaic Idealize.ShloMosaic.TcCoe Idealize.ShloMosaic.StableHlo Idealize.SL.Sem

section
open Cert.Kernel16Ideal Cert.Kernel16Ideal.Gen
variable (m : (ℓ : Loc nD τ sig) → Buf (Elt Ideal) ℓ) (c : Dev nD)

/-- What the body writes, from the four blocks it reads. -/
theorem block16 (x0 x1 x2 x3 : Vec Ideal S248x128 .f32) :
    out0_4 x0 x1 x2 x3 = (fun y => chg (x0 y) (x1 y) (x2 y) (x3 y)) ∧ out0_5 x0 x1 x2 x3 = (fun y => mom (x1 y) (x2 y))
    ∧ out0_6 x0 x1 x2 x3 = fun y => sec (x1 y) (x3 y) :=
  ⟨chg_block hz x0 x1 x2 x3, mom_block hz x1 x2, sec_block hz x1 x3⟩

/-- The result arrays after the last grid point: the step of the whole arrays. -/
theorem ends16 :
    (dats m 0 c).arrAt 4 cfg0.N = chgs shapeCasts_S1x248x128_S248x128 (m (c.tc.loc main_arg0)) (m (c.tc.loc main_arg1)) (m (c.tc.loc main_arg2)) (m (c.tc.loc main_arg3))
    ∧ (dats m 0 c).arrAt 5 cfg0.N = moms shapeCasts_S1x248x128_S248x128 (m (c.tc.loc main_arg1)) (m (c.tc.loc main_arg2))
    ∧ (dats m 0 c).arrAt 6 cfg0.N = secs shapeCasts_S1x248x128_S248x128 (m (c.tc.loc main_arg1)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · rw [after0_4, (block16 _ _ _ _).1]; rfl
  · rw [after0_5, (block16 _ _ _ _).2.1]; rfl
  · rw [after0_6, (block16 _ _ _ _).2.2]; rfl

/-- The kernel's three results are the reference's. -/
theorem algebraic16 : Cert.algebraic_Kernel16Ideal_Reference16Ideal := by
  intro m g m' g' _ hargs
  refine ⟨fun c => (dats m 0 c).arrAt 4 cfg0.N, fun c => (dats m 0 c).arrAt 5 cfg0.N, fun c => (dats m 0 c).arrAt 6 cfg0.N,
    (θ_run _ _ _).mono (fun r h c => ⟨(h.1 c).1 4, (h.1 c).1 5, (h.1 c).1 6, h.2.1 c⟩)
      (θ_run_and (run_main (F := Ideal) m g) (frame (F := Ideal) m g)),
    (θ_run _ _ _).mono (fun r h c => ?_) (Cert.Reference16Ideal.Value.run (F := Ideal) m' g')⟩
  obtain ⟨h0, h1, h2, hk⟩ := h c
  obtain ⟨a0, a1, a2, a3⟩ := hargs c
  obtain ⟨e0, e1, e2⟩ := ends16 m c
  rw [a0, a1, a2, a3] at h0
  rw [a1, a2] at h1
  rw [a1, a3] at h2
  exact ⟨h0.trans e0.symm, h1.trans e1.symm, h2.trans e2.symm, hk⟩

/-- The reference leaves its arguments as launched; it has no counters. -/
theorem frame_reference16 : Cert.quiescent_Reference16Ideal := fun m ρ _ =>
  (θ_run _ _ _).mono (fun _ h => ⟨fun c => (h c).2.2.2, funext fun g =>
      ((by decide : ∀ s : SemLoc Cert.Reference16Ideal.sig, False) g.2).elim⟩) (Cert.Reference16Ideal.Value.run (F := Ideal) m ρ)

end

end Cert.Adam

end
-- ==== Proof.Sum.lean ====
module

public import proofs.«01_k».proof.Defs
public import Idealize.ShloMosaic.Lib.Pipeline.ValueKit
public import proofs.«01_k».proof.Proof.Gen.Kernel17Ideal.Frame
public import proofs.«01_k».proof.Proof.Gen.Reference17Ideal.Run
public import proofs.«01_k».proof.Proof.Gen.Kernel18Ideal.Frame
public import proofs.«01_k».proof.Proof.Gen.Reference18Ideal.Run
public import proofs.«01_k».proof.Proof.Gen.Kernel19Ideal.Frame
public import proofs.«01_k».proof.Proof.Gen.Reference19Ideal.Run

/-!
# The sum of the devices' gradients

A call adds up the eight devices' parts of one array.
-/

@[expose] public section

set_option maxRecDepth 16384
set_option maxHeartbeats 200000

noncomputable section

namespace Cert.Sum

open Idealize.ShloMosaic Idealize.ShloMosaic.TcCoe Idealize.ShloMosaic.Tactic Idealize.ShloMosaic.StableHlo Idealize.SL.Sem

/-- The sum of the eight parts. -/
def sum8 {R C : ℕ} (a : (⟨3, ![8, R, C]⟩ : Shape).Idx → EReal) : (⟨2, ![R, C]⟩ : Shape).Idx → EReal := fun y => ∑ i : Fin 8, a (ix3 i (y 0) (y 1))

/-- Two sums of eight are equal if their terms are. -/
theorem sum8_congr {R C P Q : ℕ} {a : (⟨3, ![8, R, C]⟩ : Shape).Idx → EReal} {b : (⟨3, ![8, P, Q]⟩ : Shape).Idx → EReal}
    {y : (⟨2, ![R, C]⟩ : Shape).Idx} {z : (⟨2, ![P, Q]⟩ : Shape).Idx} (h : ∀ i, a (ix3 i (y 0) (y 1)) = b (ix3 i (z 0) (z 1))) : sum8 a y = sum8 b z :=
  Finset.sum_congr rfl fun i _ => h i

/-! ### The vectors -/

section
open Cert.Reference17Ideal Cert.Reference17Ideal.Gen

/-- The reference's sum over the first axis. -/
theorem ref17 (x : Vec Ideal S8x248x128 .f32) : Host.reduceAdd x (constant (F := Ideal) S_ .f32 0x00000000#32) reducesTo_S8x248x128_S248x128_d0 h_S_ = sum8 x := by
  funext y
  unfold sum8
  pointwise

end

section
open Cert.Kernel17Ideal Cert.Kernel17Ideal.Gen
variable (m : (ℓ : Loc nD τ sig) → Buf (Elt Ideal) ℓ) (c : Dev nD)

/-- What the body writes, from the block it reads. -/
theorem block17 (x : Vec Ideal S8x248x128 .f32) : out0_1 x = sum8 x := by
  funext y
  unfold sum8
  frame_out
  unfold k0_pay1
  pointwise
  rw [Fin.sum_univ_eight]

/-- The two windows walk the rows together. -/
theorem index17 (t : Fin cfg0.N) : win0_0.index t 0 = 0 ∧ win0_0.index t 1 = win0_1.index t 0 ∧ win0_0.index t 2 = win0_1.index t 1 :=
  (by decide +kernel : ∀ t : Fin grid0.N, win0_0.index t 0 = 0 ∧ win0_0.index t 1 = win0_1.index t 0 ∧ win0_0.index t 2 = win0_1.index t 1) t

/-- The array after the last block. -/
theorem end17 : (dats m 0 c).arrAt 1 cfg0.N = sum8 (m (c.tc.loc main_arg0)) := by
  refine (dats m 0 c).arrAt_eq_of_covers 1 _ (by decide +kernel) fun t _ y => ?_
  obtain ⟨e0, e1, e2⟩ := index17 t
  rw [after0_1, block17]
  refine sum8_congr fun i => ?_
  blk_ext! [iblk, e0, e1, e2]

/-- The kernel's result is the reference's. -/
theorem algebraic17 : Cert.algebraic_Kernel17Ideal_Reference17Ideal := by
  intro m g m' g' _ hargs
  refine ⟨fun c => (dats m 0 c).arrAt 1 cfg0.N,
    (θ_run _ _ _).mono (fun r h c => ⟨(h.1 c).1 1, h.2.1 c⟩)
      (θ_run_and (run_main (F := Ideal) m g) (frame (F := Ideal) m g)),
    (θ_run _ _ _).mono (fun r h c => ?_) (Cert.Reference17Ideal.Value.run (F := Ideal) m' g')⟩
  obtain ⟨h0, hk⟩ := h c
  have a0 := hargs c
  rw [a0] at h0
  exact ⟨h0.trans ((ref17 _).trans (end17 m c).symm), hk⟩

/-- The reference leaves its argument as launched; it has no counters. -/
theorem frame_reference17 : Cert.quiescent_Reference17Ideal := fun m ρ _ =>
  (θ_run _ _ _).mono (fun _ h => ⟨fun c => (h c).2, funext fun g =>
      ((by decide : ∀ s : SemLoc Cert.Reference17Ideal.sig, False) g.2).elim⟩) (Cert.Reference17Ideal.Value.run (F := Ideal) m ρ)

end

/-! ### The small matrices -/

section
open Cert.Reference18Ideal Cert.Reference18Ideal.Gen

/-- The reference's sum over the first axis. -/
theorem ref18 (x : Vec Ideal S8x256x1024 .bf16) : Host.reduceAdd (extf .f32 x bitsLt_bf16_f32) (constant (F := Ideal) S_ .f32 0x00000000#32) reducesTo_S8x256x1024_S256x1024_d0 h_S_ = sum8 x := by
  funext y
  unfold sum8
  pointwise

end

section
open Cert.Kernel18Ideal Cert.Kernel18Ideal.Gen
variable (m : (ℓ : Loc nD τ sig) → Buf (Elt Ideal) ℓ) (c : Dev nD)

/-- What the body writes, from the block it reads. -/
theorem block18 (x : Vec Ideal S8x256x1024 .bf16) : out0_1 x = sum8 x := by
  funext y
  unfold sum8
  frame_out
  unfold k0_pay1
  pointwise
  rw [Fin.sum_univ_eight]

/-- The two windows walk the rows together. -/
theorem index18 (t : Fin cfg0.N) : win0_0.index t 0 = 0 ∧ win0_0.index t 1 = win0_1.index t 0 ∧ win0_0.index t 2 = win0_1.index t 1 :=
  (by decide +kernel : ∀ t : Fin grid0.N, win0_0.index t 0 = 0 ∧ win0_0.index t 1 = win0_1.index t 0 ∧ win0_0.index t 2 = win0_1.index t 1) t

/-- The array after the last block. -/
theorem end18 : (dats m 0 c).arrAt 1 cfg0.N = sum8 (m (c.tc.loc main_arg0)) := by
  refine (dats m 0 c).arrAt_eq_of_covers 1 _ (by decide +kernel) fun t _ y => ?_
  obtain ⟨e0, e1, e2⟩ := index18 t
  rw [after0_1, block18]
  refine sum8_congr fun i => ?_
  blk_ext! [iblk, e0, e1, e2]

/-- The kernel's result is the reference's. -/
theorem algebraic18 : Cert.algebraic_Kernel18Ideal_Reference18Ideal := by
  intro m g m' g' _ hargs
  refine ⟨fun c => (dats m 0 c).arrAt 1 cfg0.N,
    (θ_run _ _ _).mono (fun r h c => ⟨(h.1 c).1 1, h.2.1 c⟩)
      (θ_run_and (run_main (F := Ideal) m g) (frame (F := Ideal) m g)),
    (θ_run _ _ _).mono (fun r h c => ?_) (Cert.Reference18Ideal.Value.run (F := Ideal) m' g')⟩
  obtain ⟨h0, hk⟩ := h c
  have a0 := hargs c
  rw [a0] at h0
  exact ⟨h0.trans ((ref18 _).trans (end18 m c).symm), hk⟩

/-- The reference leaves its argument as launched; it has no counters. -/
theorem frame_reference18 : Cert.quiescent_Reference18Ideal := fun m ρ _ =>
  (θ_run _ _ _).mono (fun _ h => ⟨fun c => (h c).2, funext fun g =>
      ((by decide : ∀ s : SemLoc Cert.Reference18Ideal.sig, False) g.2).elim⟩) (Cert.Reference18Ideal.Value.run (F := Ideal) m ρ)

end

/-! ### The feed-forward network's w_gate and w_up -/

section
open Cert.Reference19Ideal Cert.Reference19Ideal.Gen

/-- The reference's sum over the first axis. -/
theorem ref19 (x : Vec Ideal S8x2048x1408 .bf16) : Host.reduceAdd (extf .f32 x bitsLt_bf16_f32) (constant (F := Ideal) S_ .f32 0x00000000#32) reducesTo_S8x2048x1408_S2048x1408_d0 h_S_ = sum8 x := by
  funext y
  unfold sum8
  pointwise

end

section
open Cert.Kernel19Ideal Cert.Kernel19Ideal.Gen
variable (m : (ℓ : Loc nD τ sig) → Buf (Elt Ideal) ℓ) (c : Dev nD)

/-- What the body writes, from the block it reads. -/
theorem block19 (x : Vec Ideal S8x128x1408 .bf16) : out0_1 x = sum8 x := by
  funext y
  unfold sum8
  frame_out
  unfold k0_pay1
  pointwise
  rw [Fin.sum_univ_eight]

/-- The two windows walk the rows together. -/
theorem index19 (t : Fin cfg0.N) : win0_0.index t 0 = 0 ∧ win0_0.index t 1 = win0_1.index t 0 ∧ win0_0.index t 2 = win0_1.index t 1 :=
  (by decide +kernel : ∀ t : Fin grid0.N, win0_0.index t 0 = 0 ∧ win0_0.index t 1 = win0_1.index t 0 ∧ win0_0.index t 2 = win0_1.index t 1) t

/-- The array after the last block. -/
theorem end19 : (dats m 0 c).arrAt 1 cfg0.N = sum8 (m (c.tc.loc main_arg0)) := by
  refine (dats m 0 c).arrAt_eq_of_covers 1 _ (by decide +kernel) fun t _ y => ?_
  obtain ⟨e0, e1, e2⟩ := index19 t
  rw [after0_1, block19]
  refine sum8_congr fun i => ?_
  blk_ext! [iblk, e0, e1, e2]

/-- The kernel's result is the reference's. -/
theorem algebraic19 : Cert.algebraic_Kernel19Ideal_Reference19Ideal := by
  intro m g m' g' _ hargs
  refine ⟨fun c => (dats m 0 c).arrAt 1 cfg0.N,
    (θ_run _ _ _).mono (fun r h c => ⟨(h.1 c).1 1, h.2.1 c⟩)
      (θ_run_and (run_main (F := Ideal) m g) (frame (F := Ideal) m g)),
    (θ_run _ _ _).mono (fun r h c => ?_) (Cert.Reference19Ideal.Value.run (F := Ideal) m' g')⟩
  obtain ⟨h0, hk⟩ := h c
  have a0 := hargs c
  rw [a0] at h0
  exact ⟨h0.trans ((ref19 _).trans (end19 m c).symm), hk⟩

/-- The reference leaves its argument as launched; it has no counters. -/
theorem frame_reference19 : Cert.quiescent_Reference19Ideal := fun m ρ _ =>
  (θ_run _ _ _).mono (fun _ h => ⟨fun c => (h c).2, funext fun g =>
      ((by decide : ∀ s : SemLoc Cert.Reference19Ideal.sig, False) g.2).elim⟩) (Cert.Reference19Ideal.Value.run (F := Ideal) m ρ)

end

end Cert.Sum

end
-- ==== Proof.Fwd.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Regions
public import Idealize.ShloMosaic.Lib.Ring
public import Idealize.ShloMosaic.Lib.Tactic
public import Idealize.ShloMosaic.Lib.WordCmp
public import Idealize.ShloMosaic.Lib.VecWindow

/-!
# The forward scan's region

Region 0 walks 256 points, point `t` being chunk `t % 32` of stream `t / 32`. A VMEM scratch carries the recurrent
state between the chunks of a stream and is cleared at each stream's first chunk. Everything here is stated over any
contents `V` of the arrays at entry and any float interpretation.
-/

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The test the body makes before clearing its scratch: the chunk coordinate is zero. -/
abbrev first0 (i : grid0.Coords) : Prop :=
  (Scalar.cmpi .ne (Scalar.extui (Scalar.cmpi .eq (BitVec.ofNat 32 (i 1).val) 0#32)) 0#32) = 1#1

/-- The test holds exactly at the first chunk of each stream. -/
theorem first0_iff : ∀ t : Fin grid0.N, first0 (grid0.coords t) ↔ t.val % 32 = 0 := fun t => by
  have ht : t.val < 256 := Nat.lt_of_lt_of_eq t.isLt N_0
  have e1 : (grid0.coords t 1).val = t.val / 1 % 32 := Pipeline.Grid.coords_val t 1 (by decide) rfl
  simp only [first0, e1]
  word_cmp

/-- The state after a chunk: the decayed state plus the chunk's outer products. -/
def next0 (s : Vec F S128x256 .f32) (k : Vec F S1x1x64x128 .f32) (v : Vec F S1x1x64x256 .f32) (dec : Vec F S1x1x128x1 .f32) :
    Vec F S128x256 .f32 :=
  k0_pay1 (k0_pay5 s dec) (k0_pay6 k) (k0_pay7 v) (constant S128x256 .f32 0x00000000#32)

set_option maxHeartbeats 1000000 in
/-- A later chunk's body: from inputs and scratch at given contents, it leaves the chunk's output, a copy of the entering
    state, and the scratch at the next state. -/
theorem body0_later (c : Dev nD) (i : grid0.Coords)
    (arg2 : Memref sig .tc .vmem S1x1x64x128 .f32) (harg2 : arg2.IsWhole) (arg3 : Memref sig .tc .vmem S1x1x64x128 .f32) (harg3 : arg3.IsWhole)
    (arg4 : Memref sig .tc .vmem S1x1x64x256 .f32) (harg4 : arg4.IsWhole) (arg5 : Memref sig .tc .vmem S1x1x128x1 .f32) (harg5 : arg5.IsWhole)
    (arg6 : Memref sig .tc .vmem S1x1x64x256 .f32) (harg6 : arg6.IsWhole) (arg7 : Memref sig .tc .vmem S1x1x128x256 .f32) (harg7 : arg7.IsWhole)
    (arg8 : Memref sig .tc .vmem S128x256 .f32) (harg8 : arg8.IsWhole) (hc : ¬first0 i)
    (q k : Vec F S1x1x64x128 .f32) (v : Vec F S1x1x64x256 .f32) (dec : Vec F S1x1x128x1 .f32) (s : Vec F S128x256 .f32)
    (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare dec ∗ (∃ d, owns (c : Thread nD τ) arg6 fullShare d)
        ∗ (∃ d, owns (c : Thread nD τ) arg7 fullShare d) ∗ owns (c : Thread nD τ) arg8 fullShare s
        ∗ (iprop(owns (c : Thread nD τ) arg2 fullShare q ∗ owns (c : Thread nD τ) arg3 fullShare k ∗ owns (c : Thread nD τ) arg4 fullShare v
            ∗ owns (c : Thread nD τ) arg5 fullShare dec ∗ owns (c : Thread nD τ) arg6 fullShare (k0_pay4 s q)
            ∗ owns (c : Thread nD τ) arg7 fullShare (k0_pay3 s) ∗ owns (c : Thread nD τ) arg8 fullShare (next0 s k v dec)) -∗ K ⟨⟩))
      ⊢ wp frame (wpE (defs₀ (F := F)) Variants.none c none) Set.univ
          (cc0_gla_scan_fwd i arg2 harg2 arg3 harg3 arg4 harg4 arg5 harg5 arg6 harg6 arg7 harg7 arg8 harg8) K := by
  simp only [cc0_gla_scan_fwd_eq_skeleton]; unfold cc0_gla_scan_fwd_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg8.eq_unread hfs
  sl_exec (disch := first | sl_exact hc)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    swap; · iexact H4
    ipureintro; exact (View.read_writes_full _ _ _ _ _).trans (congrArg₂ k0_pay4 ((View.readAt_full _ _ _).trans hfs) ((View.readAt_full _ _ _).trans hf0))
  isplitl [H5]
  · iexists _; isplitr
    swap; · iexact H5
    ipureintro; exact (View.read_writes_full _ _ _ _ _).trans (congrArg k0_pay3 ((View.readAt_full _ _ _).trans hfs))
  iexists _; isplitr
  swap; · iexact HS
  ipureintro
  exact (View.read_writes_full _ _ _ _ _).trans
    (congr (congr (congrArg₂ k0_pay1 (congrArg₂ k0_pay5 ((View.readAt_full _ _ _).trans hfs) ((View.readAt_full _ _ _).trans hf3)) (congrArg k0_pay6 ((View.readAt_full _ _ _).trans hf1)))
      (congrArg k0_pay7 ((View.readAt_full _ _ _).trans hf2))) rfl)

set_option maxHeartbeats 1000000 in
/-- The first chunk's body: the same from the cleared state, whatever the scratch held. -/
theorem body0_first (c : Dev nD) (i : grid0.Coords)
    (arg2 : Memref sig .tc .vmem S1x1x64x128 .f32) (harg2 : arg2.IsWhole) (arg3 : Memref sig .tc .vmem S1x1x64x128 .f32) (harg3 : arg3.IsWhole)
    (arg4 : Memref sig .tc .vmem S1x1x64x256 .f32) (harg4 : arg4.IsWhole) (arg5 : Memref sig .tc .vmem S1x1x128x1 .f32) (harg5 : arg5.IsWhole)
    (arg6 : Memref sig .tc .vmem S1x1x64x256 .f32) (harg6 : arg6.IsWhole) (arg7 : Memref sig .tc .vmem S1x1x128x256 .f32) (harg7 : arg7.IsWhole)
    (arg8 : Memref sig .tc .vmem S128x256 .f32) (harg8 : arg8.IsWhole) (hc : first0 i)
    (q k : Vec F S1x1x64x128 .f32) (v : Vec F S1x1x64x256 .f32) (dec : Vec F S1x1x128x1 .f32)
    (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare dec ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare q ∗ owns (c : Thread nD τ) arg3 fullShare k ∗ owns (c : Thread nD τ) arg4 fullShare v
            ∗ owns (c : Thread nD τ) arg5 fullShare dec ∗ owns (c : Thread nD τ) arg6 fullShare (k0_pay4 k0_pay2 q)
            ∗ owns (c : Thread nD τ) arg7 fullShare (k0_pay3 k0_pay2) ∗ owns (c : Thread nD τ) arg8 fullShare (next0 k0_pay2 k v dec)) -∗ K ⟨⟩))
      ⊢ wp frame (wpE (defs₀ (F := F)) Variants.none c none) Set.univ
          (cc0_gla_scan_fwd i arg2 harg2 arg3 harg3 arg4 harg4 arg5 harg5 arg6 harg6 arg7 harg7 arg8 harg8) K := by
  simp only [cc0_gla_scan_fwd_eq_skeleton]; unfold cc0_gla_scan_fwd_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | sl_exact hc)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    swap; · iexact H4
    ipureintro; exact (View.read_writes_full _ _ _ _ _).trans (congrArg₂ k0_pay4 (View.readCov_full _ _ _ _ _) ((View.readAt_full _ _ _).trans hf0))
  isplitl [H5]
  · iexists _; isplitr
    swap; · iexact H5
    ipureintro; exact (View.read_writes_full _ _ _ _ _).trans (congrArg k0_pay3 (View.readCov_full _ _ _ _ _))
  iexists _; isplitr
  swap; · iexact HS
  ipureintro
  exact (View.read_writes_full _ _ _ _ _).trans
    (congr (congr (congrArg₂ k0_pay1 (congrArg₂ k0_pay5 (View.readCov_full _ _ _ _ _) ((View.readAt_full _ _ _).trans hf3)) (congrArg k0_pay6 ((View.readAt_full _ _ _).trans hf1)))
      (congrArg k0_pay7 ((View.readAt_full _ _ _).trans hf2))) rfl)

variable (V : Dev nD → Valuation τ sig (Elt F))

/-- The block of window `w`'s array at point `t`, over the contents at entry. -/
def blk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The state point `n` works from: zero at a stream's first chunk, else what the chunk before left. -/
def enter0 (c : Dev nD) : (n : ℕ) → n < cfg0.N → Vec F S128x256 .f32
  | 0, _ => k0_pay2
  | n + 1, h => if (n + 1) % 32 = 0 then k0_pay2 else
      next0 (enter0 c n (by omega)) (blk0 V c 1 ⟨n, by omega⟩) (blk0 V c 2 ⟨n, by omega⟩) (blk0 V c 3 ⟨n, by omega⟩)

/-- The state point `n` leaves in the scratch. -/
def leave0 (c : Dev nD) (n : ℕ) (h : n < cfg0.N) : Vec F S128x256 .f32 :=
  next0 (enter0 V c n h) (blk0 V c 1 ⟨n, h⟩) (blk0 V c 2 ⟨n, h⟩) (blk0 V c 3 ⟨n, h⟩)

theorem enter0_first (c : Dev nD) (n : ℕ) (h : n < cfg0.N) (h0 : n % 32 = 0) : enter0 V c n h = k0_pay2 := by
  cases n with
  | zero => rfl
  | succ n => rw [enter0, if_pos h0]

theorem enter0_later (c : Dev nD) (n : ℕ) (h : n + 1 < cfg0.N) (h0 : ¬(n + 1) % 32 = 0) :
    enter0 V c (n + 1) h = leave0 V c n (by omega) := by
  rw [enter0, if_neg h0]; rfl

/-- The call's scratch. -/
abbrev scr0 : Memref sig .tc .vmem S128x256 .f32 := Memref.whole cc0_scratch0

/-- The other scoped buffers, at any contents. -/
abbrev rest0 (c : Dev nD) : sProp 𝕄 := Pipeline.scopedRestBut spec0 c [cc0_scratch0]

/-- The scoped buffers beside the staging buffers: the scratch and the rest. -/
theorem scoped0 (c : Dev nD) :
    (Pipeline.scopedRest spec0 c : sProp 𝕄) = iprop((∃ d, owns (c : Thread nD τ) scr0 fullShare d) ∗ rest0 c) := by
  rw [Pipeline.scopedRest_split_of_list spec0 c [cc0_scratch0] (by decide) (by decide), bigSepL_singleton]
  simp only [scr0, owns_whole]; rfl

/-- Between points: before the first the scratch holds anything, after point `n` the state it left. -/
def inv0 (c : Dev nD) : (n : ℕ) → n ≤ cfg0.N → sProp 𝕄
  | 0, _ => Pipeline.scopedRest spec0 c
  | n + 1, h => iprop(owns (c : Thread nD τ) scr0 fullShare (leave0 V c n (by omega)) ∗ rest0 c)

/-- Region 0's proof data. -/
def dat0 (c : Dev nD) : Dat τ (Elt F) Unit ℕ (UR sig nD τ) ℕ cfg0 c where
  A w := V c (Proc.devRef .tc (Pipeline.arrRef spec0 w))
  after w t := match w with
    | ⟨0, _⟩ => blk0 V c 0 t
    | ⟨1, _⟩ => blk0 V c 1 t
    | ⟨2, _⟩ => blk0 V c 2 t
    | ⟨3, _⟩ => blk0 V c 3 t
    | ⟨4, _⟩ => k0_pay4 (enter0 V c t.val t.isLt) (blk0 V c 0 t)
    | ⟨5, _⟩ => k0_pay3 (enter0 V c t.val t.isLt)
  Φ t := inv0 V c t.val (Nat.le_of_lt_succ t.isLt)
  q _ := fullShare
  owed _ := 0

theorem dat0_A (c : Dev nD) (w : Fin cfg0.W) : (dat0 V c).A w = V c (Proc.devRef .tc (Pipeline.arrRef spec0 w)) := by
  dsimp only [dat0]

theorem dat0_Φ (c : Dev nD) (t : Fin cfg0.N) : (dat0 V c).Φ t.castSucc = inv0 V c t.val (Nat.le_of_lt t.isLt) := by
  dsimp only [dat0]; exact Pipeline.Dat.Φ_castSucc (inv0 V c) t

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = k0_pay4 (enter0 V c t.val t.isLt) (blk0 V c 0 t) := by dsimp only [dat0]
theorem after0_5 (c : Dev nD) (t : Fin cfg0.N) : (dat0 V c).after 5 t = k0_pay3 (enter0 V c t.val t.isLt) := by dsimp only [dat0]

theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [dat0_A]; try rfl) t d).trans
    (by unfold Dat.fetched Dat.blockOf blk0; rw [dat0_A]; try rfl)
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [dat0_A]; try rfl) t d).trans
    (by unfold Dat.fetched Dat.blockOf blk0; rw [dat0_A]; try rfl)
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [dat0_A]; try rfl) t d).trans
    (by unfold Dat.fetched Dat.blockOf blk0; rw [dat0_A]; try rfl)
theorem before0_3 (c : Dev nD) (t : Fin cfg0.N) (d) : (dat0 V c).before 3 t d = blk0 V c 3 t :=
  ((dat0 V c).before_in_eq_fetched 3 rfl (fun _ => rfl) (fun _ _ _ => rfl)
    (fun t => by rw [after0_3]; unfold Dat.blockOf blk0; rw [dat0_A]; try rfl) t d).trans
    (by unfold Dat.fetched Dat.blockOf blk0; rw [dat0_A]; try rfl)

/-- What the body is called with at point `t`, window by window. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1000000 in
/-- The body at any point. -/
theorem point0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3]
  rw [show (dat0 V c).owesAt () t.succ = (dat0 V c).owesAt () t.castSucc from rfl,
    after0_0, after0_1, after0_2, after0_3, after0_4, after0_5, dat0_Φ]
  rw [show (dat0 V c).Φ t.succ = iprop(owns (c : Thread nD τ) scr0 fullShare (leave0 V c t.val t.isLt) ∗ rest0 c) from rfl]
  by_cases h0 : t.val % 32 = 0
  · have hΦ : (inv0 V c t.val (Nat.le_of_lt t.isLt) : sProp 𝕄) ⊢ iprop((∃ d, owns (c : Thread nD τ) scr0 fullShare d) ∗ rest0 c) := by
      obtain ⟨n, hn⟩ := t
      cases n with
      | zero => exact (show (inv0 V c 0 _ : sProp 𝕄) = _ from scoped0 c) ▸ .rfl
      | succ n =>
        show iprop(owns (c : Thread nD τ) scr0 fullShare (leave0 V c n _) ∗ rest0 c) ⊢ _
        iintro ⟨HS, HR⟩
        isplitl [HS]; · iexists _; iexact HS
        iexact HR
    unfold leave0
    rw [enter0_first V c t.val t.isLt h0]
    iintro ⟨HΦ, Ho, ⟨%d0, H0⟩, ⟨%d1, H1⟩, ⟨%d2, H2⟩, ⟨%d3, H3⟩, ⟨%d4, H4⟩, ⟨%d5, H5⟩⟩
    ihave HΦ' := hΦ $$ HΦ
    icases HΦ' with ⟨HS, HR⟩
    iapply (body0_first c (grid0.coords t) (st0_0 t) _ (st0_1 t) _ (st0_2 t) _ (st0_3 t) _ (st0_4 t) _ (st0_5 t) _ scr0 _
      ((first0_iff t).mpr h0) _ _ _ _ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨G0, G1, G2, G3, G4, G5, GS⟩
    isplitl [GS HR]
    · isplitl [GS]; · iexact GS
      iexact HR
    isplitl [Ho]; · iexact Ho
    isplitl [G0]; · iexact G0
    isplitl [G1]; · iexact G1
    isplitl [G2]; · iexact G2
    isplitl [G3]; · iexact G3
    isplitl [G4]; · iexact G4
    iexact G5
  · obtain ⟨n, hn⟩ := t
    cases n with
    | zero => exact absurd rfl h0
    | succ n =>
    rw [show (inv0 V c (⟨n + 1, hn⟩ : Fin cfg0.N).val _ : sProp 𝕄) = iprop(owns (c : Thread nD τ) scr0 fullShare (leave0 V c n (by omega)) ∗ rest0 c) from rfl]
    rw [← enter0_later V c n hn h0]
    unfold leave0
    iintro ⟨⟨HS, HR⟩, Ho, ⟨%d0, H0⟩, ⟨%d1, H1⟩, ⟨%d2, H2⟩, ⟨%d3, H3⟩, ⟨%d4, H4⟩, ⟨%d5, H5⟩⟩
    iapply (body0_later c (grid0.coords ⟨n + 1, hn⟩) (st0_0 _) _ (st0_1 _) _ (st0_2 _) _ (st0_3 _) _ (st0_4 _) _ (st0_5 _) _ scr0 _
      (fun h => h0 ((first0_iff ⟨n + 1, hn⟩).mp h)) _ _ _ _ _ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨G0, G1, G2, G3, G4, G5, GS⟩
    isplitl [GS HR]
    · isplitl [GS]; · iexact GS
      iexact HR
    isplitl [Ho]; · iexact Ho
    isplitl [G0]; · iexact G0
    isplitl [G1]; · iexact G1
    isplitl [G2]; · iexact G2
    isplitl [G3]; · iexact G3
    isplitl [G4]; · iexact G4
    iexact G5

/-- The body's row of the table at point `t`. -/
theorem row0 (t : Fin cfg0.N) : defs₀ (F := F) .tc cfg0.body (cfg0.bodyArgs t (cfg0.slots t)) = bodyAt0 t := by
  unfold defs₀; rw [Defs.onTc_tc]

/-- The library's obligation on the body. -/
theorem obligation0 (c : Dev nD) : BodyObligation (dat0 V c) (defs₀ (F := F)) Variants.none () Set.univ := fun t => by
  rw [bigSep_W0, bigSep_W0, row0]
  exact triple_restated (point0 V c t) rfl .rfl fun _ => .rfl

/-- The invariant before the first point. -/
theorem in0 (c : Dev nD) : iprop(Pipeline.scopedRest spec0 c ∗ (BI.emp : sProp 𝕄)) ⊢ (dat0 V c).Φ 0 := by
  rw [show (dat0 V c).Φ 0 = Pipeline.scopedRest spec0 c from rfl]
  iintro ⟨H, -⟩; iexact H

/-- The invariant after the last point gives the scoped buffers back. -/
theorem out0 (c : Dev nD) : (dat0 V c).Φ (Fin.last cfg0.N) ⊢ iprop(Pipeline.scopedRest spec0 c ∗ (BI.emp : sProp 𝕄)) := by
  rw [scoped0]
  have h : ∀ (n : ℕ) (hn : n ≤ cfg0.N), n ≠ 0 → (inv0 V c n hn : sProp 𝕄) ⊢ iprop(((∃ d, owns (c : Thread nD τ) scr0 fullShare d) ∗ rest0 c) ∗ BI.emp) := by
    intro n hn h0
    cases n with
    | zero => exact absurd rfl h0
    | succ n =>
      show iprop(owns (c : Thread nD τ) scr0 fullShare (leave0 V c n _) ∗ rest0 c) ⊢ _
      iintro ⟨HS, HR⟩
      isplitl [HS HR]
      · isplitl [HS]; · iexists _; iexact HS
        iexact HR
      iempintro
  exact h cfg0.N le_rfl (by rw [show cfg0.N = 256 from N_0]; omega)

end Cert.Scan
-- ==== Proof.Bwd.lean ====
module

public import proofs.«01_k».proof.Proof.Fwd
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Regions
public import Idealize.ShloMosaic.Lib.Ring
public import Idealize.ShloMosaic.Lib.Tactic
public import Idealize.ShloMosaic.Lib.WordCmp
public import Idealize.ShloMosaic.Lib.VecWindow

/-!
# The backward scan's region

Region 1 walks 256 points, point `t` being chunk `31 - t % 32` of stream `t / 32`: the chunks of a stream run backwards.
A VMEM scratch carries the gradient of the state a chunk leaves, cleared at each stream's last chunk. Everything here is
stated over any contents `V` of the arrays at entry and any float interpretation.
-/

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The test the body makes before clearing its scratch: the chunk coordinate is zero. -/
abbrev first1 (i : grid1.Coords) : Prop :=
  (Scalar.cmpi .ne (Scalar.extui (Scalar.cmpi .eq (BitVec.ofNat 32 (i 1).val) 0#32)) 0#32) = 1#1

/-- The test holds exactly at the first point of each stream. -/
theorem first1_iff : ∀ t : Fin grid1.N, first1 (grid1.coords t) ↔ t.val % 32 = 0 := fun t => by
  have ht : t.val < 256 := Nat.lt_of_lt_of_eq t.isLt N_1
  have e1 : (grid1.coords t 1).val = t.val / 1 % 32 := Pipeline.Grid.coords_val t 1 (by decide) rfl
  simp only [first1, e1]
  word_cmp

/-- The carried gradient after a chunk: decayed, plus the chunk's outer products of query and output gradient. -/
def next1 (s : Vec F S128x256 .f32) (dec : Vec F S1x1x128x1 .f32) (q : Vec F S1x1x64x128 .f32) (dO : Vec F S1x1x64x256 .f32) :
    Vec F S128x256 .f32 :=
  k1_pay3 s (k1_pay6 dO) dec q

set_option maxHeartbeats 1000000 in
/-- The body at a later point of a stream: from inputs and scratch at given contents, it leaves the four gradients of the
    chunk and the scratch at the next carried gradient. -/
theorem body1_later (c : Dev nD) (i : grid1.Coords) (arg2 : Memref sig .tc .vmem S1x1x64x128 .f32) (harg2 : arg2.IsWhole) (arg3 : Memref sig .tc .vmem S1x1x64x128 .f32) (harg3 : arg3.IsWhole) (arg4 : Memref sig .tc .vmem S1x1x64x256 .f32) (harg4 : arg4.IsWhole) (arg5 : Memref sig .tc .vmem S1x1x128x1 .f32) (harg5 : arg5.IsWhole) (arg6 : Memref sig .tc .vmem S1x1x128x256 .f32) (harg6 : arg6.IsWhole) (arg7 : Memref sig .tc .vmem S1x1x64x256 .f32) (harg7 : arg7.IsWhole) (arg8 : Memref sig .tc .vmem S1x1x64x128 .f32) (harg8 : arg8.IsWhole) (arg9 : Memref sig .tc .vmem S1x1x64x128 .f32) (harg9 : arg9.IsWhole) (arg10 : Memref sig .tc .vmem S1x1x64x256 .f32) (harg10 : arg10.IsWhole) (arg11 : Memref sig .tc .vmem S1x1x128x1 .f32) (harg11 : arg11.IsWhole) (arg12 : Memref sig .tc .vmem S128x256 .f32) (harg12 : arg12.IsWhole)
    (hc : ¬first1 i) (q : Vec F S1x1x64x128 .f32) (k : Vec F S1x1x64x128 .f32) (v : Vec F S1x1x64x256 .f32) (dec : Vec F S1x1x128x1 .f32) (st : Vec F S1x1x128x256 .f32) (dO : Vec F S1x1x64x256 .f32) (s : Vec F S128x256 .f32) (K : PUnit → sProp 𝕄) :
    iprop(owns (c : Thread nD τ) arg2 fullShare q
        ∗ owns (c : Thread nD τ) arg3 fullShare k
        ∗ owns (c : Thread nD τ) arg4 fullShare v
        ∗ owns (c : Thread nD τ) arg5 fullShare dec
        ∗ owns (c : Thread nD τ) arg6 fullShare st
        ∗ owns (c : Thread nD τ) arg7 fullShare dO
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ owns (c : Thread nD τ) arg12 fullShare s
        ∗ (iprop(owns (c : Thread nD τ) arg2 fullShare q
            ∗ owns (c : Thread nD τ) arg3 fullShare k
            ∗ owns (c : Thread nD τ) arg4 fullShare v
            ∗ owns (c : Thread nD τ) arg5 fullShare dec
            ∗ owns (c : Thread nD τ) arg6 fullShare st
            ∗ owns (c : Thread nD τ) arg7 fullShare dO
            ∗ owns (c : Thread nD τ) arg8 fullShare (k1_pay7 st dO)
            ∗ owns (c : Thread nD τ) arg9 fullShare (k1_pay8 s v)
            ∗ owns (c : Thread nD τ) arg10 fullShare (k1_pay1 s (k1_pay9 k))
            ∗ owns (c : Thread nD τ) arg11 fullShare (k1_pay2 (k1_pay5 st) s)
            ∗ owns (c : Thread nD τ) arg12 fullShare (next1 s dec q dO)) -∗ K ⟨⟩))
      ⊢ wp frame (wpE (defs₀ (F := F)) Variants.none c none) Set.univ
          (cc1_gla_scan_bwd i arg2 harg2 arg3 harg3 arg4 harg4 arg5 harg5 arg6 harg6 arg7 harg7 arg8 harg8 arg9 harg9 arg10 harg10 arg11 harg11 arg12 harg12) K := by
  simp only [cc1_gla_scan_bwd_eq_skeleton]; unfold cc1_gla_scan_bwd_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs, %hfs, HS⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg12.eq_unread hfs
  sl_exec (disch := first | sl_exact hc)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    swap; · iexact H6
    ipureintro; exact (View.read_writes_full _ _ _ _ _).trans (congrArg₂ k1_pay7 ((View.readAt_full _ _ _).trans hf4) ((View.readAt_full _ _ _).trans hf5))
  isplitl [H7]
  · iexists _; isplitr
    swap; · iexact H7
    ipureintro; exact (View.read_writes_full _ _ _ _ _).trans (congrArg₂ k1_pay8 ((View.readAt_full _ _ _).trans hfs) ((View.readAt_full _ _ _).trans hf2))
  isplitl [H8]
  · iexists _; isplitr
    swap; · iexact H8
    ipureintro; exact (View.read_writes_full _ _ _ _ _).trans (congrArg₂ k1_pay1 ((View.readAt_full _ _ _).trans hfs) (congrArg k1_pay9 ((View.readAt_full _ _ _).trans hf1)))
  isplitl [H9]
  · iexists _; isplitr
    swap; · iexact H9
    ipureintro; exact (View.read_writes_full _ _ _ _ _).trans (congrArg₂ k1_pay2 (congrArg k1_pay5 ((View.readAt_full _ _ _).trans hf4)) ((View.readAt_full _ _ _).trans hfs))
  iexists _; isplitr
  swap; · iexact HS
  ipureintro
  exact (View.read_writes_full _ _ _ _ _).trans
    (congr (congr (congrArg₂ k1_pay3 ((View.readAt_full _ _ _).trans hfs) (congrArg k1_pay6 ((View.readAt_full _ _ _).trans hf5))) ((View.readAt_full _ _ _).trans hf3)) ((View.readAt_full _ _ _).trans hf0))

set_option maxHeartbeats 1000000 in
/-- The body at a stream's first point: the same from the cleared scratch, whatever it held. -/
theorem body1_first (c : Dev nD) (i : grid1.Coords) (arg2 : Memref sig .tc .vmem S1x1x64x128 .f32) (harg2 : arg2.IsWhole) (arg3 : Memref sig .tc .vmem S1x1x64x128 .f32) (harg3 : arg3.IsWhole) (arg4 : Memref sig .tc .vmem S1x1x64x256 .f32) (harg4 : arg4.IsWhole) (arg5 : Memref sig .tc .vmem S1x1x128x1 .f32) (harg5 : arg5.IsWhole) (arg6 : Memref sig .tc .vmem S1x1x128x256 .f32) (harg6 : arg6.IsWhole) (arg7 : Memref sig .tc .vmem S1x1x64x256 .f32) (harg7 : arg7.IsWhole) (arg8 : Memref sig .tc .vmem S1x1x64x128 .f32) (harg8 : arg8.IsWhole) (arg9 : Memref sig .tc .vmem S1x1x64x128 .f32) (harg9 : arg9.IsWhole) (arg10 : Memref sig .tc .vmem S1x1x64x256 .f32) (harg10 : arg10.IsWhole) (arg11 : Memref sig .tc .vmem S1x1x128x1 .f32) (harg11 : arg11.IsWhole) (arg12 : Memref sig .tc .vmem S128x256 .f32) (harg12 : arg12.IsWhole)
    (hc : first1 i) (q : Vec F S1x1x64x128 .f32) (k : Vec F S1x1x64x128 .f32) (v : Vec F S1x1x64x256 .f32) (dec : Vec F S1x1x128x1 .f32) (st : Vec F S1x1x128x256 .f32) (dO : Vec F S1x1x64x256 .f32) (K : PUnit → sProp 𝕄) :
    iprop(owns (c : Thread nD τ) arg2 fullShare q
        ∗ owns (c : Thread nD τ) arg3 fullShare k
        ∗ owns (c : Thread nD τ) arg4 fullShare v
        ∗ owns (c : Thread nD τ) arg5 fullShare dec
        ∗ owns (c : Thread nD τ) arg6 fullShare st
        ∗ owns (c : Thread nD τ) arg7 fullShare dO
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (iprop(owns (c : Thread nD τ) arg2 fullShare q
            ∗ owns (c : Thread nD τ) arg3 fullShare k
            ∗ owns (c : Thread nD τ) arg4 fullShare v
            ∗ owns (c : Thread nD τ) arg5 fullShare dec
            ∗ owns (c : Thread nD τ) arg6 fullShare st
            ∗ owns (c : Thread nD τ) arg7 fullShare dO
            ∗ owns (c : Thread nD τ) arg8 fullShare (k1_pay7 st dO)
            ∗ owns (c : Thread nD τ) arg9 fullShare (k1_pay8 k1_pay4 v)
            ∗ owns (c : Thread nD τ) arg10 fullShare (k1_pay1 k1_pay4 (k1_pay9 k))
            ∗ owns (c : Thread nD τ) arg11 fullShare (k1_pay2 (k1_pay5 st) k1_pay4)
            ∗ owns (c : Thread nD τ) arg12 fullShare (next1 k1_pay4 dec q dO)) -∗ K ⟨⟩))
      ⊢ wp frame (wpE (defs₀ (F := F)) Variants.none c none) Set.univ
          (cc1_gla_scan_bwd i arg2 harg2 arg3 harg3 arg4 harg4 arg5 harg5 arg6 harg6 arg7 harg7 arg8 harg8 arg9 harg9 arg10 harg10 arg11 harg11 arg12 harg12) K := by
  simp only [cc1_gla_scan_bwd_eq_skeleton]; unfold cc1_gla_scan_bwd_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds, %fs, -, HS⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  sl_exec (disch := first | sl_exact hc)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    swap; · iexact H6
    ipureintro; exact (View.read_writes_full _ _ _ _ _).trans (congrArg₂ k1_pay7 ((View.readAt_full _ _ _).trans hf4) ((View.readAt_full _ _ _).trans hf5))
  isplitl [H7]
  · iexists _; isplitr
    swap; · iexact H7
    ipureintro; exact (View.read_writes_full _ _ _ _ _).trans (congrArg₂ k1_pay8 (View.readCov_full _ _ _ _ _) ((View.readAt_full _ _ _).trans hf2))
  isplitl [H8]
  · iexists _; isplitr
    swap; · iexact H8
    ipureintro; exact (View.read_writes_full _ _ _ _ _).trans (congrArg₂ k1_pay1 (View.readCov_full _ _ _ _ _) (congrArg k1_pay9 ((View.readAt_full _ _ _).trans hf1)))
  isplitl [H9]
  · iexists _; isplitr
    swap; · iexact H9
    ipureintro; exact (View.read_writes_full _ _ _ _ _).trans (congrArg₂ k1_pay2 (congrArg k1_pay5 ((View.readAt_full _ _ _).trans hf4)) (View.readCov_full _ _ _ _ _))
  iexists _; isplitr
  swap; · iexact HS
  ipureintro
  exact (View.read_writes_full _ _ _ _ _).trans
    (congr (congr (congrArg₂ k1_pay3 (View.readCov_full _ _ _ _ _) (congrArg k1_pay6 ((View.readAt_full _ _ _).trans hf5))) ((View.readAt_full _ _ _).trans hf3)) ((View.readAt_full _ _ _).trans hf0))

variable (V : Dev nD → Valuation τ sig (Elt F))

/-- The block of window `w`'s array at point `t`, over the contents at entry. -/
def blk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The gradient point `n` works from: zero at a stream's first point, else what the point before left. -/
def enter1 (c : Dev nD) : (n : ℕ) → n < cfg1.N → Vec F S128x256 .f32
  | 0, _ => k1_pay4
  | n + 1, h => if (n + 1) % 32 = 0 then k1_pay4 else
      next1 (enter1 c n (by omega)) (blk1 V c 3 ⟨n, by omega⟩) (blk1 V c 0 ⟨n, by omega⟩) (blk1 V c 5 ⟨n, by omega⟩)

/-- The gradient point `n` leaves in the scratch. -/
def leave1 (c : Dev nD) (n : ℕ) (h : n < cfg1.N) : Vec F S128x256 .f32 :=
  next1 (enter1 V c n h) (blk1 V c 3 ⟨n, h⟩) (blk1 V c 0 ⟨n, h⟩) (blk1 V c 5 ⟨n, h⟩)

theorem enter1_first (c : Dev nD) (n : ℕ) (h : n < cfg1.N) (h0 : n % 32 = 0) : enter1 V c n h = k1_pay4 := by
  cases n with
  | zero => rfl
  | succ n => rw [enter1, if_pos h0]

theorem enter1_later (c : Dev nD) (n : ℕ) (h : n + 1 < cfg1.N) (h0 : ¬(n + 1) % 32 = 0) :
    enter1 V c (n + 1) h = leave1 V c n (by omega) := by
  rw [enter1, if_neg h0]; rfl

/-- The call's scratch. -/
abbrev scr1 : Memref sig .tc .vmem S128x256 .f32 := Memref.whole cc1_scratch0

/-- The other scoped buffers, at any contents. -/
abbrev rest1 (c : Dev nD) : sProp 𝕄 := Pipeline.scopedRestBut spec1 c [cc1_scratch0]

/-- The scoped buffers beside the staging buffers: the scratch and the rest. -/
theorem scoped1 (c : Dev nD) :
    (Pipeline.scopedRest spec1 c : sProp 𝕄) = iprop((∃ d, owns (c : Thread nD τ) scr1 fullShare d) ∗ rest1 c) := by
  rw [Pipeline.scopedRest_split_of_list spec1 c [cc1_scratch0] (by decide) (by decide), bigSepL_singleton]
  simp only [scr1, owns_whole]; rfl

/-- Between points: before the first the scratch holds anything, after point `n` the gradient it left. -/
def inv1 (c : Dev nD) : (n : ℕ) → n ≤ cfg1.N → sProp 𝕄
  | 0, _ => Pipeline.scopedRest spec1 c
  | n + 1, h => iprop(owns (c : Thread nD τ) scr1 fullShare (leave1 V c n (by omega)) ∗ rest1 c)

/-- Region 1's proof data. -/
def dat1 (c : Dev nD) : Dat τ (Elt F) Unit ℕ (UR sig nD τ) ℕ cfg1 c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => k1_pay7 (blk1 V c 4 t) (blk1 V c 5 t)
    | ⟨7, _⟩ => k1_pay8 (enter1 V c t.val t.isLt) (blk1 V c 2 t)
    | ⟨8, _⟩ => k1_pay1 (enter1 V c t.val t.isLt) (k1_pay9 (blk1 V c 1 t))
    | ⟨9, _⟩ => k1_pay2 (k1_pay5 (blk1 V c 4 t)) (enter1 V c t.val t.isLt)
  Φ t := inv1 V c t.val (Nat.le_of_lt_succ t.isLt)
  q _ := fullShare
  owed _ := 0

theorem dat1_A (c : Dev nD) (w : Fin cfg1.W) : (dat1 V c).A w = V c (Proc.devRef .tc (Pipeline.arrRef spec1 w)) := by
  dsimp only [dat1]

theorem dat1_Φ (c : Dev nD) (t : Fin cfg1.N) : (dat1 V c).Φ t.castSucc = inv1 V c t.val (Nat.le_of_lt t.isLt) := by
  dsimp only [dat1]; exact Pipeline.Dat.Φ_castSucc (inv1 V c) t

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = k1_pay7 (blk1 V c 4 t) (blk1 V c 5 t) := by dsimp only [dat1]
theorem after1_7 (c : Dev nD) (t : Fin cfg1.N) : (dat1 V c).after 7 t = k1_pay8 (enter1 V c t.val t.isLt) (blk1 V c 2 t) := by dsimp only [dat1]
theorem after1_8 (c : Dev nD) (t : Fin cfg1.N) : (dat1 V c).after 8 t = k1_pay1 (enter1 V c t.val t.isLt) (k1_pay9 (blk1 V c 1 t)) := by dsimp only [dat1]
theorem after1_9 (c : Dev nD) (t : Fin cfg1.N) : (dat1 V c).after 9 t = k1_pay2 (k1_pay5 (blk1 V c 4 t)) (enter1 V c t.val t.isLt) := by dsimp only [dat1]

theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [dat1_A]; try rfl) t d).trans
    (by unfold Dat.fetched Dat.blockOf blk1; rw [dat1_A]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [dat1_A]; try rfl) t d).trans
    (by unfold Dat.fetched Dat.blockOf blk1; rw [dat1_A]; try rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [dat1_A]; try rfl) t d).trans
    (by unfold Dat.fetched Dat.blockOf blk1; rw [dat1_A]; try rfl)
theorem before1_3 (c : Dev nD) (t : Fin cfg1.N) (d) : (dat1 V c).before 3 t d = blk1 V c 3 t :=
  ((dat1 V c).before_in_eq_fetched 3 rfl (fun _ => rfl) (fun _ _ _ => rfl)
    (fun t => by rw [after1_3]; unfold Dat.blockOf blk1; rw [dat1_A]; try rfl) t d).trans
    (by unfold Dat.fetched Dat.blockOf blk1; rw [dat1_A]; try rfl)
theorem before1_4 (c : Dev nD) (t : Fin cfg1.N) (d) : (dat1 V c).before 4 t d = blk1 V c 4 t :=
  ((dat1 V c).before_in_eq_fetched 4 rfl (fun _ => rfl) (fun _ _ _ => rfl)
    (fun t => by rw [after1_4]; unfold Dat.blockOf blk1; rw [dat1_A]; try rfl) t d).trans
    (by unfold Dat.fetched Dat.blockOf blk1; rw [dat1_A]; try rfl)
theorem before1_5 (c : Dev nD) (t : Fin cfg1.N) (d) : (dat1 V c).before 5 t d = blk1 V c 5 t :=
  ((dat1 V c).before_in_eq_fetched 5 rfl (fun _ => rfl) (fun _ _ _ => rfl)
    (fun t => by rw [after1_5]; unfold Dat.blockOf blk1; rw [dat1_A]; try rfl) t d).trans
    (by unfold Dat.fetched Dat.blockOf blk1; rw [dat1_A]; try rfl)

/-- What the body is called with at point `t`, window by window. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at any point. -/
theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5]
  rw [show (dat1 V c).owesAt () t.succ = (dat1 V c).owesAt () t.castSucc from rfl,
    after1_0, after1_1, after1_2, after1_3, after1_4, after1_5, after1_6, after1_7, after1_8, after1_9, dat1_Φ]
  rw [show (dat1 V c).Φ t.succ = iprop(owns (c : Thread nD τ) scr1 fullShare (leave1 V c t.val t.isLt) ∗ rest1 c) from rfl]
  by_cases h0 : t.val % 32 = 0
  · have hΦ : (inv1 V c t.val (Nat.le_of_lt t.isLt) : sProp 𝕄) ⊢ iprop((∃ d, owns (c : Thread nD τ) scr1 fullShare d) ∗ rest1 c) := by
      obtain ⟨n, hn⟩ := t
      cases n with
      | zero => exact (show (inv1 V c 0 _ : sProp 𝕄) = _ from scoped1 c) ▸ .rfl
      | succ n =>
        show iprop(owns (c : Thread nD τ) scr1 fullShare (leave1 V c n _) ∗ rest1 c) ⊢ _
        iintro ⟨HS, HR⟩
        isplitl [HS]; · iexists _; iexact HS
        iexact HR
    unfold leave1
    rw [enter1_first V c t.val t.isLt h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HΦ' := hΦ $$ HΦ
    icases HΦ' with ⟨HS, HR⟩
    iapply (body1_first c (grid1.coords t) (st1_0 t) _ (st1_1 t) _ (st1_2 t) _ (st1_3 t) _ (st1_4 t) _ (st1_5 t) _ (st1_6 t) _ (st1_7 t) _ (st1_8 t) _ (st1_9 t) _ scr1 _
      ((first1_iff t).mpr h0) _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS]; · iexact HS
    iintro ⟨G0, G1, G2, G3, G4, G5, G6, G7, G8, G9, GS⟩
    isplitl [GS HR]
    · isplitl [GS]; · iexact GS
      iexact HR
    isplitl [Ho]; · iexact Ho
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    iexact G9
  · obtain ⟨n, hn⟩ := t
    cases n with
    | zero => exact absurd rfl h0
    | succ n =>
    rw [show (inv1 V c (⟨n + 1, hn⟩ : Fin cfg1.N).val _ : sProp 𝕄) = iprop(owns (c : Thread nD τ) scr1 fullShare (leave1 V c n (by omega)) ∗ rest1 c) from rfl]
    rw [← enter1_later V c n hn h0]
    unfold leave1
    iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body1_later c (grid1.coords ⟨n + 1, hn⟩) (st1_0 _) _ (st1_1 _) _ (st1_2 _) _ (st1_3 _) _ (st1_4 _) _ (st1_5 _) _ (st1_6 _) _ (st1_7 _) _ (st1_8 _) _ (st1_9 _) _ scr1 _
      (fun h => h0 ((first1_iff ⟨n + 1, hn⟩).mp h)) _ _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS]; · iexact HS
    iintro ⟨G0, G1, G2, G3, G4, G5, G6, G7, G8, G9, GS⟩
    isplitl [GS HR]
    · isplitl [GS]; · iexact GS
      iexact HR
    isplitl [Ho]; · iexact Ho
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    iexact G9

/-- The body's row of the table at point `t`. -/
theorem row1 (t : Fin cfg1.N) : defs₀ (F := F) .tc cfg1.body (cfg1.bodyArgs t (cfg1.slots t)) = bodyAt1 t := by
  unfold defs₀; rw [Defs.onTc_tc]

/-- The library's obligation on the body. -/
theorem obligation1 (c : Dev nD) : BodyObligation (dat1 V c) (defs₀ (F := F)) Variants.none () Set.univ := fun t => by
  rw [bigSep_W1, bigSep_W1, row1]
  exact triple_restated (point1 V c t) rfl .rfl fun _ => .rfl

/-- The invariant before the first point. -/
theorem in1 (c : Dev nD) : iprop(Pipeline.scopedRest spec1 c ∗ (BI.emp : sProp 𝕄)) ⊢ (dat1 V c).Φ 0 := by
  rw [show (dat1 V c).Φ 0 = Pipeline.scopedRest spec1 c from rfl]
  iintro ⟨H, -⟩; iexact H

/-- The invariant after the last point gives the scoped buffers back. -/
theorem out1 (c : Dev nD) : (dat1 V c).Φ (Fin.last cfg1.N) ⊢ iprop(Pipeline.scopedRest spec1 c ∗ (BI.emp : sProp 𝕄)) := by
  rw [scoped1]
  have h : ∀ (n : ℕ) (hn : n ≤ cfg1.N), n ≠ 0 → (inv1 V c n hn : sProp 𝕄) ⊢ iprop(((∃ d, owns (c : Thread nD τ) scr1 fullShare d) ∗ rest1 c) ∗ BI.emp) := by
    intro n hn h0
    cases n with
    | zero => exact absurd rfl h0
    | succ n =>
      show iprop(owns (c : Thread nD τ) scr1 fullShare (leave1 V c n _) ∗ rest1 c) ⊢ _
      iintro ⟨HS, HR⟩
      isplitl [HS HR]
      · isplitl [HS]; · iexists _; iexact HS
        iexact HR
      iempintro
  exact h cfg1.N le_rfl (by rw [show cfg1.N = 256 from N_1]; omega)

end Cert.Scan
-- ==== Proof.Run.lean ====
module

public import proofs.«01_k».proof.Proof.Bwd
public import proofs.«01_k».proof.Proof.Gen.KernelIdeal.Regions
public import Idealize.ShloMosaic.Lib.Pipeline.RegionArraysS

/-!
# The run of the two regions

The program is region 0 and then region 1. Between them a core holds every unscoped buffer at a known valuation: the
launch contents, then those with region 0's arrays as it leaves them, then those with region 1's arrays as it leaves them.
-/

@[expose] public section

set_option maxRecDepth 16384

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents at launch, per core. -/
abbrev w0 : Dev nD → Valuation τ sig (Elt F) := fun c b => m (c, b)

/-- The contents after region 0. -/
def w1 : Dev nD → Valuation τ sig (Elt F) := fun c => Pipeline.afterRegion (dat0 (w0 m) c) (w0 m c)

/-- The contents after region 1. -/
def w2 : Dev nD → Valuation τ sig (Elt F) := fun c => Pipeline.afterRegion (dat1 (w1 m) c) (w1 m c)

/-- Both regions' proof data. -/
def data : (p : Fin 2) → (c : Dev nD) → Dat τ (Elt F) Unit ℕ (UR sig nD τ) ℕ (cfgs p) c
  | ⟨0, _⟩ => fun c => dat0 (w0 m) c
  | ⟨1, _⟩ => fun c => dat1 (w1 m) c

/-- Every cell of a TensorCore has the one index. -/
def lev : GSem nD τ sig → Finset Unit := fun g => if g.1.2 = .tc then {()} else ∅

theorem lev_tc (g : GSem nD τ sig) (h : g.1.2 = .tc) : () ∈ lev g := by
  unfold lev; rw [if_pos h]; exact Finset.mem_singleton_self _

/-- What rides beside the buffers: the core owes nothing. -/
abbrev idle (c : Dev nD) : sProp 𝕄 :=
  iprop((∃ W, owes (c : Thread nD τ) (0 : CellTallies nD τ sig Unit) W) ∗ BI.emp ∗ BI.emp)

theorem cut (p : Fin 2) : Pipeline.LevelCut (pcfgs (F := F)) adm () lev (fun _ _ => (0 : ℕ)) p (0 : Dev nD → CellTallies nD τ sig Unit) (fun _ => 0) where
  hι c w s := lev_tc _ rfl
  hιb _ _ _ := le_rfl
  hD _ _ _ h := absurd h (lt_irrefl _)

/-- Region 0's record: every unscoped buffer held, entered at `w0` and left at `w1`. -/
def seg0 : RegionSeg (pcfgs (F := F)) adm (data m) () defs₀ Variants.none lev (fun _ _ => (0 : ℕ)) 0 :=
  RegionSeg.ofHeldIn (pcfgs (F := F)) adm (data m) () defs₀ Variants.none lev (fun _ _ => (0 : ℕ)) 0 0
    (Pipeline.ucRefs τ sig) (fun _ => BI.emp) (fun _ => BI.emp) launch0.toP rfl
    (fun c => (obligation0 (w0 m) c).loose) (fun _ _ => rfl) (fun _ => rfl)
    (fun c => (dat0 (w0 m) c).share_full fun _ => rfl) (in0 (w0 m)) (out0 (w0 m)) (fun _ => 0) (cut 0)
    (fun _ => BI.emp) (w0 m) (fun c w => dat0_A (w0 m) c w)

/-- Region 0's arrays are among the unscoped buffers. -/
theorem arrs0 : Pipeline.arrRefs (τ := τ) (pcfgs (F := F) 0).spec ⊆ Pipeline.ucRefs τ sig :=
  Pipeline.arrRefs_sub_ucRefs spec0 (by decide)

theorem seg0_pre (c : Dev nD) :
    iprop(StableHlo.held (c : Thread nD τ) (Pipeline.ucRefs τ sig) (w0 m c) ∗ idle c) ⊢ (seg0 m).pre c :=
  RegionSeg.ofHeldIn_pre (pcs := pcfgs (F := F)) (a := adm) (pdats := data m) (p := 0) (D := 0) (S := Pipeline.ucRefs τ sig) (X := fun _ => BI.emp)
    (Y := fun _ => BI.emp) (R := fun _ => BI.emp) (W := w0 m) (arrs0 (F := F)) c

theorem seg0_post (c : Dev nD) :
    (seg0 m).post c ⊢ iprop(StableHlo.held (c : Thread nD τ) (Pipeline.ucRefs τ sig) (w1 m c) ∗ idle c) :=
  RegionSeg.ofHeldIn_post (pcs := pcfgs (F := F)) (a := adm) (pdats := data m) (p := 0) (D := 0) (S := Pipeline.ucRefs τ sig) (X := fun _ => BI.emp)
    (Y := fun _ => BI.emp) (R := fun _ => BI.emp) (W := w0 m) (arrs0 (F := F)) c

/-- Region 1's record: every unscoped buffer held, entered at `w1` and left at `w2`. -/
def seg1 : RegionSeg (pcfgs (F := F)) adm (data m) () defs₀ Variants.none lev (fun _ _ => (0 : ℕ)) 1 :=
  RegionSeg.ofHeldIn (pcfgs (F := F)) adm (data m) () defs₀ Variants.none lev (fun _ _ => (0 : ℕ)) 1 0
    (Pipeline.ucRefs τ sig) (fun _ => BI.emp) (fun _ => BI.emp) launch1.toP rfl
    (fun c => (obligation1 (w1 m) c).loose) (fun _ _ => rfl) (fun _ => rfl)
    (fun c => (dat1 (w1 m) c).share_full fun _ => rfl) (in1 (w1 m)) (out1 (w1 m)) (fun _ => 0) (cut 1)
    (fun _ => BI.emp) (w1 m) (fun c w => dat1_A (w1 m) c w)

/-- Region 1's arrays are among the unscoped buffers. -/
theorem arrs1 : Pipeline.arrRefs (τ := τ) (pcfgs (F := F) 1).spec ⊆ Pipeline.ucRefs τ sig :=
  Pipeline.arrRefs_sub_ucRefs spec1 (by decide)

theorem seg1_pre (c : Dev nD) :
    iprop(StableHlo.held (c : Thread nD τ) (Pipeline.ucRefs τ sig) (w1 m c) ∗ idle c) ⊢ (seg1 m).pre c :=
  RegionSeg.ofHeldIn_pre (pcs := pcfgs (F := F)) (a := adm) (pdats := data m) (p := 1) (D := 0) (S := Pipeline.ucRefs τ sig) (X := fun _ => BI.emp)
    (Y := fun _ => BI.emp) (R := fun _ => BI.emp) (W := w1 m) (arrs1 (F := F)) c

theorem seg1_post (c : Dev nD) :
    (seg1 m).post c ⊢ iprop(StableHlo.held (c : Thread nD τ) (Pipeline.ucRefs τ sig) (w2 m c) ∗ idle c) :=
  RegionSeg.ofHeldIn_post (pcs := pcfgs (F := F)) (a := adm) (pdats := data m) (p := 1) (D := 0) (S := Pipeline.ucRefs τ sig) (X := fun _ => BI.emp)
    (Y := fun _ => BI.emp) (R := fun _ => BI.emp) (W := w1 m) (arrs1 (F := F)) c

set_option backward.isDefEq.respectTransparency.types false in
/-- Every weakly fair run ends, with every unscoped buffer at `w2` and every counter at zero. -/
theorem run_all : θ_run defs (onTc (τ := τ) (main (F := F))) ⟨m, fun _ => 0, ρ⟩ (fun r => (∀ c : Dev nD,
      ∀ b ∈ Pipeline.ucRefs τ sig, r.2.mem ((c.tc : Thread nD τ).1, b) = w2 m c b) ∧ r.2.sem = fun _ => 0) := by
  refine Pipeline.θ_run_regions_kit_dev_sems (pcfgs (F := F)) adm (data m) () cellOf_inj emb₁ defs₀ Variants.none lev (fun _ _ => (0 : ℕ)) m ρ main
    (fun _ => [.region (seg0 m), .region (seg1 m)])
    (fun c Q => by rw [main_chain c, Seg.run_eq_chain]; exact .rfl)
    (fun c => by simp only [Seg.pipes_region, Seg.pipes_nil]; decide)
    (O₀ := 0) (hL := fun g h => by unfold lev; rw [if_neg h]) (G := fun _ => BI.emp)
    (u₀ := initOf (Pipeline.cells cfgs cellOf_inj) (Pipeline.launchToks cfgs cellOf_inj)) (hu₀ := ?_)
    (T₀ := fun c => iprop(StableHlo.held (c : Thread nD τ) (Pipeline.ucRefs τ sig) (w0 m c) ∗ idle c))
    (Tₙ := fun c => StableHlo.held (c : Thread nD τ) (Pipeline.ucRefs τ sig) (w2 m c))
    (hch := fun c => ⟨seg0_pre m c, (seg0_post m c).trans (seg1_pre m c), (seg1_post m c).trans (sep_mono .rfl ?_)⟩)
    (hinit := ?_) (QY := fun c s => ∀ b ∈ Pipeline.ucRefs τ sig, s.mem ((c.tc : Thread nD τ).1, b) = w2 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · iintro ⟨HO, -, -⟩; iexact HO
  · refine Pipeline.initEach lev (fun _ _ => (0 : ℕ)) fun c => ?_
    rw [show unscopedBufs c (fun b => m ((c.tc : Thread nD τ).loc b)) = StableHlo.held (c.tc : Thread nD τ) (Pipeline.ucRefs τ sig) (w0 m c)
        from Pipeline.unscopedBufs_held (Ix := Unit) (Name := ℕ) (U := UR sig nD τ) (Lvl := ℕ) c (w0 m c)]
    iintro ⟨⟨Hh, -, HO, -, -, -⟩, -⟩
    imodintro
    isplitl [Hh]; · iexact Hh
    isplitl [HO]; · iexists _; iexact HO
    isplitl []
    · iempintro
    · iempintro
  · unfold StableHlo.held
    iintro ⟨Hh, HSI⟩
    ihave Hr := (pointsTo_read_all (Pipeline.ucRefs τ sig) (fun b => ((c.tc : Thread nD τ).1, b)) (w2 m c) s') $$ [Hh HSI]
    · isplitl [Hh] <;> iassumption
    imodintro; iexact Hr

/-- A buffer neither region writes ends as launched. -/
theorem w2_keeps (c : Dev nD) (r : Ref sig .tc) (h0 : ∀ w, Pipeline.arrRef spec0 w = r → (cfg0.win w).isOut = false)
    (h1 : ∀ w, Pipeline.arrRef spec1 w = r → (cfg1.win w).isOut = false) :
    w2 m c (Proc.devRef .tc r) = m ((c.tc : Thread nD τ).loc r) :=
  (Pipeline.afterRegion_keeps (dat1 (w1 m) c) (w1 m c) winFacts1.arr_inj (dat1_A (w1 m) c) r h1).trans
    (Pipeline.afterRegion_keeps (dat0 (w0 m) c) (w0 m c) winFacts0.arr_inj (dat0_A (w0 m) c) r h0)

/-- The unscoped buffers are among those held. -/
theorem uc (r : Ref sig .tc) (h : r.isScoped = false) : Proc.devRef .tc r ∈ Pipeline.ucRefs τ sig :=
  Pipeline.devRef_mem_ucRefs h

/-- Every argument ends as launched and every counter at zero: the frame, at any float interpretation. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c _ (uc main_arg0 (by decide))).trans (w2_keeps m c main_arg0 (by decide) (by decide)),
      (h.1 c _ (uc main_arg1 (by decide))).trans (w2_keeps m c main_arg1 (by decide) (by decide)),
      (h.1 c _ (uc main_arg2 (by decide))).trans (w2_keeps m c main_arg2 (by decide) (by decide)),
      (h.1 c _ (uc main_arg3 (by decide))).trans (w2_keeps m c main_arg3 (by decide) (by decide)),
      (h.1 c _ (uc main_arg4 (by decide))).trans (w2_keeps m c main_arg4 (by decide) (by decide))⟩,
    h.2⟩) (run_all m ρ)

end Cert.Scan
-- ==== Proof.Same.lean ====
module
public import proofs.«01_k».proof.Defs
public import proofs.«01_k».proof.Proof.Gen.Kernel
public import proofs.«01_k».proof.Proof.Run
/-! The kernel is printed twice, once for the frame over bits and once for the idealized claims, and the two
printings are the same program. So the run proved for the one is the run of the other. -/
@[expose] public section
noncomputable section
namespace Cert.Proof
open Idealize.ShloMosaic Idealize.ShloMosaic.TcCoe Idealize.SL.Sem

/-- The two printings of call 0's body are one program. -/
theorem body0 : @Cert.Kernel.cc0_gla_scan_fwd Bits _ _ = @Cert.KernelIdeal.cc0_gla_scan_fwd Bits _ _ := rfl

set_option maxHeartbeats 4000000 in
theorem body0_at (i i' : Cert.KernelIdeal.grid0.Coords) (arg2 : Memref Cert.KernelIdeal.sig .tc .vmem
      Cert.KernelIdeal.S1x1x64x128 .f32) (harg2 : arg2.IsWhole) (arg3 : Memref Cert.KernelIdeal.sig .tc .vmem
      Cert.KernelIdeal.S1x1x64x128 .f32) (harg3 : arg3.IsWhole) (arg4 : Memref Cert.KernelIdeal.sig .tc .vmem
      Cert.KernelIdeal.S1x1x64x256 .f32) (harg4 : arg4.IsWhole) (arg5 : Memref Cert.KernelIdeal.sig .tc .vmem
      Cert.KernelIdeal.S1x1x128x1 .f32) (harg5 : arg5.IsWhole) (arg6 : Memref Cert.KernelIdeal.sig .tc .vmem
      Cert.KernelIdeal.S1x1x64x256 .f32) (harg6 : arg6.IsWhole) (arg7 : Memref Cert.KernelIdeal.sig .tc .vmem
      Cert.KernelIdeal.S1x1x128x256 .f32) (harg7 : arg7.IsWhole) (arg8 : Memref Cert.KernelIdeal.sig .tc .vmem
      Cert.KernelIdeal.S128x256 .f32) (harg8 : arg8.IsWhole) (arg2' : Memref Cert.KernelIdeal.sig .tc .vmem
      Cert.KernelIdeal.S1x1x64x128 .f32) (harg2' : arg2'.IsWhole) (arg3' : Memref Cert.KernelIdeal.sig .tc .vmem
      Cert.KernelIdeal.S1x1x64x128 .f32) (harg3' : arg3'.IsWhole) (arg4' : Memref Cert.KernelIdeal.sig .tc .vmem
      Cert.KernelIdeal.S1x1x64x256 .f32) (harg4' : arg4'.IsWhole) (arg5' : Memref Cert.KernelIdeal.sig .tc .vmem
      Cert.KernelIdeal.S1x1x128x1 .f32) (harg5' : arg5'.IsWhole) (arg6' : Memref Cert.KernelIdeal.sig .tc .vmem
      Cert.KernelIdeal.S1x1x64x256 .f32) (harg6' : arg6'.IsWhole) (arg7' : Memref Cert.KernelIdeal.sig .tc .vmem
      Cert.KernelIdeal.S1x1x128x256 .f32) (harg7' : arg7'.IsWhole) (arg8' : Memref Cert.KernelIdeal.sig .tc .vmem
      Cert.KernelIdeal.S128x256 .f32) (harg8' : arg8'.IsWhole)
    (ei : i = i') (earg2 : arg2 = arg2') (earg3 : arg3 = arg3') (earg4 : arg4 = arg4') (earg5 : arg5 = arg5')
      (earg6 : arg6 = arg6') (earg7 : arg7 = arg7') (earg8 : arg8 = arg8') :
    @Cert.Kernel.cc0_gla_scan_fwd Bits _ _ i arg2 harg2 arg3 harg3 arg4 harg4 arg5 harg5 arg6 harg6 arg7 harg7 arg8
      harg8 = @Cert.KernelIdeal.cc0_gla_scan_fwd Bits _ _ i' arg2' harg2' arg3' harg3' arg4' harg4' arg5' harg5'
      arg6' harg6' arg7' harg7' arg8' harg8' := by
  subst ei earg2 earg3 earg4 earg5 earg6 earg7 earg8
  exact congrFun (congrFun (congrFun (congrFun (congrFun (congrFun (congrFun (congrFun (congrFun (congrFun
      (congrFun (congrFun (congrFun (congrFun (congrFun body0 i) arg2) harg2) arg3) harg3) arg4) harg4) arg5)
      harg5) arg6) harg6) arg7) harg7) arg8) harg8

/-- The two printings of call 1's body are one program. -/
theorem body1 : @Cert.Kernel.cc1_gla_scan_bwd Bits _ _ = @Cert.KernelIdeal.cc1_gla_scan_bwd Bits _ _ := rfl

set_option maxHeartbeats 4000000 in
theorem body1_at (i i' : Cert.KernelIdeal.grid1.Coords) (arg2 : Memref Cert.KernelIdeal.sig .tc .vmem
      Cert.KernelIdeal.S1x1x64x128 .f32) (harg2 : arg2.IsWhole) (arg3 : Memref Cert.KernelIdeal.sig .tc .vmem
      Cert.KernelIdeal.S1x1x64x128 .f32) (harg3 : arg3.IsWhole) (arg4 : Memref Cert.KernelIdeal.sig .tc .vmem
      Cert.KernelIdeal.S1x1x64x256 .f32) (harg4 : arg4.IsWhole) (arg5 : Memref Cert.KernelIdeal.sig .tc .vmem
      Cert.KernelIdeal.S1x1x128x1 .f32) (harg5 : arg5.IsWhole) (arg6 : Memref Cert.KernelIdeal.sig .tc .vmem
      Cert.KernelIdeal.S1x1x128x256 .f32) (harg6 : arg6.IsWhole) (arg7 : Memref Cert.KernelIdeal.sig .tc .vmem
      Cert.KernelIdeal.S1x1x64x256 .f32) (harg7 : arg7.IsWhole) (arg8 : Memref Cert.KernelIdeal.sig .tc .vmem
      Cert.KernelIdeal.S1x1x64x128 .f32) (harg8 : arg8.IsWhole) (arg9 : Memref Cert.KernelIdeal.sig .tc .vmem
      Cert.KernelIdeal.S1x1x64x128 .f32) (harg9 : arg9.IsWhole) (arg10 : Memref Cert.KernelIdeal.sig .tc .vmem
      Cert.KernelIdeal.S1x1x64x256 .f32) (harg10 : arg10.IsWhole) (arg11 : Memref Cert.KernelIdeal.sig .tc .vmem
      Cert.KernelIdeal.S1x1x128x1 .f32) (harg11 : arg11.IsWhole) (arg12 : Memref Cert.KernelIdeal.sig .tc .vmem
      Cert.KernelIdeal.S128x256 .f32) (harg12 : arg12.IsWhole) (arg2' : Memref Cert.KernelIdeal.sig .tc .vmem
      Cert.KernelIdeal.S1x1x64x128 .f32) (harg2' : arg2'.IsWhole) (arg3' : Memref Cert.KernelIdeal.sig .tc .vmem
      Cert.KernelIdeal.S1x1x64x128 .f32) (harg3' : arg3'.IsWhole) (arg4' : Memref Cert.KernelIdeal.sig .tc .vmem
      Cert.KernelIdeal.S1x1x64x256 .f32) (harg4' : arg4'.IsWhole) (arg5' : Memref Cert.KernelIdeal.sig .tc .vmem
      Cert.KernelIdeal.S1x1x128x1 .f32) (harg5' : arg5'.IsWhole) (arg6' : Memref Cert.KernelIdeal.sig .tc .vmem
      Cert.KernelIdeal.S1x1x128x256 .f32) (harg6' : arg6'.IsWhole) (arg7' : Memref Cert.KernelIdeal.sig .tc .vmem
      Cert.KernelIdeal.S1x1x64x256 .f32) (harg7' : arg7'.IsWhole) (arg8' : Memref Cert.KernelIdeal.sig .tc .vmem
      Cert.KernelIdeal.S1x1x64x128 .f32) (harg8' : arg8'.IsWhole) (arg9' : Memref Cert.KernelIdeal.sig .tc .vmem
      Cert.KernelIdeal.S1x1x64x128 .f32) (harg9' : arg9'.IsWhole) (arg10' : Memref Cert.KernelIdeal.sig .tc .vmem
      Cert.KernelIdeal.S1x1x64x256 .f32) (harg10' : arg10'.IsWhole) (arg11' : Memref Cert.KernelIdeal.sig .tc .vmem
      Cert.KernelIdeal.S1x1x128x1 .f32) (harg11' : arg11'.IsWhole) (arg12' : Memref Cert.KernelIdeal.sig .tc .vmem
      Cert.KernelIdeal.S128x256 .f32) (harg12' : arg12'.IsWhole)
    (ei : i = i') (earg2 : arg2 = arg2') (earg3 : arg3 = arg3') (earg4 : arg4 = arg4') (earg5 : arg5 = arg5')
      (earg6 : arg6 = arg6') (earg7 : arg7 = arg7') (earg8 : arg8 = arg8') (earg9 : arg9 = arg9') (earg10 : arg10 =
      arg10') (earg11 : arg11 = arg11') (earg12 : arg12 = arg12') :
    @Cert.Kernel.cc1_gla_scan_bwd Bits _ _ i arg2 harg2 arg3 harg3 arg4 harg4 arg5 harg5 arg6 harg6 arg7 harg7 arg8
      harg8 arg9 harg9 arg10 harg10 arg11 harg11 arg12 harg12 = @Cert.KernelIdeal.cc1_gla_scan_bwd Bits _ _ i'
      arg2' harg2' arg3' harg3' arg4' harg4' arg5' harg5' arg6' harg6' arg7' harg7' arg8' harg8' arg9' harg9'
      arg10' harg10' arg11' harg11' arg12' harg12' := by
  subst ei earg2 earg3 earg4 earg5 earg6 earg7 earg8 earg9 earg10 earg11 earg12
  exact congrFun (congrFun (congrFun (congrFun (congrFun (congrFun (congrFun (congrFun (congrFun (congrFun
      (congrFun (congrFun (congrFun (congrFun (congrFun (congrFun (congrFun (congrFun (congrFun (congrFun (congrFun
      (congrFun (congrFun body1 i) arg2) harg2) arg3) harg3) arg4) harg4) arg5) harg5) arg6) harg6) arg7) harg7)
      arg8) harg8) arg9) harg9) arg10) harg10) arg11) harg11) arg12) harg12

set_option maxHeartbeats 4000000 in
theorem bodies_same : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig)
    (Val := Elt Bits)) (funext fun l => funext fun x => ?_)
  match l, x with
  | ⟨0, _⟩, (t, s) =>
    exact body0_at _ _ _ _ _ _ _ _ _ _ _ _ _ _ _ _ _ _ _ _ _ _ _ _ _ _ _ _ _ _ rfl rfl rfl rfl
      rfl rfl rfl rfl
  | ⟨1, _⟩, (t, s) =>
    exact body1_at _ _ _ _ _ _ _ _ _ _ _ _ _ _ _ _ _ _ _ _ _ _ _ _ _ _ _ _ _ _ _ _ _ _ _ _ _ _ _
      _ _ _ _ _ _ _ rfl rfl rfl rfl rfl rfl rfl rfl rfl rfl rfl rfl
  | ⟨_ + 2, h⟩, _ => exact absurd h (Nat.not_lt.2 (Nat.le_add_left _ _))

theorem defs_same : Cert.Kernel.defs (F := Bits) = Cert.KernelIdeal.defs (F := Bits) :=
  congrArg (Pipeline.defs (Cert.KernelIdeal.pcfgs (F := Bits))) bodies_same

theorem frame_kernel : Cert.quiescent_Kernel := fun m ρ _ => by
  have h := Cert.Scan.run_main (F := Bits) m ρ
  rw [← defs_same] at h
  exact h
end Cert.Proof
-- ==== Proof.Math.lean ====
module

public import Idealize.ShloMosaic.Lib.Pipeline.ValueKit

/-!
The gated scan in plain arithmetic over the extended reals: the forward state, the backward state, the output and the
gradients, entry by entry.
-/

@[expose] public section

noncomputable section

namespace Cert.Math

open Idealize.ShloMosaic

/-- Queries and keys: stream, chunk, row, key feature. -/
abbrev KeyT := FVec Ideal (⟨4, ![8, 32, 64, 128]⟩ : Shape) .f32
/-- Values, and the output's cotangent: stream, chunk, row, value feature. -/
abbrev ValT := FVec Ideal (⟨4, ![8, 32, 64, 256]⟩ : Shape) .f32
/-- Decays: stream, chunk, key feature. -/
abbrev DecT := FVec Ideal (⟨4, ![8, 32, 128, 1]⟩ : Shape) .f32
/-- Saved states: stream, chunk, key feature, value feature. -/
abbrev StT := FVec Ideal (⟨4, ![8, 32, 128, 256]⟩ : Shape) .f32

/-- The `n`-th chunk. -/
abbrev ch (n : ℕ) : Fin 32 := Fin.ofNat 32 n

/-- The state of stream `g` before chunk `n`. -/
def state (k : KeyT) (v : ValT) (dec : DecT) (g : Fin 8) : ℕ → Fin 128 → Fin 256 → EReal
  | 0, _, _ => 0
  | n + 1, a, b => state k v dec g n a b * dec (ix4 g (ch n) a 0) + ∑ c : Fin 64, k (ix4 g (ch n) c a) * v (ix4 g (ch n) c b)

/-- The cotangent of stream `g`'s state after its last `n` chunks have been walked back. -/
def costate (q : KeyT) (dec : DecT) (dO : ValT) (g : Fin 8) : ℕ → Fin 128 → Fin 256 → EReal
  | 0, _, _ => 0
  | n + 1, a, b => costate q dec dO g n a b * dec (ix4 g (ch (31 - n)) a 0)
      + ∑ c : Fin 64, q (ix4 g (ch (31 - n)) c a) * dO (ix4 g (ch (31 - n)) c b)

/-- The states before each chunk. -/
def states (k : KeyT) (v : ValT) (dec : DecT) : StT := fun j => state k v dec (j 0) (j 1).val (j 2) (j 3)

/-- The output. -/
def out (q k : KeyT) (v : ValT) (dec : DecT) : ValT := fun j =>
  ∑ a : Fin 128, q (ix4 (j 0) (j 1) (j 2) a) * state k v dec (j 0) (j 1).val a (j 3)

/-- The gradient in the queries. -/
def gq (k : KeyT) (v : ValT) (dec : DecT) (dO : ValT) : KeyT := fun j =>
  ∑ b : Fin 256, dO (ix4 (j 0) (j 1) (j 2) b) * state k v dec (j 0) (j 1).val (j 3) b

/-- The gradient in the keys. -/
def gk (q : KeyT) (v : ValT) (dec : DecT) (dO : ValT) : KeyT := fun j =>
  ∑ b : Fin 256, v (ix4 (j 0) (j 1) (j 2) b) * costate q dec dO (j 0) (31 - (j 1).val) (j 3) b

/-- The gradient in the values. -/
def gv (q k : KeyT) (dec : DecT) (dO : ValT) : ValT := fun j =>
  ∑ a : Fin 128, k (ix4 (j 0) (j 1) (j 2) a) * costate q dec dO (j 0) (31 - (j 1).val) a (j 3)

/-- The gradient in the decays. -/
def gdec (q k : KeyT) (v : ValT) (dec : DecT) (dO : ValT) : DecT := fun j =>
  ∑ b : Fin 256, state k v dec (j 0) (j 1).val (j 2) b * costate q dec dO (j 0) (31 - (j 1).val) (j 2) b

end Cert.Math

end
-- ==== Proof.KerVal.lean ====
module

public import proofs.«01_k».proof.Proof.Run
public import proofs.«01_k».proof.Proof.Math

/-!
What the kernel's two regions leave, entry by entry: the carried states are the scan's, and the result arrays are the
scan's output and its gradients.
-/

@[expose] public section

set_option maxRecDepth 16384

noncomputable section

namespace Cert.Scan

open Cert.KernelIdeal Cert.KernelIdeal.Gen Cert.Math
open Idealize.ShloMosaic Idealize.ShloMosaic.TcCoe Idealize.ShloMosaic.Tactic

/-! ### The payloads, entry by entry -/

theorem next0_at (s : FVec Ideal S128x256 .f32) (k : FVec Ideal S1x1x64x128 .f32) (v : FVec Ideal S1x1x64x256 .f32) (dec : FVec Ideal S1x1x128x1 .f32)
    (a : Fin 128) (b : Fin 256) :
    next0 (F := Ideal) s k v dec (ix2 a b) = s (ix2 a b) * dec (ix4 0 0 a 0) + ∑ r : Fin 64, k (ix4 0 0 r a) * v (ix4 0 0 r b) := by
  pointwise [next0, k0_pay1, k0_pay5, k0_pay6, k0_pay7]
  done

theorem next1_at (d : FVec Ideal S128x256 .f32) (dec : FVec Ideal S1x1x128x1 .f32) (q : FVec Ideal S1x1x64x128 .f32) (dO : FVec Ideal S1x1x64x256 .f32)
    (a : Fin 128) (b : Fin 256) :
    next1 (F := Ideal) d dec q dO (ix2 a b) = d (ix2 a b) * dec (ix4 0 0 a 0) + ∑ r : Fin 64, q (ix4 0 0 r a) * dO (ix4 0 0 r b) := by
  pointwise [next1, k1_pay3, k1_pay6]
  done

theorem clear0_at (j : S128x256.Idx) : k0_pay2 (F := Ideal) j = 0 := by
  pointwise [k0_pay2]
  done

theorem clear1_at (j : S128x256.Idx) : k1_pay4 (F := Ideal) j = 0 := by
  pointwise [k1_pay4]
  done

theorem out_at (s : FVec Ideal S128x256 .f32) (q : FVec Ideal S1x1x64x128 .f32) (x y : Fin 1) (r : Fin 64) (b : Fin 256) :
    k0_pay4 (F := Ideal) s q (ix4 x y r b) = ∑ a : Fin 128, q (ix4 0 0 r a) * s (ix2 a b) := by
  pointwise [k0_pay4]
  done

theorem saved_at (s : FVec Ideal S128x256 .f32) (x y : Fin 1) (a : Fin 128) (b : Fin 256) :
    k0_pay3 (F := Ideal) s (ix4 x y a b) = s (ix2 a b) := by
  pointwise [k0_pay3]
  done

theorem dq_at (s : FVec Ideal S1x1x128x256 .f32) (dO : FVec Ideal S1x1x64x256 .f32) (x y : Fin 1) (r : Fin 64) (a : Fin 128) :
    k1_pay7 (F := Ideal) s dO (ix4 x y r a) = ∑ b : Fin 256, dO (ix4 0 0 r b) * s (ix4 0 0 a b) := by
  pointwise [k1_pay7, k1_pay6, k1_pay5]
  done

theorem dk_at (d : FVec Ideal S128x256 .f32) (v : FVec Ideal S1x1x64x256 .f32) (x y : Fin 1) (r : Fin 64) (a : Fin 128) :
    k1_pay8 (F := Ideal) d v (ix4 x y r a) = ∑ b : Fin 256, v (ix4 0 0 r b) * d (ix2 a b) := by
  pointwise [k1_pay8]
  done

theorem dv_at (d : FVec Ideal S128x256 .f32) (k : FVec Ideal S1x1x64x128 .f32) (x y : Fin 1) (r : Fin 64) (b : Fin 256) :
    k1_pay1 (F := Ideal) d (k1_pay9 k) (ix4 x y r b) = ∑ a : Fin 128, k (ix4 0 0 r a) * d (ix2 a b) := by
  pointwise [k1_pay1, k1_pay9]
  done

theorem ddec_at (s : FVec Ideal S1x1x128x256 .f32) (d : FVec Ideal S128x256 .f32) (x y : Fin 1) (a : Fin 128) (z : Fin 1) :
    k1_pay2 (F := Ideal) (k1_pay5 s) d (ix4 x y a z) = ∑ b : Fin 256, s (ix4 0 0 a b) * d (ix2 a b) := by
  pointwise [k1_pay2, k1_pay5]
  done

/-! ### The index maps -/

theorem index0 : ∀ t : Fin cfg0.N, win0_0.index t = ![t.val / 32, t.val % 32, 0, 0] ∧ win0_1.index t = ![t.val / 32, t.val % 32, 0, 0]
    ∧ win0_2.index t = ![t.val / 32, t.val % 32, 0, 0] ∧ win0_3.index t = ![t.val / 32, t.val % 32, 0, 0]
    ∧ win0_4.index t = ![t.val / 32, t.val % 32, 0, 0] ∧ win0_5.index t = ![t.val / 32, t.val % 32, 0, 0] :=
  (by decide +kernel : ∀ t : Fin grid0.N, _)

theorem index1 : ∀ t : Fin cfg1.N, win1_0.index t = ![t.val / 32, 31 - t.val % 32, 0, 0] ∧ win1_1.index t = ![t.val / 32, 31 - t.val % 32, 0, 0]
    ∧ win1_2.index t = ![t.val / 32, 31 - t.val % 32, 0, 0] ∧ win1_3.index t = ![t.val / 32, 31 - t.val % 32, 0, 0]
    ∧ win1_4.index t = ![t.val / 32, 31 - t.val % 32, 0, 0] ∧ win1_5.index t = ![t.val / 32, 31 - t.val % 32, 0, 0]
    ∧ win1_6.index t = ![t.val / 32, 31 - t.val % 32, 0, 0] ∧ win1_7.index t = ![t.val / 32, 31 - t.val % 32, 0, 0]
    ∧ win1_8.index t = ![t.val / 32, 31 - t.val % 32, 0, 0] ∧ win1_9.index t = ![t.val / 32, 31 - t.val % 32, 0, 0] :=
  (by decide +kernel : ∀ t : Fin grid1.N, _)

variable (V : Dev nD → Valuation τ sig (Elt Ideal)) (c : Dev nD)

/-- The stream of point `n`. -/
abbrev st (n : ℕ) : Fin 8 := Fin.ofNat 8 (n / 32)

theorem st_val (n : ℕ) (h : n < 256) : (st n).val = n / 32 := by
  simp only [st, Fin.ofNat]; omega
theorem ch_val (n : ℕ) (h : n < 32) : (ch n).val = n := by
  simp only [ch, Fin.ofNat]; omega

/-- A forward point's queries. -/
theorem blk0_0 (t : Fin cfg0.N) (x y : Fin 1) (r : Fin 64) (a : Fin 128) :
    blk0 V c 0 t (ix4 x y r a) = (V c (Proc.devRef .tc main_arg0) : KeyT) (ix4 (st t.val) (ch (t.val % 32)) r a) := by
  have ht : t.val < 256 := Nat.lt_of_lt_of_eq t.isLt N_0
  have hs := st_val t.val ht
  have hc := ch_val (t.val % 32) (by omega)
  blk_ext [blk0, index0 t]
  all_goals omega

/-- A forward point's keys. -/
theorem blk0_1 (t : Fin cfg0.N) (x y : Fin 1) (r : Fin 64) (a : Fin 128) :
    blk0 V c 1 t (ix4 x y r a) = (V c (Proc.devRef .tc main_arg1) : KeyT) (ix4 (st t.val) (ch (t.val % 32)) r a) := by
  have ht : t.val < 256 := Nat.lt_of_lt_of_eq t.isLt N_0
  have hs := st_val t.val ht
  have hc := ch_val (t.val % 32) (by omega)
  blk_ext [blk0, index0 t]
  all_goals omega

/-- A forward point's values. -/
theorem blk0_2 (t : Fin cfg0.N) (x y : Fin 1) (r : Fin 64) (a : Fin 256) :
    blk0 V c 2 t (ix4 x y r a) = (V c (Proc.devRef .tc main_arg2) : ValT) (ix4 (st t.val) (ch (t.val % 32)) r a) := by
  have ht : t.val < 256 := Nat.lt_of_lt_of_eq t.isLt N_0
  have hs := st_val t.val ht
  have hc := ch_val (t.val % 32) (by omega)
  blk_ext [blk0, index0 t]
  all_goals omega

/-- A forward point's decays. -/
theorem blk0_3 (t : Fin cfg0.N) (x y : Fin 1) (r : Fin 128) (a : Fin 1) :
    blk0 V c 3 t (ix4 x y r a) = (V c (Proc.devRef .tc main_arg3) : DecT) (ix4 (st t.val) (ch (t.val % 32)) r a) := by
  have ht : t.val < 256 := Nat.lt_of_lt_of_eq t.isLt N_0
  have hs := st_val t.val ht
  have hc := ch_val (t.val % 32) (by omega)
  blk_ext [blk0, index0 t]
  all_goals omega

/-- A backward point's queries. -/
theorem blk1_0 (t : Fin cfg1.N) (x y : Fin 1) (r : Fin 64) (a : Fin 128) :
    blk1 V c 0 t (ix4 x y r a) = (V c (Proc.devRef .tc main_arg0) : KeyT) (ix4 (st t.val) (ch (31 - t.val % 32)) r a) := by
  have ht : t.val < 256 := Nat.lt_of_lt_of_eq t.isLt N_1
  have hs := st_val t.val ht
  have hc := ch_val (31 - t.val % 32) (by omega)
  blk_ext [blk1, index1 t]
  all_goals omega

/-- A backward point's keys. -/
theorem blk1_1 (t : Fin cfg1.N) (x y : Fin 1) (r : Fin 64) (a : Fin 128) :
    blk1 V c 1 t (ix4 x y r a) = (V c (Proc.devRef .tc main_arg1) : KeyT) (ix4 (st t.val) (ch (31 - t.val % 32)) r a) := by
  have ht : t.val < 256 := Nat.lt_of_lt_of_eq t.isLt N_1
  have hs := st_val t.val ht
  have hc := ch_val (31 - t.val % 32) (by omega)
  blk_ext [blk1, index1 t]
  all_goals omega

/-- A backward point's values. -/
theorem blk1_2 (t : Fin cfg1.N) (x y : Fin 1) (r : Fin 64) (a : Fin 256) :
    blk1 V c 2 t (ix4 x y r a) = (V c (Proc.devRef .tc main_arg2) : ValT) (ix4 (st t.val) (ch (31 - t.val % 32)) r a) := by
  have ht : t.val < 256 := Nat.lt_of_lt_of_eq t.isLt N_1
  have hs := st_val t.val ht
  have hc := ch_val (31 - t.val % 32) (by omega)
  blk_ext [blk1, index1 t]
  all_goals omega

/-- A backward point's decays. -/
theorem blk1_3 (t : Fin cfg1.N) (x y : Fin 1) (r : Fin 128) (a : Fin 1) :
    blk1 V c 3 t (ix4 x y r a) = (V c (Proc.devRef .tc main_arg3) : DecT) (ix4 (st t.val) (ch (31 - t.val % 32)) r a) := by
  have ht : t.val < 256 := Nat.lt_of_lt_of_eq t.isLt N_1
  have hs := st_val t.val ht
  have hc := ch_val (31 - t.val % 32) (by omega)
  blk_ext [blk1, index1 t]
  all_goals omega

/-- A backward point's saved state. -/
theorem blk1_4 (t : Fin cfg1.N) (x y : Fin 1) (r : Fin 128) (a : Fin 256) :
    blk1 V c 4 t (ix4 x y r a) = (V c (Proc.devRef .tc main_v0_1) : StT) (ix4 (st t.val) (ch (31 - t.val % 32)) r a) := by
  have ht : t.val < 256 := Nat.lt_of_lt_of_eq t.isLt N_1
  have hs := st_val t.val ht
  have hc := ch_val (31 - t.val % 32) (by omega)
  blk_ext [blk1, index1 t]
  all_goals omega

/-- A backward point's cotangents. -/
theorem blk1_5 (t : Fin cfg1.N) (x y : Fin 1) (r : Fin 64) (a : Fin 256) :
    blk1 V c 5 t (ix4 x y r a) = (V c (Proc.devRef .tc main_arg4) : ValT) (ix4 (st t.val) (ch (31 - t.val % 32)) r a) := by
  have ht : t.val < 256 := Nat.lt_of_lt_of_eq t.isLt N_1
  have hs := st_val t.val ht
  have hc := ch_val (31 - t.val % 32) (by omega)
  blk_ext [blk1, index1 t]
  all_goals omega

/-! ### The carried states -/

/-- The state a forward point enters with is the scan's, over the arrays at entry. -/
theorem enter0_state (k : KeyT) (v : ValT) (dec : DecT) (hk : V c (Proc.devRef .tc main_arg1) = k) (hv : V c (Proc.devRef .tc main_arg2) = v)
    (hdec : V c (Proc.devRef .tc main_arg3) = dec) (a : Fin 128) (b : Fin 256) :
    ∀ (n : ℕ) (h : n < cfg0.N), enter0 V c n h (ix2 a b) = state k v dec (st n) (n % 32) a b
  | 0, h => by rw [enter0_first V c 0 h rfl]; exact clear0_at _
  | n + 1, h => by
    have hN : n + 1 < 256 := Nat.lt_of_lt_of_eq h N_0
    by_cases h0 : (n + 1) % 32 = 0
    · rw [enter0_first V c _ h h0, h0]; exact clear0_at _
    · have e1 : (n + 1) % 32 = n % 32 + 1 := by omega
      have e2 : st (n + 1) = st n := Fin.ext (by rw [st_val _ hN, st_val _ (by omega)]; omega)
      rw [enter0_later V c n h h0, e1, e2]
      unfold leave0
      refine (next0_at _ _ _ _ a b).trans ?_
      rw [enter0_state k v dec hk hv hdec a b n (by omega)]
      simp only [blk0_1, blk0_2, blk0_3, hk, hv, hdec]
      rfl

/-- The cotangent of the state a backward point enters with is the scan's, over the arrays at entry. -/
theorem enter1_state (q : KeyT) (dec : DecT) (dO : ValT) (hq : V c (Proc.devRef .tc main_arg0) = q) (hdec : V c (Proc.devRef .tc main_arg3) = dec)
    (hdO : V c (Proc.devRef .tc main_arg4) = dO) (a : Fin 128) (b : Fin 256) :
    ∀ (n : ℕ) (h : n < cfg1.N), enter1 V c n h (ix2 a b) = costate q dec dO (st n) (n % 32) a b
  | 0, h => by rw [enter1_first V c 0 h rfl]; exact clear1_at _
  | n + 1, h => by
    have hN : n + 1 < 256 := Nat.lt_of_lt_of_eq h N_1
    by_cases h0 : (n + 1) % 32 = 0
    · rw [enter1_first V c _ h h0, h0]; exact clear1_at _
    · have e1 : (n + 1) % 32 = n % 32 + 1 := by omega
      have e2 : st (n + 1) = st n := Fin.ext (by rw [st_val _ hN, st_val _ (by omega)]; omega)
      rw [enter1_later V c n h h0, e1, e2]
      unfold leave1
      refine (next1_at _ _ _ _ a b).trans ?_
      rw [enter1_state q dec dO hq hdec hdO a b n (by omega)]
      simp only [blk1_0, blk1_3, blk1_5, hq, hdec, hdO]
      rfl

/-! ### The arrays the regions leave -/

theorem emb0_4 (t : Fin cfg0.N) (x y : Fin 1) (r : Fin 64) (a : Fin 256) :
    (win0_4.blk t).view.emb (ix4 x y r a) = ix4 (st t.val) (ch (t.val % 32)) r a := by
  have ht : t.val < 256 := Nat.lt_of_lt_of_eq t.isLt N_0
  have hs := st_val t.val ht
  have hc := ch_val (t.val % 32) (by omega)
  blk_ext [index0 t]
  all_goals omega

theorem out_array_point (q : KeyT) (k : KeyT) (v : ValT) (dec : DecT) (hq : V c (Proc.devRef .tc main_arg0) = q) (hk : V c (Proc.devRef .tc main_arg1) = k) (hv : V c (Proc.devRef .tc main_arg2) = v) (hdec : V c (Proc.devRef .tc main_arg3) = dec)
    (t : Fin cfg0.N) (x y : Fin 1) (r : Fin 64) (z : Fin 256) :
    k0_pay4 (enter0 V c t.val t.isLt) (blk0 V c 0 t) (ix4 x y r z) = (Math.out q k v dec) ((win0_4.blk t).view.emb (ix4 x y r z)) := by
  have ht : t.val < 256 := Nat.lt_of_lt_of_eq t.isLt N_0
  have hc := ch_val (t.val % 32) (by omega)
  rw [emb0_4, out_at]
  simp only [enter0_state V c k v dec hk hv hdec, blk0_0, hq]
  show _ = ∑ a : Fin 128, q (ix4 (st t.val) (ch (t.val % 32)) r a) * state k v dec (st t.val) (ch (t.val % 32)).val a z
  rw [hc]

/-- The forward region's output is the scan's. -/
theorem out_array (q : KeyT) (k : KeyT) (v : ValT) (dec : DecT) (hq : V c (Proc.devRef .tc main_arg0) = q) (hk : V c (Proc.devRef .tc main_arg1) = k) (hv : V c (Proc.devRef .tc main_arg2) = v) (hdec : V c (Proc.devRef .tc main_arg3) = dec) :
    (dat0 V c).arrAt 4 cfg0.N = Math.out q k v dec := by
  refine (dat0 V c).arrAt_eq_of_covers 4 _ (by decide +kernel) fun t _ y => ?_
  blk_simp
  rw [after0_4, eq_ix4 (n0 := 1) (n1 := 1) (n2 := 64) (n3 := 256) y]
  exact out_array_point V c q k v dec hq hk hv hdec t _ _ _ _

theorem emb0_5 (t : Fin cfg0.N) (x y : Fin 1) (r : Fin 128) (a : Fin 256) :
    (win0_5.blk t).view.emb (ix4 x y r a) = ix4 (st t.val) (ch (t.val % 32)) r a := by
  have ht : t.val < 256 := Nat.lt_of_lt_of_eq t.isLt N_0
  have hs := st_val t.val ht
  have hc := ch_val (t.val % 32) (by omega)
  blk_ext [index0 t]
  all_goals omega

theorem saved_array_point (k : KeyT) (v : ValT) (dec : DecT) (hk : V c (Proc.devRef .tc main_arg1) = k) (hv : V c (Proc.devRef .tc main_arg2) = v) (hdec : V c (Proc.devRef .tc main_arg3) = dec)
    (t : Fin cfg0.N) (x y : Fin 1) (r : Fin 128) (z : Fin 256) :
    k0_pay3 (enter0 V c t.val t.isLt) (ix4 x y r z) = (states k v dec) ((win0_5.blk t).view.emb (ix4 x y r z)) := by
  have ht : t.val < 256 := Nat.lt_of_lt_of_eq t.isLt N_0
  have hc := ch_val (t.val % 32) (by omega)
  rw [emb0_5, saved_at]
  simp only [enter0_state V c k v dec hk hv hdec]
  show _ = state k v dec (st t.val) (ch (t.val % 32)).val r z
  rw [hc]

/-- The forward region saves the scan's states. -/
theorem saved_array (k : KeyT) (v : ValT) (dec : DecT) (hk : V c (Proc.devRef .tc main_arg1) = k) (hv : V c (Proc.devRef .tc main_arg2) = v) (hdec : V c (Proc.devRef .tc main_arg3) = dec) :
    (dat0 V c).arrAt 5 cfg0.N = states k v dec := by
  refine (dat0 V c).arrAt_eq_of_covers 5 _ (by decide +kernel) fun t _ y => ?_
  blk_simp
  rw [after0_5, eq_ix4 (n0 := 1) (n1 := 1) (n2 := 128) (n3 := 256) y]
  exact saved_array_point V c k v dec hk hv hdec t _ _ _ _

theorem emb1_6 (t : Fin cfg1.N) (x y : Fin 1) (r : Fin 64) (a : Fin 128) :
    (win1_6.blk t).view.emb (ix4 x y r a) = ix4 (st t.val) (ch (31 - t.val % 32)) r a := by
  have ht : t.val < 256 := Nat.lt_of_lt_of_eq t.isLt N_1
  have hs := st_val t.val ht
  have hc := ch_val (31 - t.val % 32) (by omega)
  blk_ext [index1 t]
  all_goals omega

theorem dq_array_point (k : KeyT) (v : ValT) (dec : DecT) (dO : ValT) (hS : V c (Proc.devRef .tc main_v0_1) = states k v dec) (hdO : V c (Proc.devRef .tc main_arg4) = dO)
    (t : Fin cfg1.N) (x y : Fin 1) (r : Fin 64) (z : Fin 128) :
    k1_pay7 (blk1 V c 4 t) (blk1 V c 5 t) (ix4 x y r z) = (gq k v dec dO) ((win1_6.blk t).view.emb (ix4 x y r z)) := by
  have ht : t.val < 256 := Nat.lt_of_lt_of_eq t.isLt N_1
  have hc := ch_val (31 - t.val % 32) (by omega)
  have hb : 31 - (31 - t.val % 32) = t.val % 32 := by omega
  rw [emb1_6, dq_at]
  simp only [blk1_4, blk1_5, hS, hdO]
  rfl

/-- The backward region's gradient in the queries is the scan's. -/
theorem dq_array (k : KeyT) (v : ValT) (dec : DecT) (dO : ValT) (hS : V c (Proc.devRef .tc main_v0_1) = states k v dec) (hdO : V c (Proc.devRef .tc main_arg4) = dO) :
    (dat1 V c).arrAt 6 cfg1.N = gq k v dec dO := by
  refine (dat1 V c).arrAt_eq_of_covers 6 _ (by decide +kernel) fun t _ y => ?_
  blk_simp
  rw [after1_6, eq_ix4 (n0 := 1) (n1 := 1) (n2 := 64) (n3 := 128) y]
  exact dq_array_point V c k v dec dO hS hdO t _ _ _ _

theorem emb1_7 (t : Fin cfg1.N) (x y : Fin 1) (r : Fin 64) (a : Fin 128) :
    (win1_7.blk t).view.emb (ix4 x y r a) = ix4 (st t.val) (ch (31 - t.val % 32)) r a := by
  have ht : t.val < 256 := Nat.lt_of_lt_of_eq t.isLt N_1
  have hs := st_val t.val ht
  have hc := ch_val (31 - t.val % 32) (by omega)
  blk_ext [index1 t]
  all_goals omega

theorem dk_array_point (q : KeyT) (v : ValT) (dec : DecT) (dO : ValT) (hq : V c (Proc.devRef .tc main_arg0) = q) (hv : V c (Proc.devRef .tc main_arg2) = v) (hdec : V c (Proc.devRef .tc main_arg3) = dec) (hdO : V c (Proc.devRef .tc main_arg4) = dO)
    (t : Fin cfg1.N) (x y : Fin 1) (r : Fin 64) (z : Fin 128) :
    k1_pay8 (enter1 V c t.val t.isLt) (blk1 V c 2 t) (ix4 x y r z) = (gk q v dec dO) ((win1_7.blk t).view.emb (ix4 x y r z)) := by
  have ht : t.val < 256 := Nat.lt_of_lt_of_eq t.isLt N_1
  have hc := ch_val (31 - t.val % 32) (by omega)
  have hb : 31 - (31 - t.val % 32) = t.val % 32 := by omega
  rw [emb1_7, dk_at]
  simp only [enter1_state V c q dec dO hq hdec hdO, blk1_2, hv]
  show _ = ∑ b : Fin 256, v (ix4 (st t.val) (ch (31 - t.val % 32)) r b) * costate q dec dO (st t.val) (31 - (ch (31 - t.val % 32)).val) z b
  rw [hc, hb]

/-- The backward region's gradient in the keys is the scan's. -/
theorem dk_array (q : KeyT) (v : ValT) (dec : DecT) (dO : ValT) (hq : V c (Proc.devRef .tc main_arg0) = q) (hv : V c (Proc.devRef .tc main_arg2) = v) (hdec : V c (Proc.devRef .tc main_arg3) = dec) (hdO : V c (Proc.devRef .tc main_arg4) = dO) :
    (dat1 V c).arrAt 7 cfg1.N = gk q v dec dO := by
  refine (dat1 V c).arrAt_eq_of_covers 7 _ (by decide +kernel) fun t _ y => ?_
  blk_simp
  rw [after1_7, eq_ix4 (n0 := 1) (n1 := 1) (n2 := 64) (n3 := 128) y]
  exact dk_array_point V c q v dec dO hq hv hdec hdO t _ _ _ _

theorem emb1_8 (t : Fin cfg1.N) (x y : Fin 1) (r : Fin 64) (a : Fin 256) :
    (win1_8.blk t).view.emb (ix4 x y r a) = ix4 (st t.val) (ch (31 - t.val % 32)) r a := by
  have ht : t.val < 256 := Nat.lt_of_lt_of_eq t.isLt N_1
  have hs := st_val t.val ht
  have hc := ch_val (31 - t.val % 32) (by omega)
  blk_ext [index1 t]
  all_goals omega

theorem dv_array_point (q : KeyT) (k : KeyT) (dec : DecT) (dO : ValT) (hq : V c (Proc.devRef .tc main_arg0) = q) (hk : V c (Proc.devRef .tc main_arg1) = k) (hdec : V c (Proc.devRef .tc main_arg3) = dec) (hdO : V c (Proc.devRef .tc main_arg4) = dO)
    (t : Fin cfg1.N) (x y : Fin 1) (r : Fin 64) (z : Fin 256) :
    k1_pay1 (enter1 V c t.val t.isLt) (k1_pay9 (blk1 V c 1 t)) (ix4 x y r z) = (gv q k dec dO) ((win1_8.blk t).view.emb (ix4 x y r z)) := by
  have ht : t.val < 256 := Nat.lt_of_lt_of_eq t.isLt N_1
  have hc := ch_val (31 - t.val % 32) (by omega)
  have hb : 31 - (31 - t.val % 32) = t.val % 32 := by omega
  rw [emb1_8, dv_at]
  simp only [enter1_state V c q dec dO hq hdec hdO, blk1_1, hk]
  show _ = ∑ a : Fin 128, k (ix4 (st t.val) (ch (31 - t.val % 32)) r a) * costate q dec dO (st t.val) (31 - (ch (31 - t.val % 32)).val) a z
  rw [hc, hb]

/-- The backward region's gradient in the values is the scan's. -/
theorem dv_array (q : KeyT) (k : KeyT) (dec : DecT) (dO : ValT) (hq : V c (Proc.devRef .tc main_arg0) = q) (hk : V c (Proc.devRef .tc main_arg1) = k) (hdec : V c (Proc.devRef .tc main_arg3) = dec) (hdO : V c (Proc.devRef .tc main_arg4) = dO) :
    (dat1 V c).arrAt 8 cfg1.N = gv q k dec dO := by
  refine (dat1 V c).arrAt_eq_of_covers 8 _ (by decide +kernel) fun t _ y => ?_
  blk_simp
  rw [after1_8, eq_ix4 (n0 := 1) (n1 := 1) (n2 := 64) (n3 := 256) y]
  exact dv_array_point V c q k dec dO hq hk hdec hdO t _ _ _ _

theorem emb1_9 (t : Fin cfg1.N) (x y : Fin 1) (r : Fin 128) (a : Fin 1) :
    (win1_9.blk t).view.emb (ix4 x y r a) = ix4 (st t.val) (ch (31 - t.val % 32)) r a := by
  have ht : t.val < 256 := Nat.lt_of_lt_of_eq t.isLt N_1
  have hs := st_val t.val ht
  have hc := ch_val (31 - t.val % 32) (by omega)
  blk_ext [index1 t]
  all_goals omega

theorem ddec_array_point (q : KeyT) (k : KeyT) (v : ValT) (dec : DecT) (dO : ValT) (hq : V c (Proc.devRef .tc main_arg0) = q) (hS : V c (Proc.devRef .tc main_v0_1) = states k v dec) (hdec : V c (Proc.devRef .tc main_arg3) = dec) (hdO : V c (Proc.devRef .tc main_arg4) = dO)
    (t : Fin cfg1.N) (x y : Fin 1) (r : Fin 128) (z : Fin 1) :
    k1_pay2 (k1_pay5 (blk1 V c 4 t)) (enter1 V c t.val t.isLt) (ix4 x y r z) = (gdec q k v dec dO) ((win1_9.blk t).view.emb (ix4 x y r z)) := by
  have ht : t.val < 256 := Nat.lt_of_lt_of_eq t.isLt N_1
  have hc := ch_val (31 - t.val % 32) (by omega)
  have hb : 31 - (31 - t.val % 32) = t.val % 32 := by omega
  rw [emb1_9, ddec_at]
  simp only [enter1_state V c q dec dO hq hdec hdO, blk1_4, hS]
  show _ = ∑ b : Fin 256, states k v dec (ix4 (st t.val) (ch (31 - t.val % 32)) r b) * costate q dec dO (st t.val) (31 - (ch (31 - t.val % 32)).val) r b
  rw [hc, hb]

/-- The backward region's gradient in the decays is the scan's. -/
theorem ddec_array (q : KeyT) (k : KeyT) (v : ValT) (dec : DecT) (dO : ValT) (hq : V c (Proc.devRef .tc main_arg0) = q) (hS : V c (Proc.devRef .tc main_v0_1) = states k v dec) (hdec : V c (Proc.devRef .tc main_arg3) = dec) (hdO : V c (Proc.devRef .tc main_arg4) = dO) :
    (dat1 V c).arrAt 9 cfg1.N = gdec q k v dec dO := by
  refine (dat1 V c).arrAt_eq_of_covers 9 _ (by decide +kernel) fun t _ y => ?_
  blk_simp
  rw [after1_9, eq_ix4 (n0 := 1) (n1 := 1) (n2 := 128) (n3 := 1) y]
  exact ddec_array_point V c q k v dec dO hq hS hdec hdO t _ _ _ _

/-! ### The results -/

variable (m : (ℓ : Loc nD τ sig) → Buf (Elt Ideal) ℓ)

/-- The queries at launch. -/
abbrev aq : KeyT := m ((c.tc : Thread nD τ).loc main_arg0)
/-- The keys at launch. -/
abbrev ak : KeyT := m ((c.tc : Thread nD τ).loc main_arg1)
/-- The values at launch. -/
abbrev av : ValT := m ((c.tc : Thread nD τ).loc main_arg2)
/-- The decays at launch. -/
abbrev adec : DecT := m ((c.tc : Thread nD τ).loc main_arg3)
/-- The output's cotangent at launch. -/
abbrev adO : ValT := m ((c.tc : Thread nD τ).loc main_arg4)

theorem w1_keeps (r : Ref sig .tc) (h0 : ∀ w, Pipeline.arrRef spec0 w = r → (cfg0.win w).isOut = false) :
    w1 m c (Proc.devRef .tc r) = m ((c.tc : Thread nD τ).loc r) :=
  Pipeline.afterRegion_keeps (dat0 (w0 m) c) (w0 m c) winFacts0.arr_inj (dat0_A (w0 m) c) r h0

theorem w1_saved : w1 m c (Proc.devRef .tc main_v0_1) = states (ak c m) (av c m) (adec c m) :=
  (Pipeline.afterRegion_arr (dat0 (w0 m) c) (w0 m c) winFacts0.arr_inj 5).trans (saved_array (w0 m) c _ _ _ rfl rfl rfl)

/-- The kernel's output. -/
theorem result_out : w2 m c (Proc.devRef .tc main_v0_0) = Math.out (aq c m) (ak c m) (av c m) (adec c m) :=
  (Pipeline.afterRegion_keeps (dat1 (w1 m) c) (w1 m c) winFacts1.arr_inj (dat1_A (w1 m) c) main_v0_0 (by decide)).trans
    ((Pipeline.afterRegion_arr (dat0 (w0 m) c) (w0 m c) winFacts0.arr_inj 4).trans (out_array (w0 m) c _ _ _ _ rfl rfl rfl rfl))

/-- The kernel's gradient in the queries. -/
theorem result_dq : w2 m c (Proc.devRef .tc main_v1_0) = gq (ak c m) (av c m) (adec c m) (adO c m) :=
  (Pipeline.afterRegion_arr (dat1 (w1 m) c) (w1 m c) winFacts1.arr_inj 6).trans
    (dq_array (w1 m) c _ _ _ _ (w1_saved c m) (w1_keeps c m main_arg4 (by decide)))

/-- The kernel's gradient in the keys. -/
theorem result_dk : w2 m c (Proc.devRef .tc main_v1_1) = gk (aq c m) (av c m) (adec c m) (adO c m) :=
  (Pipeline.afterRegion_arr (dat1 (w1 m) c) (w1 m c) winFacts1.arr_inj 7).trans
    (dk_array (w1 m) c _ _ _ _ (w1_keeps c m main_arg0 (by decide)) (w1_keeps c m main_arg2 (by decide)) (w1_keeps c m main_arg3 (by decide)) (w1_keeps c m main_arg4 (by decide)))

/-- The kernel's gradient in the values. -/
theorem result_dv : w2 m c (Proc.devRef .tc main_v1_2) = gv (aq c m) (ak c m) (adec c m) (adO c m) :=
  (Pipeline.afterRegion_arr (dat1 (w1 m) c) (w1 m c) winFacts1.arr_inj 8).trans
    (dv_array (w1 m) c _ _ _ _ (w1_keeps c m main_arg0 (by decide)) (w1_keeps c m main_arg1 (by decide)) (w1_keeps c m main_arg3 (by decide)) (w1_keeps c m main_arg4 (by decide)))

/-- The kernel's gradient in the decays. -/
theorem result_ddec : w2 m c (Proc.devRef .tc main_v1_3) = gdec (aq c m) (ak c m) (av c m) (adec c m) (adO c m) :=
  (Pipeline.afterRegion_arr (dat1 (w1 m) c) (w1 m c) winFacts1.arr_inj 9).trans
    (ddec_array (w1 m) c _ _ _ _ _ (w1_keeps c m main_arg0 (by decide)) (w1_saved c m) (w1_keeps c m main_arg3 (by decide)) (w1_keeps c m main_arg4 (by decide)))

end Cert.Scan

end
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-!
The reference program's host operations, stretch by stretch, with the buffers each stretch writes and keeps.
-/

@[expose] public section

noncomputable section

namespace Cert.Ref

open Cert.ReferenceIdeal Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.Sem

variable {F : FTy → Type} [FloatOps F]

/-- Stretch 1 of the operations before the first loop. -/
abbrev before0 : List (HloOp τ sig (Elt F)) :=
  [ StableHlo.unary main_arg0 main_v0 ((transpose S32x8x64x128 [1, 0, 2, 3] · transposes_S8x32x64x128_S32x8x64x128_1_0_2_3) : (⟨S8x32x64x128, .f32⟩ : BufTy).Contents (Elt F) → (⟨S32x8x64x128, .f32⟩ : BufTy).Contents (Elt F)),
    StableHlo.unary main_arg1 main_v1 ((transpose S32x8x64x128 [1, 0, 2, 3] · transposes_S8x32x64x128_S32x8x64x128_1_0_2_3) : (⟨S8x32x64x128, .f32⟩ : BufTy).Contents (Elt F) → (⟨S32x8x64x128, .f32⟩ : BufTy).Contents (Elt F)),
    StableHlo.unary main_arg2 main_v2 ((transpose S32x8x64x256 [1, 0, 2, 3] · transposes_S8x32x64x256_S32x8x64x256_1_0_2_3) : (⟨S8x32x64x256, .f32⟩ : BufTy).Contents (Elt F) → (⟨S32x8x64x256, .f32⟩ : BufTy).Contents (Elt F)),
    StableHlo.unary main_arg3 main_v3 ((transpose S32x8x128x1 [1, 0, 2, 3] · transposes_S8x32x128x1_S32x8x128x1_1_0_2_3) : (⟨S8x32x128x1, .f32⟩ : BufTy).Contents (Elt F) → (⟨S32x8x128x1, .f32⟩ : BufTy).Contents (Elt F)),
    StableHlo.nullary main_cst (constant S_ .f32 0x00000000#32),
    StableHlo.unary main_cst main_v4 (broadcastInDim S8x128x256 ![] bcast_S_S8x128x256 : (⟨S_, .f32⟩ : BufTy).Contents (Elt F) → (⟨S8x128x256, .f32⟩ : BufTy).Contents (Elt F)),
    StableHlo.nullary main_cst_0 (constant S_ .f32 0x00000000#32),
    StableHlo.unary main_cst_0 main_v5 (broadcastInDim S32x8x64x256 ![] bcast_S_S32x8x64x256 : (⟨S_, .f32⟩ : BufTy).Contents (Elt F) → (⟨S32x8x64x256, .f32⟩ : BufTy).Contents (Elt F)),
    StableHlo.nullary main_cst_1 (constant S_ .f32 0x00000000#32),
    StableHlo.unary main_cst_1 main_v6 (broadcastInDim S32x8x128x256 ![] bcast_S_S32x8x128x256 : (⟨S_, .f32⟩ : BufTy).Contents (Elt F) → (⟨S32x8x128x256, .f32⟩ : BufTy).Contents (Elt F)),
    StableHlo.nullary main_c (constantI S_ 32 0#32),
    StableHlo.unary main_v0 main_v7_0 id,
    StableHlo.unary main_v1 main_v7_1 id,
    StableHlo.unary main_v2 main_v7_2 id,
    StableHlo.unary main_v3 main_v7_3 id,
    StableHlo.unary main_c main_v7_4 id,
    StableHlo.unary main_v4 main_v7_5 id,
    StableHlo.unary main_v5 main_v7_6 id,
    StableHlo.unary main_v6 main_v7_7 id ]

theorem before0_sub : (before0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem before0_fresh : (before0 : List (HloOp τ sig (Elt F))).Forall fun op => op.fresh = ∅ :=
  ⟨rfl, rfl, rfl, rfl, rfl, rfl, rfl, rfl, rfl, rfl, rfl, rfl, rfl, rfl, rfl, rfl, rfl, rfl, rfl⟩
/-- The buffers stretch 1 of the operations before the first loop writes. -/
abbrev before0_W : List (Ref sig .tc) := [main_v0, main_v1, main_v2, main_v3, main_cst, main_v4, main_cst_0, main_v5, main_cst_1, main_v6, main_c, main_v7_0, main_v7_1, main_v7_2, main_v7_3, main_v7_4, main_v7_5, main_v7_6, main_v7_7]
theorem before0_writes : (before0 : List (HloOp τ sig (Elt F))).Forall fun op => op.writes ⊆ (before0_W.map (Proc.devRef (τ := τ) .tc)).toFinset :=
  StableHlo.forall_writes_sub_of_map rfl
theorem before0_keep (V : Valuation τ sig (Elt F)) {r : Ref sig .tc} (h : r ∉ before0_W) :
    after before0 V (Proc.devRef .tc r) = V (Proc.devRef .tc r) :=
  after_of_writes_sub before0 V before0_writes h

/-- Stretch 1 of the operations between the loops. -/
abbrev between0 : List (HloOp τ sig (Elt F)) :=
  [ StableHlo.unary main_v7_6 main_v8 ((transpose S8x32x64x256 [1, 0, 2, 3] · transposes_S32x8x64x256_S8x32x64x256_1_0_2_3) : (⟨S32x8x64x256, .f32⟩ : BufTy).Contents (Elt F) → (⟨S8x32x64x256, .f32⟩ : BufTy).Contents (Elt F)),
    StableHlo.nullary main_cst_2 (constant S_ .f32 0x00000000#32),
    StableHlo.unary main_cst_2 main_v9 (broadcastInDim S8x128x256 ![] bcast_S_S8x128x256 : (⟨S_, .f32⟩ : BufTy).Contents (Elt F) → (⟨S8x128x256, .f32⟩ : BufTy).Contents (Elt F)),
    StableHlo.unary main_arg4 main_v10 ((transpose S32x8x64x256 [1, 0, 2, 3] · transposes_S8x32x64x256_S32x8x64x256_1_0_2_3) : (⟨S8x32x64x256, .f32⟩ : BufTy).Contents (Elt F) → (⟨S32x8x64x256, .f32⟩ : BufTy).Contents (Elt F)),
    StableHlo.nullary main_cst_3 (constant S_ .f32 0x00000000#32),
    StableHlo.unary main_cst_3 main_v11 (broadcastInDim S8x128x256 ![] bcast_S_S8x128x256 : (⟨S_, .f32⟩ : BufTy).Contents (Elt F) → (⟨S8x128x256, .f32⟩ : BufTy).Contents (Elt F)),
    StableHlo.nullary main_cst_4 (constant S_ .f32 0x00000000#32),
    StableHlo.unary main_cst_4 main_v12 (broadcastInDim S32x8x64x128 ![] bcast_S_S32x8x64x128 : (⟨S_, .f32⟩ : BufTy).Contents (Elt F) → (⟨S32x8x64x128, .f32⟩ : BufTy).Contents (Elt F)),
    StableHlo.nullary main_cst_5 (constant S_ .f32 0x00000000#32),
    StableHlo.unary main_cst_5 main_v13 (broadcastInDim S32x8x64x128 ![] bcast_S_S32x8x64x128 : (⟨S_, .f32⟩ : BufTy).Contents (Elt F) → (⟨S32x8x64x128, .f32⟩ : BufTy).Contents (Elt F)),
    StableHlo.nullary main_cst_6 (constant S_ .f32 0x00000000#32),
    StableHlo.unary main_cst_6 main_v14 (broadcastInDim S32x8x64x256 ![] bcast_S_S32x8x64x256 : (⟨S_, .f32⟩ : BufTy).Contents (Elt F) → (⟨S32x8x64x256, .f32⟩ : BufTy).Contents (Elt F)),
    StableHlo.nullary main_cst_7 (constant S_ .f32 0x00000000#32),
    StableHlo.unary main_cst_7 main_v15 (broadcastInDim S32x8x128x1 ![] bcast_S_S32x8x128x1 : (⟨S_, .f32⟩ : BufTy).Contents (Elt F) → (⟨S32x8x128x1, .f32⟩ : BufTy).Contents (Elt F)),
    StableHlo.nullary main_c_8 (constantI S_ 32 0#32),
    StableHlo.unary main_v10 main_v16_0 id,
    StableHlo.unary main_v7_7 main_v16_1 id,
    StableHlo.unary main_v0 main_v16_2 id,
    StableHlo.unary main_v3 main_v16_3 id,
    StableHlo.unary main_v2 main_v16_4 id,
    StableHlo.unary main_v1 main_v16_5 id,
    StableHlo.unary main_c_8 main_v16_6 id,
    StableHlo.unary main_v11 main_v16_7 id,
    StableHlo.unary main_v12 main_v16_8 id,
    StableHlo.unary main_v13 main_v16_9 id,
    StableHlo.unary main_v14 main_v16_10 id,
    StableHlo.unary main_v15 main_v16_11 id ]

theorem between0_sub : (between0 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem between0_fresh : (between0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
/-- The buffers stretch 1 of the operations between the loops writes. -/
abbrev between0_W : List (Ref sig .tc) := [main_v8, main_cst_2, main_v9, main_v10, main_cst_3, main_v11, main_cst_4, main_v12, main_cst_5, main_v13, main_cst_6, main_v14, main_cst_7, main_v15, main_c_8, main_v16_0, main_v16_1, main_v16_2, main_v16_3, main_v16_4, main_v16_5, main_v16_6, main_v16_7, main_v16_8, main_v16_9, main_v16_10, main_v16_11]
theorem between0_writes : (between0 : List (HloOp τ sig (Elt F))).Forall fun op => op.writes ⊆ (between0_W.map (Proc.devRef (τ := τ) .tc)).toFinset :=
  StableHlo.forall_writes_sub_of_map rfl
theorem between0_keep (V : Valuation τ sig (Elt F)) {r : Ref sig .tc} (h : r ∉ between0_W) :
    after between0 V (Proc.devRef .tc r) = V (Proc.devRef .tc r) :=
  after_of_writes_sub between0 V between0_writes h

/-- Stretch 1 of the operations after the second loop. -/
abbrev behind0 : List (HloOp τ sig (Elt F)) :=
  [ StableHlo.unary main_v16_11 main_v17 ((transpose S8x32x128x1 [1, 0, 2, 3] · transposes_S32x8x128x1_S8x32x128x1_1_0_2_3) : (⟨S32x8x128x1, .f32⟩ : BufTy).Contents (Elt F) → (⟨S8x32x128x1, .f32⟩ : BufTy).Contents (Elt F)),
    StableHlo.unary main_v16_10 main_v18 ((transpose S8x32x64x256 [1, 0, 2, 3] · transposes_S32x8x64x256_S8x32x64x256_1_0_2_3) : (⟨S32x8x64x256, .f32⟩ : BufTy).Contents (Elt F) → (⟨S8x32x64x256, .f32⟩ : BufTy).Contents (Elt F)),
    StableHlo.unary main_v16_9 main_v19 ((transpose S8x32x64x128 [1, 0, 2, 3] · transposes_S32x8x64x128_S8x32x64x128_1_0_2_3) : (⟨S32x8x64x128, .f32⟩ : BufTy).Contents (Elt F) → (⟨S8x32x64x128, .f32⟩ : BufTy).Contents (Elt F)),
    StableHlo.unary main_v16_8 main_v20 ((transpose S8x32x64x128 [1, 0, 2, 3] · transposes_S32x8x64x128_S8x32x64x128_1_0_2_3) : (⟨S32x8x64x128, .f32⟩ : BufTy).Contents (Elt F) → (⟨S8x32x64x128, .f32⟩ : BufTy).Contents (Elt F)) ]

theorem behind0_sub : (behind0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub ..⟩
theorem behind0_fresh : (behind0 : List (HloOp τ sig (Elt F))).Forall fun op => op.fresh = ∅ :=
  ⟨rfl, rfl, rfl, rfl⟩
/-- The buffers stretch 1 of the operations after the second loop writes. -/
abbrev behind0_W : List (Ref sig .tc) := [main_v17, main_v18, main_v19, main_v20]
theorem behind0_writes : (behind0 : List (HloOp τ sig (Elt F))).Forall fun op => op.writes ⊆ (behind0_W.map (Proc.devRef (τ := τ) .tc)).toFinset :=
  StableHlo.forall_writes_sub_of_map rfl
theorem behind0_keep (V : Valuation τ sig (Elt F)) {r : Ref sig .tc} (h : r ∉ behind0_W) :
    after behind0 V (Proc.devRef .tc r) = V (Proc.devRef .tc r) :=
  after_of_writes_sub behind0 V behind0_writes h

/-- Stretch 1 of one trip of the first loop. -/
abbrev fwd0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.nullary (.of main_while0b_call0_c_1 : StableHlo.TRef sig ⟨S_, .i32⟩) (constantI S_ 32 0#32),
    StableHlo.TRef.unaryIndexed (.of main_v7_0 : StableHlo.TRef sig ⟨S32x8x64x128, .f32⟩) ![(.of main_v7_4 : StableHlo.TRef sig ⟨S_, .i32⟩), (.of main_while0b_call0_c : StableHlo.TRef sig ⟨S_, .i32⟩), (.of main_while0b_call0_c_0 : StableHlo.TRef sig ⟨S_, .i32⟩), (.of main_while0b_call0_c_1 : StableHlo.TRef sig ⟨S_, .i32⟩)] (.of main_while0b_call0_v0 : StableHlo.TRef sig ⟨S1x8x64x128, .f32⟩) (fun x i => Host.dynamicSlice S1x8x64x128 x (fun k => (i k (Shape.Idx.first h_S_)).toInt) sliceFits_S32x8x64x128_S1x8x64x128),
    StableHlo.TRef.reshape (.of main_while0b_call0_v0 : StableHlo.TRef sig ⟨S1x8x64x128, .f32⟩) (.of main_while0b_v21 : StableHlo.TRef sig ⟨S8x64x128, .f32⟩) (rfl : (.f32 : EltTy) = .f32) shapeCasts_S1x8x64x128_S8x64x128 ]

theorem fwd0_sub : (fwd0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem fwd0_fresh : (fwd0 : List (HloOp τ sig (Elt F))).Forall fun op => op.fresh = ∅ :=
  ⟨rfl, rfl, rfl, rfl, rfl⟩
/-- The buffers stretch 1 of one trip of the first loop writes. -/
abbrev fwd0_W : List (Ref sig .tc) := [main_while0b_call0_c, main_while0b_call0_c_0, main_while0b_call0_c_1, main_while0b_call0_v0, main_while0b_v21]
theorem fwd0_writes : (fwd0 : List (HloOp τ sig (Elt F))).Forall fun op => op.writes ⊆ (fwd0_W.map (Proc.devRef (τ := τ) .tc)).toFinset :=
  StableHlo.forall_writes_sub_of_map rfl
theorem fwd0_keep (V : Valuation τ sig (Elt F)) {r : Ref sig .tc} (h : r ∉ fwd0_W) :
    after fwd0 V (Proc.devRef .tc r) = V (Proc.devRef .tc r) :=
  after_of_writes_sub fwd0 V fwd0_writes h

/-- Stretch 2 of one trip of the first loop. -/
abbrev fwd1 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.unaryIndexed (.of main_v7_1 : StableHlo.TRef sig ⟨S32x8x64x128, .f32⟩) ![(.of main_v7_4 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩)] (.of main_while0b_call1_v0 : StableHlo.TRef sig ⟨S1x8x64x128, .f32⟩) (fun x i => Host.dynamicSlice S1x8x64x128 x (fun k => (i k (Shape.Idx.first h_S_)).toInt) sliceFits_S32x8x64x128_S1x8x64x128),
    StableHlo.TRef.reshape (.of main_while0b_call1_v0 : StableHlo.TRef sig ⟨S1x8x64x128, .f32⟩) (.of main_while0b_v22 : StableHlo.TRef sig ⟨S8x64x128, .f32⟩) (rfl : (.f32 : EltTy) = .f32) shapeCasts_S1x8x64x128_S8x64x128 ]

theorem fwd1_sub : (fwd1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem fwd1_fresh : (fwd1 : List (HloOp τ sig (Elt F))).Forall fun op => op.fresh = ∅ :=
  ⟨rfl, rfl, rfl, rfl, rfl⟩
/-- The buffers stretch 2 of one trip of the first loop writes. -/
abbrev fwd1_W : List (Ref sig .tc) := [main_while0b_call1_c, main_while0b_call1_c_0, main_while0b_call1_c_1, main_while0b_call1_v0, main_while0b_v22]
theorem fwd1_writes : (fwd1 : List (HloOp τ sig (Elt F))).Forall fun op => op.writes ⊆ (fwd1_W.map (Proc.devRef (τ := τ) .tc)).toFinset :=
  StableHlo.forall_writes_sub_of_map rfl
theorem fwd1_keep (V : Valuation τ sig (Elt F)) {r : Ref sig .tc} (h : r ∉ fwd1_W) :
    after fwd1 V (Proc.devRef .tc r) = V (Proc.devRef .tc r) :=
  after_of_writes_sub fwd1 V fwd1_writes h

/-- Stretch 3 of one trip of the first loop. -/
abbrev fwd2 : List (HloOp τ sig (Elt F)) :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.unaryIndexed (.of main_v7_2 : StableHlo.TRef sig ⟨S32x8x64x256, .f32⟩) ![(.of main_v7_4 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩)] (.of main_while0b_call2_v0 : StableHlo.TRef sig ⟨S1x8x64x256, .f32⟩) (fun x i => Host.dynamicSlice S1x8x64x256 x (fun k => (i k (Shape.Idx.first h_S_)).toInt) sliceFits_S32x8x64x256_S1x8x64x256),
    StableHlo.TRef.reshape (.of main_while0b_call2_v0 : StableHlo.TRef sig ⟨S1x8x64x256, .f32⟩) (.of main_while0b_v23 : StableHlo.TRef sig ⟨S8x64x256, .f32⟩) (rfl : (.f32 : EltTy) = .f32) shapeCasts_S1x8x64x256_S8x64x256 ]

theorem fwd2_sub : (fwd2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem fwd2_fresh : (fwd2 : List (HloOp τ sig (Elt F))).Forall fun op => op.fresh = ∅ :=
  ⟨rfl, rfl, rfl, rfl, rfl⟩
/-- The buffers stretch 3 of one trip of the first loop writes. -/
abbrev fwd2_W : List (Ref sig .tc) := [main_while0b_call2_c, main_while0b_call2_c_0, main_while0b_call2_c_1, main_while0b_call2_v0, main_while0b_v23]
theorem fwd2_writes : (fwd2 : List (HloOp τ sig (Elt F))).Forall fun op => op.writes ⊆ (fwd2_W.map (Proc.devRef (τ := τ) .tc)).toFinset :=
  StableHlo.forall_writes_sub_of_map rfl
theorem fwd2_keep (V : Valuation τ sig (Elt F)) {r : Ref sig .tc} (h : r ∉ fwd2_W) :
    after fwd2 V (Proc.devRef .tc r) = V (Proc.devRef .tc r) :=
  after_of_writes_sub fwd2 V fwd2_writes h

/-- Stretch 4 of one trip of the first loop. -/
abbrev fwd3 : List (HloOp τ sig (Elt F)) :=
  [ StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.nullary (.of main_while0b_call3_c_1 : StableHlo.TRef sig ⟨S_, .i32⟩) (constantI S_ 32 0#32),
    StableHlo.TRef.unaryIndexed (.of main_v7_3 : StableHlo.TRef sig ⟨S32x8x128x1, .f32⟩) ![(.of main_v7_4 : StableHlo.TRef sig ⟨S_, .i32⟩), (.of main_while0b_call3_c : StableHlo.TRef sig ⟨S_, .i32⟩), (.of main_while0b_call3_c_0 : StableHlo.TRef sig ⟨S_, .i32⟩), (.of main_while0b_call3_c_1 : StableHlo.TRef sig ⟨S_, .i32⟩)] (.of main_while0b_call3_v0 : StableHlo.TRef sig ⟨S1x8x128x1, .f32⟩) (fun x i => Host.dynamicSlice S1x8x128x1 x (fun k => (i k (Shape.Idx.first h_S_)).toInt) sliceFits_S32x8x128x1_S1x8x128x1),
    StableHlo.TRef.reshape (.of main_while0b_call3_v0 : StableHlo.TRef sig ⟨S1x8x128x1, .f32⟩) (.of main_while0b_v24 : StableHlo.TRef sig ⟨S8x128x1, .f32⟩) (rfl : (.f32 : EltTy) = .f32) shapeCasts_S1x8x128x1_S8x128x1 ]

theorem fwd3_sub : (fwd3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem fwd3_fresh : (fwd3 : List (HloOp τ sig (Elt F))).Forall fun op => op.fresh = ∅ :=
  ⟨rfl, rfl, rfl, rfl, rfl⟩
/-- The buffers stretch 4 of one trip of the first loop writes. -/
abbrev fwd3_W : List (Ref sig .tc) := [main_while0b_call3_c, main_while0b_call3_c_0, main_while0b_call3_c_1, main_while0b_call3_v0, main_while0b_v24]
theorem fwd3_writes : (fwd3 : List (HloOp τ sig (Elt F))).Forall fun op => op.writes ⊆ (fwd3_W.map (Proc.devRef (τ := τ) .tc)).toFinset :=
  StableHlo.forall_writes_sub_of_map rfl
theorem fwd3_keep (V : Valuation τ sig (Elt F)) {r : Ref sig .tc} (h : r ∉ fwd3_W) :
    after fwd3 V (Proc.devRef .tc r) = V (Proc.devRef .tc r) :=
  after_of_writes_sub fwd3 V fwd3_writes h

/-- Stretch 5 of one trip of the first loop. -/
abbrev fwd4 : List (HloOp τ sig (Elt F)) :=
  [ StableHlo.binary main_while0b_v21 main_v7_5 main_while0b_v25 ((fun l r => Host.dotGeneral dot_S8x64x128_S8x128x256_S8x64x256_2_1_1_2_0_0 none l r) : (⟨S8x64x128, .f32⟩ : BufTy).Contents (Elt F) → (⟨S8x128x256, .f32⟩ : BufTy).Contents (Elt F) → (⟨S8x64x256, .f32⟩ : BufTy).Contents (Elt F)),
    StableHlo.unary main_while0b_v24 main_while0b_v26 (broadcastInDim S8x128x256 ![0, 1, 2] bcast_S8x128x1_S8x128x256_0_1_2 : (⟨S8x128x1, .f32⟩ : BufTy).Contents (Elt F) → (⟨S8x128x256, .f32⟩ : BufTy).Contents (Elt F)),
    StableHlo.binary main_v7_5 main_while0b_v26 main_while0b_v27 (mulf : (⟨S8x128x256, .f32⟩ : BufTy).Contents (Elt F) → (⟨S8x128x256, .f32⟩ : BufTy).Contents (Elt F) → (⟨S8x128x256, .f32⟩ : BufTy).Contents (Elt F)),
    StableHlo.binary main_while0b_v22 main_while0b_v23 main_while0b_v28 ((fun l r => Host.dotGeneral dot_S8x64x128_S8x64x256_S8x128x256_1_1_2_2_0_0 none l r) : (⟨S8x64x128, .f32⟩ : BufTy).Contents (Elt F) → (⟨S8x64x256, .f32⟩ : BufTy).Contents (Elt F) → (⟨S8x128x256, .f32⟩ : BufTy).Contents (Elt F)),
    StableHlo.binary main_while0b_v27 main_while0b_v28 main_while0b_v29 (addf : (⟨S8x128x256, .f32⟩ : BufTy).Contents (Elt F) → (⟨S8x128x256, .f32⟩ : BufTy).Contents (Elt F) → (⟨S8x128x256, .f32⟩ : BufTy).Contents (Elt F)) ]

theorem fwd4_sub : (fwd4 : List (HloOp τ sig (Elt F))).Forall fun op => op.bufs ⊆ StableHlo.tcRefs τ sig :=
  ⟨StableHlo.binary_bufs_sub .., StableHlo.unary_bufs_sub .., StableHlo.binary_bufs_sub .., StableHlo.binary_bufs_sub .., StableHlo.binary_bufs_sub ..⟩
theorem fwd4_fresh : (fwd4 : List (HloOp τ sig (Elt F))).Forall fun op => op.fresh = ∅ :=
  ⟨rfl, rfl, rfl, rfl, rfl⟩
/-- The buffers stretch 5 of one trip of the first loop writes. -/
abbrev fwd4_W : List (Ref sig .tc) := [main_while0b_v25, main_while0b_v26, main_while0b_v27, main_while0b_v28, main_while0b_v29]
theorem fwd4_writes : (fwd4 : List (HloOp τ sig (Elt F))).Forall fun op => op.writes ⊆ (fwd4_W.map (Proc.devRef (τ := τ) .tc)).toFinset :=
  StableHlo.forall_writes_sub_of_map rfl
theorem fwd4_keep (V : Valuation τ sig (Elt F)) {r : Ref sig .tc} (h : r ∉ fwd4_W) :
    after fwd4 V (Proc.devRef .tc r) = V (Proc.devRef .tc r) :=
  after_of_writes_sub fwd4 V fwd4_writes h

/-- Stretch 6 of one trip of the first loop. -/
abbrev fwd5 : List (HloOp τ sig (Elt F)) :=
  [ StableHlo.TRef.unary (.of main_while0b_v25 : StableHlo.TRef sig ⟨S8x64x256, .f32⟩) (.of main_while0b_call4_v0 : StableHlo.TRef sig ⟨S1x8x64x256, .f32⟩) (broadcastInDim S1x8x64x256 ![1, 2, 3] bcast_S8x64x256_S1x8x64x256_1_2_3),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.binaryIndexed (.of main_v7_6 : StableHlo.TRef sig ⟨S32x8x64x256, .f32⟩) (.of main_while0b_call4_v0 : StableHlo.TRef sig ⟨S1x8x64x256, .f32⟩) ![(.of main_v7_4 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩)] (.of main_while0b_v30 : StableHlo.TRef sig ⟨S32x8x64x256, .f32⟩) (fun x u i => Host.dynamicUpdateSlice x u (fun k => (i k (Shape.Idx.first h_S_)).toInt) updateFits_S32x8x64x256_S1x8x64x256) ]

theorem fwd5_sub : (fwd5 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem fwd5_fresh : (fwd5 : List (HloOp τ sig (Elt F))).Forall fun op => op.fresh = ∅ :=
  ⟨rfl, rfl, rfl, rfl, rfl⟩
/-- The buffers stretch 6 of one trip of the first loop writes. -/
abbrev fwd5_W : List (Ref sig .tc) := [main_while0b_call4_v0, main_while0b_call4_c, main_while0b_call4_c_0, main_while0b_call4_c_1, main_while0b_v30]
theorem fwd5_writes : (fwd5 : List (HloOp τ sig (Elt F))).Forall fun op => op.writes ⊆ (fwd5_W.map (Proc.devRef (τ := τ) .tc)).toFinset :=
  StableHlo.forall_writes_sub_of_map rfl
theorem fwd5_keep (V : Valuation τ sig (Elt F)) {r : Ref sig .tc} (h : r ∉ fwd5_W) :
    after fwd5 V (Proc.devRef .tc r) = V (Proc.devRef .tc r) :=
  after_of_writes_sub fwd5 V fwd5_writes h

/-- Stretch 7 of one trip of the first loop. -/
abbrev fwd6 : List (HloOp τ sig (Elt F)) :=
  [ StableHlo.TRef.unary (.of main_v7_5 : StableHlo.TRef sig ⟨S8x128x256, .f32⟩) (.of main_while0b_call5_v0 : StableHlo.TRef sig ⟨S1x8x128x256, .f32⟩) (broadcastInDim S1x8x128x256 ![1, 2, 3] bcast_S8x128x256_S1x8x128x256_1_2_3),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.nullary (.of main_while0b_call5_c_1 : StableHlo.TRef sig ⟨S_, .i32⟩) (constantI S_ 32 0#32),
    StableHlo.TRef.binaryIndexed (.of main_v7_7 : StableHlo.TRef sig ⟨S32x8x128x256, .f32⟩) (.of main_while0b_call5_v0 : StableHlo.TRef sig ⟨S1x8x128x256, .f32⟩) ![(.of main_v7_4 : StableHlo.TRef sig ⟨S_, .i32⟩), (.of main_while0b_call5_c : StableHlo.TRef sig ⟨S_, .i32⟩), (.of main_while0b_call5_c_0 : StableHlo.TRef sig ⟨S_, .i32⟩), (.of main_while0b_call5_c_1 : StableHlo.TRef sig ⟨S_, .i32⟩)] (.of main_while0b_v31 : StableHlo.TRef sig ⟨S32x8x128x256, .f32⟩) (fun x u i => Host.dynamicUpdateSlice x u (fun k => (i k (Shape.Idx.first h_S_)).toInt) updateFits_S32x8x128x256_S1x8x128x256) ]

theorem fwd6_sub : (fwd6 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem fwd6_fresh : (fwd6 : List (HloOp τ sig (Elt F))).Forall fun op => op.fresh = ∅ :=
  ⟨rfl, rfl, rfl, rfl, rfl⟩
/-- The buffers stretch 7 of one trip of the first loop writes. -/
abbrev fwd6_W : List (Ref sig .tc) := [main_while0b_call5_v0, main_while0b_call5_c, main_while0b_call5_c_0, main_while0b_call5_c_1, main_while0b_v31]
theorem fwd6_writes : (fwd6 : List (HloOp τ sig (Elt F))).Forall fun op => op.writes ⊆ (fwd6_W.map (Proc.devRef (τ := τ) .tc)).toFinset :=
  StableHlo.forall_writes_sub_of_map rfl
theorem fwd6_keep (V : Valuation τ sig (Elt F)) {r : Ref sig .tc} (h : r ∉ fwd6_W) :
    after fwd6 V (Proc.devRef .tc r) = V (Proc.devRef .tc r) :=
  after_of_writes_sub fwd6 V fwd6_writes h

/-- Stretch 8 of one trip of the first loop. -/
abbrev fwd7 : List (HloOp τ sig (Elt F)) :=
  [ StableHlo.nullary main_while0b_c_16 (constantI S_ 32 1#32),
    StableHlo.binary main_v7_4 main_while0b_c_16 main_while0b_v32 (addi : (⟨S_, .i32⟩ : BufTy).Contents (Elt F) → (⟨S_, .i32⟩ : BufTy).Contents (Elt F) → (⟨S_, .i32⟩ : BufTy).Contents (Elt F)),
    StableHlo.unary main_while0b_v32 main_v7_4 id,
    StableHlo.unary main_while0b_v29 main_v7_5 id,
    StableHlo.unary main_while0b_v30 main_v7_6 id,
    StableHlo.unary main_while0b_v31 main_v7_7 id ]

theorem fwd7_sub : (fwd7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem fwd7_fresh : (fwd7 : List (HloOp τ sig (Elt F))).Forall fun op => op.fresh = ∅ :=
  ⟨rfl, rfl, rfl, rfl, rfl, rfl⟩
/-- The buffers stretch 8 of one trip of the first loop writes. -/
abbrev fwd7_W : List (Ref sig .tc) := [main_while0b_c_16, main_while0b_v32, main_v7_4, main_v7_5, main_v7_6, main_v7_7]
theorem fwd7_writes : (fwd7 : List (HloOp τ sig (Elt F))).Forall fun op => op.writes ⊆ (fwd7_W.map (Proc.devRef (τ := τ) .tc)).toFinset :=
  StableHlo.forall_writes_sub_of_map rfl
theorem fwd7_keep (V : Valuation τ sig (Elt F)) {r : Ref sig .tc} (h : r ∉ fwd7_W) :
    after fwd7 V (Proc.devRef .tc r) = V (Proc.devRef .tc r) :=
  after_of_writes_sub fwd7 V fwd7_writes h

/-- Stretch 1 of one trip of the second loop. -/
abbrev bwd0 : List (HloOp τ sig (Elt F)) :=
  [ StableHlo.nullary main_while1b_c_20 (constantI S_ 32 32#32),
    StableHlo.binary main_while1b_c_20 main_v16_6 main_while1b_v21 (subi : (⟨S_, .i32⟩ : BufTy).Contents (Elt F) → (⟨S_, .i32⟩ : BufTy).Contents (Elt F) → (⟨S_, .i32⟩ : BufTy).Contents (Elt F)),
    StableHlo.nullary main_while1b_c_21 (constantI S_ 32 1#32),
    StableHlo.binary main_while1b_v21 main_while1b_c_21 main_while1b_v22 (subi : (⟨S_, .i32⟩ : BufTy).Contents (Elt F) → (⟨S_, .i32⟩ : BufTy).Contents (Elt F) → (⟨S_, .i32⟩ : BufTy).Contents (Elt F)) ]

theorem bwd0_sub : (bwd0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
theorem bwd0_fresh : (bwd0 : List (HloOp τ sig (Elt F))).Forall fun op => op.fresh = ∅ :=
  ⟨rfl, rfl, rfl, rfl⟩
/-- The buffers stretch 1 of one trip of the second loop writes. -/
abbrev bwd0_W : List (Ref sig .tc) := [main_while1b_c_20, main_while1b_v21, main_while1b_c_21, main_while1b_v22]
theorem bwd0_writes : (bwd0 : List (HloOp τ sig (Elt F))).Forall fun op => op.writes ⊆ (bwd0_W.map (Proc.devRef (τ := τ) .tc)).toFinset :=
  StableHlo.forall_writes_sub_of_map rfl
theorem bwd0_keep (V : Valuation τ sig (Elt F)) {r : Ref sig .tc} (h : r ∉ bwd0_W) :
    after bwd0 V (Proc.devRef .tc r) = V (Proc.devRef .tc r) :=
  after_of_writes_sub bwd0 V bwd0_writes h

/-- Stretch 2 of one trip of the second loop. -/
abbrev bwd1 : List (HloOp τ sig (Elt F)) :=
  [ StableHlo.TRef.nullary (.of main_while1b_call6_c : StableHlo.TRef sig ⟨S_, .i32⟩) (constantI S_ 32 0#32),
    StableHlo.TRef.nullary (.of main_while1b_call6_c_0 : StableHlo.TRef sig ⟨S_, .i32⟩) (constantI S_ 32 0#32),
    StableHlo.TRef.nullary (.of main_while1b_call6_c_1 : StableHlo.TRef sig ⟨S_, .i32⟩) (constantI S_ 32 0#32),
    StableHlo.TRef.unaryIndexed (.of main_v16_0 : StableHlo.TRef sig ⟨S32x8x64x256, .f32⟩) ![(.of main_while1b_v22 : StableHlo.TRef sig ⟨S_, .i32⟩), (.of main_while1b_call6_c : StableHlo.TRef sig ⟨S_, .i32⟩), (.of main_while1b_call6_c_0 : StableHlo.TRef sig ⟨S_, .i32⟩), (.of main_while1b_call6_c_1 : StableHlo.TRef sig ⟨S_, .i32⟩)] (.of main_while1b_call6_v0 : StableHlo.TRef sig ⟨S1x8x64x256, .f32⟩) (fun x i => Host.dynamicSlice S1x8x64x256 x (fun k => (i k (Shape.Idx.first h_S_)).toInt) sliceFits_S32x8x64x256_S1x8x64x256),
    StableHlo.TRef.reshape (.of main_while1b_call6_v0 : StableHlo.TRef sig ⟨S1x8x64x256, .f32⟩) (.of main_while1b_v23 : StableHlo.TRef sig ⟨S8x64x256, .f32⟩) (rfl : (.f32 : EltTy) = .f32) shapeCasts_S1x8x64x256_S8x64x256 ]

theorem bwd1_sub : (bwd1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem bwd1_fresh : (bwd1 : List (HloOp τ sig (Elt F))).Forall fun op => op.fresh = ∅ :=
  ⟨rfl, rfl, rfl, rfl, rfl⟩
/-- The buffers stretch 2 of one trip of the second loop writes. -/
abbrev bwd1_W : List (Ref sig .tc) := [main_while1b_call6_c, main_while1b_call6_c_0, main_while1b_call6_c_1, main_while1b_call6_v0, main_while1b_v23]
theorem bwd1_writes : (bwd1 : List (HloOp τ sig (Elt F))).Forall fun op => op.writes ⊆ (bwd1_W.map (Proc.devRef (τ := τ) .tc)).toFinset :=
  StableHlo.forall_writes_sub_of_map rfl
theorem bwd1_keep (V : Valuation τ sig (Elt F)) {r : Ref sig .tc} (h : r ∉ bwd1_W) :
    after bwd1 V (Proc.devRef .tc r) = V (Proc.devRef .tc r) :=
  after_of_writes_sub bwd1 V bwd1_writes h

/-- Stretch 3 of one trip of the second loop. -/
abbrev bwd2 : List (HloOp τ sig (Elt F)) :=
  [ StableHlo.TRef.nullary (.of main_while1b_call7_c : StableHlo.TRef sig ⟨S_, .i32⟩) (constantI S_ 32 0#32),
    StableHlo.TRef.nullary (.of main_while1b_call7_c_0 : StableHlo.TRef sig ⟨S_, .i32⟩) (constantI S_ 32 0#32),
    StableHlo.TRef.nullary (.of main_while1b_call7_c_1 : StableHlo.TRef sig ⟨S_, .i32⟩) (constantI S_ 32 0#32),
    StableHlo.TRef.unaryIndexed (.of main_v16_1 : StableHlo.TRef sig ⟨S32x8x128x256, .f32⟩) ![(.of main_while1b_v22 : StableHlo.TRef sig ⟨S_, .i32⟩), (.of main_while1b_call7_c : StableHlo.TRef sig ⟨S_, .i32⟩), (.of main_while1b_call7_c_0 : StableHlo.TRef sig ⟨S_, .i32⟩), (.of main_while1b_call7_c_1 : StableHlo.TRef sig ⟨S_, .i32⟩)] (.of main_while1b_call7_v0 : StableHlo.TRef sig ⟨S1x8x128x256, .f32⟩) (fun x i => Host.dynamicSlice S1x8x128x256 x (fun k => (i k (Shape.Idx.first h_S_)).toInt) sliceFits_S32x8x128x256_S1x8x128x256),
    StableHlo.TRef.reshape (.of main_while1b_call7_v0 : StableHlo.TRef sig ⟨S1x8x128x256, .f32⟩) (.of main_while1b_v24 : StableHlo.TRef sig ⟨S8x128x256, .f32⟩) (rfl : (.f32 : EltTy) = .f32) shapeCasts_S1x8x128x256_S8x128x256 ]

theorem bwd2_sub : (bwd2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem bwd2_fresh : (bwd2 : List (HloOp τ sig (Elt F))).Forall fun op => op.fresh = ∅ :=
  ⟨rfl, rfl, rfl, rfl, rfl⟩
/-- The buffers stretch 3 of one trip of the second loop writes. -/
abbrev bwd2_W : List (Ref sig .tc) := [main_while1b_call7_c, main_while1b_call7_c_0, main_while1b_call7_c_1, main_while1b_call7_v0, main_while1b_v24]
theorem bwd2_writes : (bwd2 : List (HloOp τ sig (Elt F))).Forall fun op => op.writes ⊆ (bwd2_W.map (Proc.devRef (τ := τ) .tc)).toFinset :=
  StableHlo.forall_writes_sub_of_map rfl
theorem bwd2_keep (V : Valuation τ sig (Elt F)) {r : Ref sig .tc} (h : r ∉ bwd2_W) :
    after bwd2 V (Proc.devRef .tc r) = V (Proc.devRef .tc r) :=
  after_of_writes_sub bwd2 V bwd2_writes h

/-- Stretch 4 of one trip of the second loop. -/
abbrev bwd3 : List (HloOp τ sig (Elt F)) :=
  [ StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.nullary (.of main_while1b_call8_c_1 : StableHlo.TRef sig ⟨S_, .i32⟩) (constantI S_ 32 0#32),
    StableHlo.TRef.unaryIndexed (.of main_v16_2 : StableHlo.TRef sig ⟨S32x8x64x128, .f32⟩) ![(.of main_while1b_v22 : StableHlo.TRef sig ⟨S_, .i32⟩), (.of main_while1b_call8_c : StableHlo.TRef sig ⟨S_, .i32⟩), (.of main_while1b_call8_c_0 : StableHlo.TRef sig ⟨S_, .i32⟩), (.of main_while1b_call8_c_1 : StableHlo.TRef sig ⟨S_, .i32⟩)] (.of main_while1b_call8_v0 : StableHlo.TRef sig ⟨S1x8x64x128, .f32⟩) (fun x i => Host.dynamicSlice S1x8x64x128 x (fun k => (i k (Shape.Idx.first h_S_)).toInt) sliceFits_S32x8x64x128_S1x8x64x128),
    StableHlo.TRef.reshape (.of main_while1b_call8_v0 : StableHlo.TRef sig ⟨S1x8x64x128, .f32⟩) (.of main_while1b_v25 : StableHlo.TRef sig ⟨S8x64x128, .f32⟩) (rfl : (.f32 : EltTy) = .f32) shapeCasts_S1x8x64x128_S8x64x128 ]

theorem bwd3_sub : (bwd3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem bwd3_fresh : (bwd3 : List (HloOp τ sig (Elt F))).Forall fun op => op.fresh = ∅ :=
  ⟨rfl, rfl, rfl, rfl, rfl⟩
/-- The buffers stretch 4 of one trip of the second loop writes. -/
abbrev bwd3_W : List (Ref sig .tc) := [main_while1b_call8_c, main_while1b_call8_c_0, main_while1b_call8_c_1, main_while1b_call8_v0, main_while1b_v25]
theorem bwd3_writes : (bwd3 : List (HloOp τ sig (Elt F))).Forall fun op => op.writes ⊆ (bwd3_W.map (Proc.devRef (τ := τ) .tc)).toFinset :=
  StableHlo.forall_writes_sub_of_map rfl
theorem bwd3_keep (V : Valuation τ sig (Elt F)) {r : Ref sig .tc} (h : r ∉ bwd3_W) :
    after bwd3 V (Proc.devRef .tc r) = V (Proc.devRef .tc r) :=
  after_of_writes_sub bwd3 V bwd3_writes h

/-- Stretch 5 of one trip of the second loop. -/
abbrev bwd4 : List (HloOp τ sig (Elt F)) :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.nullary (.of main_while1b_call9_c_1 : StableHlo.TRef sig ⟨S_, .i32⟩) (constantI S_ 32 0#32),
    StableHlo.TRef.unaryIndexed (.of main_v16_3 : StableHlo.TRef sig ⟨S32x8x128x1, .f32⟩) ![(.of main_while1b_v22 : StableHlo.TRef sig ⟨S_, .i32⟩), (.of main_while1b_call9_c : StableHlo.TRef sig ⟨S_, .i32⟩), (.of main_while1b_call9_c_0 : StableHlo.TRef sig ⟨S_, .i32⟩), (.of main_while1b_call9_c_1 : StableHlo.TRef sig ⟨S_, .i32⟩)] (.of main_while1b_call9_v0 : StableHlo.TRef sig ⟨S1x8x128x1, .f32⟩) (fun x i => Host.dynamicSlice S1x8x128x1 x (fun k => (i k (Shape.Idx.first h_S_)).toInt) sliceFits_S32x8x128x1_S1x8x128x1),
    StableHlo.TRef.reshape (.of main_while1b_call9_v0 : StableHlo.TRef sig ⟨S1x8x128x1, .f32⟩) (.of main_while1b_v26 : StableHlo.TRef sig ⟨S8x128x1, .f32⟩) (rfl : (.f32 : EltTy) = .f32) shapeCasts_S1x8x128x1_S8x128x1 ]

theorem bwd4_sub : (bwd4 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem bwd4_fresh : (bwd4 : List (HloOp τ sig (Elt F))).Forall fun op => op.fresh = ∅ :=
  ⟨rfl, rfl, rfl, rfl, rfl⟩
/-- The buffers stretch 5 of one trip of the second loop writes. -/
abbrev bwd4_W : List (Ref sig .tc) := [main_while1b_call9_c, main_while1b_call9_c_0, main_while1b_call9_c_1, main_while1b_call9_v0, main_while1b_v26]
theorem bwd4_writes : (bwd4 : List (HloOp τ sig (Elt F))).Forall fun op => op.writes ⊆ (bwd4_W.map (Proc.devRef (τ := τ) .tc)).toFinset :=
  StableHlo.forall_writes_sub_of_map rfl
theorem bwd4_keep (V : Valuation τ sig (Elt F)) {r : Ref sig .tc} (h : r ∉ bwd4_W) :
    after bwd4 V (Proc.devRef .tc r) = V (Proc.devRef .tc r) :=
  after_of_writes_sub bwd4 V bwd4_writes h

/-- Stretch 6 of one trip of the second loop. -/
abbrev bwd5 : List (HloOp τ sig (Elt F)) :=
  [ StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.nullary (.of main_while1b_call10_c_1 : StableHlo.TRef sig ⟨S_, .i32⟩) (constantI S_ 32 0#32),
    StableHlo.TRef.unaryIndexed (.of main_v16_4 : StableHlo.TRef sig ⟨S32x8x64x256, .f32⟩) ![(.of main_while1b_v22 : StableHlo.TRef sig ⟨S_, .i32⟩), (.of main_while1b_call10_c : StableHlo.TRef sig ⟨S_, .i32⟩), (.of main_while1b_call10_c_0 : StableHlo.TRef sig ⟨S_, .i32⟩), (.of main_while1b_call10_c_1 : StableHlo.TRef sig ⟨S_, .i32⟩)] (.of main_while1b_call10_v0 : StableHlo.TRef sig ⟨S1x8x64x256, .f32⟩) (fun x i => Host.dynamicSlice S1x8x64x256 x (fun k => (i k (Shape.Idx.first h_S_)).toInt) sliceFits_S32x8x64x256_S1x8x64x256),
    StableHlo.TRef.reshape (.of main_while1b_call10_v0 : StableHlo.TRef sig ⟨S1x8x64x256, .f32⟩) (.of main_while1b_v27 : StableHlo.TRef sig ⟨S8x64x256, .f32⟩) (rfl : (.f32 : EltTy) = .f32) shapeCasts_S1x8x64x256_S8x64x256 ]

theorem bwd5_sub : (bwd5 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem bwd5_fresh : (bwd5 : List (HloOp τ sig (Elt F))).Forall fun op => op.fresh = ∅ :=
  ⟨rfl, rfl, rfl, rfl, rfl⟩
/-- The buffers stretch 6 of one trip of the second loop writes. -/
abbrev bwd5_W : List (Ref sig .tc) := [main_while1b_call10_c, main_while1b_call10_c_0, main_while1b_call10_c_1, main_while1b_call10_v0, main_while1b_v27]
theorem bwd5_writes : (bwd5 : List (HloOp τ sig (Elt F))).Forall fun op => op.writes ⊆ (bwd5_W.map (Proc.devRef (τ := τ) .tc)).toFinset :=
  StableHlo.forall_writes_sub_of_map rfl
theorem bwd5_keep (V : Valuation τ sig (Elt F)) {r : Ref sig .tc} (h : r ∉ bwd5_W) :
    after bwd5 V (Proc.devRef .tc r) = V (Proc.devRef .tc r) :=
  after_of_writes_sub bwd5 V bwd5_writes h

/-- Stretch 7 of one trip of the second loop. -/
abbrev bwd6 : List (HloOp τ sig (Elt F)) :=
  [ StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.nullary (.of main_while1b_call11_c_1 : StableHlo.TRef sig ⟨S_, .i32⟩) (constantI S_ 32 0#32),
    StableHlo.TRef.unaryIndexed (.of main_v16_5 : StableHlo.TRef sig ⟨S32x8x64x128, .f32⟩) ![(.of main_while1b_v22 : StableHlo.TRef sig ⟨S_, .i32⟩), (.of main_while1b_call11_c : StableHlo.TRef sig ⟨S_, .i32⟩), (.of main_while1b_call11_c_0 : StableHlo.TRef sig ⟨S_, .i32⟩), (.of main_while1b_call11_c_1 : StableHlo.TRef sig ⟨S_, .i32⟩)] (.of main_while1b_call11_v0 : StableHlo.TRef sig ⟨S1x8x64x128, .f32⟩) (fun x i => Host.dynamicSlice S1x8x64x128 x (fun k => (i k (Shape.Idx.first h_S_)).toInt) sliceFits_S32x8x64x128_S1x8x64x128),
    StableHlo.TRef.reshape (.of main_while1b_call11_v0 : StableHlo.TRef sig ⟨S1x8x64x128, .f32⟩) (.of main_while1b_v28 : StableHlo.TRef sig ⟨S8x64x128, .f32⟩) (rfl : (.f32 : EltTy) = .f32) shapeCasts_S1x8x64x128_S8x64x128 ]

theorem bwd6_sub : (bwd6 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem bwd6_fresh : (bwd6 : List (HloOp τ sig (Elt F))).Forall fun op => op.fresh = ∅ :=
  ⟨rfl, rfl, rfl, rfl, rfl⟩
/-- The buffers stretch 7 of one trip of the second loop writes. -/
abbrev bwd6_W : List (Ref sig .tc) := [main_while1b_call11_c, main_while1b_call11_c_0, main_while1b_call11_c_1, main_while1b_call11_v0, main_while1b_v28]
theorem bwd6_writes : (bwd6 : List (HloOp τ sig (Elt F))).Forall fun op => op.writes ⊆ (bwd6_W.map (Proc.devRef (τ := τ) .tc)).toFinset :=
  StableHlo.forall_writes_sub_of_map rfl
theorem bwd6_keep (V : Valuation τ sig (Elt F)) {r : Ref sig .tc} (h : r ∉ bwd6_W) :
    after bwd6 V (Proc.devRef .tc r) = V (Proc.devRef .tc r) :=
  after_of_writes_sub bwd6 V bwd6_writes h

/-- Stretch 8 of one trip of the second loop. -/
abbrev bwd7 : List (HloOp τ sig (Elt F)) :=
  [ StableHlo.binary main_v16_7 main_while1b_v28 main_while1b_v29 ((fun l r => Host.dotGeneral dot_S8x128x256_S8x64x128_S8x256x64_1_2_2_1_0_0 none l r) : (⟨S8x128x256, .f32⟩ : BufTy).Contents (Elt F) → (⟨S8x64x128, .f32⟩ : BufTy).Contents (Elt F) → (⟨S8x256x64, .f32⟩ : BufTy).Contents (Elt F)),
    StableHlo.unary main_while1b_v29 main_while1b_v30 ((transpose S8x64x256 [0, 2, 1] · transposes_S8x256x64_S8x64x256_0_2_1) : (⟨S8x256x64, .f32⟩ : BufTy).Contents (Elt F) → (⟨S8x64x256, .f32⟩ : BufTy).Contents (Elt F)),
    StableHlo.binary main_v16_7 main_while1b_v27 main_while1b_v31 ((fun l r => Host.dotGeneral dot_S8x128x256_S8x64x256_S8x128x64_2_2_1_1_0_0 none l r) : (⟨S8x128x256, .f32⟩ : BufTy).Contents (Elt F) → (⟨S8x64x256, .f32⟩ : BufTy).Contents (Elt F) → (⟨S8x128x64, .f32⟩ : BufTy).Contents (Elt F)),
    StableHlo.unary main_while1b_v31 main_while1b_v32 ((transpose S8x64x128 [0, 2, 1] · transposes_S8x128x64_S8x64x128_0_2_1) : (⟨S8x128x64, .f32⟩ : BufTy).Contents (Elt F) → (⟨S8x64x128, .f32⟩ : BufTy).Contents (Elt F)),
    StableHlo.binary main_while1b_v24 main_v16_7 main_while1b_v33 (mulf : (⟨S8x128x256, .f32⟩ : BufTy).Contents (Elt F) → (⟨S8x128x256, .f32⟩ : BufTy).Contents (Elt F) → (⟨S8x128x256, .f32⟩ : BufTy).Contents (Elt F)),
    StableHlo.nullary main_while1b_cst_22 (constant S_ .f32 0x00000000#32),
    StableHlo.binary main_while1b_v33 main_while1b_cst_22 main_while1b_v34 ((fun x v => Host.reduceAdd x v reducesTo_S8x128x256_S8x128_d2 h_S_) : (⟨S8x128x256, .f32⟩ : BufTy).Contents (Elt F) → (⟨S_, .f32⟩ : BufTy).Contents (Elt F) → (⟨S8x128, .f32⟩ : BufTy).Contents (Elt F)),
    StableHlo.reshape main_while1b_v34 main_while1b_v35 (rfl : (.f32 : EltTy) = .f32) shapeCasts_S8x128_S8x128x1,
    StableHlo.unary main_while1b_v26 main_while1b_v36 (broadcastInDim S8x128x256 ![0, 1, 2] bcast_S8x128x1_S8x128x256_0_1_2 : (⟨S8x128x1, .f32⟩ : BufTy).Contents (Elt F) → (⟨S8x128x256, .f32⟩ : BufTy).Contents (Elt F)),
    StableHlo.binary main_v16_7 main_while1b_v36 main_while1b_v37 (mulf : (⟨S8x128x256, .f32⟩ : BufTy).Contents (Elt F) → (⟨S8x128x256, .f32⟩ : BufTy).Contents (Elt F) → (⟨S8x128x256, .f32⟩ : BufTy).Contents (Elt F)),
    StableHlo.binary main_while1b_v23 main_while1b_v25 main_while1b_v38 ((fun l r => Host.dotGeneral dot_S8x64x256_S8x64x128_S8x256x128_1_1_2_2_0_0 none l r) : (⟨S8x64x256, .f32⟩ : BufTy).Contents (Elt F) → (⟨S8x64x128, .f32⟩ : BufTy).Contents (Elt F) → (⟨S8x256x128, .f32⟩ : BufTy).Contents (Elt F)),
    StableHlo.unary main_while1b_v38 main_while1b_v39 ((transpose S8x128x256 [0, 2, 1] · transposes_S8x256x128_S8x128x256_0_2_1) : (⟨S8x256x128, .f32⟩ : BufTy).Contents (Elt F) → (⟨S8x128x256, .f32⟩ : BufTy).Contents (Elt F)),
    StableHlo.binary main_while1b_v37 main_while1b_v39 main_while1b_v40 (addf : (⟨S8x128x256, .f32⟩ : BufTy).Contents (Elt F) → (⟨S8x128x256, .f32⟩ : BufTy).Contents (Elt F) → (⟨S8x128x256, .f32⟩ : BufTy).Contents (Elt F)),
    StableHlo.binary main_while1b_v23 main_while1b_v24 main_while1b_v41 ((fun l r => Host.dotGeneral dot_S8x64x256_S8x128x256_S8x64x128_2_2_1_1_0_0 none l r) : (⟨S8x64x256, .f32⟩ : BufTy).Contents (Elt F) → (⟨S8x128x256, .f32⟩ : BufTy).Contents (Elt F) → (⟨S8x64x128, .f32⟩ : BufTy).Contents (Elt F)) ]

theorem bwd7_sub : (bwd7 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.binary_bufs_sub .., StableHlo.unary_bufs_sub .., StableHlo.binary_bufs_sub .., StableHlo.binary_bufs_sub ..⟩
theorem bwd7_fresh : (bwd7 : List (HloOp τ sig (Elt F))).Forall fun op => op.fresh = ∅ :=
  ⟨rfl, rfl, rfl, rfl, rfl, rfl, rfl, rfl, rfl, rfl, rfl, rfl, rfl, rfl⟩
/-- The buffers stretch 8 of one trip of the second loop writes. -/
abbrev bwd7_W : List (Ref sig .tc) := [main_while1b_v29, main_while1b_v30, main_while1b_v31, main_while1b_v32, main_while1b_v33, main_while1b_cst_22, main_while1b_v34, main_while1b_v35, main_while1b_v36, main_while1b_v37, main_while1b_v38, main_while1b_v39, main_while1b_v40, main_while1b_v41]
theorem bwd7_writes : (bwd7 : List (HloOp τ sig (Elt F))).Forall fun op => op.writes ⊆ (bwd7_W.map (Proc.devRef (τ := τ) .tc)).toFinset :=
  StableHlo.forall_writes_sub_of_map rfl
theorem bwd7_keep (V : Valuation τ sig (Elt F)) {r : Ref sig .tc} (h : r ∉ bwd7_W) :
    after bwd7 V (Proc.devRef .tc r) = V (Proc.devRef .tc r) :=
  after_of_writes_sub bwd7 V bwd7_writes h

/-- Stretch 9 of one trip of the second loop. -/
abbrev bwd8 : List (HloOp τ sig (Elt F)) :=
  [ StableHlo.TRef.unary (.of main_while1b_v41 : StableHlo.TRef sig ⟨S8x64x128, .f32⟩) (.of main_while1b_call12_v0 : StableHlo.TRef sig ⟨S1x8x64x128, .f32⟩) (broadcastInDim S1x8x64x128 ![1, 2, 3] bcast_S8x64x128_S1x8x64x128_1_2_3),
    StableHlo.TRef.nullary (.of main_while1b_call12_c : StableHlo.TRef sig ⟨S_, .i32⟩) (constantI S_ 32 0#32),
    StableHlo.TRef.nullary (.of main_while1b_call12_c_0 : StableHlo.TRef sig ⟨S_, .i32⟩) (constantI S_ 32 0#32),
    StableHlo.TRef.nullary (.of main_while1b_call12_c_1 : StableHlo.TRef sig ⟨S_, .i32⟩) (constantI S_ 32 0#32),
    StableHlo.TRef.binaryIndexed (.of main_v16_8 : StableHlo.TRef sig ⟨S32x8x64x128, .f32⟩) (.of main_while1b_call12_v0 : StableHlo.TRef sig ⟨S1x8x64x128, .f32⟩) ![(.of main_while1b_v22 : StableHlo.TRef sig ⟨S_, .i32⟩), (.of main_while1b_call12_c : StableHlo.TRef sig ⟨S_, .i32⟩), (.of main_while1b_call12_c_0 : StableHlo.TRef sig ⟨S_, .i32⟩), (.of main_while1b_call12_c_1 : StableHlo.TRef sig ⟨S_, .i32⟩)] (.of main_while1b_v42 : StableHlo.TRef sig ⟨S32x8x64x128, .f32⟩) (fun x u i => Host.dynamicUpdateSlice x u (fun k => (i k (Shape.Idx.first h_S_)).toInt) updateFits_S32x8x64x128_S1x8x64x128) ]

theorem bwd8_sub : (bwd8 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem bwd8_fresh : (bwd8 : List (HloOp τ sig (Elt F))).Forall fun op => op.fresh = ∅ :=
  ⟨rfl, rfl, rfl, rfl, rfl⟩
/-- The buffers stretch 9 of one trip of the second loop writes. -/
abbrev bwd8_W : List (Ref sig .tc) := [main_while1b_call12_v0, main_while1b_call12_c, main_while1b_call12_c_0, main_while1b_call12_c_1, main_while1b_v42]
theorem bwd8_writes : (bwd8 : List (HloOp τ sig (Elt F))).Forall fun op => op.writes ⊆ (bwd8_W.map (Proc.devRef (τ := τ) .tc)).toFinset :=
  StableHlo.forall_writes_sub_of_map rfl
theorem bwd8_keep (V : Valuation τ sig (Elt F)) {r : Ref sig .tc} (h : r ∉ bwd8_W) :
    after bwd8 V (Proc.devRef .tc r) = V (Proc.devRef .tc r) :=
  after_of_writes_sub bwd8 V bwd8_writes h

/-- Stretch 10 of one trip of the second loop. -/
abbrev bwd9 : List (HloOp τ sig (Elt F)) :=
  [ StableHlo.TRef.unary (.of main_while1b_v32 : StableHlo.TRef sig ⟨S8x64x128, .f32⟩) (.of main_while1b_call13_v0 : StableHlo.TRef sig ⟨S1x8x64x128, .f32⟩) (broadcastInDim S1x8x64x128 ![1, 2, 3] bcast_S8x64x128_S1x8x64x128_1_2_3),
    StableHlo.TRef.nullary (.of main_while1b_call13_c : StableHlo.TRef sig ⟨S_, .i32⟩) (constantI S_ 32 0#32),
    StableHlo.TRef.nullary (.of main_while1b_call13_c_0 : StableHlo.TRef sig ⟨S_, .i32⟩) (constantI S_ 32 0#32),
    StableHlo.TRef.nullary (.of main_while1b_call13_c_1 : StableHlo.TRef sig ⟨S_, .i32⟩) (constantI S_ 32 0#32),
    StableHlo.TRef.binaryIndexed (.of main_v16_9 : StableHlo.TRef sig ⟨S32x8x64x128, .f32⟩) (.of main_while1b_call13_v0 : StableHlo.TRef sig ⟨S1x8x64x128, .f32⟩) ![(.of main_while1b_v22 : StableHlo.TRef sig ⟨S_, .i32⟩), (.of main_while1b_call13_c : StableHlo.TRef sig ⟨S_, .i32⟩), (.of main_while1b_call13_c_0 : StableHlo.TRef sig ⟨S_, .i32⟩), (.of main_while1b_call13_c_1 : StableHlo.TRef sig ⟨S_, .i32⟩)] (.of main_while1b_v43 : StableHlo.TRef sig ⟨S32x8x64x128, .f32⟩) (fun x u i => Host.dynamicUpdateSlice x u (fun k => (i k (Shape.Idx.first h_S_)).toInt) updateFits_S32x8x64x128_S1x8x64x128) ]

theorem bwd9_sub : (bwd9 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem bwd9_fresh : (bwd9 : List (HloOp τ sig (Elt F))).Forall fun op => op.fresh = ∅ :=
  ⟨rfl, rfl, rfl, rfl, rfl⟩
/-- The buffers stretch 10 of one trip of the second loop writes. -/
abbrev bwd9_W : List (Ref sig .tc) := [main_while1b_call13_v0, main_while1b_call13_c, main_while1b_call13_c_0, main_while1b_call13_c_1, main_while1b_v43]
theorem bwd9_writes : (bwd9 : List (HloOp τ sig (Elt F))).Forall fun op => op.writes ⊆ (bwd9_W.map (Proc.devRef (τ := τ) .tc)).toFinset :=
  StableHlo.forall_writes_sub_of_map rfl
theorem bwd9_keep (V : Valuation τ sig (Elt F)) {r : Ref sig .tc} (h : r ∉ bwd9_W) :
    after bwd9 V (Proc.devRef .tc r) = V (Proc.devRef .tc r) :=
  after_of_writes_sub bwd9 V bwd9_writes h

/-- Stretch 11 of one trip of the second loop. -/
abbrev bwd10 : List (HloOp τ sig (Elt F)) :=
  [ StableHlo.TRef.unary (.of main_while1b_v30 : StableHlo.TRef sig ⟨S8x64x256, .f32⟩) (.of main_while1b_call14_v0 : StableHlo.TRef sig ⟨S1x8x64x256, .f32⟩) (broadcastInDim S1x8x64x256 ![1, 2, 3] bcast_S8x64x256_S1x8x64x256_1_2_3),
    StableHlo.TRef.nullary (.of main_while1b_call14_c : StableHlo.TRef sig ⟨S_, .i32⟩) (constantI S_ 32 0#32),
    StableHlo.TRef.nullary (.of main_while1b_call14_c_0 : StableHlo.TRef sig ⟨S_, .i32⟩) (constantI S_ 32 0#32),
    StableHlo.TRef.nullary (.of main_while1b_call14_c_1 : StableHlo.TRef sig ⟨S_, .i32⟩) (constantI S_ 32 0#32),
    StableHlo.TRef.binaryIndexed (.of main_v16_10 : StableHlo.TRef sig ⟨S32x8x64x256, .f32⟩) (.of main_while1b_call14_v0 : StableHlo.TRef sig ⟨S1x8x64x256, .f32⟩) ![(.of main_while1b_v22 : StableHlo.TRef sig ⟨S_, .i32⟩), (.of main_while1b_call14_c : StableHlo.TRef sig ⟨S_, .i32⟩), (.of main_while1b_call14_c_0 : StableHlo.TRef sig ⟨S_, .i32⟩), (.of main_while1b_call14_c_1 : StableHlo.TRef sig ⟨S_, .i32⟩)] (.of main_while1b_v44 : StableHlo.TRef sig ⟨S32x8x64x256, .f32⟩) (fun x u i => Host.dynamicUpdateSlice x u (fun k => (i k (Shape.Idx.first h_S_)).toInt) updateFits_S32x8x64x256_S1x8x64x256) ]

theorem bwd10_sub : (bwd10 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem bwd10_fresh : (bwd10 : List (HloOp τ sig (Elt F))).Forall fun op => op.fresh = ∅ :=
  ⟨rfl, rfl, rfl, rfl, rfl⟩
/-- The buffers stretch 11 of one trip of the second loop writes. -/
abbrev bwd10_W : List (Ref sig .tc) := [main_while1b_call14_v0, main_while1b_call14_c, main_while1b_call14_c_0, main_while1b_call14_c_1, main_while1b_v44]
theorem bwd10_writes : (bwd10 : List (HloOp τ sig (Elt F))).Forall fun op => op.writes ⊆ (bwd10_W.map (Proc.devRef (τ := τ) .tc)).toFinset :=
  StableHlo.forall_writes_sub_of_map rfl
theorem bwd10_keep (V : Valuation τ sig (Elt F)) {r : Ref sig .tc} (h : r ∉ bwd10_W) :
    after bwd10 V (Proc.devRef .tc r) = V (Proc.devRef .tc r) :=
  after_of_writes_sub bwd10 V bwd10_writes h

/-- Stretch 12 of one trip of the second loop. -/
abbrev bwd11 : List (HloOp τ sig (Elt F)) :=
  [ StableHlo.TRef.unary (.of main_while1b_v35 : StableHlo.TRef sig ⟨S8x128x1, .f32⟩) (.of main_while1b_call15_v0 : StableHlo.TRef sig ⟨S1x8x128x1, .f32⟩) (broadcastInDim S1x8x128x1 ![1, 2, 3] bcast_S8x128x1_S1x8x128x1_1_2_3),
    StableHlo.TRef.nullary (.of main_while1b_call15_c : StableHlo.TRef sig ⟨S_, .i32⟩) (constantI S_ 32 0#32),
    StableHlo.TRef.nullary (.of main_while1b_call15_c_0 : StableHlo.TRef sig ⟨S_, .i32⟩) (constantI S_ 32 0#32),
    StableHlo.TRef.nullary (.of main_while1b_call15_c_1 : StableHlo.TRef sig ⟨S_, .i32⟩) (constantI S_ 32 0#32),
    StableHlo.TRef.binaryIndexed (.of main_v16_11 : StableHlo.TRef sig ⟨S32x8x128x1, .f32⟩) (.of main_while1b_call15_v0 : StableHlo.TRef sig ⟨S1x8x128x1, .f32⟩) ![(.of main_while1b_v22 : StableHlo.TRef sig ⟨S_, .i32⟩), (.of main_while1b_call15_c : StableHlo.TRef sig ⟨S_, .i32⟩), (.of main_while1b_call15_c_0 : StableHlo.TRef sig ⟨S_, .i32⟩), (.of main_while1b_call15_c_1 : StableHlo.TRef sig ⟨S_, .i32⟩)] (.of main_while1b_v45 : StableHlo.TRef sig ⟨S32x8x128x1, .f32⟩) (fun x u i => Host.dynamicUpdateSlice x u (fun k => (i k (Shape.Idx.first h_S_)).toInt) updateFits_S32x8x128x1_S1x8x128x1) ]

theorem bwd11_sub : (bwd11 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem bwd11_fresh : (bwd11 : List (HloOp τ sig (Elt F))).Forall fun op => op.fresh = ∅ :=
  ⟨rfl, rfl, rfl, rfl, rfl⟩
/-- The buffers stretch 12 of one trip of the second loop writes. -/
abbrev bwd11_W : List (Ref sig .tc) := [main_while1b_call15_v0, main_while1b_call15_c, main_while1b_call15_c_0, main_while1b_call15_c_1, main_while1b_v45]
theorem bwd11_writes : (bwd11 : List (HloOp τ sig (Elt F))).Forall fun op => op.writes ⊆ (bwd11_W.map (Proc.devRef (τ := τ) .tc)).toFinset :=
  StableHlo.forall_writes_sub_of_map rfl
theorem bwd11_keep (V : Valuation τ sig (Elt F)) {r : Ref sig .tc} (h : r ∉ bwd11_W) :
    after bwd11 V (Proc.devRef .tc r) = V (Proc.devRef .tc r) :=
  after_of_writes_sub bwd11 V bwd11_writes h

/-- Stretch 13 of one trip of the second loop. -/
abbrev bwd12 : List (HloOp τ sig (Elt F)) :=
  [ StableHlo.nullary main_while1b_c_23 (constantI S_ 32 1#32),
    StableHlo.binary main_v16_6 main_while1b_c_23 main_while1b_v46 (addi : (⟨S_, .i32⟩ : BufTy).Contents (Elt F) → (⟨S_, .i32⟩ : BufTy).Contents (Elt F) → (⟨S_, .i32⟩ : BufTy).Contents (Elt F)),
    StableHlo.unary main_while1b_v46 main_v16_6 id,
    StableHlo.unary main_while1b_v40 main_v16_7 id,
    StableHlo.unary main_while1b_v42 main_v16_8 id,
    StableHlo.unary main_while1b_v43 main_v16_9 id,
    StableHlo.unary main_while1b_v44 main_v16_10 id,
    StableHlo.unary main_while1b_v45 main_v16_11 id ]

theorem bwd12_sub : (bwd12 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
theorem bwd12_fresh : (bwd12 : List (HloOp τ sig (Elt F))).Forall fun op => op.fresh = ∅ :=
  ⟨rfl, rfl, rfl, rfl, rfl, rfl, rfl, rfl⟩
/-- The buffers stretch 13 of one trip of the second loop writes. -/
abbrev bwd12_W : List (Ref sig .tc) := [main_while1b_c_23, main_while1b_v46, main_v16_6, main_v16_7, main_v16_8, main_v16_9, main_v16_10, main_v16_11]
theorem bwd12_writes : (bwd12 : List (HloOp τ sig (Elt F))).Forall fun op => op.writes ⊆ (bwd12_W.map (Proc.devRef (τ := τ) .tc)).toFinset :=
  StableHlo.forall_writes_sub_of_map rfl
theorem bwd12_keep (V : Valuation τ sig (Elt F)) {r : Ref sig .tc} (h : r ∉ bwd12_W) :
    after bwd12 V (Proc.devRef .tc r) = V (Proc.devRef .tc r) :=
  after_of_writes_sub bwd12 V bwd12_writes h

/-- `main` is its stretches and its two loops in order. -/
theorem main_chain (c : Dev nD) : main (F := F) c = (Pipeline.chain
  [ StableHlo.seq before0,
    HostLoop.enter 0,
    StableHlo.seq between0,
    HostLoop.enter 1,
    StableHlo.seq behind0 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

/-- The first loop's body is its stretches in order. -/
theorem fwd_chain : main_while0_body (F := F) = (Pipeline.chain
  [ StableHlo.seq fwd0,
    StableHlo.seq fwd1,
    StableHlo.seq fwd2,
    StableHlo.seq fwd3,
    StableHlo.seq fwd4,
    StableHlo.seq fwd5,
    StableHlo.seq fwd6,
    StableHlo.seq fwd7 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, StableHlo.chain_seq_cons, Pipeline.chain_cons, Pipeline.chain_cons, StableHlo.chain_seq_cons]
  chain_rfl

/-- The second loop's body is its stretches in order. -/
theorem bwd_chain : main_while1_body (F := F) = (Pipeline.chain
  [ StableHlo.seq bwd0,
    StableHlo.seq bwd1,
    StableHlo.seq bwd2,
    StableHlo.seq bwd3,
    StableHlo.seq bwd4,
    StableHlo.seq bwd5,
    StableHlo.seq bwd6,
    StableHlo.seq bwd7,
    StableHlo.seq bwd8,
    StableHlo.seq bwd9,
    StableHlo.seq bwd10,
    StableHlo.seq bwd11,
    StableHlo.seq bwd12 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, StableHlo.chain_seq_cons]
  chain_rfl

/-- What runs before the first loop. -/
abbrev before : List (List (HloOp τ sig (Elt F))) := [before0]
theorem before_plain : Plain (before (F := F)) := .cons before0_sub (hf := List.forall_iff_forall_mem.mp before0_fresh) (.nil)

/-- What runs between the loops. -/
abbrev between : List (List (HloOp τ sig (Elt F))) := [between0]
theorem between_plain : Plain (between (F := F)) := .cons between0_sub (hf := List.forall_iff_forall_mem.mp between0_fresh) (.nil)

/-- What runs after the second loop. -/
abbrev behind : List (List (HloOp τ sig (Elt F))) := [behind0]
theorem behind_plain : Plain (behind (F := F)) := .cons behind0_sub (hf := List.forall_iff_forall_mem.mp behind0_fresh) (.nil)

/-- One trip of the first loop. -/
abbrev fwd : List (List (HloOp τ sig (Elt F))) := [fwd0, fwd1, fwd2, fwd3, fwd4, fwd5, fwd6, fwd7]
theorem fwd_plain : Plain (fwd (F := F)) := .cons fwd0_sub (hf := List.forall_iff_forall_mem.mp fwd0_fresh) (.cons fwd1_sub (hf := List.forall_iff_forall_mem.mp fwd1_fresh) (.cons fwd2_sub (hf := List.forall_iff_forall_mem.mp fwd2_fresh) (.cons fwd3_sub (hf := List.forall_iff_forall_mem.mp fwd3_fresh) (.cons fwd4_sub (hf := List.forall_iff_forall_mem.mp fwd4_fresh) (.cons fwd5_sub (hf := List.forall_iff_forall_mem.mp fwd5_fresh) (.cons fwd6_sub (hf := List.forall_iff_forall_mem.mp fwd6_fresh) (.cons fwd7_sub (hf := List.forall_iff_forall_mem.mp fwd7_fresh) (.nil))))))))

/-- One trip of the second loop. -/
abbrev bwd : List (List (HloOp τ sig (Elt F))) := [bwd0, bwd1, bwd2, bwd3, bwd4, bwd5, bwd6, bwd7, bwd8, bwd9, bwd10, bwd11, bwd12]
theorem bwd_plain : Plain (bwd (F := F)) := .cons bwd0_sub (hf := List.forall_iff_forall_mem.mp bwd0_fresh) (.cons bwd1_sub (hf := List.forall_iff_forall_mem.mp bwd1_fresh) (.cons bwd2_sub (hf := List.forall_iff_forall_mem.mp bwd2_fresh) (.cons bwd3_sub (hf := List.forall_iff_forall_mem.mp bwd3_fresh) (.cons bwd4_sub (hf := List.forall_iff_forall_mem.mp bwd4_fresh) (.cons bwd5_sub (hf := List.forall_iff_forall_mem.mp bwd5_fresh) (.cons bwd6_sub (hf := List.forall_iff_forall_mem.mp bwd6_fresh) (.cons bwd7_sub (hf := List.forall_iff_forall_mem.mp bwd7_fresh) (.cons bwd8_sub (hf := List.forall_iff_forall_mem.mp bwd8_fresh) (.cons bwd9_sub (hf := List.forall_iff_forall_mem.mp bwd9_fresh) (.cons bwd10_sub (hf := List.forall_iff_forall_mem.mp bwd10_fresh) (.cons bwd11_sub (hf := List.forall_iff_forall_mem.mp bwd11_fresh) (.cons bwd12_sub (hf := List.forall_iff_forall_mem.mp bwd12_fresh) (.nil)))))))))))))

end Cert.Ref

end
-- ==== Proof.RefRun.lean ====
module

public import proofs.«01_k».proof.Proof.RefOps

/-!
The reference program's run: its two counted loops end after 32 trips each, and every buffer ends at the fold of the
operations in order.
-/

@[expose] public section

noncomputable section

namespace Cert.Ref

open Cert.ReferenceIdeal Cert.ReferenceIdeal.Gen
open Idealize.ShloMosaic Idealize.ShloMosaic.TcCoe Idealize.ShloMosaic.StableHlo Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs CSeg)

variable {F : FTy → Type} [FloatOps F]

/-- The first loop's test: its bound, and the counter compared with it. -/
abbrev test0 : List (HloOp τ sig (Elt F)) :=
  [ StableHlo.nullary main_while0c_c_16 (constantI S_ 32 32#32),
    StableHlo.binary main_v7_4 main_while0c_c_16 main_while0c_v21 (cmpi .slt) ]

/-- The second loop's test. -/
abbrev test1 : List (HloOp τ sig (Elt F)) :=
  [ StableHlo.nullary main_while1c_c_20 (constantI S_ 32 32#32),
    StableHlo.binary main_v16_6 main_while1c_c_20 main_while1c_v21 (cmpi .slt) ]

/-- The first loop's test writes its bound and its answer only. -/
theorem test0_keep (V : Valuation τ sig (Elt F)) {r : Ref sig .tc} (h : r ∉ [main_while0c_c_16, main_while0c_v21]) :
    after test0 V (Proc.devRef .tc r) = V (Proc.devRef .tc r) :=
  after_of_writes_sub (W := [main_while0c_c_16, main_while0c_v21]) test0 V (StableHlo.forall_writes_sub_of_map rfl) h

/-- The second loop's test writes its bound and its answer only. -/
theorem test1_keep (V : Valuation τ sig (Elt F)) {r : Ref sig .tc} (h : r ∉ [main_while1c_c_20, main_while1c_v21]) :
    after test1 V (Proc.devRef .tc r) = V (Proc.devRef .tc r) :=
  after_of_writes_sub (W := [main_while1c_c_20, main_while1c_v21]) test1 V (StableHlo.forall_writes_sub_of_map rfl) h

/-! ## The counters -/

set_option maxRecDepth 100000 in
/-- One trip of the first loop takes its counter one on. -/
theorem fwd_count (V : Valuation τ sig (Elt F)) :
    afterL fwd V (Proc.devRef .tc main_v7_4) = addi (V (Proc.devRef .tc main_v7_4)) (constantI S_ 32 1#32) := by
  simp only [afterL_cons, afterL_nil]
  have e : ∀ X : Valuation τ sig (Elt F), after fwd7 X (Proc.devRef .tc main_v7_4) = addi (X (Proc.devRef .tc main_v7_4)) (constantI S_ 32 1#32) := by
    intro X; after_results; rfl
  rw [e, fwd6_keep _ (by decide), fwd5_keep _ (by decide), fwd4_keep _ (by decide), fwd3_keep _ (by decide),
    fwd2_keep _ (by decide), fwd1_keep _ (by decide), fwd0_keep _ (by decide)]

set_option maxRecDepth 100000 in
/-- One trip of the second loop takes its counter one on. -/
theorem bwd_count (V : Valuation τ sig (Elt F)) :
    afterL bwd V (Proc.devRef .tc main_v16_6) = addi (V (Proc.devRef .tc main_v16_6)) (constantI S_ 32 1#32) := by
  simp only [afterL_cons, afterL_nil]
  have e : ∀ X : Valuation τ sig (Elt F), after bwd12 X (Proc.devRef .tc main_v16_6) = addi (X (Proc.devRef .tc main_v16_6)) (constantI S_ 32 1#32) := by
    intro X; after_results; rfl
  rw [e, bwd11_keep _ (by decide), bwd10_keep _ (by decide), bwd9_keep _ (by decide), bwd8_keep _ (by decide), bwd7_keep _ (by decide),
    bwd6_keep _ (by decide), bwd5_keep _ (by decide), bwd4_keep _ (by decide), bwd3_keep _ (by decide),
    bwd2_keep _ (by decide), bwd1_keep _ (by decide), bwd0_keep _ (by decide)]

/-- The first loop's counter before its `k`-th test. -/
theorem fwd_counter (W : Dev nD → Valuation τ sig (Elt F)) (c : Dev nD) (h : W c (Proc.devRef .tc main_v7_4) = fun _ => (0#32 : BitVec 32)) :
    ∀ k, atTrip test0 fwd W k c (Proc.devRef .tc main_v7_4) = fun _ => Scf.iv 0#32 1#32 k
  | 0 => by rw [atTrip_zero, h, Scf.iv_zero]
  | k + 1 => by
    rw [atTrip_succ, fwd_count, test0_keep _ (by decide), fwd_counter W c h k, Scf.iv_succ]; rfl

/-- The second loop's counter before its `k`-th test. -/
theorem bwd_counter (W : Dev nD → Valuation τ sig (Elt F)) (c : Dev nD) (h : W c (Proc.devRef .tc main_v16_6) = fun _ => (0#32 : BitVec 32)) :
    ∀ k, atTrip test1 bwd W k c (Proc.devRef .tc main_v16_6) = fun _ => Scf.iv 0#32 1#32 k
  | 0 => by rw [atTrip_zero, h, Scf.iv_zero]
  | k + 1 => by
    rw [atTrip_succ, bwd_count, test1_keep _ (by decide), bwd_counter W c h k, Scf.iv_succ]; rfl

/-- The buffers one trip of the first loop writes. -/
abbrev fwdW : List (Ref sig .tc) := fwd0_W ++ fwd1_W ++ fwd2_W ++ fwd3_W ++ fwd4_W ++ fwd5_W ++ fwd6_W ++ fwd7_W

/-- A buffer one trip of the first loop does not write keeps its contents. -/
theorem fwd_keep (V : Valuation τ sig (Elt F)) {r : Ref sig .tc} (h : r ∉ fwdW) :
    afterL fwd V (Proc.devRef .tc r) = V (Proc.devRef .tc r) := by
  simp only [fwdW, List.mem_append, not_or] at h
  obtain ⟨⟨⟨⟨⟨⟨⟨h0, h1⟩, h2⟩, h3⟩, h4⟩, h5⟩, h6⟩, h7⟩ := h
  simp only [afterL_cons, afterL_nil]
  rw [fwd7_keep _ h7, fwd6_keep _ h6, fwd5_keep _ h5, fwd4_keep _ h4, fwd3_keep _ h3, fwd2_keep _ h2, fwd1_keep _ h1, fwd0_keep _ h0]

/-- The buffers one trip of the second loop writes. -/
abbrev bwdW : List (Ref sig .tc) := bwd0_W ++ bwd1_W ++ bwd2_W ++ bwd3_W ++ bwd4_W ++ bwd5_W ++ bwd6_W ++ bwd7_W ++ bwd8_W ++ bwd9_W ++ bwd10_W ++ bwd11_W ++ bwd12_W

/-- A buffer one trip of the second loop does not write keeps its contents. -/
theorem bwd_keep (V : Valuation τ sig (Elt F)) {r : Ref sig .tc} (h : r ∉ bwdW) :
    afterL bwd V (Proc.devRef .tc r) = V (Proc.devRef .tc r) := by
  simp only [bwdW, List.mem_append, not_or] at h
  obtain ⟨⟨⟨⟨⟨⟨⟨⟨⟨⟨⟨⟨h0, h1⟩, h2⟩, h3⟩, h4⟩, h5⟩, h6⟩, h7⟩, h8⟩, h9⟩, h10⟩, h11⟩, h12⟩ := h
  simp only [afterL_cons, afterL_nil]
  rw [bwd12_keep _ h12, bwd11_keep _ h11, bwd10_keep _ h10, bwd9_keep _ h9, bwd8_keep _ h8, bwd7_keep _ h7, bwd6_keep _ h6, bwd5_keep _ h5, bwd4_keep _ h4, bwd3_keep _ h3, bwd2_keep _ h2, bwd1_keep _ h1, bwd0_keep _ h0]

/-- A buffer no trip of the first loop writes keeps its contents through any number of trips. -/
theorem fwd_trips_keep (W : Dev nD → Valuation τ sig (Elt F)) (c : Dev nD) {r : Ref sig .tc} (h : r ∉ fwdW)
    (h' : r ∉ [main_while0c_c_16, main_while0c_v21]) : ∀ k, atTrip test0 fwd W k c (Proc.devRef .tc r) = W c (Proc.devRef .tc r)
  | 0 => by rw [atTrip_zero]
  | k + 1 => by rw [atTrip_succ, fwd_keep _ h, test0_keep _ h', fwd_trips_keep W c h h' k]

/-- A buffer no trip of the second loop writes keeps its contents through any number of trips. -/
theorem bwd_trips_keep (W : Dev nD → Valuation τ sig (Elt F)) (c : Dev nD) {r : Ref sig .tc} (h : r ∉ bwdW)
    (h' : r ∉ [main_while1c_c_20, main_while1c_v21]) : ∀ k, atTrip test1 bwd W k c (Proc.devRef .tc r) = W c (Proc.devRef .tc r)
  | 0 => by rw [atTrip_zero]
  | k + 1 => by rw [atTrip_succ, bwd_keep _ h, test1_keep _ h', bwd_trips_keep W c h h' k]

variable (m : (ℓ : Loc nD τ sig) → Buf (Elt F) ℓ) (ρ : Dev nD → PrngReg)

/-! ## The buffers at each stage -/

/-- At the first loop's entry. -/
abbrev x0 (c : Dev nD) : Valuation τ sig (Elt F) := afterL before (launchContents m c)
/-- When the first loop has ended. -/
abbrev x1 (c : Dev nD) : Valuation τ sig (Elt F) := after test0 (atTrip test0 fwd (x0 m) 32 c)
/-- At the second loop's entry. -/
abbrev x2 (c : Dev nD) : Valuation τ sig (Elt F) := afterL between (x1 m c)
/-- When the second loop has ended. -/
abbrev x3 (c : Dev nD) : Valuation τ sig (Elt F) := after test1 (atTrip test1 bwd (x2 m) 32 c)
/-- At the end. -/
abbrev x4 (c : Dev nD) : Valuation τ sig (Elt F) := afterL behind (x3 m c)

theorem x0_counter (c : Dev nD) : x0 m c (Proc.devRef .tc main_v7_4) = fun _ => (0#32 : BitVec 32) := by
  simp only [x0, afterL_cons, afterL_nil]
  after_reads_simp
  rfl

theorem x2_counter (c : Dev nD) : x2 m c (Proc.devRef .tc main_v16_6) = fun _ => (0#32 : BitVec 32) := by
  show afterL between (x1 m c) _ = _
  generalize x1 m c = X
  simp only [afterL_cons, afterL_nil]
  after_reads_simp
  rfl

/-! ## The loops' tests -/

local notation "𝕄" => MT nD τ sig Unit (Elt F) ℕ (Option PUnit) ℕ

/-- What each core owes through the run: nothing. -/
abbrev quiet (c : Dev nD) : sProp 𝕄 := iprop(∃ W, owes (c : Thread nD τ) (0 : CellTallies nD τ sig Unit) W)

set_option backward.isDefEq.respectTransparency.types false in
/-- The first loop's test answers 1 exactly before the 32nd trip has been made. -/
theorem cond0 (W : Dev nD → Valuation τ sig (Elt F)) (h : ∀ c, W c (Proc.devRef .tc main_v7_4) = fun _ => (0#32 : BitVec 32)) :
    LoopCond (pcfgs (F := F)) defs₀ Variants.none loops quiet (main_while0_cond (F := F)) test0 fwd W 32 := by
  intro k hk c bd
  have hctr := fwd_counter W c (h c) k
  unfold main_while0_cond
  rw [wp_bind]
  iintro ⟨Hb, Hh, HO⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip test0 fwd W k c) main_v7_4 HostLoop.idx0)
        (HloOp.result _ (atTrip test0 fwd W k c) main_while0c_c_16 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  isplitl [Hh]
  · rw [after_cons, after_cons, after_nil]; iexact Hh
  iexact HO

set_option backward.isDefEq.respectTransparency.types false in
/-- The second loop's test answers 1 exactly before the 32nd trip has been made. -/
theorem cond1 (W : Dev nD → Valuation τ sig (Elt F)) (h : ∀ c, W c (Proc.devRef .tc main_v16_6) = fun _ => (0#32 : BitVec 32)) :
    LoopCond (pcfgs (F := F)) defs₀ Variants.none loops quiet (main_while1_cond (F := F)) test1 bwd W 32 := by
  intro k hk c bd
  have hctr := bwd_counter W c (h c) k
  unfold main_while1_cond
  rw [wp_bind]
  iintro ⟨Hb, Hh, HO⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip test1 bwd W k c) main_v16_6 HostLoop.idx0)
        (HloOp.result _ (atTrip test1 bwd W k c) main_while1c_c_20 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  isplitl [Hh]
  · rw [after_cons, after_cons, after_nil]; iexact Hh
  iexact HO

/-! ## The run -/

/-- There is no pipeline to admit. -/
abbrev adm : (p : Fin 0) → (pcfgs (F := F) p).Adm := fun p => p.elim0
/-- There is no pipeline to run. -/
abbrev tk : Fin 0 → Pipeline.Ticket (Ix := Unit) (Name := ℕ) (U := Option PUnit) (Lvl := ℕ) (nD := nD) (τ := τ) (pcfgs (F := F)) adm :=
  fun j => j.elim0

/-- The program's parts in order: operations, the first loop, operations, the second loop, operations. -/
def parts : List (CSeg (pcfgs (F := F)) adm defs₀ Variants.none (fun _ => (∅ : Finset Unit)) (fun _ _ => (0 : ℕ)) loops tk) :=
  segsOf _ _ _ _ _ _ _ _ quiet before before_plain (launchContents m)
    ++ loopSeg _ _ _ _ _ _ _ _ 0 main_while0_cond main_while0_body rfl test0 fwd fwd_plain (by rw [fwd_chain]; rfl) 32 (x0 m) quiet (cond0 (x0 m) (x0_counter m))
      :: (segsOf _ _ _ _ _ _ _ _ quiet between between_plain (x1 m)
        ++ loopSeg _ _ _ _ _ _ _ _ 1 main_while1_cond main_while1_body rfl test1 bwd bwd_plain (by rw [bwd_chain]; rfl) 32 (x2 m) quiet (cond1 (x2 m) (x2_counter m))
          :: segsOf _ _ _ _ _ _ _ _ quiet behind behind_plain (x3 m))

theorem parts_prog : (parts m).map CSeg.prog = (before.map fun ops => (seq ops : Prog _ PUnit)) ++ HostLoop.enter 0
      :: ((between.map fun ops => (seq ops : Prog _ PUnit)) ++ HostLoop.enter 1 :: behind.map fun ops => (seq ops : Prog _ PUnit)) := by
  unfold parts
  rw [List.map_append, List.map_cons, List.map_append, List.map_cons, segsOf_prog, segsOf_prog, segsOf_prog]
  rfl

theorem parts_chain :
    CSeg.Chains (fun c => iprop(held (c : Thread nD τ) (ucRefs τ sig) (launchContents m c) ∗ quiet c)) (parts m)
      (fun c => iprop(held (c : Thread nD τ) (ucRefs τ sig) (x4 m c) ∗ ∃ W, owes (c : Thread nD τ) (0 : CellTallies nD τ sig Unit) W)) := by
  unfold parts
  exact CSeg.Chains.append (segsOf_chains _ _ _ _ _ _ _ _ quiet before before_plain _)
    ⟨fun _ => .rfl, CSeg.Chains.append (segsOf_chains _ _ _ _ _ _ _ _ quiet between between_plain _)
      ⟨fun _ => .rfl, segsOf_chains _ _ _ _ _ _ _ _ quiet behind behind_plain _⟩⟩

set_option maxRecDepth 100000 in
set_option backward.isDefEq.respectTransparency.types false in
/-- Every weakly fair run ends, with every unscoped buffer at `x4` and every counter at zero. -/
theorem run_all : θ_run (defs (F := F)) (onTc (τ := τ) (main (F := F))) ⟨m, fun _ => 0, ρ⟩ (fun r => (∀ c : Dev nD,
      ∀ b ∈ ucRefs τ sig, r.2.mem ((c.tc : Thread nD τ).1, b) = x4 m c b) ∧ r.2.sem = fun _ => 0) := by
  refine Pipeline.θ_run_regions_loop_kit_sems (Ix := Unit) (Name := ℕ) (U := Option PUnit) (Lvl := ℕ) (J := Fin 0) (P := Fin 0) (Val := Elt F)
    (pcfgs (F := F)) adm (fun k => k.1.elim0) defs₀ Variants.none (fun _ => (∅ : Finset Unit)) (fun _ _ => (0 : ℕ)) loops tk m ρ main (parts m)
    (fun c Q => ?_)
    (CSeg.pairwise_disjoint_of_T_empty _ fun s _ => Finset.eq_empty_of_isEmpty s.T)
    (O₀ := 0) (hL := fun _ _ => rfl) (G := fun _ => iprop(emp)) (u₀ := 1) (hu₀ := ?_)
    (T₀ := fun c => iprop(held (c : Thread nD τ) (ucRefs τ sig) (launchContents m c) ∗ quiet c))
    (Tₙ := fun c => held (c : Thread nD τ) (ucRefs τ sig) (x4 m c))
    (hch := parts_chain m) (hinit := ?_)
    (QY := fun c s => ∀ b ∈ ucRefs τ sig, s.mem ((c.tc : Thread nD τ).1, b) = x4 m c b)
    (hfin := fun c s' => ?_) (hQ := fun _ h hz => ⟨h, funext fun g => hz g (.inr ((by decide : ∀ s : SemLoc sig, s.isScoped .tc = true) g.2))⟩)
  · rw [main_chain c]
    show wp _ _ _ (Pipeline.chain ((parts m).map CSeg.prog)) Q ⊢ _
    rw [parts_prog]; exact .rfl
  · iintro -
    imodintro
    isplitl []
    · rw [Finset.univ_eq_empty, BI.bigSep_empty]; iempintro
    · iapply (show (BI.emp : sProp 𝕄) ⊢ bigSep Finset.univ (fun _ : Dev nD => (BI.emp : sProp 𝕄)) from by rw [BI.bigSep_emp_const])
      iempintro
  · refine Pipeline.initEach (fun _ => (∅ : Finset Unit)) (fun _ _ => (0 : ℕ)) fun c => ?_
    rw [show unscopedBufs c (fun b => m ((c : Thread nD τ).loc b)) = held (c : Thread nD τ) (ucRefs τ sig) (launchContents m c)
        from Pipeline.unscopedBufs_held c (launchContents m c)]
    iintro ⟨⟨Hh, -, HO, -, -, -⟩, -⟩
    imodintro
    isplitl [Hh]; · iexact Hh
    iexists ∅; iexact HO
  · unfold held
    iintro ⟨Hh, HSI⟩
    ihave Hr := (pointsTo_read_all (ucRefs τ sig) (fun b => ((c.tc : Thread nD τ).1, b)) (x4 m c) s') $$ [Hh HSI]
    · isplitl [Hh] <;> iassumption
    imodintro; iexact Hr

/-- A buffer the program never writes ends as launched. -/
theorem x4_keep (c : Dev nD) {r : Ref sig .tc} (h0 : r ∉ before0_W) (h1 : r ∉ fwdW) (h2 : r ∉ [main_while0c_c_16, main_while0c_v21])
    (h3 : r ∉ between0_W) (h4 : r ∉ bwdW) (h5 : r ∉ [main_while1c_c_20, main_while1c_v21]) (h6 : r ∉ behind0_W) :
    x4 m c (Proc.devRef .tc r) = m ((c.tc : Thread nD τ).loc r) := by
  rw [show x4 m c = after behind0 (x3 m c) from rfl, behind0_keep _ h6,
    show x3 m c = after test1 (atTrip test1 bwd (x2 m) 32 c) from rfl, test1_keep _ h5, bwd_trips_keep _ _ h4 h5,
    show x2 m c = after between0 (x1 m c) from rfl, between0_keep _ h3,
    show x1 m c = after test0 (atTrip test0 fwd (x0 m) 32 c) from rfl, test0_keep _ h2, fwd_trips_keep _ _ h1 h2,
    show x0 m c = after before0 (launchContents m c) from rfl, before0_keep _ h0]

/-- The frame at any float interpretation: every argument ends as launched and every counter at zero. -/
theorem run_main : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c _ (devRef_mem_ucRefs main_arg0 rfl)).trans (x4_keep m c (by decide) (by decide) (by decide) (by decide) (by decide) (by decide) (by decide)),
     (h.1 c _ (devRef_mem_ucRefs main_arg1 rfl)).trans (x4_keep m c (by decide) (by decide) (by decide) (by decide) (by decide) (by decide) (by decide)),
     (h.1 c _ (devRef_mem_ucRefs main_arg2 rfl)).trans (x4_keep m c (by decide) (by decide) (by decide) (by decide) (by decide) (by decide) (by decide)),
     (h.1 c _ (devRef_mem_ucRefs main_arg3 rfl)).trans (x4_keep m c (by decide) (by decide) (by decide) (by decide) (by decide) (by decide) (by decide)),
     (h.1 c _ (devRef_mem_ucRefs main_arg4 rfl)).trans (x4_keep m c (by decide) (by decide) (by decide) (by decide) (by decide) (by decide) (by decide))⟩,
    h.2⟩) (run_all m ρ)

end Cert.Ref

end
-- ==== Proof.RefTrip.lean ====
module

public import proofs.«01_k».proof.Proof.RefRun
public import proofs.«01_k».proof.Proof.Math
public import Idealize.ShloMosaic.Lib.WordCmp

/-!
What one trip of each of the reference's two loops computes: chunks read out and written at the counter, the new state,
the output and the gradients of one chunk.
-/

@[expose] public section

noncomputable section

namespace Cert.Ref

open Cert.ReferenceIdeal Cert.ReferenceIdeal.Gen
open Idealize.ShloMosaic Idealize.ShloMosaic.TcCoe Idealize.ShloMosaic.StableHlo Idealize.ShloMosaic.Tactic

set_option maxRecDepth 16384

/-- The starts a counter holding `t` names. -/
theorem start_at (t : Fin 32) (a : Fin 4) : ((((![(fun _ => BitVec.ofNat 32 t.val), constantI S_ 32 0#32, constantI S_ 32 0#32, constantI S_ 32 0#32] : Fin 4 → IVec S_ 32)) a (Shape.Idx.first h_S_)).toInt)
    = ((![t.val, 0, 0, 0] : Fin 4 → ℕ) a : Int) := by
  fin_cases a
  · show (BitVec.ofNat 32 t.val).toInt = (t.val : Int)
    revert t; decide
  all_goals rfl

/-- Reads out a chunk of queries or keys at a counter. -/
def takeKey (x : FVec Ideal S32x8x64x128 .f32) (w : IVec S_ 32) : FVec Ideal S8x64x128 .f32 :=
  shapeCast S8x64x128 (Host.dynamicSlice S1x8x64x128 x (fun k => (((![w, constantI S_ 32 0#32, constantI S_ 32 0#32, constantI S_ 32 0#32] : Fin 4 → IVec S_ 32)) k (Shape.Idx.first h_S_)).toInt) sliceFits_S32x8x64x128_S1x8x64x128) shapeCasts_S1x8x64x128_S8x64x128

theorem takeKey_at (x : FVec Ideal S32x8x64x128 .f32) (w : IVec S_ 32) (t : Fin 32) (hw : w = fun _ => BitVec.ofNat 32 t.val)
    (g : Fin 8) (c : Fin 64) (d : Fin 128) : takeKey x w (ix3 g c d) = x (ix4 t g c d) := by
  subst hw
  have ht := t.isLt
  have hs : S32x8x64x128.Slices ![t.val, 0, 0, 0] S1x8x64x128 := ⟨rfl, by
    intro a; fin_cases a <;> simp <;> omega⟩
  unfold takeKey
  rw [WordCmp.dynamicSlice_eq_extract S1x8x64x128 x _ _ ![t.val, 0, 0, 0] hs]
  · pointwise
    done
  · exact start_at t

/-- Writes a chunk of queries or keys at a counter. -/
def putKey (x : FVec Ideal S32x8x64x128 .f32) (w : IVec S_ 32) (u : FVec Ideal S8x64x128 .f32) : FVec Ideal S32x8x64x128 .f32 :=
  Host.dynamicUpdateSlice x (broadcastInDim S1x8x64x128 ![1, 2, 3] bcast_S8x64x128_S1x8x64x128_1_2_3 u) (fun k => (((![w, constantI S_ 32 0#32, constantI S_ 32 0#32, constantI S_ 32 0#32] : Fin 4 → IVec S_ 32)) k (Shape.Idx.first h_S_)).toInt) updateFits_S32x8x64x128_S1x8x64x128

theorem putKey_at (x : FVec Ideal S32x8x64x128 .f32) (u : FVec Ideal S8x64x128 .f32) (w : IVec S_ 32) (t : Fin 32)
    (hw : w = fun _ => BitVec.ofNat 32 t.val) (t' : Fin 32) (g : Fin 8) (c : Fin 64) (d : Fin 128) :
    putKey x w u (ix4 t' g c d) = if t' = t then u (ix3 g c d) else x (ix4 t' g c d) := by
  subst hw
  have ht := t.isLt
  have hs : S32x8x64x128.Slices ![t.val, 0, 0, 0] S1x8x64x128 := ⟨rfl, by
    intro a; fin_cases a <;> simp <;> omega⟩
  unfold putKey
  rw [WordCmp.dynamicUpdateSlice_eq_update x _ _ _ ![t.val, 0, 0, 0] hs]
  · rw [updateSlice_apply]
    by_cases h : t' = t
    · subst h
      rw [dif_pos (by intro a; fin_cases a <;> simp <;> omega), if_pos rfl]
      pointwise
      done
    · rw [dif_neg, if_neg h]
      intro hh
      have := hh 0
      simp at this
      omega
  · exact start_at t

/-- Reads out a chunk of values at a counter. -/
def takeVal (x : FVec Ideal S32x8x64x256 .f32) (w : IVec S_ 32) : FVec Ideal S8x64x256 .f32 :=
  shapeCast S8x64x256 (Host.dynamicSlice S1x8x64x256 x (fun k => (((![w, constantI S_ 32 0#32, constantI S_ 32 0#32, constantI S_ 32 0#32] : Fin 4 → IVec S_ 32)) k (Shape.Idx.first h_S_)).toInt) sliceFits_S32x8x64x256_S1x8x64x256) shapeCasts_S1x8x64x256_S8x64x256

theorem takeVal_at (x : FVec Ideal S32x8x64x256 .f32) (w : IVec S_ 32) (t : Fin 32) (hw : w = fun _ => BitVec.ofNat 32 t.val)
    (g : Fin 8) (c : Fin 64) (d : Fin 256) : takeVal x w (ix3 g c d) = x (ix4 t g c d) := by
  subst hw
  have ht := t.isLt
  have hs : S32x8x64x256.Slices ![t.val, 0, 0, 0] S1x8x64x256 := ⟨rfl, by
    intro a; fin_cases a <;> simp <;> omega⟩
  unfold takeVal
  rw [WordCmp.dynamicSlice_eq_extract S1x8x64x256 x _ _ ![t.val, 0, 0, 0] hs]
  · pointwise
    done
  · exact start_at t

/-- Writes a chunk of values at a counter. -/
def putVal (x : FVec Ideal S32x8x64x256 .f32) (w : IVec S_ 32) (u : FVec Ideal S8x64x256 .f32) : FVec Ideal S32x8x64x256 .f32 :=
  Host.dynamicUpdateSlice x (broadcastInDim S1x8x64x256 ![1, 2, 3] bcast_S8x64x256_S1x8x64x256_1_2_3 u) (fun k => (((![w, constantI S_ 32 0#32, constantI S_ 32 0#32, constantI S_ 32 0#32] : Fin 4 → IVec S_ 32)) k (Shape.Idx.first h_S_)).toInt) updateFits_S32x8x64x256_S1x8x64x256

theorem putVal_at (x : FVec Ideal S32x8x64x256 .f32) (u : FVec Ideal S8x64x256 .f32) (w : IVec S_ 32) (t : Fin 32)
    (hw : w = fun _ => BitVec.ofNat 32 t.val) (t' : Fin 32) (g : Fin 8) (c : Fin 64) (d : Fin 256) :
    putVal x w u (ix4 t' g c d) = if t' = t then u (ix3 g c d) else x (ix4 t' g c d) := by
  subst hw
  have ht := t.isLt
  have hs : S32x8x64x256.Slices ![t.val, 0, 0, 0] S1x8x64x256 := ⟨rfl, by
    intro a; fin_cases a <;> simp <;> omega⟩
  unfold putVal
  rw [WordCmp.dynamicUpdateSlice_eq_update x _ _ _ ![t.val, 0, 0, 0] hs]
  · rw [updateSlice_apply]
    by_cases h : t' = t
    · subst h
      rw [dif_pos (by intro a; fin_cases a <;> simp <;> omega), if_pos rfl]
      pointwise
      done
    · rw [dif_neg, if_neg h]
      intro hh
      have := hh 0
      simp at this
      omega
  · exact start_at t

/-- Reads out a chunk's decays at a counter. -/
def takeDec (x : FVec Ideal S32x8x128x1 .f32) (w : IVec S_ 32) : FVec Ideal S8x128x1 .f32 :=
  shapeCast S8x128x1 (Host.dynamicSlice S1x8x128x1 x (fun k => (((![w, constantI S_ 32 0#32, constantI S_ 32 0#32, constantI S_ 32 0#32] : Fin 4 → IVec S_ 32)) k (Shape.Idx.first h_S_)).toInt) sliceFits_S32x8x128x1_S1x8x128x1) shapeCasts_S1x8x128x1_S8x128x1

theorem takeDec_at (x : FVec Ideal S32x8x128x1 .f32) (w : IVec S_ 32) (t : Fin 32) (hw : w = fun _ => BitVec.ofNat 32 t.val)
    (g : Fin 8) (c : Fin 128) (d : Fin 1) : takeDec x w (ix3 g c d) = x (ix4 t g c d) := by
  subst hw
  obtain rfl : d = 0 := Subsingleton.elim _ _
  have ht := t.isLt
  have hs : S32x8x128x1.Slices ![t.val, 0, 0, 0] S1x8x128x1 := ⟨rfl, by
    intro a; fin_cases a <;> simp <;> omega⟩
  unfold takeDec
  rw [WordCmp.dynamicSlice_eq_extract S1x8x128x1 x _ _ ![t.val, 0, 0, 0] hs]
  · pointwise
    done
  · exact start_at t

/-- Writes a chunk's decays at a counter. -/
def putDec (x : FVec Ideal S32x8x128x1 .f32) (w : IVec S_ 32) (u : FVec Ideal S8x128x1 .f32) : FVec Ideal S32x8x128x1 .f32 :=
  Host.dynamicUpdateSlice x (broadcastInDim S1x8x128x1 ![1, 2, 3] bcast_S8x128x1_S1x8x128x1_1_2_3 u) (fun k => (((![w, constantI S_ 32 0#32, constantI S_ 32 0#32, constantI S_ 32 0#32] : Fin 4 → IVec S_ 32)) k (Shape.Idx.first h_S_)).toInt) updateFits_S32x8x128x1_S1x8x128x1

theorem putDec_at (x : FVec Ideal S32x8x128x1 .f32) (u : FVec Ideal S8x128x1 .f32) (w : IVec S_ 32) (t : Fin 32)
    (hw : w = fun _ => BitVec.ofNat 32 t.val) (t' : Fin 32) (g : Fin 8) (c : Fin 128) (d : Fin 1) :
    putDec x w u (ix4 t' g c d) = if t' = t then u (ix3 g c d) else x (ix4 t' g c d) := by
  subst hw
  obtain rfl : d = 0 := Subsingleton.elim _ _
  have ht := t.isLt
  have hs : S32x8x128x1.Slices ![t.val, 0, 0, 0] S1x8x128x1 := ⟨rfl, by
    intro a; fin_cases a <;> simp <;> omega⟩
  unfold putDec
  rw [WordCmp.dynamicUpdateSlice_eq_update x _ _ _ ![t.val, 0, 0, 0] hs]
  · rw [updateSlice_apply]
    by_cases h : t' = t
    · subst h
      rw [dif_pos (by intro a; fin_cases a <;> simp <;> omega), if_pos rfl]
      pointwise
      done
    · rw [dif_neg, if_neg h]
      intro hh
      have := hh 0
      simp at this
      omega
  · exact start_at t

/-- Reads out a saved state at a counter. -/
def takeState (x : FVec Ideal S32x8x128x256 .f32) (w : IVec S_ 32) : FVec Ideal S8x128x256 .f32 :=
  shapeCast S8x128x256 (Host.dynamicSlice S1x8x128x256 x (fun k => (((![w, constantI S_ 32 0#32, constantI S_ 32 0#32, constantI S_ 32 0#32] : Fin 4 → IVec S_ 32)) k (Shape.Idx.first h_S_)).toInt) sliceFits_S32x8x128x256_S1x8x128x256) shapeCasts_S1x8x128x256_S8x128x256

theorem takeState_at (x : FVec Ideal S32x8x128x256 .f32) (w : IVec S_ 32) (t : Fin 32) (hw : w = fun _ => BitVec.ofNat 32 t.val)
    (g : Fin 8) (c : Fin 128) (d : Fin 256) : takeState x w (ix3 g c d) = x (ix4 t g c d) := by
  subst hw
  have ht := t.isLt
  have hs : S32x8x128x256.Slices ![t.val, 0, 0, 0] S1x8x128x256 := ⟨rfl, by
    intro a; fin_cases a <;> simp <;> omega⟩
  unfold takeState
  rw [WordCmp.dynamicSlice_eq_extract S1x8x128x256 x _ _ ![t.val, 0, 0, 0] hs]
  · pointwise
    done
  · exact start_at t

/-- Writes a saved state at a counter. -/
def putState (x : FVec Ideal S32x8x128x256 .f32) (w : IVec S_ 32) (u : FVec Ideal S8x128x256 .f32) : FVec Ideal S32x8x128x256 .f32 :=
  Host.dynamicUpdateSlice x (broadcastInDim S1x8x128x256 ![1, 2, 3] bcast_S8x128x256_S1x8x128x256_1_2_3 u) (fun k => (((![w, constantI S_ 32 0#32, constantI S_ 32 0#32, constantI S_ 32 0#32] : Fin 4 → IVec S_ 32)) k (Shape.Idx.first h_S_)).toInt) updateFits_S32x8x128x256_S1x8x128x256

theorem putState_at (x : FVec Ideal S32x8x128x256 .f32) (u : FVec Ideal S8x128x256 .f32) (w : IVec S_ 32) (t : Fin 32)
    (hw : w = fun _ => BitVec.ofNat 32 t.val) (t' : Fin 32) (g : Fin 8) (c : Fin 128) (d : Fin 256) :
    putState x w u (ix4 t' g c d) = if t' = t then u (ix3 g c d) else x (ix4 t' g c d) := by
  subst hw
  have ht := t.isLt
  have hs : S32x8x128x256.Slices ![t.val, 0, 0, 0] S1x8x128x256 := ⟨rfl, by
    intro a; fin_cases a <;> simp <;> omega⟩
  unfold putState
  rw [WordCmp.dynamicUpdateSlice_eq_update x _ _ _ ![t.val, 0, 0, 0] hs]
  · rw [updateSlice_apply]
    by_cases h : t' = t
    · subst h
      rw [dif_pos (by intro a; fin_cases a <;> simp <;> omega), if_pos rfl]
      pointwise
      done
    · rw [dif_neg, if_neg h]
      intro hh
      have := hh 0
      simp at this
      omega
  · exact start_at t

/-! ### One trip of the first loop, stretch by stretch -/

set_option maxHeartbeats 1000000 in
theorem fwd0_val (V : Valuation τ sig (Elt Ideal)) : after fwd0 V (Proc.devRef .tc main_while0b_v21) = takeKey (V (Proc.devRef .tc main_v7_0)) (V (Proc.devRef .tc main_v7_4)) := by
  simp only [fwd0]
  after_results_entrywise []

set_option maxHeartbeats 1000000 in
theorem fwd1_val (V : Valuation τ sig (Elt Ideal)) : after fwd1 V (Proc.devRef .tc main_while0b_v22) = takeKey (V (Proc.devRef .tc main_v7_1)) (V (Proc.devRef .tc main_v7_4)) := by
  simp only [fwd1]
  after_results_entrywise []

set_option maxHeartbeats 1000000 in
theorem fwd2_val (V : Valuation τ sig (Elt Ideal)) : after fwd2 V (Proc.devRef .tc main_while0b_v23) = takeVal (V (Proc.devRef .tc main_v7_2)) (V (Proc.devRef .tc main_v7_4)) := by
  simp only [fwd2]
  after_results_entrywise []

set_option maxHeartbeats 1000000 in
theorem fwd3_val (V : Valuation τ sig (Elt Ideal)) : after fwd3 V (Proc.devRef .tc main_while0b_v24) = takeDec (V (Proc.devRef .tc main_v7_3)) (V (Proc.devRef .tc main_v7_4)) := by
  simp only [fwd3]
  after_results_entrywise []

set_option maxHeartbeats 1000000 in
theorem fwd4_out (V : Valuation τ sig (Elt Ideal)) : after fwd4 V (Proc.devRef .tc main_while0b_v25) = Host.dotGeneral (F := Ideal) (φ₁ := .f32) (φ₂ := .f32) dot_S8x64x128_S8x128x256_S8x64x256_2_1_1_2_0_0 none (V (Proc.devRef .tc main_while0b_v21)) (V (Proc.devRef .tc main_v7_5)) := by
  simp only [fwd4]
  after_results_entrywise []

set_option maxHeartbeats 1000000 in
theorem fwd4_state (V : Valuation τ sig (Elt Ideal)) : after fwd4 V (Proc.devRef .tc main_while0b_v29) = addf (F := Ideal) (φ := .f32) (mulf (F := Ideal) (φ := .f32) (V (Proc.devRef .tc main_v7_5)) (broadcastInDim S8x128x256 ![0, 1, 2] bcast_S8x128x1_S8x128x256_0_1_2 (V (Proc.devRef .tc main_while0b_v24)))) (Host.dotGeneral (F := Ideal) (φ₁ := .f32) (φ₂ := .f32) dot_S8x64x128_S8x64x256_S8x128x256_1_1_2_2_0_0 none (V (Proc.devRef .tc main_while0b_v22)) (V (Proc.devRef .tc main_while0b_v23))) := by
  simp only [fwd4]
  after_results_entrywise []

set_option maxHeartbeats 1000000 in
theorem fwd5_val (V : Valuation τ sig (Elt Ideal)) : after fwd5 V (Proc.devRef .tc main_while0b_v30) = putVal (V (Proc.devRef .tc main_v7_6)) (V (Proc.devRef .tc main_v7_4)) (V (Proc.devRef .tc main_while0b_v25)) := by
  simp only [fwd5]
  after_results_entrywise []

set_option maxHeartbeats 1000000 in
theorem fwd6_val (V : Valuation τ sig (Elt Ideal)) : after fwd6 V (Proc.devRef .tc main_while0b_v31) = putState (V (Proc.devRef .tc main_v7_7)) (V (Proc.devRef .tc main_v7_4)) (V (Proc.devRef .tc main_v7_5)) := by
  simp only [fwd6]
  after_results_entrywise []

set_option maxHeartbeats 1000000 in
theorem fwd7_state (V : Valuation τ sig (Elt Ideal)) : after fwd7 V (Proc.devRef .tc main_v7_5) = V (Proc.devRef .tc main_while0b_v29) := by
  simp only [fwd7]
  after_results_entrywise []

set_option maxHeartbeats 1000000 in
theorem fwd7_out (V : Valuation τ sig (Elt Ideal)) : after fwd7 V (Proc.devRef .tc main_v7_6) = V (Proc.devRef .tc main_while0b_v30) := by
  simp only [fwd7]
  after_results_entrywise []

set_option maxHeartbeats 1000000 in
theorem fwd7_saved (V : Valuation τ sig (Elt Ideal)) : after fwd7 V (Proc.devRef .tc main_v7_7) = V (Proc.devRef .tc main_while0b_v31) := by
  simp only [fwd7]
  after_results_entrywise []

/-! ### One trip of the second loop, stretch by stretch -/

set_option maxHeartbeats 1000000 in
theorem bwd0_val (V : Valuation τ sig (Elt Ideal)) : after bwd0 V (Proc.devRef .tc main_while1b_v22) = subi (subi (constantI S_ 32 32#32) (V (Proc.devRef .tc main_v16_6))) (constantI S_ 32 1#32) := by
  simp only [bwd0]
  after_results_entrywise []

set_option maxHeartbeats 1000000 in
theorem bwd1_val (V : Valuation τ sig (Elt Ideal)) : after bwd1 V (Proc.devRef .tc main_while1b_v23) = takeVal (V (Proc.devRef .tc main_v16_0)) (V (Proc.devRef .tc main_while1b_v22)) := by
  simp only [bwd1]
  after_results_entrywise []

set_option maxHeartbeats 1000000 in
theorem bwd2_val (V : Valuation τ sig (Elt Ideal)) : after bwd2 V (Proc.devRef .tc main_while1b_v24) = takeState (V (Proc.devRef .tc main_v16_1)) (V (Proc.devRef .tc main_while1b_v22)) := by
  simp only [bwd2]
  after_results_entrywise []

set_option maxHeartbeats 1000000 in
theorem bwd3_val (V : Valuation τ sig (Elt Ideal)) : after bwd3 V (Proc.devRef .tc main_while1b_v25) = takeKey (V (Proc.devRef .tc main_v16_2)) (V (Proc.devRef .tc main_while1b_v22)) := by
  simp only [bwd3]
  after_results_entrywise []

set_option maxHeartbeats 1000000 in
theorem bwd4_val (V : Valuation τ sig (Elt Ideal)) : after bwd4 V (Proc.devRef .tc main_while1b_v26) = takeDec (V (Proc.devRef .tc main_v16_3)) (V (Proc.devRef .tc main_while1b_v22)) := by
  simp only [bwd4]
  after_results_entrywise []

set_option maxHeartbeats 1000000 in
theorem bwd5_val (V : Valuation τ sig (Elt Ideal)) : after bwd5 V (Proc.devRef .tc main_while1b_v27) = takeVal (V (Proc.devRef .tc main_v16_4)) (V (Proc.devRef .tc main_while1b_v22)) := by
  simp only [bwd5]
  after_results_entrywise []

set_option maxHeartbeats 1000000 in
theorem bwd6_val (V : Valuation τ sig (Elt Ideal)) : after bwd6 V (Proc.devRef .tc main_while1b_v28) = takeKey (V (Proc.devRef .tc main_v16_5)) (V (Proc.devRef .tc main_while1b_v22)) := by
  simp only [bwd6]
  after_results_entrywise []

set_option maxHeartbeats 1000000 in
theorem bwd7_dv (V : Valuation τ sig (Elt Ideal)) : after bwd7 V (Proc.devRef .tc main_while1b_v30) = transpose S8x64x256 [0, 2, 1] (Host.dotGeneral (F := Ideal) (φ₁ := .f32) (φ₂ := .f32) dot_S8x128x256_S8x64x128_S8x256x64_1_2_2_1_0_0 none (V (Proc.devRef .tc main_v16_7)) (V (Proc.devRef .tc main_while1b_v28))) transposes_S8x256x64_S8x64x256_0_2_1 := by
  simp only [bwd7]
  after_results_entrywise []

set_option maxHeartbeats 1000000 in
theorem bwd7_dk (V : Valuation τ sig (Elt Ideal)) : after bwd7 V (Proc.devRef .tc main_while1b_v32) = transpose S8x64x128 [0, 2, 1] (Host.dotGeneral (F := Ideal) (φ₁ := .f32) (φ₂ := .f32) dot_S8x128x256_S8x64x256_S8x128x64_2_2_1_1_0_0 none (V (Proc.devRef .tc main_v16_7)) (V (Proc.devRef .tc main_while1b_v27))) transposes_S8x128x64_S8x64x128_0_2_1 := by
  simp only [bwd7]
  after_results_entrywise []

set_option maxHeartbeats 1000000 in
theorem bwd7_ddec (V : Valuation τ sig (Elt Ideal)) : after bwd7 V (Proc.devRef .tc main_while1b_v35) = shapeCast S8x128x1 (Host.reduceAdd (F := Ideal) (φ := .f32) (mulf (F := Ideal) (φ := .f32) (V (Proc.devRef .tc main_while1b_v24)) (V (Proc.devRef .tc main_v16_7))) (constant S_ .f32 0x00000000#32) reducesTo_S8x128x256_S8x128_d2 h_S_) shapeCasts_S8x128_S8x128x1 := by
  simp only [bwd7]
  after_results_entrywise []

set_option maxHeartbeats 1000000 in
theorem bwd7_state (V : Valuation τ sig (Elt Ideal)) : after bwd7 V (Proc.devRef .tc main_while1b_v40) = addf (F := Ideal) (φ := .f32) (mulf (F := Ideal) (φ := .f32) (V (Proc.devRef .tc main_v16_7)) (broadcastInDim S8x128x256 ![0, 1, 2] bcast_S8x128x1_S8x128x256_0_1_2 (V (Proc.devRef .tc main_while1b_v26)))) (transpose S8x128x256 [0, 2, 1] (Host.dotGeneral (F := Ideal) (φ₁ := .f32) (φ₂ := .f32) dot_S8x64x256_S8x64x128_S8x256x128_1_1_2_2_0_0 none (V (Proc.devRef .tc main_while1b_v23)) (V (Proc.devRef .tc main_while1b_v25))) transposes_S8x256x128_S8x128x256_0_2_1) := by
  simp only [bwd7]
  after_results_entrywise []

set_option maxHeartbeats 1000000 in
theorem bwd7_dq (V : Valuation τ sig (Elt Ideal)) : after bwd7 V (Proc.devRef .tc main_while1b_v41) = Host.dotGeneral (F := Ideal) (φ₁ := .f32) (φ₂ := .f32) dot_S8x64x256_S8x128x256_S8x64x128_2_2_1_1_0_0 none (V (Proc.devRef .tc main_while1b_v23)) (V (Proc.devRef .tc main_while1b_v24)) := by
  simp only [bwd7]
  after_results_entrywise []

set_option maxHeartbeats 1000000 in
theorem bwd8_val (V : Valuation τ sig (Elt Ideal)) : after bwd8 V (Proc.devRef .tc main_while1b_v42) = putKey (V (Proc.devRef .tc main_v16_8)) (V (Proc.devRef .tc main_while1b_v22)) (V (Proc.devRef .tc main_while1b_v41)) := by
  simp only [bwd8]
  after_results_entrywise []

set_option maxHeartbeats 1000000 in
theorem bwd9_val (V : Valuation τ sig (Elt Ideal)) : after bwd9 V (Proc.devRef .tc main_while1b_v43) = putKey (V (Proc.devRef .tc main_v16_9)) (V (Proc.devRef .tc main_while1b_v22)) (V (Proc.devRef .tc main_while1b_v32)) := by
  simp only [bwd9]
  after_results_entrywise []

set_option maxHeartbeats 1000000 in
theorem bwd10_val (V : Valuation τ sig (Elt Ideal)) : after bwd10 V (Proc.devRef .tc main_while1b_v44) = putVal (V (Proc.devRef .tc main_v16_10)) (V (Proc.devRef .tc main_while1b_v22)) (V (Proc.devRef .tc main_while1b_v30)) := by
  simp only [bwd10]
  after_results_entrywise []

set_option maxHeartbeats 1000000 in
theorem bwd11_val (V : Valuation τ sig (Elt Ideal)) : after bwd11 V (Proc.devRef .tc main_while1b_v45) = putDec (V (Proc.devRef .tc main_v16_11)) (V (Proc.devRef .tc main_while1b_v22)) (V (Proc.devRef .tc main_while1b_v35)) := by
  simp only [bwd11]
  after_results_entrywise []

set_option maxHeartbeats 1000000 in
theorem bwd12_state (V : Valuation τ sig (Elt Ideal)) : after bwd12 V (Proc.devRef .tc main_v16_7) = V (Proc.devRef .tc main_while1b_v40) := by
  simp only [bwd12]
  after_results_entrywise []

set_option maxHeartbeats 1000000 in
theorem bwd12_dq (V : Valuation τ sig (Elt Ideal)) : after bwd12 V (Proc.devRef .tc main_v16_8) = V (Proc.devRef .tc main_while1b_v42) := by
  simp only [bwd12]
  after_results_entrywise []

set_option maxHeartbeats 1000000 in
theorem bwd12_dk (V : Valuation τ sig (Elt Ideal)) : after bwd12 V (Proc.devRef .tc main_v16_9) = V (Proc.devRef .tc main_while1b_v43) := by
  simp only [bwd12]
  after_results_entrywise []

set_option maxHeartbeats 1000000 in
theorem bwd12_dv (V : Valuation τ sig (Elt Ideal)) : after bwd12 V (Proc.devRef .tc main_v16_10) = V (Proc.devRef .tc main_while1b_v44) := by
  simp only [bwd12]
  after_results_entrywise []

set_option maxHeartbeats 1000000 in
theorem bwd12_ddec (V : Valuation τ sig (Elt Ideal)) : after bwd12 V (Proc.devRef .tc main_v16_11) = V (Proc.devRef .tc main_while1b_v45) := by
  simp only [bwd12]
  after_results_entrywise []

/-! ### One whole trip of each loop -/

set_option maxRecDepth 100000 in
/-- The new state. -/
theorem fwd_state (V : Valuation τ sig (Elt Ideal)) : afterL fwd V (Proc.devRef .tc main_v7_5) = addf (F := Ideal) (φ := .f32) (mulf (F := Ideal) (φ := .f32) (V (Proc.devRef .tc main_v7_5)) (broadcastInDim S8x128x256 ![0, 1, 2] bcast_S8x128x1_S8x128x256_0_1_2 (takeDec (V (Proc.devRef .tc main_v7_3)) (V (Proc.devRef .tc main_v7_4))))) (Host.dotGeneral (F := Ideal) (φ₁ := .f32) (φ₂ := .f32) dot_S8x64x128_S8x64x256_S8x128x256_1_1_2_2_0_0 none (takeKey (V (Proc.devRef .tc main_v7_1)) (V (Proc.devRef .tc main_v7_4))) (takeVal (V (Proc.devRef .tc main_v7_2)) (V (Proc.devRef .tc main_v7_4)))) := by
  simp only [afterL_cons, afterL_nil]
  repeat first | rw [fwd7_state] | rw [fwd7_out] | rw [fwd7_saved] | rw [fwd7_keep _ (by decide)]
  repeat first | rw [fwd6_val] | rw [fwd6_keep _ (by decide)]
  repeat first | rw [fwd5_val] | rw [fwd5_keep _ (by decide)]
  repeat first | rw [fwd4_out] | rw [fwd4_state] | rw [fwd4_keep _ (by decide)]
  repeat first | rw [fwd3_val] | rw [fwd3_keep _ (by decide)]
  repeat first | rw [fwd2_val] | rw [fwd2_keep _ (by decide)]
  repeat first | rw [fwd1_val] | rw [fwd1_keep _ (by decide)]
  repeat first | rw [fwd0_val] | rw [fwd0_keep _ (by decide)]

set_option maxRecDepth 100000 in
/-- The chunk's output, written. -/
theorem fwd_out (V : Valuation τ sig (Elt Ideal)) : afterL fwd V (Proc.devRef .tc main_v7_6) = putVal (V (Proc.devRef .tc main_v7_6)) (V (Proc.devRef .tc main_v7_4)) (Host.dotGeneral (F := Ideal) (φ₁ := .f32) (φ₂ := .f32) dot_S8x64x128_S8x128x256_S8x64x256_2_1_1_2_0_0 none (takeKey (V (Proc.devRef .tc main_v7_0)) (V (Proc.devRef .tc main_v7_4))) (V (Proc.devRef .tc main_v7_5))) := by
  simp only [afterL_cons, afterL_nil]
  repeat first | rw [fwd7_state] | rw [fwd7_out] | rw [fwd7_saved] | rw [fwd7_keep _ (by decide)]
  repeat first | rw [fwd6_val] | rw [fwd6_keep _ (by decide)]
  repeat first | rw [fwd5_val] | rw [fwd5_keep _ (by decide)]
  repeat first | rw [fwd4_out] | rw [fwd4_state] | rw [fwd4_keep _ (by decide)]
  repeat first | rw [fwd3_val] | rw [fwd3_keep _ (by decide)]
  repeat first | rw [fwd2_val] | rw [fwd2_keep _ (by decide)]
  repeat first | rw [fwd1_val] | rw [fwd1_keep _ (by decide)]
  repeat first | rw [fwd0_val] | rw [fwd0_keep _ (by decide)]

set_option maxRecDepth 100000 in
/-- The state the chunk met, written. -/
theorem fwd_saved (V : Valuation τ sig (Elt Ideal)) : afterL fwd V (Proc.devRef .tc main_v7_7) = putState (V (Proc.devRef .tc main_v7_7)) (V (Proc.devRef .tc main_v7_4)) (V (Proc.devRef .tc main_v7_5)) := by
  simp only [afterL_cons, afterL_nil]
  repeat first | rw [fwd7_state] | rw [fwd7_out] | rw [fwd7_saved] | rw [fwd7_keep _ (by decide)]
  repeat first | rw [fwd6_val] | rw [fwd6_keep _ (by decide)]
  repeat first | rw [fwd5_val] | rw [fwd5_keep _ (by decide)]
  repeat first | rw [fwd4_out] | rw [fwd4_state] | rw [fwd4_keep _ (by decide)]
  repeat first | rw [fwd3_val] | rw [fwd3_keep _ (by decide)]
  repeat first | rw [fwd2_val] | rw [fwd2_keep _ (by decide)]
  repeat first | rw [fwd1_val] | rw [fwd1_keep _ (by decide)]
  repeat first | rw [fwd0_val] | rw [fwd0_keep _ (by decide)]

set_option maxRecDepth 100000 in
/-- The state's new cotangent. -/
theorem bwd_state (V : Valuation τ sig (Elt Ideal)) : afterL bwd V (Proc.devRef .tc main_v16_7) = addf (F := Ideal) (φ := .f32) (mulf (F := Ideal) (φ := .f32) (V (Proc.devRef .tc main_v16_7)) (broadcastInDim S8x128x256 ![0, 1, 2] bcast_S8x128x1_S8x128x256_0_1_2 (takeDec (V (Proc.devRef .tc main_v16_3)) (subi (subi (constantI S_ 32 32#32) (V (Proc.devRef .tc main_v16_6))) (constantI S_ 32 1#32))))) (transpose S8x128x256 [0, 2, 1] (Host.dotGeneral (F := Ideal) (φ₁ := .f32) (φ₂ := .f32) dot_S8x64x256_S8x64x128_S8x256x128_1_1_2_2_0_0 none (takeVal (V (Proc.devRef .tc main_v16_0)) (subi (subi (constantI S_ 32 32#32) (V (Proc.devRef .tc main_v16_6))) (constantI S_ 32 1#32))) (takeKey (V (Proc.devRef .tc main_v16_2)) (subi (subi (constantI S_ 32 32#32) (V (Proc.devRef .tc main_v16_6))) (constantI S_ 32 1#32)))) transposes_S8x256x128_S8x128x256_0_2_1) := by
  simp only [afterL_cons, afterL_nil]
  repeat first | rw [bwd12_state] | rw [bwd12_dq] | rw [bwd12_dk] | rw [bwd12_dv] | rw [bwd12_ddec] | rw [bwd12_keep _ (by decide)]
  repeat first | rw [bwd11_val] | rw [bwd11_keep _ (by decide)]
  repeat first | rw [bwd10_val] | rw [bwd10_keep _ (by decide)]
  repeat first | rw [bwd9_val] | rw [bwd9_keep _ (by decide)]
  repeat first | rw [bwd8_val] | rw [bwd8_keep _ (by decide)]
  repeat first | rw [bwd7_dv] | rw [bwd7_dk] | rw [bwd7_ddec] | rw [bwd7_state] | rw [bwd7_dq] | rw [bwd7_keep _ (by decide)]
  repeat first | rw [bwd6_val] | rw [bwd6_keep _ (by decide)]
  repeat first | rw [bwd5_val] | rw [bwd5_keep _ (by decide)]
  repeat first | rw [bwd4_val] | rw [bwd4_keep _ (by decide)]
  repeat first | rw [bwd3_val] | rw [bwd3_keep _ (by decide)]
  repeat first | rw [bwd2_val] | rw [bwd2_keep _ (by decide)]
  repeat first | rw [bwd1_val] | rw [bwd1_keep _ (by decide)]
  repeat first | rw [bwd0_val] | rw [bwd0_keep _ (by decide)]

set_option maxRecDepth 100000 in
/-- The queries' gradient, written. -/
theorem bwd_dq (V : Valuation τ sig (Elt Ideal)) : afterL bwd V (Proc.devRef .tc main_v16_8) = putKey (V (Proc.devRef .tc main_v16_8)) (subi (subi (constantI S_ 32 32#32) (V (Proc.devRef .tc main_v16_6))) (constantI S_ 32 1#32)) (Host.dotGeneral (F := Ideal) (φ₁ := .f32) (φ₂ := .f32) dot_S8x64x256_S8x128x256_S8x64x128_2_2_1_1_0_0 none (takeVal (V (Proc.devRef .tc main_v16_0)) (subi (subi (constantI S_ 32 32#32) (V (Proc.devRef .tc main_v16_6))) (constantI S_ 32 1#32))) (takeState (V (Proc.devRef .tc main_v16_1)) (subi (subi (constantI S_ 32 32#32) (V (Proc.devRef .tc main_v16_6))) (constantI S_ 32 1#32)))) := by
  simp only [afterL_cons, afterL_nil]
  repeat first | rw [bwd12_state] | rw [bwd12_dq] | rw [bwd12_dk] | rw [bwd12_dv] | rw [bwd12_ddec] | rw [bwd12_keep _ (by decide)]
  repeat first | rw [bwd11_val] | rw [bwd11_keep _ (by decide)]
  repeat first | rw [bwd10_val] | rw [bwd10_keep _ (by decide)]
  repeat first | rw [bwd9_val] | rw [bwd9_keep _ (by decide)]
  repeat first | rw [bwd8_val] | rw [bwd8_keep _ (by decide)]
  repeat first | rw [bwd7_dv] | rw [bwd7_dk] | rw [bwd7_ddec] | rw [bwd7_state] | rw [bwd7_dq] | rw [bwd7_keep _ (by decide)]
  repeat first | rw [bwd6_val] | rw [bwd6_keep _ (by decide)]
  repeat first | rw [bwd5_val] | rw [bwd5_keep _ (by decide)]
  repeat first | rw [bwd4_val] | rw [bwd4_keep _ (by decide)]
  repeat first | rw [bwd3_val] | rw [bwd3_keep _ (by decide)]
  repeat first | rw [bwd2_val] | rw [bwd2_keep _ (by decide)]
  repeat first | rw [bwd1_val] | rw [bwd1_keep _ (by decide)]
  repeat first | rw [bwd0_val] | rw [bwd0_keep _ (by decide)]

set_option maxRecDepth 100000 in
/-- The keys' gradient, written. -/
theorem bwd_dk (V : Valuation τ sig (Elt Ideal)) : afterL bwd V (Proc.devRef .tc main_v16_9) = putKey (V (Proc.devRef .tc main_v16_9)) (subi (subi (constantI S_ 32 32#32) (V (Proc.devRef .tc main_v16_6))) (constantI S_ 32 1#32)) (transpose S8x64x128 [0, 2, 1] (Host.dotGeneral (F := Ideal) (φ₁ := .f32) (φ₂ := .f32) dot_S8x128x256_S8x64x256_S8x128x64_2_2_1_1_0_0 none (V (Proc.devRef .tc main_v16_7)) (takeVal (V (Proc.devRef .tc main_v16_4)) (subi (subi (constantI S_ 32 32#32) (V (Proc.devRef .tc main_v16_6))) (constantI S_ 32 1#32)))) transposes_S8x128x64_S8x64x128_0_2_1) := by
  simp only [afterL_cons, afterL_nil]
  repeat first | rw [bwd12_state] | rw [bwd12_dq] | rw [bwd12_dk] | rw [bwd12_dv] | rw [bwd12_ddec] | rw [bwd12_keep _ (by decide)]
  repeat first | rw [bwd11_val] | rw [bwd11_keep _ (by decide)]
  repeat first | rw [bwd10_val] | rw [bwd10_keep _ (by decide)]
  repeat first | rw [bwd9_val] | rw [bwd9_keep _ (by decide)]
  repeat first | rw [bwd8_val] | rw [bwd8_keep _ (by decide)]
  repeat first | rw [bwd7_dv] | rw [bwd7_dk] | rw [bwd7_ddec] | rw [bwd7_state] | rw [bwd7_dq] | rw [bwd7_keep _ (by decide)]
  repeat first | rw [bwd6_val] | rw [bwd6_keep _ (by decide)]
  repeat first | rw [bwd5_val] | rw [bwd5_keep _ (by decide)]
  repeat first | rw [bwd4_val] | rw [bwd4_keep _ (by decide)]
  repeat first | rw [bwd3_val] | rw [bwd3_keep _ (by decide)]
  repeat first | rw [bwd2_val] | rw [bwd2_keep _ (by decide)]
  repeat first | rw [bwd1_val] | rw [bwd1_keep _ (by decide)]
  repeat first | rw [bwd0_val] | rw [bwd0_keep _ (by decide)]

set_option maxRecDepth 100000 in
/-- The values' gradient, written. -/
theorem bwd_dv (V : Valuation τ sig (Elt Ideal)) : afterL bwd V (Proc.devRef .tc main_v16_10) = putVal (V (Proc.devRef .tc main_v16_10)) (subi (subi (constantI S_ 32 32#32) (V (Proc.devRef .tc main_v16_6))) (constantI S_ 32 1#32)) (transpose S8x64x256 [0, 2, 1] (Host.dotGeneral (F := Ideal) (φ₁ := .f32) (φ₂ := .f32) dot_S8x128x256_S8x64x128_S8x256x64_1_2_2_1_0_0 none (V (Proc.devRef .tc main_v16_7)) (takeKey (V (Proc.devRef .tc main_v16_5)) (subi (subi (constantI S_ 32 32#32) (V (Proc.devRef .tc main_v16_6))) (constantI S_ 32 1#32)))) transposes_S8x256x64_S8x64x256_0_2_1) := by
  simp only [afterL_cons, afterL_nil]
  repeat first | rw [bwd12_state] | rw [bwd12_dq] | rw [bwd12_dk] | rw [bwd12_dv] | rw [bwd12_ddec] | rw [bwd12_keep _ (by decide)]
  repeat first | rw [bwd11_val] | rw [bwd11_keep _ (by decide)]
  repeat first | rw [bwd10_val] | rw [bwd10_keep _ (by decide)]
  repeat first | rw [bwd9_val] | rw [bwd9_keep _ (by decide)]
  repeat first | rw [bwd8_val] | rw [bwd8_keep _ (by decide)]
  repeat first | rw [bwd7_dv] | rw [bwd7_dk] | rw [bwd7_ddec] | rw [bwd7_state] | rw [bwd7_dq] | rw [bwd7_keep _ (by decide)]
  repeat first | rw [bwd6_val] | rw [bwd6_keep _ (by decide)]
  repeat first | rw [bwd5_val] | rw [bwd5_keep _ (by decide)]
  repeat first | rw [bwd4_val] | rw [bwd4_keep _ (by decide)]
  repeat first | rw [bwd3_val] | rw [bwd3_keep _ (by decide)]
  repeat first | rw [bwd2_val] | rw [bwd2_keep _ (by decide)]
  repeat first | rw [bwd1_val] | rw [bwd1_keep _ (by decide)]
  repeat first | rw [bwd0_val] | rw [bwd0_keep _ (by decide)]

set_option maxRecDepth 100000 in
/-- The decays' gradient, written. -/
theorem bwd_ddec (V : Valuation τ sig (Elt Ideal)) : afterL bwd V (Proc.devRef .tc main_v16_11) = putDec (V (Proc.devRef .tc main_v16_11)) (subi (subi (constantI S_ 32 32#32) (V (Proc.devRef .tc main_v16_6))) (constantI S_ 32 1#32)) (shapeCast S8x128x1 (Host.reduceAdd (F := Ideal) (φ := .f32) (mulf (F := Ideal) (φ := .f32) (takeState (V (Proc.devRef .tc main_v16_1)) (subi (subi (constantI S_ 32 32#32) (V (Proc.devRef .tc main_v16_6))) (constantI S_ 32 1#32))) (V (Proc.devRef .tc main_v16_7))) (constant S_ .f32 0x00000000#32) reducesTo_S8x128x256_S8x128_d2 h_S_) shapeCasts_S8x128_S8x128x1) := by
  simp only [afterL_cons, afterL_nil]
  repeat first | rw [bwd12_state] | rw [bwd12_dq] | rw [bwd12_dk] | rw [bwd12_dv] | rw [bwd12_ddec] | rw [bwd12_keep _ (by decide)]
  repeat first | rw [bwd11_val] | rw [bwd11_keep _ (by decide)]
  repeat first | rw [bwd10_val] | rw [bwd10_keep _ (by decide)]
  repeat first | rw [bwd9_val] | rw [bwd9_keep _ (by decide)]
  repeat first | rw [bwd8_val] | rw [bwd8_keep _ (by decide)]
  repeat first | rw [bwd7_dv] | rw [bwd7_dk] | rw [bwd7_ddec] | rw [bwd7_state] | rw [bwd7_dq] | rw [bwd7_keep _ (by decide)]
  repeat first | rw [bwd6_val] | rw [bwd6_keep _ (by decide)]
  repeat first | rw [bwd5_val] | rw [bwd5_keep _ (by decide)]
  repeat first | rw [bwd4_val] | rw [bwd4_keep _ (by decide)]
  repeat first | rw [bwd3_val] | rw [bwd3_keep _ (by decide)]
  repeat first | rw [bwd2_val] | rw [bwd2_keep _ (by decide)]
  repeat first | rw [bwd1_val] | rw [bwd1_keep _ (by decide)]
  repeat first | rw [bwd0_val] | rw [bwd0_keep _ (by decide)]

end Cert.Ref

end
-- ==== Proof.RefVal.lean ====
module

public import proofs.«01_k».proof.Proof.RefTrip

/-!
The reference's results: both loops' contents after any number of trips, and the five results entry by entry.
-/

@[expose] public section

noncomputable section

namespace Cert.Ref

open Cert.ReferenceIdeal Cert.ReferenceIdeal.Gen Cert.Math
open Idealize.ShloMosaic Idealize.ShloMosaic.TcCoe Idealize.ShloMosaic.StableHlo Idealize.ShloMosaic.Tactic

set_option maxRecDepth 16384

/-! ### The operations of a trip, entry by entry -/

theorem step_at (s : FVec Ideal S8x128x256 .f32) (dec : FVec Ideal S8x128x1 .f32) (k : FVec Ideal S8x64x128 .f32) (v : FVec Ideal S8x64x256 .f32)
    (g : Fin 8) (a : Fin 128) (b : Fin 256) :
    addf (F := Ideal) (φ := .f32) (mulf (F := Ideal) (φ := .f32) s (broadcastInDim S8x128x256 ![0, 1, 2] bcast_S8x128x1_S8x128x256_0_1_2 dec))
      (Host.dotGeneral (F := Ideal) (φ₁ := .f32) (φ₂ := .f32) dot_S8x64x128_S8x64x256_S8x128x256_1_1_2_2_0_0 none k v) (ix3 g a b)
      = s (ix3 g a b) * dec (ix3 g a 0) + ∑ c : Fin 64, k (ix3 g c a) * v (ix3 g c b) := by
  pointwise
  done

theorem out_at (q : FVec Ideal S8x64x128 .f32) (s : FVec Ideal S8x128x256 .f32) (g : Fin 8) (c : Fin 64) (b : Fin 256) :
    Host.dotGeneral (F := Ideal) (φ₁ := .f32) (φ₂ := .f32) dot_S8x64x128_S8x128x256_S8x64x256_2_1_1_2_0_0 none q s (ix3 g c b)
      = ∑ a : Fin 128, q (ix3 g c a) * s (ix3 g a b) := by
  pointwise
  done

theorem back_at (d : FVec Ideal S8x128x256 .f32) (dec : FVec Ideal S8x128x1 .f32) (dO : FVec Ideal S8x64x256 .f32) (q : FVec Ideal S8x64x128 .f32)
    (g : Fin 8) (a : Fin 128) (b : Fin 256) :
    addf (F := Ideal) (φ := .f32) (mulf (F := Ideal) (φ := .f32) d (broadcastInDim S8x128x256 ![0, 1, 2] bcast_S8x128x1_S8x128x256_0_1_2 dec))
      (transpose S8x128x256 [0, 2, 1] (Host.dotGeneral (F := Ideal) (φ₁ := .f32) (φ₂ := .f32) dot_S8x64x256_S8x64x128_S8x256x128_1_1_2_2_0_0 none dO q) transposes_S8x256x128_S8x128x256_0_2_1) (ix3 g a b)
      = d (ix3 g a b) * dec (ix3 g a 0) + ∑ c : Fin 64, q (ix3 g c a) * dO (ix3 g c b) := by
  pointwise
  simp only [mul_comm]
  done

theorem dq_at (dO : FVec Ideal S8x64x256 .f32) (s : FVec Ideal S8x128x256 .f32) (g : Fin 8) (c : Fin 64) (a : Fin 128) :
    Host.dotGeneral (F := Ideal) (φ₁ := .f32) (φ₂ := .f32) dot_S8x64x256_S8x128x256_S8x64x128_2_2_1_1_0_0 none dO s (ix3 g c a)
      = ∑ b : Fin 256, dO (ix3 g c b) * s (ix3 g a b) := by
  pointwise
  done

theorem dk_at (d : FVec Ideal S8x128x256 .f32) (v : FVec Ideal S8x64x256 .f32) (g : Fin 8) (c : Fin 64) (a : Fin 128) :
    transpose S8x64x128 [0, 2, 1] (Host.dotGeneral (F := Ideal) (φ₁ := .f32) (φ₂ := .f32) dot_S8x128x256_S8x64x256_S8x128x64_2_2_1_1_0_0 none d v) transposes_S8x128x64_S8x64x128_0_2_1 (ix3 g c a)
      = ∑ b : Fin 256, v (ix3 g c b) * d (ix3 g a b) := by
  pointwise
  simp only [mul_comm]
  done

theorem dv_at (d : FVec Ideal S8x128x256 .f32) (k : FVec Ideal S8x64x128 .f32) (g : Fin 8) (c : Fin 64) (b : Fin 256) :
    transpose S8x64x256 [0, 2, 1] (Host.dotGeneral (F := Ideal) (φ₁ := .f32) (φ₂ := .f32) dot_S8x128x256_S8x64x128_S8x256x64_1_2_2_1_0_0 none d k) transposes_S8x256x64_S8x64x256_0_2_1 (ix3 g c b)
      = ∑ a : Fin 128, k (ix3 g c a) * d (ix3 g a b) := by
  pointwise
  simp only [mul_comm]
  done

theorem ddec_at (s d : FVec Ideal S8x128x256 .f32) (g : Fin 8) (a : Fin 128) :
    shapeCast S8x128x1 (Host.reduceAdd (F := Ideal) (φ := .f32) (mulf (F := Ideal) (φ := .f32) s d) (constant S_ .f32 0x00000000#32) reducesTo_S8x128x256_S8x128_d2 h_S_) shapeCasts_S8x128_S8x128x1 (ix3 g a 0)
      = ∑ b : Fin 256, s (ix3 g a b) * d (ix3 g a b) := by
  pointwise
  done

/-! ### The first loop -/

theorem iv_ofNat (k : ℕ) : Scf.iv 0#32 1#32 k = BitVec.ofNat 32 k := by simp [Scf.iv]

section Forward

variable (W : Dev nD → Valuation τ sig (Elt Ideal)) (c : Dev nD) (q k : KeyT) (v : ValT) (dec : DecT)

/-- What the first loop has in its buffers before trip `n`: the counter's state, and every earlier chunk's output and state. -/
structure Fwd (n : ℕ) (V : Valuation τ sig (Elt Ideal)) : Prop where
  counter : V (Proc.devRef .tc main_v7_4) = fun _ => BitVec.ofNat 32 n
  hq : ∀ t g c d, (V (Proc.devRef .tc main_v7_0) : FVec Ideal S32x8x64x128 .f32) (ix4 t g c d) = q (ix4 g t c d)
  hk : ∀ t g c d, (V (Proc.devRef .tc main_v7_1) : FVec Ideal S32x8x64x128 .f32) (ix4 t g c d) = k (ix4 g t c d)
  hv : ∀ t g c d, (V (Proc.devRef .tc main_v7_2) : FVec Ideal S32x8x64x256 .f32) (ix4 t g c d) = v (ix4 g t c d)
  hdec : ∀ t g c d, (V (Proc.devRef .tc main_v7_3) : FVec Ideal S32x8x128x1 .f32) (ix4 t g c d) = dec (ix4 g t c d)
  state : ∀ g a b, (V (Proc.devRef .tc main_v7_5) : FVec Ideal S8x128x256 .f32) (ix3 g a b) = state k v dec g n a b
  out : ∀ t g c b, t.val < n → (V (Proc.devRef .tc main_v7_6) : FVec Ideal S32x8x64x256 .f32) (ix4 t g c b) = out q k v dec (ix4 g t c b)
  saved : ∀ t g a b, t.val < n → (V (Proc.devRef .tc main_v7_7) : FVec Ideal S32x8x128x256 .f32) (ix4 t g a b) = Math.state k v dec g t.val a b

variable {W c q k v dec}

/-- The loop's test changes none of it. -/
theorem Fwd.test {n : ℕ} {V : Valuation τ sig (Elt Ideal)} (h : Fwd q k v dec n V) : Fwd q k v dec n (after test0 V) where
  counter := by rw [test0_keep _ (by decide)]; exact h.counter
  hq := by rw [test0_keep _ (by decide)]; exact h.hq
  hk := by rw [test0_keep _ (by decide)]; exact h.hk
  hv := by rw [test0_keep _ (by decide)]; exact h.hv
  hdec := by rw [test0_keep _ (by decide)]; exact h.hdec
  state := by rw [test0_keep _ (by decide)]; exact h.state
  out := by rw [test0_keep _ (by decide)]; exact h.out
  saved := by rw [test0_keep _ (by decide)]; exact h.saved

/-- One trip takes it one chunk on. -/
theorem Fwd.step {n : ℕ} {V : Valuation τ sig (Elt Ideal)} (hn : n < 32) (h : Fwd q k v dec n V) : Fwd q k v dec (n + 1) (afterL fwd V) where
  counter := by
    rw [fwd_count, h.counter]
    funext _
    show BitVec.ofNat 32 n + 1#32 = _
    rw [BitVec.ofNat_add]
  hq := by rw [fwd_keep _ (by decide)]; exact h.hq
  hk := by rw [fwd_keep _ (by decide)]; exact h.hk
  hv := by rw [fwd_keep _ (by decide)]; exact h.hv
  hdec := by rw [fwd_keep _ (by decide)]; exact h.hdec
  state := by
    intro g a b
    have hw : V (Proc.devRef .tc main_v7_4) = fun _ => BitVec.ofNat 32 (ch n).val := by
      rw [h.counter]; simp [ch, Nat.mod_eq_of_lt hn]
    rw [fwd_state, step_at]
    simp only [takeDec_at _ _ _ hw, takeKey_at _ _ _ hw, takeVal_at _ _ _ hw, h.hdec, h.hk, h.hv, h.state]
    rfl
  out := by
    intro t g c b ht
    have hw : V (Proc.devRef .tc main_v7_4) = fun _ => BitVec.ofNat 32 (ch n).val := by
      rw [h.counter]; simp [ch, Nat.mod_eq_of_lt hn]
    rw [fwd_out, putVal_at _ _ _ _ hw]
    by_cases e : t = ch n
    · have hv : t.val = n := by rw [e]; simp [ch, Nat.mod_eq_of_lt hn]
      rw [if_pos e, out_at]
      simp only [takeKey_at _ _ _ hw, h.hq, h.state, ← e]
      subst hv
      rfl
    · rw [if_neg e]
      refine h.out t g c b ?_
      have : t.val ≠ n := fun x => e (Fin.ext (by simp [ch, Nat.mod_eq_of_lt hn, x]))
      omega
  saved := by
    intro t g a b ht
    have hw : V (Proc.devRef .tc main_v7_4) = fun _ => BitVec.ofNat 32 (ch n).val := by
      rw [h.counter]; simp [ch, Nat.mod_eq_of_lt hn]
    rw [fwd_saved, putState_at _ _ _ _ hw]
    by_cases e : t = ch n
    · have hv : t.val = n := by rw [e]; simp [ch, Nat.mod_eq_of_lt hn]
      rw [if_pos e, h.state, hv]
    · rw [if_neg e]
      refine h.saved t g a b ?_
      have : t.val ≠ n := fun x => e (Fin.ext (by simp [ch, Nat.mod_eq_of_lt hn, x]))
      omega

/-- The first loop from entry contents `W` that hold the arguments. -/
theorem Fwd.trips (h : Fwd q k v dec 0 (W c)) : ∀ n, n ≤ 32 → Fwd q k v dec n (atTrip test0 fwd W n c)
  | 0, _ => h
  | n + 1, hn => by
    rw [atTrip_succ]
    exact (Fwd.trips h n (by omega)).test.step (by omega)

end Forward

/-! ### The second loop -/

section Backward

variable (W : Dev nD → Valuation τ sig (Elt Ideal)) (c : Dev nD) (q k : KeyT) (v : ValT) (dec : DecT) (dO : ValT)

/-- What the second loop has in its buffers before trip `n`: the cotangent of the state, and the gradients of the last `n` chunks. -/
structure Bwd (n : ℕ) (V : Valuation τ sig (Elt Ideal)) : Prop where
  counter : V (Proc.devRef .tc main_v16_6) = fun _ => BitVec.ofNat 32 n
  hdO : ∀ t g c d, (V (Proc.devRef .tc main_v16_0) : FVec Ideal S32x8x64x256 .f32) (ix4 t g c d) = dO (ix4 g t c d)
  hs : ∀ t g a b, (V (Proc.devRef .tc main_v16_1) : FVec Ideal S32x8x128x256 .f32) (ix4 t g a b) = Math.state k v dec g t.val a b
  hq : ∀ t g c d, (V (Proc.devRef .tc main_v16_2) : FVec Ideal S32x8x64x128 .f32) (ix4 t g c d) = q (ix4 g t c d)
  hdec : ∀ t g c d, (V (Proc.devRef .tc main_v16_3) : FVec Ideal S32x8x128x1 .f32) (ix4 t g c d) = dec (ix4 g t c d)
  hv : ∀ t g c d, (V (Proc.devRef .tc main_v16_4) : FVec Ideal S32x8x64x256 .f32) (ix4 t g c d) = v (ix4 g t c d)
  hk : ∀ t g c d, (V (Proc.devRef .tc main_v16_5) : FVec Ideal S32x8x64x128 .f32) (ix4 t g c d) = k (ix4 g t c d)
  state : ∀ g a b, (V (Proc.devRef .tc main_v16_7) : FVec Ideal S8x128x256 .f32) (ix3 g a b) = costate q dec dO g n a b
  dq : ∀ t g c a, 31 - t.val < n → (V (Proc.devRef .tc main_v16_8) : FVec Ideal S32x8x64x128 .f32) (ix4 t g c a) = gq k v dec dO (ix4 g t c a)
  dk : ∀ t g c a, 31 - t.val < n → (V (Proc.devRef .tc main_v16_9) : FVec Ideal S32x8x64x128 .f32) (ix4 t g c a) = gk q v dec dO (ix4 g t c a)
  dv : ∀ t g c b, 31 - t.val < n → (V (Proc.devRef .tc main_v16_10) : FVec Ideal S32x8x64x256 .f32) (ix4 t g c b) = gv q k dec dO (ix4 g t c b)
  ddec : ∀ t g a, 31 - t.val < n → (V (Proc.devRef .tc main_v16_11) : FVec Ideal S32x8x128x1 .f32) (ix4 t g a 0) = gdec q k v dec dO (ix4 g t a 0)

variable {W c q k v dec dO}

/-- The loop's test changes none of it. -/
theorem Bwd.test {n : ℕ} {V : Valuation τ sig (Elt Ideal)} (h : Bwd q k v dec dO n V) : Bwd q k v dec dO n (after test1 V) where
  counter := by rw [test1_keep _ (by decide)]; exact h.counter
  hdO := by rw [test1_keep _ (by decide)]; exact h.hdO
  hs := by rw [test1_keep _ (by decide)]; exact h.hs
  hq := by rw [test1_keep _ (by decide)]; exact h.hq
  hdec := by rw [test1_keep _ (by decide)]; exact h.hdec
  hv := by rw [test1_keep _ (by decide)]; exact h.hv
  hk := by rw [test1_keep _ (by decide)]; exact h.hk
  state := by rw [test1_keep _ (by decide)]; exact h.state
  dq := by rw [test1_keep _ (by decide)]; exact h.dq
  dk := by rw [test1_keep _ (by decide)]; exact h.dk
  dv := by rw [test1_keep _ (by decide)]; exact h.dv
  ddec := by rw [test1_keep _ (by decide)]; exact h.ddec

/-- The chunk trip `n` works on. -/
theorem back_index {n : ℕ} {w : IVec S_ 32} (hn : n < 32) (h : w = fun _ => BitVec.ofNat 32 n) :
    subi (subi (constantI S_ 32 32#32) w) (constantI S_ 32 1#32) = fun _ => BitVec.ofNat 32 (ch (31 - n)).val := by
  subst h
  funext _
  show 32#32 - BitVec.ofNat 32 n - 1#32 = _
  have : ∀ t : Fin 32, 32#32 - BitVec.ofNat 32 t.val - 1#32 = BitVec.ofNat 32 (ch (31 - t.val)).val := by decide
  exact this ⟨n, hn⟩

theorem ch_back {n : ℕ} (hn : n < 32) : (ch (31 - n)).val = 31 - n := by
  simp only [ch, Fin.ofNat]; omega

/-- One trip takes it one chunk back. -/
theorem Bwd.step {n : ℕ} {V : Valuation τ sig (Elt Ideal)} (hn : n < 32) (h : Bwd q k v dec dO n V) : Bwd q k v dec dO (n + 1) (afterL bwd V) where
  counter := by
    rw [bwd_count, h.counter]
    funext _
    show BitVec.ofNat 32 n + 1#32 = _
    rw [BitVec.ofNat_add]
  hdO := by rw [bwd_keep _ (by decide)]; exact h.hdO
  hs := by rw [bwd_keep _ (by decide)]; exact h.hs
  hq := by rw [bwd_keep _ (by decide)]; exact h.hq
  hdec := by rw [bwd_keep _ (by decide)]; exact h.hdec
  hv := by rw [bwd_keep _ (by decide)]; exact h.hv
  hk := by rw [bwd_keep _ (by decide)]; exact h.hk
  state := by
    intro g a b
    have hw := back_index hn h.counter
    rw [bwd_state, back_at]
    simp only [takeDec_at _ _ _ hw, takeKey_at _ _ _ hw, takeVal_at _ _ _ hw, h.hdec, h.hq, h.hdO, h.state]
    rfl
  dq := by
    intro t g c a ht
    have hw := back_index hn h.counter
    have hc := ch_back hn
    rw [bwd_dq, putKey_at _ _ _ _ hw]
    by_cases e : t = ch (31 - n)
    · rw [if_pos e, dq_at]
      simp only [takeVal_at _ _ _ hw, takeState_at _ _ _ hw, h.hdO, h.hs, ← e]
      rfl
    · rw [if_neg e]
      refine h.dq t g c a ?_
      have : t.val ≠ 31 - n := fun x => e (Fin.ext (by rw [hc, x]))
      omega
  dk := by
    intro t g c a ht
    have hw := back_index hn h.counter
    have hc := ch_back hn
    rw [bwd_dk, putKey_at _ _ _ _ hw]
    by_cases e : t = ch (31 - n)
    · have hv : 31 - t.val = n := by rw [e, hc]; omega
      rw [if_pos e, dk_at]
      simp only [takeVal_at _ _ _ hw, h.hv, h.state, ← e]
      subst hv
      rfl
    · rw [if_neg e]
      refine h.dk t g c a ?_
      have : t.val ≠ 31 - n := fun x => e (Fin.ext (by rw [hc, x]))
      omega
  dv := by
    intro t g c b ht
    have hw := back_index hn h.counter
    have hc := ch_back hn
    rw [bwd_dv, putVal_at _ _ _ _ hw]
    by_cases e : t = ch (31 - n)
    · have hv : 31 - t.val = n := by rw [e, hc]; omega
      rw [if_pos e, dv_at]
      simp only [takeKey_at _ _ _ hw, h.hk, h.state, ← e]
      subst hv
      rfl
    · rw [if_neg e]
      refine h.dv t g c b ?_
      have : t.val ≠ 31 - n := fun x => e (Fin.ext (by rw [hc, x]))
      omega
  ddec := by
    intro t g a ht
    have hw := back_index hn h.counter
    have hc := ch_back hn
    rw [bwd_ddec, putDec_at _ _ _ _ hw]
    by_cases e : t = ch (31 - n)
    · have hv : 31 - t.val = n := by rw [e, hc]; omega
      rw [if_pos e, ddec_at]
      simp only [takeState_at _ _ _ hw, h.hs, h.state, ← e]
      subst hv
      rfl
    · rw [if_neg e]
      refine h.ddec t g a ?_
      have : t.val ≠ 31 - n := fun x => e (Fin.ext (by rw [hc, x]))
      omega

/-- The second loop from entry contents `W` that hold its operands. -/
theorem Bwd.trips (h : Bwd q k v dec dO 0 (W c)) : ∀ n, n ≤ 32 → Bwd q k v dec dO n (atTrip test1 bwd W n c)
  | 0, _ => h
  | n + 1, hn => by
    rw [atTrip_succ]
    exact (Bwd.trips h n (by omega)).test.step (by omega)

end Backward

/-! ### The results -/

variable (m : (ℓ : Loc nD τ sig) → Buf (Elt Ideal) ℓ) (c : Dev nD)

/-- The queries at launch. -/
abbrev aq : KeyT := m ((c.tc : Thread nD τ).loc main_arg0)
/-- The keys at launch. -/
abbrev ak : KeyT := m ((c.tc : Thread nD τ).loc main_arg1)
/-- The values at launch. -/
abbrev av : ValT := m ((c.tc : Thread nD τ).loc main_arg2)
/-- The decays at launch. -/
abbrev adec : DecT := m ((c.tc : Thread nD τ).loc main_arg3)
/-- The output's cotangent at launch. -/
abbrev adO : ValT := m ((c.tc : Thread nD τ).loc main_arg4)

theorem swapKey_at (x : KeyT) (t : Fin 32) (g : Fin 8) (r : Fin 64) (d : Fin 128) :
    transpose S32x8x64x128 [1, 0, 2, 3] x transposes_S8x32x64x128_S32x8x64x128_1_0_2_3 (ix4 t g r d) = x (ix4 g t r d) := by
  pointwise
  done
theorem swapVal_at (x : ValT) (t : Fin 32) (g : Fin 8) (r : Fin 64) (d : Fin 256) :
    transpose S32x8x64x256 [1, 0, 2, 3] x transposes_S8x32x64x256_S32x8x64x256_1_0_2_3 (ix4 t g r d) = x (ix4 g t r d) := by
  pointwise
  done
theorem swapDec_at (x : DecT) (t : Fin 32) (g : Fin 8) (r : Fin 128) (d : Fin 1) :
    transpose S32x8x128x1 [1, 0, 2, 3] x transposes_S8x32x128x1_S32x8x128x1_1_0_2_3 (ix4 t g r d) = x (ix4 g t r d) := by
  obtain rfl : d = 0 := Subsingleton.elim _ _
  pointwise
  done

/-! What the straight-line stretches leave. -/

theorem before_q (V : Valuation τ sig (Elt Ideal)) : after before0 V (Proc.devRef .tc main_v7_0) = transpose S32x8x64x128 [1, 0, 2, 3] (V (Proc.devRef .tc main_arg0)) transposes_S8x32x64x128_S32x8x64x128_1_0_2_3 := by
  simp only [before0]
  after_results_entrywise []
theorem before_q' (V : Valuation τ sig (Elt Ideal)) : after before0 V (Proc.devRef .tc main_v0) = transpose S32x8x64x128 [1, 0, 2, 3] (V (Proc.devRef .tc main_arg0)) transposes_S8x32x64x128_S32x8x64x128_1_0_2_3 := by
  simp only [before0]
  after_results_entrywise []
theorem before_k (V : Valuation τ sig (Elt Ideal)) : after before0 V (Proc.devRef .tc main_v7_1) = transpose S32x8x64x128 [1, 0, 2, 3] (V (Proc.devRef .tc main_arg1)) transposes_S8x32x64x128_S32x8x64x128_1_0_2_3 := by
  simp only [before0]
  after_results_entrywise []
theorem before_k' (V : Valuation τ sig (Elt Ideal)) : after before0 V (Proc.devRef .tc main_v1) = transpose S32x8x64x128 [1, 0, 2, 3] (V (Proc.devRef .tc main_arg1)) transposes_S8x32x64x128_S32x8x64x128_1_0_2_3 := by
  simp only [before0]
  after_results_entrywise []
theorem before_v (V : Valuation τ sig (Elt Ideal)) : after before0 V (Proc.devRef .tc main_v7_2) = transpose S32x8x64x256 [1, 0, 2, 3] (V (Proc.devRef .tc main_arg2)) transposes_S8x32x64x256_S32x8x64x256_1_0_2_3 := by
  simp only [before0]
  after_results_entrywise []
theorem before_v' (V : Valuation τ sig (Elt Ideal)) : after before0 V (Proc.devRef .tc main_v2) = transpose S32x8x64x256 [1, 0, 2, 3] (V (Proc.devRef .tc main_arg2)) transposes_S8x32x64x256_S32x8x64x256_1_0_2_3 := by
  simp only [before0]
  after_results_entrywise []
theorem before_dec (V : Valuation τ sig (Elt Ideal)) : after before0 V (Proc.devRef .tc main_v7_3) = transpose S32x8x128x1 [1, 0, 2, 3] (V (Proc.devRef .tc main_arg3)) transposes_S8x32x128x1_S32x8x128x1_1_0_2_3 := by
  simp only [before0]
  after_results_entrywise []
theorem before_dec' (V : Valuation τ sig (Elt Ideal)) : after before0 V (Proc.devRef .tc main_v3) = transpose S32x8x128x1 [1, 0, 2, 3] (V (Proc.devRef .tc main_arg3)) transposes_S8x32x128x1_S32x8x128x1_1_0_2_3 := by
  simp only [before0]
  after_results_entrywise []
theorem before_s (V : Valuation τ sig (Elt Ideal)) : after before0 V (Proc.devRef .tc main_v7_5) = broadcastInDim S8x128x256 ![] bcast_S_S8x128x256 (constant (F := Ideal) S_ .f32 0x00000000#32) := by
  simp only [before0]
  after_results_entrywise []
theorem between_o (V : Valuation τ sig (Elt Ideal)) : after between0 V (Proc.devRef .tc main_v8) = transpose S8x32x64x256 [1, 0, 2, 3] (V (Proc.devRef .tc main_v7_6)) transposes_S32x8x64x256_S8x32x64x256_1_0_2_3 := by
  simp only [between0]
  after_results_entrywise []
theorem between_dO (V : Valuation τ sig (Elt Ideal)) : after between0 V (Proc.devRef .tc main_v16_0) = transpose S32x8x64x256 [1, 0, 2, 3] (V (Proc.devRef .tc main_arg4)) transposes_S8x32x64x256_S32x8x64x256_1_0_2_3 := by
  simp only [between0]
  after_results_entrywise []
theorem between_s (V : Valuation τ sig (Elt Ideal)) : after between0 V (Proc.devRef .tc main_v16_1) = V (Proc.devRef .tc main_v7_7) := by
  simp only [between0]
  after_results_entrywise []
theorem between_q (V : Valuation τ sig (Elt Ideal)) : after between0 V (Proc.devRef .tc main_v16_2) = V (Proc.devRef .tc main_v0) := by
  simp only [between0]
  after_results_entrywise []
theorem between_dec (V : Valuation τ sig (Elt Ideal)) : after between0 V (Proc.devRef .tc main_v16_3) = V (Proc.devRef .tc main_v3) := by
  simp only [between0]
  after_results_entrywise []
theorem between_v (V : Valuation τ sig (Elt Ideal)) : after between0 V (Proc.devRef .tc main_v16_4) = V (Proc.devRef .tc main_v2) := by
  simp only [between0]
  after_results_entrywise []
theorem between_k (V : Valuation τ sig (Elt Ideal)) : after between0 V (Proc.devRef .tc main_v16_5) = V (Proc.devRef .tc main_v1) := by
  simp only [between0]
  after_results_entrywise []
theorem between_d (V : Valuation τ sig (Elt Ideal)) : after between0 V (Proc.devRef .tc main_v16_7) = broadcastInDim S8x128x256 ![] bcast_S_S8x128x256 (constant (F := Ideal) S_ .f32 0x00000000#32) := by
  simp only [between0]
  after_results_entrywise []
theorem behind_dq (V : Valuation τ sig (Elt Ideal)) : after behind0 V (Proc.devRef .tc main_v20) = transpose S8x32x64x128 [1, 0, 2, 3] (V (Proc.devRef .tc main_v16_8)) transposes_S32x8x64x128_S8x32x64x128_1_0_2_3 := by
  simp only [behind0]
  after_results_entrywise []
theorem behind_dk (V : Valuation τ sig (Elt Ideal)) : after behind0 V (Proc.devRef .tc main_v19) = transpose S8x32x64x128 [1, 0, 2, 3] (V (Proc.devRef .tc main_v16_9)) transposes_S32x8x64x128_S8x32x64x128_1_0_2_3 := by
  simp only [behind0]
  after_results_entrywise []
theorem behind_dv (V : Valuation τ sig (Elt Ideal)) : after behind0 V (Proc.devRef .tc main_v18) = transpose S8x32x64x256 [1, 0, 2, 3] (V (Proc.devRef .tc main_v16_10)) transposes_S32x8x64x256_S8x32x64x256_1_0_2_3 := by
  simp only [behind0]
  after_results_entrywise []
theorem behind_ddec (V : Valuation τ sig (Elt Ideal)) : after behind0 V (Proc.devRef .tc main_v17) = transpose S8x32x128x1 [1, 0, 2, 3] (V (Proc.devRef .tc main_v16_11)) transposes_S32x8x128x1_S8x32x128x1_1_0_2_3 := by
  simp only [behind0]
  after_results_entrywise []

theorem zero_at (j : S8x128x256.Idx) : broadcastInDim S8x128x256 ![] bcast_S_S8x128x256 (constant (F := Ideal) S_ .f32 0x00000000#32) j = 0 := by
  pointwise
  done

/-- Two arrays over the streams and chunks agree where they agree at every index. -/
theorem agree4 {α : Type} (n1 n2 n3 n4 : ℕ) {x y : (⟨4, ![n1, n2, n3, n4]⟩ : Shape).Idx → α} (h : ∀ i j r s, x (ix4 i j r s) = y (ix4 i j r s)) : x = y := by
  funext j
  rw [eq_ix4 j]
  exact h _ _ _ _

theorem enter_fwd : Fwd (aq m c) (ak m c) (av m c) (adec m c) 0 (x0 m c) where
  counter := x0_counter m c
  hq t g r d := by rw [show x0 m c = after before0 (launchContents m c) from rfl, before_q]; exact swapKey_at _ t g r d
  hk t g r d := by rw [show x0 m c = after before0 (launchContents m c) from rfl, before_k]; exact swapKey_at _ t g r d
  hv t g r d := by rw [show x0 m c = after before0 (launchContents m c) from rfl, before_v]; exact swapVal_at _ t g r d
  hdec t g r d := by rw [show x0 m c = after before0 (launchContents m c) from rfl, before_dec]; exact swapDec_at _ t g r d
  state g a b := by rw [show x0 m c = after before0 (launchContents m c) from rfl, before_s]; exact zero_at _
  out t g r b h := absurd h (Nat.not_lt_zero _)
  saved t g a b h := absurd h (Nat.not_lt_zero _)

theorem leave_fwd : Fwd (aq m c) (ak m c) (av m c) (adec m c) 32 (x1 m c) :=
  (Fwd.trips (W := x0 m) (enter_fwd m c) 32 (le_refl _)).test

/-- A buffer neither the first loop nor its test writes is, after the loop, as before it. -/
theorem x1_keep {r : Ref sig .tc} (h1 : r ∉ fwdW) (h2 : r ∉ [main_while0c_c_16, main_while0c_v21]) :
    x1 m c (Proc.devRef .tc r) = x0 m c (Proc.devRef .tc r) := by
  rw [show x1 m c = after test0 (atTrip test0 fwd (x0 m) 32 c) from rfl, test0_keep _ h2, fwd_trips_keep _ _ h1 h2]

theorem enter_bwd : Bwd (aq m c) (ak m c) (av m c) (adec m c) (adO m c) 0 (x2 m c) where
  counter := x2_counter m c
  hdO t g r d := by
    rw [show x2 m c = after between0 (x1 m c) from rfl, between_dO, x1_keep m c (by decide) (by decide),
      show x0 m c = after before0 (launchContents m c) from rfl, before0_keep _ (by decide)]
    exact swapVal_at _ t g r d
  hs t g a b := by
    rw [show x2 m c = after between0 (x1 m c) from rfl, between_s]
    exact (leave_fwd m c).saved t g a b t.isLt
  hq t g r d := by
    rw [show x2 m c = after between0 (x1 m c) from rfl, between_q, x1_keep m c (by decide) (by decide),
      show x0 m c = after before0 (launchContents m c) from rfl, before_q']
    exact swapKey_at _ t g r d
  hdec t g r d := by
    rw [show x2 m c = after between0 (x1 m c) from rfl, between_dec, x1_keep m c (by decide) (by decide),
      show x0 m c = after before0 (launchContents m c) from rfl, before_dec']
    exact swapDec_at _ t g r d
  hv t g r d := by
    rw [show x2 m c = after between0 (x1 m c) from rfl, between_v, x1_keep m c (by decide) (by decide),
      show x0 m c = after before0 (launchContents m c) from rfl, before_v']
    exact swapVal_at _ t g r d
  hk t g r d := by
    rw [show x2 m c = after between0 (x1 m c) from rfl, between_k, x1_keep m c (by decide) (by decide),
      show x0 m c = after before0 (launchContents m c) from rfl, before_k']
    exact swapKey_at _ t g r d
  state g a b := by rw [show x2 m c = after between0 (x1 m c) from rfl, between_d]; exact zero_at _
  dq t g r b h := absurd h (Nat.not_lt_zero _)
  dk t g r b h := absurd h (Nat.not_lt_zero _)
  dv t g r b h := absurd h (Nat.not_lt_zero _)
  ddec t g b h := absurd h (Nat.not_lt_zero _)

theorem leave_bwd : Bwd (aq m c) (ak m c) (av m c) (adec m c) (adO m c) 32 (x3 m c) :=
  (Bwd.trips (W := x2 m) (enter_bwd m c) 32 (le_refl _)).test

theorem unswapKey_at (x : FVec Ideal S32x8x64x128 .f32) (g : Fin 8) (t : Fin 32) (r : Fin 64) (d : Fin 128) :
    transpose S8x32x64x128 [1, 0, 2, 3] x transposes_S32x8x64x128_S8x32x64x128_1_0_2_3 (ix4 g t r d) = x (ix4 t g r d) := by
  pointwise
  done
theorem unswapVal_at (x : FVec Ideal S32x8x64x256 .f32) (g : Fin 8) (t : Fin 32) (r : Fin 64) (d : Fin 256) :
    transpose S8x32x64x256 [1, 0, 2, 3] x transposes_S32x8x64x256_S8x32x64x256_1_0_2_3 (ix4 g t r d) = x (ix4 t g r d) := by
  pointwise
  done
theorem unswapDec_at (x : FVec Ideal S32x8x128x1 .f32) (g : Fin 8) (t : Fin 32) (r : Fin 128) :
    transpose S8x32x128x1 [1, 0, 2, 3] x transposes_S32x8x128x1_S8x32x128x1_1_0_2_3 (ix4 g t r 0) = x (ix4 t g r 0) := by
  pointwise
  done

/-- The reference's output. -/
theorem result_out : x4 m c (Proc.devRef .tc main_v8) = out (aq m c) (ak m c) (av m c) (adec m c) := by
  rw [show x4 m c = after behind0 (x3 m c) from rfl, behind0_keep _ (by decide),
    show x3 m c = after test1 (atTrip test1 bwd (x2 m) 32 c) from rfl, test1_keep _ (by decide), bwd_trips_keep _ _ (by decide) (by decide),
    show x2 m c = after between0 (x1 m c) from rfl, between_o]
  refine agree4 _ _ _ _ fun g t r b => ?_
  exact (unswapVal_at _ g t r b).trans ((leave_fwd m c).out t g r b t.isLt)

/-- The reference's gradient in the queries. -/
theorem result_dq : x4 m c (Proc.devRef .tc main_v20) = gq (ak m c) (av m c) (adec m c) (adO m c) := by
  rw [show x4 m c = after behind0 (x3 m c) from rfl, behind_dq]
  refine agree4 _ _ _ _ fun g t r b => ?_
  exact (unswapKey_at _ g t r b).trans ((leave_bwd m c).dq t g r b (by omega))

/-- The reference's gradient in the keys. -/
theorem result_dk : x4 m c (Proc.devRef .tc main_v19) = gk (aq m c) (av m c) (adec m c) (adO m c) := by
  rw [show x4 m c = after behind0 (x3 m c) from rfl, behind_dk]
  refine agree4 _ _ _ _ fun g t r b => ?_
  exact (unswapKey_at _ g t r b).trans ((leave_bwd m c).dk t g r b (by omega))

/-- The reference's gradient in the values. -/
theorem result_dv : x4 m c (Proc.devRef .tc main_v18) = gv (aq m c) (ak m c) (adec m c) (adO m c) := by
  rw [show x4 m c = after behind0 (x3 m c) from rfl, behind_dv]
  refine agree4 _ _ _ _ fun g t r b => ?_
  exact (unswapVal_at _ g t r b).trans ((leave_bwd m c).dv t g r b (by omega))

/-- The reference's gradient in the decays. -/
theorem result_ddec : x4 m c (Proc.devRef .tc main_v17) = gdec (aq m c) (ak m c) (av m c) (adec m c) (adO m c) := by
  rw [show x4 m c = after behind0 (x3 m c) from rfl, behind_ddec]
  refine agree4 _ _ _ _ fun g t r b => ?_
  obtain rfl : b = 0 := Subsingleton.elim _ _
  exact (unswapDec_at _ g t r).trans ((leave_bwd m c).ddec t g r (by omega))

end Cert.Ref

end
-- ==== Proof.FfnRegions.lean ====
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Region

/-!
# The nine products of the gated feed-forward layer

Each is an instance of `once_ok` or `fold_ok`: what the output's buffer holds after a point, and the proof data's facts.
-/

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ### Region 0: the input by the gate matrix -/

def after0 (c : Dev nD) : (w : Fin cfg0.W) → Fin cfg0.N → (cfg0.win w).block.Idx → Elt F (cfg0.win w).elt
  | ⟨0, _⟩, t => blk cfg0 V c 0 t
  | ⟨1, _⟩, t => blk cfg0 V c 1 t
  | ⟨2, _⟩, t => k0_pay1 (blk cfg0 V c 0 t) (blk cfg0 V c 1 t)

abbrev dat0 (c : Dev nD) : Dat τ (Elt F) Unit ℕ (UR sig nD τ) ℕ cfg0 c := onceDat (after0 V) V c

theorem row0 (t : Fin cfg0.N) : defs₀ (F := F) .tc cfg0.body (cfg0.bodyArgs t (cfg0.slots t))
    = onceBody ⟨![0, 0, 0], inb_S1x1024x2048_S1x1024x2048_0_0_0, h_S1x1024x2048⟩ ⟨![0, 0, 0], inb_S1x2048x512_S1x2048x512_0_0_0, h_S1x2048x512⟩
        ⟨![0, 0, 0], inb_S1x1024x512_S1x1024x512_0_0_0, h_S1x1024x512⟩ k0_pay1 (st0_0 t) (st0_1 t) (st0_2 t) := by
  unfold defs₀; rw [Defs.onTc_tc]; show bodyAt0 t = _; simp only [bodyAt0, cc0_bmm_nn_eq_skeleton]; rfl

theorem ok0 : RegionOk (defs₀ (F := F)) cfg0 (dat0 V) V :=
  once_ok (after0 V) 0 1 2 bigSep_W0 (fun _ => ⟨rfl, fun _ => rfl, fun _ _ _ => rfl, fun _ => rfl, fun _ _ => rfl⟩)
    (fun _ => ⟨rfl, fun _ => rfl, fun _ _ _ => rfl, fun _ => rfl, fun _ _ => rfl⟩) (fun _ => rfl) fun c t d Q => by
      rw [row0]
      exact once_triple _ _ _ c k0_pay1 _ (stage_whole0 0 _) _ (stage_whole0 1 _) _ (stage_whole0 2 _) _ _ d Q

/-! ### Region 1: the input by the up matrix -/

def after1 (c : Dev nD) : (w : Fin cfg1.W) → Fin cfg1.N → (cfg1.win w).block.Idx → Elt F (cfg1.win w).elt
  | ⟨0, _⟩, t => blk cfg1 V c 0 t
  | ⟨1, _⟩, t => blk cfg1 V c 1 t
  | ⟨2, _⟩, t => k1_pay1 (blk cfg1 V c 0 t) (blk cfg1 V c 1 t)

abbrev dat1 (c : Dev nD) : Dat τ (Elt F) Unit ℕ (UR sig nD τ) ℕ cfg1 c := onceDat (after1 V) V c

theorem row1 (t : Fin cfg1.N) : defs₀ (F := F) .tc cfg1.body (cfg1.bodyArgs t (cfg1.slots t))
    = onceBody ⟨![0, 0, 0], inb_S1x1024x2048_S1x1024x2048_0_0_0, h_S1x1024x2048⟩ ⟨![0, 0, 0], inb_S1x2048x512_S1x2048x512_0_0_0, h_S1x2048x512⟩
        ⟨![0, 0, 0], inb_S1x1024x512_S1x1024x512_0_0_0, h_S1x1024x512⟩ k1_pay1 (st1_0 t) (st1_1 t) (st1_2 t) := by
  unfold defs₀; rw [Defs.onTc_tc]; show bodyAt1 t = _; simp only [bodyAt1, cc1_bmm_nn_eq_skeleton]; rfl

theorem ok1 : RegionOk (defs₀ (F := F)) cfg1 (dat1 V) V :=
  once_ok (after1 V) 0 1 2 bigSep_W1 (fun _ => ⟨rfl, fun _ => rfl, fun _ _ _ => rfl, fun _ => rfl, fun _ _ => rfl⟩)
    (fun _ => ⟨rfl, fun _ => rfl, fun _ _ _ => rfl, fun _ => rfl, fun _ _ => rfl⟩) (fun _ => rfl) fun c t d Q => by
      rw [row1]
      exact once_triple _ _ _ c k1_pay1 _ (stage_whole1 0 _) _ (stage_whole1 1 _) _ (stage_whole1 2 _) _ _ d Q

/-! ### Region 2: the gated rows by the down matrix, in four blocks of the contraction -/

def step2 (c : Dev nD) (t : Fin cfg2.N) (x : Vec F S1x1024x1024 .f32) : Vec F S1x1024x1024 .f32 :=
  k2_pay2 x (blk cfg2 V c 0 t) (blk cfg2 V c 1 t)

def after2 (c : Dev nD) : (w : Fin cfg2.W) → Fin cfg2.N → (cfg2.win w).block.Idx → Elt F (cfg2.win w).elt
  | ⟨0, _⟩, t => blk cfg2 V c 0 t
  | ⟨1, _⟩, t => blk cfg2 V c 1 t
  | ⟨2, _⟩, t => fold 4 k2_pay1 (stepAt (step2 V c)) (t.val + 1)

abbrev scr2 : Memref sig .tc .vmem S1x1024x1024 .f32 := Memref.whole cc2_scratch0

abbrev dat2 (c : Dev nD) : Dat τ (Elt F) Unit ℕ (UR sig nD τ) ℕ cfg2 c :=
  foldDat (after2 V) scr2 (fun c => Pipeline.scopedRestBut spec2 c [cc2_scratch0]) 4 k2_pay1 (step2 V) V c

theorem row2 (t : Fin cfg2.N) : defs₀ (F := F) .tc cfg2.body (cfg2.bodyArgs t (cfg2.slots t))
    = foldBody ⟨![0, 0, 0], inb_S1x1024x1408_S1x1024x1408_0_0_0, h_S1x1024x1408⟩ ⟨![0, 0, 0], inb_S1x1408x1024_S1x1408x1024_0_0_0, h_S1x1408x1024⟩
        ⟨![0, 0, 0], inb_S1x1024x1024_S1x1024x1024_0_0_0, h_S1x1024x1024⟩
        (Scalar.cmpi .ne (Scalar.extui (Scalar.cmpi .eq (BitVec.ofNat 32 (grid2.coords t 3).val) 0#32)) 0#32) (k2_cond2 (grid2.coords t))
        k2_pay1 k2_pay2 (st2_0 t) (st2_1 t) (st2_2 t) scr2 := by
  unfold defs₀; rw [Defs.onTc_tc]; show bodyAt2 t = _; simp only [bodyAt2, cc2_bmm_nn_eq_skeleton]; rfl

theorem ok2 : RegionOk (defs₀ (F := F)) cfg2 (dat2 V) V :=
  fold_ok (after2 V) 0 1 2 bigSep_W2 scr2 _ 4 k2_pay1 (step2 V) id (fun c => scratch_split spec2 c cc2_scratch0 (by decide))
    (fun _ => ⟨rfl, fun _ => rfl, fun _ _ _ => rfl, fun _ => rfl, fun _ _ => rfl⟩)
    (fun _ => ⟨rfl, fun _ => rfl, fun _ _ _ => rfl, fun _ => rfl, fun _ _ => rfl⟩) _ _
    (fun t => axis_test (G := grid2) t 3 0 (by decide) rfl (by decide) (by decide))
    (fun t => axis_test (G := grid2) t 3 3 (by decide) rfl (by decide) (by decide))
    (fun _ => rfl) flush2_2 (fun _ _ => rfl) fun c t d x Q => by
      rw [row2]
      exact fold_triple _ _ _ c _ _ k2_pay1 k2_pay2 _ (stage_whole2 0 _) _ (stage_whole2 1 _) _ (stage_whole2 2 _) _ (Memref.isWhole_whole _)
        _ _ d x Q

/-! ### Region 3: the cotangent by the down matrix, transposed -/

def after3 (c : Dev nD) : (w : Fin cfg3.W) → Fin cfg3.N → (cfg3.win w).block.Idx → Elt F (cfg3.win w).elt
  | ⟨0, _⟩, t => blk cfg3 V c 0 t
  | ⟨1, _⟩, t => blk cfg3 V c 1 t
  | ⟨2, _⟩, t => k3_pay1 (blk cfg3 V c 0 t) (blk cfg3 V c 1 t)

abbrev dat3 (c : Dev nD) : Dat τ (Elt F) Unit ℕ (UR sig nD τ) ℕ cfg3 c := onceDat (after3 V) V c

theorem row3 (t : Fin cfg3.N) : defs₀ (F := F) .tc cfg3.body (cfg3.bodyArgs t (cfg3.slots t))
    = onceBody ⟨![0, 0, 0], inb_S1x1024x2048_S1x1024x2048_0_0_0, h_S1x1024x2048⟩ ⟨![0, 0, 0], inb_S1x512x2048_S1x512x2048_0_0_0, h_S1x512x2048⟩
        ⟨![0, 0, 0], inb_S1x1024x512_S1x1024x512_0_0_0, h_S1x1024x512⟩ k3_pay1 (st3_0 t) (st3_1 t) (st3_2 t) := by
  unfold defs₀; rw [Defs.onTc_tc]; show bodyAt3 t = _; simp only [bodyAt3, cc3_bmm_nt_eq_skeleton]; rfl

theorem ok3 : RegionOk (defs₀ (F := F)) cfg3 (dat3 V) V :=
  once_ok (after3 V) 0 1 2 bigSep_W3 (fun _ => ⟨rfl, fun _ => rfl, fun _ _ _ => rfl, fun _ => rfl, fun _ _ => rfl⟩)
    (fun _ => ⟨rfl, fun _ => rfl, fun _ _ _ => rfl, fun _ => rfl, fun _ _ => rfl⟩) (fun _ => rfl) fun c t d Q => by
      rw [row3]
      exact once_triple _ _ _ c k3_pay1 _ (stage_whole3 0 _) _ (stage_whole3 1 _) _ (stage_whole3 2 _) _ _ d Q

/-! ### Region 4: the gated rows, transposed, by the cotangent, in two blocks of the contraction -/

def step4 (c : Dev nD) (t : Fin cfg4.N) (x : Vec F S1x512x1024 .f32) : Vec F S1x512x1024 .f32 :=
  k4_pay2 x (blk cfg4 V c 0 t) (blk cfg4 V c 1 t)

def after4 (c : Dev nD) : (w : Fin cfg4.W) → Fin cfg4.N → (cfg4.win w).block.Idx → Elt F (cfg4.win w).elt
  | ⟨0, _⟩, t => blk cfg4 V c 0 t
  | ⟨1, _⟩, t => blk cfg4 V c 1 t
  | ⟨2, _⟩, t => fold 2 k4_pay1 (stepAt (step4 V c)) (t.val + 1)

abbrev scr4 : Memref sig .tc .vmem S1x512x1024 .f32 := Memref.whole cc4_scratch0

abbrev dat4 (c : Dev nD) : Dat τ (Elt F) Unit ℕ (UR sig nD τ) ℕ cfg4 c :=
  foldDat (after4 V) scr4 (fun c => Pipeline.scopedRestBut spec4 c [cc4_scratch0]) 2 k4_pay1 (step4 V) V c

theorem row4 (t : Fin cfg4.N) : defs₀ (F := F) .tc cfg4.body (cfg4.bodyArgs t (cfg4.slots t))
    = foldBody ⟨![0, 0, 0], inb_S1x2048x512_S1x2048x512_0_0_0, h_S1x2048x512⟩ ⟨![0, 0, 0], inb_S1x2048x1024_S1x2048x1024_0_0_0, h_S1x2048x1024⟩
        ⟨![0, 0, 0], inb_S1x512x1024_S1x512x1024_0_0_0, h_S1x512x1024⟩
        (Scalar.cmpi .ne (Scalar.extui (Scalar.cmpi .eq (BitVec.ofNat 32 (grid4.coords t 3).val) 0#32)) 0#32) (k4_cond2 (grid4.coords t))
        k4_pay1 k4_pay2 (st4_0 t) (st4_1 t) (st4_2 t) scr4 := by
  unfold defs₀; rw [Defs.onTc_tc]; show bodyAt4 t = _; simp only [bodyAt4, cc4_bmm_tn_eq_skeleton]; rfl

theorem ok4 : RegionOk (defs₀ (F := F)) cfg4 (dat4 V) V :=
  fold_ok (after4 V) 0 1 2 bigSep_W4 scr4 _ 2 k4_pay1 (step4 V) id (fun c => scratch_split spec4 c cc4_scratch0 (by decide))
    (fun _ => ⟨rfl, fun _ => rfl, fun _ _ _ => rfl, fun _ => rfl, fun _ _ => rfl⟩)
    (fun _ => ⟨rfl, fun _ => rfl, fun _ _ _ => rfl, fun _ => rfl, fun _ _ => rfl⟩) _ _
    (fun t => axis_test (G := grid4) t 3 0 (by decide) rfl (by decide) (by decide))
    (fun t => axis_test (G := grid4) t 3 1 (by decide) rfl (by decide) (by decide))
    (fun _ => rfl) flush4_2 (fun _ _ => rfl) fun c t d x Q => by
      rw [row4]
      exact fold_triple _ _ _ c _ _ k4_pay1 k4_pay2 _ (stage_whole4 0 _) _ (stage_whole4 1 _) _ (stage_whole4 2 _) _ (Memref.isWhole_whole _)
        _ _ d x Q

/-! ### Region 5: the up branch's cotangent by the up matrix, transposed, in four blocks of the contraction -/

def step5 (c : Dev nD) (t : Fin cfg5.N) (x : Vec F S1x1024x1024 .f32) : Vec F S1x1024x1024 .f32 :=
  k5_pay2 x (blk cfg5 V c 0 t) (blk cfg5 V c 1 t)

def after5 (c : Dev nD) : (w : Fin cfg5.W) → Fin cfg5.N → (cfg5.win w).block.Idx → Elt F (cfg5.win w).elt
  | ⟨0, _⟩, t => blk cfg5 V c 0 t
  | ⟨1, _⟩, t => blk cfg5 V c 1 t
  | ⟨2, _⟩, t => fold 4 k5_pay1 (stepAt (step5 V c)) (t.val + 1)

abbrev scr5 : Memref sig .tc .vmem S1x1024x1024 .f32 := Memref.whole cc5_scratch0

abbrev dat5 (c : Dev nD) : Dat τ (Elt F) Unit ℕ (UR sig nD τ) ℕ cfg5 c :=
  foldDat (after5 V) scr5 (fun c => Pipeline.scopedRestBut spec5 c [cc5_scratch0]) 4 k5_pay1 (step5 V) V c

theorem row5 (t : Fin cfg5.N) : defs₀ (F := F) .tc cfg5.body (cfg5.bodyArgs t (cfg5.slots t))
    = foldBody ⟨![0, 0, 0], inb_S1x1024x1408_S1x1024x1408_0_0_0, h_S1x1024x1408⟩ ⟨![0, 0, 0], inb_S1x1024x1408_S1x1024x1408_0_0_0, h_S1x1024x1408⟩
        ⟨![0, 0, 0], inb_S1x1024x1024_S1x1024x1024_0_0_0, h_S1x1024x1024⟩
        (Scalar.cmpi .ne (Scalar.extui (Scalar.cmpi .eq (BitVec.ofNat 32 (grid5.coords t 3).val) 0#32)) 0#32) (k5_cond2 (grid5.coords t))
        k5_pay1 k5_pay2 (st5_0 t) (st5_1 t) (st5_2 t) scr5 := by
  unfold defs₀; rw [Defs.onTc_tc]; show bodyAt5 t = _; simp only [bodyAt5, cc5_bmm_nt_eq_skeleton]; rfl

theorem ok5 : RegionOk (defs₀ (F := F)) cfg5 (dat5 V) V :=
  fold_ok (after5 V) 0 1 2 bigSep_W5 scr5 _ 4 k5_pay1 (step5 V) id (fun c => scratch_split spec5 c cc5_scratch0 (by decide))
    (fun _ => ⟨rfl, fun _ => rfl, fun _ _ _ => rfl, fun _ => rfl, fun _ _ => rfl⟩)
    (fun _ => ⟨rfl, fun _ => rfl, fun _ _ _ => rfl, fun _ => rfl, fun _ _ => rfl⟩) _ _
    (fun t => axis_test (G := grid5) t 3 0 (by decide) rfl (by decide) (by decide))
    (fun t => axis_test (G := grid5) t 3 3 (by decide) rfl (by decide) (by decide))
    (fun _ => rfl) flush5_2 (fun _ _ => rfl) fun c t d x Q => by
      rw [row5]
      exact fold_triple _ _ _ c _ _ k5_pay1 k5_pay2 _ (stage_whole5 0 _) _ (stage_whole5 1 _) _ (stage_whole5 2 _) _ (Memref.isWhole_whole _)
        _ _ d x Q

/-! ### Region 6: the input, transposed, by the up branch's cotangent, in two blocks of the contraction -/

def step6 (c : Dev nD) (t : Fin cfg6.N) (x : Vec F S1x1024x512 .f32) : Vec F S1x1024x512 .f32 :=
  k6_pay2 x (blk cfg6 V c 0 t) (blk cfg6 V c 1 t)

def after6 (c : Dev nD) : (w : Fin cfg6.W) → Fin cfg6.N → (cfg6.win w).block.Idx → Elt F (cfg6.win w).elt
  | ⟨0, _⟩, t => blk cfg6 V c 0 t
  | ⟨1, _⟩, t => blk cfg6 V c 1 t
  | ⟨2, _⟩, t => fold 2 k6_pay1 (stepAt (step6 V c)) (t.val + 1)

abbrev scr6 : Memref sig .tc .vmem S1x1024x512 .f32 := Memref.whole cc6_scratch0

abbrev dat6 (c : Dev nD) : Dat τ (Elt F) Unit ℕ (UR sig nD τ) ℕ cfg6 c :=
  foldDat (after6 V) scr6 (fun c => Pipeline.scopedRestBut spec6 c [cc6_scratch0]) 2 k6_pay1 (step6 V) V c

theorem row6 (t : Fin cfg6.N) : defs₀ (F := F) .tc cfg6.body (cfg6.bodyArgs t (cfg6.slots t))
    = foldBody ⟨![0, 0, 0], inb_S1x2048x1024_S1x2048x1024_0_0_0, h_S1x2048x1024⟩ ⟨![0, 0, 0], inb_S1x2048x512_S1x2048x512_0_0_0, h_S1x2048x512⟩
        ⟨![0, 0, 0], inb_S1x1024x512_S1x1024x512_0_0_0, h_S1x1024x512⟩
        (Scalar.cmpi .ne (Scalar.extui (Scalar.cmpi .eq (BitVec.ofNat 32 (grid6.coords t 3).val) 0#32)) 0#32) (k6_cond2 (grid6.coords t))
        k6_pay1 k6_pay2 (st6_0 t) (st6_1 t) (st6_2 t) scr6 := by
  unfold defs₀; rw [Defs.onTc_tc]; show bodyAt6 t = _; simp only [bodyAt6, cc6_bmm_tn_eq_skeleton]; rfl

theorem ok6 : RegionOk (defs₀ (F := F)) cfg6 (dat6 V) V :=
  fold_ok (after6 V) 0 1 2 bigSep_W6 scr6 _ 2 k6_pay1 (step6 V) id (fun c => scratch_split spec6 c cc6_scratch0 (by decide))
    (fun _ => ⟨rfl, fun _ => rfl, fun _ _ _ => rfl, fun _ => rfl, fun _ _ => rfl⟩)
    (fun _ => ⟨rfl, fun _ => rfl, fun _ _ _ => rfl, fun _ => rfl, fun _ _ => rfl⟩) _ _
    (fun t => axis_test (G := grid6) t 3 0 (by decide) rfl (by decide) (by decide))
    (fun t => axis_test (G := grid6) t 3 1 (by decide) rfl (by decide) (by decide))
    (fun _ => rfl) flush6_2 (fun _ _ => rfl) fun c t d x Q => by
      rw [row6]
      exact fold_triple _ _ _ c _ _ k6_pay1 k6_pay2 _ (stage_whole6 0 _) _ (stage_whole6 1 _) _ (stage_whole6 2 _) _ (Memref.isWhole_whole _)
        _ _ d x Q

/-! ### Region 7: the gate branch's cotangent by the gate matrix, transposed, in four blocks of the contraction -/

def step7 (c : Dev nD) (t : Fin cfg7.N) (x : Vec F S1x1024x1024 .f32) : Vec F S1x1024x1024 .f32 :=
  k7_pay2 x (blk cfg7 V c 0 t) (blk cfg7 V c 1 t)

def after7 (c : Dev nD) : (w : Fin cfg7.W) → Fin cfg7.N → (cfg7.win w).block.Idx → Elt F (cfg7.win w).elt
  | ⟨0, _⟩, t => blk cfg7 V c 0 t
  | ⟨1, _⟩, t => blk cfg7 V c 1 t
  | ⟨2, _⟩, t => fold 4 k7_pay1 (stepAt (step7 V c)) (t.val + 1)

abbrev scr7 : Memref sig .tc .vmem S1x1024x1024 .f32 := Memref.whole cc7_scratch0

abbrev dat7 (c : Dev nD) : Dat τ (Elt F) Unit ℕ (UR sig nD τ) ℕ cfg7 c :=
  foldDat (after7 V) scr7 (fun c => Pipeline.scopedRestBut spec7 c [cc7_scratch0]) 4 k7_pay1 (step7 V) V c

theorem row7 (t : Fin cfg7.N) : defs₀ (F := F) .tc cfg7.body (cfg7.bodyArgs t (cfg7.slots t))
    = foldBody ⟨![0, 0, 0], inb_S1x1024x1408_S1x1024x1408_0_0_0, h_S1x1024x1408⟩ ⟨![0, 0, 0], inb_S1x1024x1408_S1x1024x1408_0_0_0, h_S1x1024x1408⟩
        ⟨![0, 0, 0], inb_S1x1024x1024_S1x1024x1024_0_0_0, h_S1x1024x1024⟩
        (Scalar.cmpi .ne (Scalar.extui (Scalar.cmpi .eq (BitVec.ofNat 32 (grid7.coords t 3).val) 0#32)) 0#32) (k7_cond2 (grid7.coords t))
        k7_pay1 k7_pay2 (st7_0 t) (st7_1 t) (st7_2 t) scr7 := by
  unfold defs₀; rw [Defs.onTc_tc]; show bodyAt7 t = _; simp only [bodyAt7, cc7_bmm_nt_eq_skeleton]; rfl

theorem ok7 : RegionOk (defs₀ (F := F)) cfg7 (dat7 V) V :=
  fold_ok (after7 V) 0 1 2 bigSep_W7 scr7 _ 4 k7_pay1 (step7 V) id (fun c => scratch_split spec7 c cc7_scratch0 (by decide))
    (fun _ => ⟨rfl, fun _ => rfl, fun _ _ _ => rfl, fun _ => rfl, fun _ _ => rfl⟩)
    (fun _ => ⟨rfl, fun _ => rfl, fun _ _ _ => rfl, fun _ => rfl, fun _ _ => rfl⟩) _ _
    (fun t => axis_test (G := grid7) t 3 0 (by decide) rfl (by decide) (by decide))
    (fun t => axis_test (G := grid7) t 3 3 (by decide) rfl (by decide) (by decide))
    (fun _ => rfl) flush7_2 (fun _ _ => rfl) fun c t d x Q => by
      rw [row7]
      exact fold_triple _ _ _ c _ _ k7_pay1 k7_pay2 _ (stage_whole7 0 _) _ (stage_whole7 1 _) _ (stage_whole7 2 _) _ (Memref.isWhole_whole _)
        _ _ d x Q

/-! ### Region 8: the input, transposed, by the gate branch's cotangent, in two blocks of the contraction -/

def step8 (c : Dev nD) (t : Fin cfg8.N) (x : Vec F S1x1024x512 .f32) : Vec F S1x1024x512 .f32 :=
  k8_pay2 x (blk cfg8 V c 0 t) (blk cfg8 V c 1 t)

def after8 (c : Dev nD) : (w : Fin cfg8.W) → Fin cfg8.N → (cfg8.win w).block.Idx → Elt F (cfg8.win w).elt
  | ⟨0, _⟩, t => blk cfg8 V c 0 t
  | ⟨1, _⟩, t => blk cfg8 V c 1 t
  | ⟨2, _⟩, t => fold 2 k8_pay1 (stepAt (step8 V c)) (t.val + 1)

abbrev scr8 : Memref sig .tc .vmem S1x1024x512 .f32 := Memref.whole cc8_scratch0

abbrev dat8 (c : Dev nD) : Dat τ (Elt F) Unit ℕ (UR sig nD τ) ℕ cfg8 c :=
  foldDat (after8 V) scr8 (fun c => Pipeline.scopedRestBut spec8 c [cc8_scratch0]) 2 k8_pay1 (step8 V) V c

theorem row8 (t : Fin cfg8.N) : defs₀ (F := F) .tc cfg8.body (cfg8.bodyArgs t (cfg8.slots t))
    = foldBody ⟨![0, 0, 0], inb_S1x2048x1024_S1x2048x1024_0_0_0, h_S1x2048x1024⟩ ⟨![0, 0, 0], inb_S1x2048x512_S1x2048x512_0_0_0, h_S1x2048x512⟩
        ⟨![0, 0, 0], inb_S1x1024x512_S1x1024x512_0_0_0, h_S1x1024x512⟩
        (Scalar.cmpi .ne (Scalar.extui (Scalar.cmpi .eq (BitVec.ofNat 32 (grid8.coords t 3).val) 0#32)) 0#32) (k8_cond2 (grid8.coords t))
        k8_pay1 k8_pay2 (st8_0 t) (st8_1 t) (st8_2 t) scr8 := by
  unfold defs₀; rw [Defs.onTc_tc]; show bodyAt8 t = _; simp only [bodyAt8, cc8_bmm_tn_eq_skeleton]; rfl

theorem ok8 : RegionOk (defs₀ (F := F)) cfg8 (dat8 V) V :=
  fold_ok (after8 V) 0 1 2 bigSep_W8 scr8 _ 2 k8_pay1 (step8 V) id (fun c => scratch_split spec8 c cc8_scratch0 (by decide))
    (fun _ => ⟨rfl, fun _ => rfl, fun _ _ _ => rfl, fun _ => rfl, fun _ _ => rfl⟩)
    (fun _ => ⟨rfl, fun _ => rfl, fun _ _ _ => rfl, fun _ => rfl, fun _ _ => rfl⟩) _ _
    (fun t => axis_test (G := grid8) t 3 0 (by decide) rfl (by decide) (by decide))
    (fun t => axis_test (G := grid8) t 3 1 (by decide) rfl (by decide) (by decide))
    (fun _ => rfl) flush8_2 (fun _ _ => rfl) fun c t d x Q => by
      rw [row8]
      exact fold_triple _ _ _ c _ _ k8_pay1 k8_pay2 _ (stage_whole8 0 _) _ (stage_whole8 1 _) _ (stage_whole8 2 _) _ (Memref.isWhole_whole _)
        _ _ d x Q

end Cert.Ffn
-- ==== Proof.FfnRun.lean ====
module

public import proofs.«01_k».proof.Proof.FfnRegions
public import proofs.«01_k».proof.Proof.Gen.Kernel2Ideal.Regions
public import Idealize.ShloMosaic.Lib.Pipeline.RegionArraysS

/-!
# The run of the gated feed-forward layer

The program alternates host stretches with the nine products. Between two items a core holds every unscoped buffer at a known
valuation: `w0` at launch, `w1` after the first item, up to `w20` after the last.
-/

@[expose] public section

set_option maxRecDepth 16384

noncomputable section

namespace Cert.Ffn

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents at launch, per core, and after each item. -/
def w0 : Dev nD → Valuation τ sig (Elt F) := fun c b => m (c, b)
def w1 : Dev nD → Valuation τ sig (Elt F) := fun c => StableHlo.after hostOps0 (w0 m c)
def w2 : Dev nD → Valuation τ sig (Elt F) := fun c => Pipeline.afterRegion (dat0 (w1 m) c) (w1 m c)
def w3 : Dev nD → Valuation τ sig (Elt F) := fun c => StableHlo.after hostOps1 (w2 m c)
def w4 : Dev nD → Valuation τ sig (Elt F) := fun c => StableHlo.after hostOps1_1 (w3 m c)
def w5 : Dev nD → Valuation τ sig (Elt F) := fun c => StableHlo.after hostOps1_2 (w4 m c)
def w6 : Dev nD → Valuation τ sig (Elt F) := fun c => Pipeline.afterRegion (dat1 (w5 m) c) (w5 m c)
def w7 : Dev nD → Valuation τ sig (Elt F) := fun c => StableHlo.after hostOps2 (w6 m c)
def w8 : Dev nD → Valuation τ sig (Elt F) := fun c => Pipeline.afterRegion (dat2 (w7 m) c) (w7 m c)
def w9 : Dev nD → Valuation τ sig (Elt F) := fun c => StableHlo.after hostOps3 (w8 m c)
def w10 : Dev nD → Valuation τ sig (Elt F) := fun c => Pipeline.afterRegion (dat3 (w9 m) c) (w9 m c)
def w11 : Dev nD → Valuation τ sig (Elt F) := fun c => Pipeline.afterRegion (dat4 (w10 m) c) (w10 m c)
def w12 : Dev nD → Valuation τ sig (Elt F) := fun c => StableHlo.after hostOps5 (w11 m c)
def w13 : Dev nD → Valuation τ sig (Elt F) := fun c => Pipeline.afterRegion (dat5 (w12 m) c) (w12 m c)
def w14 : Dev nD → Valuation τ sig (Elt F) := fun c => Pipeline.afterRegion (dat6 (w13 m) c) (w13 m c)
def w15 : Dev nD → Valuation τ sig (Elt F) := fun c => StableHlo.after hostOps7 (w14 m c)
def w16 : Dev nD → Valuation τ sig (Elt F) := fun c => StableHlo.after hostOps7_1 (w15 m c)
def w17 : Dev nD → Valuation τ sig (Elt F) := fun c => StableHlo.after hostOps7_2 (w16 m c)
def w18 : Dev nD → Valuation τ sig (Elt F) := fun c => Pipeline.afterRegion (dat7 (w17 m) c) (w17 m c)
def w19 : Dev nD → Valuation τ sig (Elt F) := fun c => Pipeline.afterRegion (dat8 (w18 m) c) (w18 m c)
def w20 : Dev nD → Valuation τ sig (Elt F) := fun c => StableHlo.after hostOps9 (w19 m c)

/-- The nine regions' proof data. -/
def data : (p : Fin 9) → (c : Dev nD) → Dat τ (Elt F) Unit ℕ (UR sig nD τ) ℕ (cfgs p) c
  | ⟨0, _⟩ => fun c => dat0 (w1 m) c
  | ⟨1, _⟩ => fun c => dat1 (w5 m) c
  | ⟨2, _⟩ => fun c => dat2 (w7 m) c
  | ⟨3, _⟩ => fun c => dat3 (w9 m) c
  | ⟨4, _⟩ => fun c => dat4 (w10 m) c
  | ⟨5, _⟩ => fun c => dat5 (w12 m) c
  | ⟨6, _⟩ => fun c => dat6 (w13 m) c
  | ⟨7, _⟩ => fun c => dat7 (w17 m) c
  | ⟨8, _⟩ => fun c => dat8 (w18 m) c

/-- Every cell of a TensorCore has the one index. -/
def lev : GSem nD τ sig → Finset Unit := fun g => if g.1.2 = .tc then {()} else ∅

theorem lev_tc (g : GSem nD τ sig) (h : g.1.2 = .tc) : () ∈ lev g := by
  unfold lev; rw [if_pos h]; exact Finset.mem_singleton_self _

/-- What rides beside the buffers: the core owes nothing. -/
abbrev idle (c : Dev nD) : sProp 𝕄 :=
  iprop((∃ W, owes (c : Thread nD τ) (0 : CellTallies nD τ sig Unit) W) ∗ BI.emp ∗ BI.emp)

theorem cut (p : Fin 9) : Pipeline.LevelCut (pcfgs (F := F)) adm () lev (fun _ _ => (0 : ℕ)) p (0 : Dev nD → CellTallies nD τ sig Unit) (fun _ => 0) where
  hι c w s := lev_tc _ rfl
  hιb _ _ _ := le_rfl
  hD _ _ _ h := absurd h (lt_irrefl _)

/-- A host stretch from the contents `W`. -/
def host (ops : List (HloOp τ sig (Elt F))) (hs : ops.Forall fun op => op.bufs ⊆ StableHlo.tcRefs τ sig)
    (hf : ops.Forall fun op => op.fresh = ∅) (W : Dev nD → Valuation τ sig (Elt F)) :
    HostSeg (Ix := Unit) (Name := ℕ) (U := UR sig nD τ) (Lvl := ℕ) (pcfgs (F := F)) defs₀ Variants.none lev (fun _ _ => (0 : ℕ)) :=
  HostSeg.ofOps _ _ _ _ _ (Pipeline.ucRefs τ sig) ops
    (fun op h => Pipeline.sub_ucRefs op ((List.forall_iff_forall_mem.mp hs) op h))
    (fun op h => (List.forall_iff_forall_mem.mp hf) op h) W idle

/-- What a region is entered with. -/
def entry : Fin 9 → Dev nD → Valuation τ sig (Elt F)
  | ⟨0, _⟩ => w1 m
  | ⟨1, _⟩ => w5 m
  | ⟨2, _⟩ => w7 m
  | ⟨3, _⟩ => w9 m
  | ⟨4, _⟩ => w10 m
  | ⟨5, _⟩ => w12 m
  | ⟨6, _⟩ => w13 m
  | ⟨7, _⟩ => w17 m
  | ⟨8, _⟩ => w18 m

theorem ok : (p : Fin 9) → RegionOk (defs₀ (F := F)) (cfgs p) (data m p) (entry m p)
  | ⟨0, _⟩ => ok0 (w1 m)
  | ⟨1, _⟩ => ok1 (w5 m)
  | ⟨2, _⟩ => ok2 (w7 m)
  | ⟨3, _⟩ => ok3 (w9 m)
  | ⟨4, _⟩ => ok4 (w10 m)
  | ⟨5, _⟩ => ok5 (w12 m)
  | ⟨6, _⟩ => ok6 (w13 m)
  | ⟨7, _⟩ => ok7 (w17 m)
  | ⟨8, _⟩ => ok8 (w18 m)

theorem launch : (p : Fin 9) → Pipeline.LaunchFacts (nD := nD) (τ := τ) cfgs p
  | ⟨0, _⟩ => launch0
  | ⟨1, _⟩ => launch1
  | ⟨2, _⟩ => launch2
  | ⟨3, _⟩ => launch3
  | ⟨4, _⟩ => launch4
  | ⟨5, _⟩ => launch5
  | ⟨6, _⟩ => launch6
  | ⟨7, _⟩ => launch7
  | ⟨8, _⟩ => launch8

/-- The arrays of every region are among the unscoped buffers. -/
theorem arrays_sub : ∀ p : Fin 9, Pipeline.arrRefs (pcfgs (F := F) p).spec ⊆ Pipeline.ucRefs τ sig
  | ⟨0, _⟩ => Pipeline.arrRefs_sub_ucRefs spec0 (by decide)
  | ⟨1, _⟩ => Pipeline.arrRefs_sub_ucRefs spec1 (by decide)
  | ⟨2, _⟩ => Pipeline.arrRefs_sub_ucRefs spec2 (by decide)
  | ⟨3, _⟩ => Pipeline.arrRefs_sub_ucRefs spec3 (by decide)
  | ⟨4, _⟩ => Pipeline.arrRefs_sub_ucRefs spec4 (by decide)
  | ⟨5, _⟩ => Pipeline.arrRefs_sub_ucRefs spec5 (by decide)
  | ⟨6, _⟩ => Pipeline.arrRefs_sub_ucRefs spec6 (by decide)
  | ⟨7, _⟩ => Pipeline.arrRefs_sub_ucRefs spec7 (by decide)
  | ⟨8, _⟩ => Pipeline.arrRefs_sub_ucRefs spec8 (by decide)

/-- A region's record: every unscoped buffer held. -/
def seg (p : Fin 9) : RegionSeg (pcfgs (F := F)) adm (data m) () defs₀ Variants.none lev (fun _ _ => (0 : ℕ)) p :=
  RegionSeg.ofHeldIn (pcfgs (F := F)) adm (data m) () defs₀ Variants.none lev (fun _ _ => (0 : ℕ)) p 0
    (Pipeline.ucRefs τ sig) (fun _ => BI.emp) (fun _ => BI.emp) (launch p).toP rfl
    (fun c => ((ok m p).body c).loose) (ok m p).owes (ok m p).waits (ok m p).share (ok m p).enter (ok m p).leave (fun _ => 0) (cut p)
    (fun _ => BI.emp) (entry m p) (ok m p).array

theorem seg_pre (p : Fin 9) (c : Dev nD) :
    iprop(StableHlo.held (c : Thread nD τ) (Pipeline.ucRefs τ sig) (entry m p c) ∗ idle c) ⊢ (seg m p).pre c :=
  RegionSeg.ofHeldIn_pre (pcs := pcfgs (F := F)) (a := adm) (pdats := data m) (p := p) (D := 0) (S := Pipeline.ucRefs τ sig) (X := fun _ => BI.emp)
    (Y := fun _ => BI.emp) (R := fun _ => BI.emp) (W := entry m p) (arrays_sub p) c

theorem seg_post (p : Fin 9) (c : Dev nD) : (seg m p).post c
    ⊢ iprop(StableHlo.held (c : Thread nD τ) (Pipeline.ucRefs τ sig) (Pipeline.afterRegion (data m p c) (entry m p c)) ∗ idle c) :=
  RegionSeg.ofHeldIn_post (pcs := pcfgs (F := F)) (a := adm) (pdats := data m) (p := p) (D := 0) (S := Pipeline.ucRefs τ sig) (X := fun _ => BI.emp)
    (Y := fun _ => BI.emp) (R := fun _ => BI.emp) (W := entry m p) (arrays_sub p) c

/-- The items as segments. -/
abbrev items : List (Seg (pcfgs (F := F)) adm (data m) () defs₀ Variants.none lev (fun _ _ => (0 : ℕ))) :=
  [.host (host hostOps0 hostOps0_sub hostOps0_fresh (w0 m)),
    .region (seg m 0),
    .host (host hostOps1 hostOps1_sub hostOps1_fresh (w2 m)),
    .host (host hostOps1_1 hostOps1_1_sub hostOps1_1_fresh (w3 m)),
    .host (host hostOps1_2 hostOps1_2_sub hostOps1_2_fresh (w4 m)),
    .region (seg m 1),
    .host (host hostOps2 hostOps2_sub hostOps2_fresh (w6 m)),
    .region (seg m 2),
    .host (host hostOps3 hostOps3_sub hostOps3_fresh (w8 m)),
    .region (seg m 3),
    .region (seg m 4),
    .host (host hostOps5 hostOps5_sub hostOps5_fresh (w11 m)),
    .region (seg m 5),
    .region (seg m 6),
    .host (host hostOps7 hostOps7_sub hostOps7_fresh (w14 m)),
    .host (host hostOps7_1 hostOps7_1_sub hostOps7_1_fresh (w15 m)),
    .host (host hostOps7_2 hostOps7_2_sub hostOps7_2_fresh (w16 m)),
    .region (seg m 7),
    .region (seg m 8),
    .host (host hostOps9 hostOps9_sub hostOps9_fresh (w19 m))]

set_option maxHeartbeats 4000000 in
set_option backward.isDefEq.respectTransparency.types false in
/-- Every weakly fair run ends, with every unscoped buffer at `w20` and every counter at zero. -/
theorem run_all : θ_run defs (onTc (τ := τ) (main (F := F))) ⟨m, fun _ => 0, ρ⟩ (fun r => (∀ c : Dev nD,
      ∀ b ∈ Pipeline.ucRefs τ sig, r.2.mem ((c.tc : Thread nD τ).1, b) = w20 m c b) ∧ r.2.sem = fun _ => 0) := by
  refine Pipeline.θ_run_regions_kit_dev_sems (pcfgs (F := F)) adm (data m) () cellOf_inj emb₁ defs₀ Variants.none lev (fun _ _ => (0 : ℕ)) m ρ main
    (fun _ => items m)
    (fun c Q => by
      rewrite [main_chain c, Seg.run_eq_chain, show (items m).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()),
          StableHlo.seq hostOps7,
          StableHlo.seq hostOps7_1,
          StableHlo.seq hostOps7_2,
          Prog.lift (.customCall (Pipeline.entry 7) ()),
          Prog.lift (.customCall (Pipeline.entry 8) ()),
          StableHlo.seq hostOps9] from rfl]
      dsimp (config := { failIfUnchanged := false }) only
      exact .rfl)
    (fun c => by simp only [items, Seg.pipes_host, Seg.pipes_region, Seg.pipes_nil]; decide)
    (O₀ := 0) (hL := fun g h => by unfold lev; rw [if_neg h]) (G := fun _ => BI.emp)
    (u₀ := initOf (Pipeline.cells cfgs cellOf_inj) (Pipeline.launchToks cfgs cellOf_inj)) (hu₀ := ?_)
    (T₀ := fun c => iprop(StableHlo.held (c : Thread nD τ) (Pipeline.ucRefs τ sig) (w0 m c) ∗ idle c))
    (Tₙ := fun c => StableHlo.held (c : Thread nD τ) (Pipeline.ucRefs τ sig) (w20 m c))
    (hch := fun c => ⟨.rfl, seg_pre m 0 c, seg_post m 0 c, .rfl, .rfl, seg_pre m 1 c, seg_post m 1 c, seg_pre m 2 c, seg_post m 2 c, seg_pre m 3 c, (seg_post m 3 c).trans (seg_pre m 4 c), seg_post m 4 c, seg_pre m 5 c, (seg_post m 5 c).trans (seg_pre m 6 c), seg_post m 6 c, .rfl, .rfl, seg_pre m 7 c, (seg_post m 7 c).trans (seg_pre m 8 c), seg_post m 8 c, sep_mono .rfl ?_⟩)
    (hinit := ?_) (QY := fun c s => ∀ b ∈ Pipeline.ucRefs τ sig, s.mem ((c.tc : Thread nD τ).1, b) = w20 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · iintro ⟨HO, -, -⟩; iexact HO
  · refine Pipeline.initEach lev (fun _ _ => (0 : ℕ)) fun c => ?_
    rw [show unscopedBufs c (fun b => m ((c.tc : Thread nD τ).loc b)) = StableHlo.held (c.tc : Thread nD τ) (Pipeline.ucRefs τ sig) (w0 m c)
        from Pipeline.unscopedBufs_held (Ix := Unit) (Name := ℕ) (U := UR sig nD τ) (Lvl := ℕ) c (w0 m c)]
    iintro ⟨⟨Hh, -, HO, -, -, -⟩, -⟩
    imodintro
    isplitl [Hh]; · iexact Hh
    isplitl [HO]; · iexists _; iexact HO
    isplitl []
    · iempintro
    · iempintro
  · unfold StableHlo.held
    iintro ⟨Hh, HSI⟩
    ihave Hr := (pointsTo_read_all (Pipeline.ucRefs τ sig) (fun b => ((c.tc : Thread nD τ).1, b)) (w20 m c) s') $$ [Hh HSI]
    · isplitl [Hh] <;> iassumption
    imodintro; iexact Hr

/-- The unscoped buffers are among those held. -/
theorem uc (r : Ref sig .tc) (h : r.isScoped = false) : Proc.devRef .tc r ∈ Pipeline.ucRefs τ sig :=
  Pipeline.devRef_mem_ucRefs h

theorem w1_keeps (c : Dev nD) (r : Ref sig .tc) (h : r ∉ hostOps0_W) : w1 m c r = w0 m c r :=
  StableHlo.after_of_writes_sub hostOps0 _ hostOps0_writes h
theorem w2_keeps (c : Dev nD) (r : Ref sig .tc) (h : ∀ w, Pipeline.arrRef spec0 w = r → (cfg0.win w).isOut = false) :
    w2 m c r = w1 m c r :=
  Pipeline.afterRegion_keeps (dat0 (w1 m) c) (w1 m c) winFacts0.arr_inj (fun _ => rfl) r h
theorem w3_keeps (c : Dev nD) (r : Ref sig .tc) (h : r ∉ hostOps1_W) : w3 m c r = w2 m c r :=
  StableHlo.after_of_writes_sub hostOps1 _ hostOps1_writes h
theorem w4_keeps (c : Dev nD) (r : Ref sig .tc) (h : r ∉ hostOps1_1_W) : w4 m c r = w3 m c r :=
  StableHlo.after_of_writes_sub hostOps1_1 _ hostOps1_1_writes h
theorem w5_keeps (c : Dev nD) (r : Ref sig .tc) (h : r ∉ hostOps1_2_W) : w5 m c r = w4 m c r :=
  StableHlo.after_of_writes_sub hostOps1_2 _ hostOps1_2_writes h
theorem w6_keeps (c : Dev nD) (r : Ref sig .tc) (h : ∀ w, Pipeline.arrRef spec1 w = r → (cfg1.win w).isOut = false) :
    w6 m c r = w5 m c r :=
  Pipeline.afterRegion_keeps (dat1 (w5 m) c) (w5 m c) winFacts1.arr_inj (fun _ => rfl) r h
theorem w7_keeps (c : Dev nD) (r : Ref sig .tc) (h : r ∉ hostOps2_W) : w7 m c r = w6 m c r :=
  StableHlo.after_of_writes_sub hostOps2 _ hostOps2_writes h
theorem w8_keeps (c : Dev nD) (r : Ref sig .tc) (h : ∀ w, Pipeline.arrRef spec2 w = r → (cfg2.win w).isOut = false) :
    w8 m c r = w7 m c r :=
  Pipeline.afterRegion_keeps (dat2 (w7 m) c) (w7 m c) winFacts2.arr_inj (fun _ => rfl) r h
theorem w9_keeps (c : Dev nD) (r : Ref sig .tc) (h : r ∉ hostOps3_W) : w9 m c r = w8 m c r :=
  StableHlo.after_of_writes_sub hostOps3 _ hostOps3_writes h
theorem w10_keeps (c : Dev nD) (r : Ref sig .tc) (h : ∀ w, Pipeline.arrRef spec3 w = r → (cfg3.win w).isOut = false) :
    w10 m c r = w9 m c r :=
  Pipeline.afterRegion_keeps (dat3 (w9 m) c) (w9 m c) winFacts3.arr_inj (fun _ => rfl) r h
theorem w11_keeps (c : Dev nD) (r : Ref sig .tc) (h : ∀ w, Pipeline.arrRef spec4 w = r → (cfg4.win w).isOut = false) :
    w11 m c r = w10 m c r :=
  Pipeline.afterRegion_keeps (dat4 (w10 m) c) (w10 m c) winFacts4.arr_inj (fun _ => rfl) r h
theorem w12_keeps (c : Dev nD) (r : Ref sig .tc) (h : r ∉ hostOps5_W) : w12 m c r = w11 m c r :=
  StableHlo.after_of_writes_sub hostOps5 _ hostOps5_writes h
theorem w13_keeps (c : Dev nD) (r : Ref sig .tc) (h : ∀ w, Pipeline.arrRef spec5 w = r → (cfg5.win w).isOut = false) :
    w13 m c r = w12 m c r :=
  Pipeline.afterRegion_keeps (dat5 (w12 m) c) (w12 m c) winFacts5.arr_inj (fun _ => rfl) r h
theorem w14_keeps (c : Dev nD) (r : Ref sig .tc) (h : ∀ w, Pipeline.arrRef spec6 w = r → (cfg6.win w).isOut = false) :
    w14 m c r = w13 m c r :=
  Pipeline.afterRegion_keeps (dat6 (w13 m) c) (w13 m c) winFacts6.arr_inj (fun _ => rfl) r h
theorem w15_keeps (c : Dev nD) (r : Ref sig .tc) (h : r ∉ hostOps7_W) : w15 m c r = w14 m c r :=
  StableHlo.after_of_writes_sub hostOps7 _ hostOps7_writes h
theorem w16_keeps (c : Dev nD) (r : Ref sig .tc) (h : r ∉ hostOps7_1_W) : w16 m c r = w15 m c r :=
  StableHlo.after_of_writes_sub hostOps7_1 _ hostOps7_1_writes h
theorem w17_keeps (c : Dev nD) (r : Ref sig .tc) (h : r ∉ hostOps7_2_W) : w17 m c r = w16 m c r :=
  StableHlo.after_of_writes_sub hostOps7_2 _ hostOps7_2_writes h
theorem w18_keeps (c : Dev nD) (r : Ref sig .tc) (h : ∀ w, Pipeline.arrRef spec7 w = r → (cfg7.win w).isOut = false) :
    w18 m c r = w17 m c r :=
  Pipeline.afterRegion_keeps (dat7 (w17 m) c) (w17 m c) winFacts7.arr_inj (fun _ => rfl) r h
theorem w19_keeps (c : Dev nD) (r : Ref sig .tc) (h : ∀ w, Pipeline.arrRef spec8 w = r → (cfg8.win w).isOut = false) :
    w19 m c r = w18 m c r :=
  Pipeline.afterRegion_keeps (dat8 (w18 m) c) (w18 m c) winFacts8.arr_inj (fun _ => rfl) r h
theorem w20_keeps (c : Dev nD) (r : Ref sig .tc) (h : r ∉ hostOps9_W) : w20 m c r = w19 m c r :=
  StableHlo.after_of_writes_sub hostOps9 _ hostOps9_writes h

/-- A buffer no item writes. -/
structure Kept (r : Ref sig .tc) : Prop where
  h0 : r ∉ hostOps0_W
  h1 : ∀ w, Pipeline.arrRef spec0 w = r → (cfg0.win w).isOut = false
  h2 : r ∉ hostOps1_W
  h3 : r ∉ hostOps1_1_W
  h4 : r ∉ hostOps1_2_W
  h5 : ∀ w, Pipeline.arrRef spec1 w = r → (cfg1.win w).isOut = false
  h6 : r ∉ hostOps2_W
  h7 : ∀ w, Pipeline.arrRef spec2 w = r → (cfg2.win w).isOut = false
  h8 : r ∉ hostOps3_W
  h9 : ∀ w, Pipeline.arrRef spec3 w = r → (cfg3.win w).isOut = false
  h10 : ∀ w, Pipeline.arrRef spec4 w = r → (cfg4.win w).isOut = false
  h11 : r ∉ hostOps5_W
  h12 : ∀ w, Pipeline.arrRef spec5 w = r → (cfg5.win w).isOut = false
  h13 : ∀ w, Pipeline.arrRef spec6 w = r → (cfg6.win w).isOut = false
  h14 : r ∉ hostOps7_W
  h15 : r ∉ hostOps7_1_W
  h16 : r ∉ hostOps7_2_W
  h17 : ∀ w, Pipeline.arrRef spec7 w = r → (cfg7.win w).isOut = false
  h18 : ∀ w, Pipeline.arrRef spec8 w = r → (cfg8.win w).isOut = false
  h19 : r ∉ hostOps9_W

/-- Such a buffer ends as launched. -/
theorem end_keeps (c : Dev nD) (r : Ref sig .tc) (h : Kept r) : w20 m c r = m ((c : Thread nD τ).loc r) :=
  (w20_keeps m c r h.h19).trans <|
  (w19_keeps m c r h.h18).trans <|
  (w18_keeps m c r h.h17).trans <|
  (w17_keeps m c r h.h16).trans <|
  (w16_keeps m c r h.h15).trans <|
  (w15_keeps m c r h.h14).trans <|
  (w14_keeps m c r h.h13).trans <|
  (w13_keeps m c r h.h12).trans <|
  (w12_keeps m c r h.h11).trans <|
  (w11_keeps m c r h.h10).trans <|
  (w10_keeps m c r h.h9).trans <|
  (w9_keeps m c r h.h8).trans <|
  (w8_keeps m c r h.h7).trans <|
  (w7_keeps m c r h.h6).trans <|
  (w6_keeps m c r h.h5).trans <|
  (w5_keeps m c r h.h4).trans <|
  (w4_keeps m c r h.h3).trans <|
  (w3_keeps m c r h.h2).trans <|
  (w2_keeps m c r h.h1).trans <|
  w1_keeps m c r h.h0

theorem kept0 : Kept main_arg0 := ⟨by decide, by decide, by decide, by decide, by decide, by decide, by decide, by decide, by decide, by decide, by decide, by decide, by decide, by decide, by decide, by decide, by decide, by decide, by decide, by decide⟩
theorem kept1 : Kept main_arg1 := ⟨by decide, by decide, by decide, by decide, by decide, by decide, by decide, by decide, by decide, by decide, by decide, by decide, by decide, by decide, by decide, by decide, by decide, by decide, by decide, by decide⟩
theorem kept2 : Kept main_arg2 := ⟨by decide, by decide, by decide, by decide, by decide, by decide, by decide, by decide, by decide, by decide, by decide, by decide, by decide, by decide, by decide, by decide, by decide, by decide, by decide, by decide⟩
theorem kept3 : Kept main_arg3 := ⟨by decide, by decide, by decide, by decide, by decide, by decide, by decide, by decide, by decide, by decide, by decide, by decide, by decide, by decide, by decide, by decide, by decide, by decide, by decide, by decide⟩
theorem kept4 : Kept main_arg4 := ⟨by decide, by decide, by decide, by decide, by decide, by decide, by decide, by decide, by decide, by decide, by decide, by decide, by decide, by decide, by decide, by decide, by decide, by decide, by decide, by decide⟩

/-- Every argument ends as launched and every counter at zero: the frame, at any float interpretation. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c _ (uc main_arg0 (by decide))).trans (end_keeps m c main_arg0 kept0),
      (h.1 c _ (uc main_arg1 (by decide))).trans (end_keeps m c main_arg1 kept1),
      (h.1 c _ (uc main_arg2 (by decide))).trans (end_keeps m c main_arg2 kept2),
      (h.1 c _ (uc main_arg3 (by decide))).trans (end_keeps m c main_arg3 kept3),
      (h.1 c _ (uc main_arg4 (by decide))).trans (end_keeps m c main_arg4 kept4)⟩,
    h.2⟩) (run_all m ρ)

end Cert.Ffn
-- ==== Proof.FfnMath.lean ====
module

public import proofs.«01_k».proof.Proof.Mat
public import proofs.«01_k».proof.Proof.Gen.Kernel2Ideal
public import proofs.«01_k».proof.Proof.Gen.Reference2Ideal

/-!
# The products of the gated feed-forward layer and the reference's contractions

The kernel multiplies matrices of 4096 rows, the reference keeps the rows as two batches of 2048.
-/

@[expose] public section

set_option maxRecDepth 16384

noncomputable section

namespace Cert.Ffn

open Cert.Kernel2Ideal Cert.Kernel2Ideal.Gen
open Idealize.ShloMosaic Idealize.ShloMosaic.TcCoe Idealize.ShloMosaic.Tactic

/-- A product of the 4096 rows is the contraction of the two batches. -/
theorem nn_up (x : FVec Ideal S2x2048x2048 .f32) (w : FVec Ideal S2048x5632 .f32) :
    shapeCast S2x2048x5632 (nn (M := 4096) (K := 2048) (N := 5632)
        (truncf (F := Ideal) .bf16 (shapeCast S1x4096x2048 x shapeCasts_S2x2048x2048_S1x4096x2048) bitsLt_bf16_f32)
        (truncf (F := Ideal) .bf16 (broadcastInDim S1x2048x5632 ![1, 2] bcast_S2048x5632_S1x2048x5632_1_2 w) bitsLt_bf16_f32))
      shapeCasts_S1x4096x5632_S2x2048x5632
    = (Host.dotGeneral (F := Ideal) Cert.Reference2Ideal.dot_S2x2048x2048_S2048x5632_S2x2048x5632_2_0_01_1_n_n none x w : FVec Ideal S2x2048x5632 .f32) := by
  funext i
  obtain ⟨b, s, j, rfl⟩ : ∃ b s j, i = ix3 b s j := ⟨_, _, _, eq_ix3 (n0 := 2) (n1 := 2048) (n2 := 5632) i⟩
  pointwise [nn]
  done

theorem nn_down (x : FVec Ideal S2x2048x5632 .f32) (w : FVec Ideal S5632x2048 .f32) :
    shapeCast S2x2048x2048 (nn (M := 4096) (K := 5632) (N := 2048)
        (truncf (F := Ideal) .bf16 (shapeCast S1x4096x5632 x shapeCasts_S2x2048x5632_S1x4096x5632) bitsLt_bf16_f32)
        (truncf (F := Ideal) .bf16 (broadcastInDim S1x5632x2048 ![1, 2] bcast_S5632x2048_S1x5632x2048_1_2 w) bitsLt_bf16_f32))
      shapeCasts_S1x4096x2048_S2x2048x2048
    = (Host.dotGeneral (F := Ideal) Cert.Reference2Ideal.dot_S2x2048x5632_S5632x2048_S2x2048x2048_2_0_01_1_n_n none x w : FVec Ideal S2x2048x2048 .f32) := by
  funext i
  obtain ⟨b, s, j, rfl⟩ : ∃ b s j, i = ix3 b s j := ⟨_, _, _, eq_ix3 (n0 := 2) (n1 := 2048) (n2 := 2048) i⟩
  pointwise [nn]
  done

theorem nt_down (x : FVec Ideal S2x2048x2048 .f32) (w : FVec Ideal S5632x2048 .f32) :
    shapeCast S2x2048x5632 (nt (M := 4096) (K := 2048) (N := 5632)
        (truncf (F := Ideal) .bf16 (shapeCast S1x4096x2048 x shapeCasts_S2x2048x2048_S1x4096x2048) bitsLt_bf16_f32)
        (truncf (F := Ideal) .bf16 (broadcastInDim S1x5632x2048 ![1, 2] bcast_S5632x2048_S1x5632x2048_1_2 w) bitsLt_bf16_f32))
      shapeCasts_S1x4096x5632_S2x2048x5632
    = (Host.dotGeneral (F := Ideal) Cert.Reference2Ideal.dot_S2x2048x2048_S5632x2048_S2x2048x5632_2_1_01_0_n_n none x w : FVec Ideal S2x2048x5632 .f32) := by
  funext i
  obtain ⟨b, s, j, rfl⟩ : ∃ b s j, i = ix3 b s j := ⟨_, _, _, eq_ix3 (n0 := 2) (n1 := 2048) (n2 := 5632) i⟩
  pointwise [nt]
  done

theorem nt_up (x : FVec Ideal S2x2048x5632 .f32) (w : FVec Ideal S2048x5632 .f32) :
    shapeCast S2x2048x2048 (nt (M := 4096) (K := 5632) (N := 2048)
        (truncf (F := Ideal) .bf16 (shapeCast S1x4096x5632 x shapeCasts_S2x2048x5632_S1x4096x5632) bitsLt_bf16_f32)
        (truncf (F := Ideal) .bf16 (broadcastInDim S1x2048x5632 ![1, 2] bcast_S2048x5632_S1x2048x5632_1_2 w) bitsLt_bf16_f32))
      shapeCasts_S1x4096x2048_S2x2048x2048
    = (Host.dotGeneral (F := Ideal) Cert.Reference2Ideal.dot_S2x2048x5632_S2048x5632_S2x2048x2048_2_1_01_0_n_n none x w : FVec Ideal S2x2048x2048 .f32) := by
  funext i
  obtain ⟨b, s, j, rfl⟩ : ∃ b s j, i = ix3 b s j := ⟨_, _, _, eq_ix3 (n0 := 2) (n1 := 2048) (n2 := 2048) i⟩
  pointwise [nt]
  done

theorem tn_down (a : FVec Ideal S2x2048x5632 .f32) (b : FVec Ideal S2x2048x2048 .f32) (h : S2048x5632.Transposes [1, 0] S5632x2048) :
    Host.reduceAdd (F := Ideal) (tn (M := 5632) (K := 4096) (N := 2048)
        (truncf (F := Ideal) .bf16 (shapeCast S1x4096x5632 a shapeCasts_S2x2048x5632_S1x4096x5632) bitsLt_bf16_f32)
        (truncf (F := Ideal) .bf16 (shapeCast S1x4096x2048 b shapeCasts_S2x2048x2048_S1x4096x2048) bitsLt_bf16_f32) : FVec Ideal S1x5632x2048 .f32)
      (constant S_ .f32 0x00000000#32) reducesTo_S1x5632x2048_S5632x2048_d0 h_S_
    = transpose S5632x2048 [1, 0] (Host.dotGeneral (F := Ideal) Cert.Reference2Ideal.dot_S2x2048x2048_S2x2048x5632_S2048x5632_01_01_2_2_n_n none b a : FVec Ideal S2048x5632 .f32) h := by
  funext i
  obtain ⟨p, q, rfl⟩ : ∃ p q, i = ix2 p q := ⟨_, _, eq_ix2 (n0 := 5632) (n1 := 2048) i⟩
  pointwise [tn]
  simp only [Finset.univ_unique, Finset.sum_singleton]
  refine (sum_rows (fun x y => a (ix3 x y p) * b (ix3 x y q)) _ _).trans ?_
  simp only [mul_comm]

theorem tn_up (a : FVec Ideal S2x2048x2048 .f32) (b : FVec Ideal S2x2048x5632 .f32) (h : S5632x2048.Transposes [1, 0] S2048x5632) :
    Host.reduceAdd (F := Ideal) (tn (M := 2048) (K := 4096) (N := 5632)
        (truncf (F := Ideal) .bf16 (shapeCast S1x4096x2048 a shapeCasts_S2x2048x2048_S1x4096x2048) bitsLt_bf16_f32)
        (truncf (F := Ideal) .bf16 (shapeCast S1x4096x5632 b shapeCasts_S2x2048x5632_S1x4096x5632) bitsLt_bf16_f32) : FVec Ideal S1x2048x5632 .f32)
      (constant S_ .f32 0x00000000#32) reducesTo_S1x2048x5632_S2048x5632_d0 h_S_
    = transpose S2048x5632 [1, 0] (Host.dotGeneral (F := Ideal) Cert.Reference2Ideal.dot_S2x2048x5632_S2x2048x2048_S5632x2048_01_01_2_2_n_n none b a : FVec Ideal S5632x2048 .f32) h := by
  funext i
  obtain ⟨p, q, rfl⟩ : ∃ p q, i = ix2 p q := ⟨_, _, eq_ix2 (n0 := 2048) (n1 := 5632) i⟩
  pointwise [tn]
  simp only [Finset.univ_unique, Finset.sum_singleton]
  refine (sum_rows (fun x y => a (ix3 x y p) * b (ix3 x y q)) _ _).trans ?_
  simp only [mul_comm]

end Cert.Ffn
-- ==== Proof.FfnHost.lean ====
module

public import proofs.«01_k».proof.Proof.Gen.Kernel2Ideal.Launch
public import proofs.«01_k».proof.Proof.FfnMath

/-!
# The feed-forward layer and what stands between its regions

The reference's values, named, and what each stretch of host operations writes, from the contents before it.
-/

@[expose] public section

set_option maxRecDepth 16384
set_option maxHeartbeats 1000000

noncomputable section

namespace Cert.Ffn

open Cert.Kernel2Ideal Cert.Kernel2Ideal.Gen
open Idealize.ShloMosaic Idealize.ShloMosaic.TcCoe Idealize.ShloMosaic.Tactic Idealize.ShloMosaic.StableHlo

abbrev XT := FVec Ideal S2x2048x2048 .f32
abbrev HT := FVec Ideal S2x2048x5632 .f32
abbrev UT := FVec Ideal S2048x5632 .f32
abbrev DT := FVec Ideal S5632x2048 .f32

/-! ### The reference's values -/

/-- The rows through a gate or up matrix. -/
def lin (x : XT) (w : UT) : HT :=
  Host.dotGeneral Cert.Reference2Ideal.dot_S2x2048x2048_S2048x5632_S2x2048x5632_2_0_01_1_n_n none x w
/-- The layer's output from the gated rows. -/
def down (h : HT) (w : DT) : XT :=
  Host.dotGeneral Cert.Reference2Ideal.dot_S2x2048x5632_S5632x2048_S2x2048x2048_2_0_01_1_n_n none h w
/-- A gradient back through the down matrix. -/
def backDown (d : XT) (w : DT) : HT :=
  Host.dotGeneral Cert.Reference2Ideal.dot_S2x2048x2048_S5632x2048_S2x2048x5632_2_1_01_0_n_n none d w
/-- A gradient back through a gate or up matrix. -/
def backLin (g : HT) (w : UT) : XT :=
  Host.dotGeneral Cert.Reference2Ideal.dot_S2x2048x5632_S2048x5632_S2x2048x2048_2_1_01_0_n_n none g w
/-- The gradient of a gate or up matrix. -/
def gradLin (g : HT) (x : XT) : UT :=
  transpose S2048x5632 [1, 0] (Host.dotGeneral (F := Ideal) Cert.Reference2Ideal.dot_S2x2048x5632_S2x2048x2048_S5632x2048_01_01_2_2_n_n none g x : DT)
    Cert.Reference2Ideal.Gen.transposes_S5632x2048_S2048x5632_1_0
/-- The gradient of the down matrix. -/
def gradDown (d : XT) (h : HT) : DT :=
  transpose S5632x2048 [1, 0] (Host.dotGeneral (F := Ideal) Cert.Reference2Ideal.dot_S2x2048x2048_S2x2048x5632_S2048x5632_01_01_2_2_n_n none d h : UT)
    Cert.Reference2Ideal.Gen.transposes_S2048x5632_S5632x2048_1_0

def one : HT := broadcastInDim S2x2048x5632 ![] bcast_S_S2x2048x5632 (constant (F := Ideal) S_ .f32 0x3F800000#32)
def sigm (z : HT) : HT := Host.divf one (addf one (Host.exp (Host.negf z)))
def silu (z : HT) : HT := mulf z (sigm z)
def dsigm (z : HT) : HT := mulf (sigm z) (subf one (sigm z))

variable (x : XT) (wg wu : UT) (wd : DT) (d : XT)

/-- The gated rows. -/
def hidden : HT := mulf (silu (lin x wg)) (lin x wu)
/-- The gradient of the up branch. -/
def dUp : HT := mulf (silu (lin x wg)) (backDown d wd)
/-- The gradient of the activated gate. -/
def dAct : HT := mulf (backDown d wd) (lin x wu)
/-- The gradient of the gate branch. -/
def dGate : HT :=
  addf (mulf (dAct x wu wd d) (sigm (lin x wg))) (mulf (mulf (lin x wg) (dAct x wu wd d)) (dsigm (lin x wg)))
/-- The gradient of the layer's input. -/
def dIn : XT := addf (backLin (dUp x wg wd d) wu) (backLin (dGate x wg wu wd d) wg)

/-! ### The rows and the matrices as a kernel call takes them -/

def rows (x : XT) : Mat 4096 2048 := truncf (F := Ideal) .bf16 (shapeCast S1x4096x2048 x shapeCasts_S2x2048x2048_S1x4096x2048) bitsLt_bf16_f32
def rowsH (h : HT) : Mat 4096 5632 := truncf (F := Ideal) .bf16 (shapeCast S1x4096x5632 h shapeCasts_S2x2048x5632_S1x4096x5632) bitsLt_bf16_f32
def matU (w : UT) : Mat 2048 5632 := truncf (F := Ideal) .bf16 (broadcastInDim S1x2048x5632 ![1, 2] bcast_S2048x5632_S1x2048x5632_1_2 w) bitsLt_bf16_f32
def matD (w : DT) : Mat 5632 2048 := truncf (F := Ideal) .bf16 (broadcastInDim S1x5632x2048 ![1, 2] bcast_S5632x2048_S1x5632x2048_1_2 w) bitsLt_bf16_f32
/-- The two batches of a call's result. -/
def batches (a : Mat 4096 2048) : XT := shapeCast S2x2048x2048 (a : FVec Ideal S1x4096x2048 .f32) shapeCasts_S1x4096x2048_S2x2048x2048
def batchesH (a : Mat 4096 5632) : HT := shapeCast S2x2048x5632 (a : FVec Ideal S1x4096x5632 .f32) shapeCasts_S1x4096x5632_S2x2048x5632
/-- The one matrix of a call's result. -/
def sumU (a : Mat 2048 5632) : UT := Host.reduceAdd (F := Ideal) (a : FVec Ideal S1x2048x5632 .f32) (constant S_ .f32 0x00000000#32) reducesTo_S1x2048x5632_S2048x5632_d0 h_S_
def sumD (a : Mat 5632 2048) : DT := Host.reduceAdd (F := Ideal) (a : FVec Ideal S1x5632x2048 .f32) (constant S_ .f32 0x00000000#32) reducesTo_S1x5632x2048_S5632x2048_d0 h_S_

theorem lin_eq (w : UT) : batchesH (nn (rows x) (matU w)) = lin x w := nn_up x w
theorem down_eq (h : HT) (w : DT) : batches (nn (rowsH h) (matD w)) = down h w := nn_down h w
theorem backDown_eq (w : DT) : batchesH (nt (rows x) (matD w)) = backDown x w := nt_down x w
theorem backLin_eq (h : HT) (w : UT) : batches (nt (rowsH h) (matU w)) = backLin h w := nt_up h w
theorem gradDown_eq (h : HT) : sumD (tn (rowsH h) (rows x)) = gradDown x h := tn_down h x _
theorem gradLin_eq (h : HT) : sumU (tn (rows x) (rowsH h)) = gradLin h x := tn_up x h _

/-! ### The host stretches -/

variable (W : Valuation τ sig (Elt Ideal))

theorem host0_v2 : after hostOps0 W (Proc.devRef .tc main_v2) = rows (W (Proc.devRef .tc main_arg0)) := by
  simp only [hostOps0]; after_results_simp; rfl
theorem host0_v3 : after hostOps0 W (Proc.devRef .tc main_v3) = matU (W (Proc.devRef .tc main_arg1)) := by
  simp only [hostOps0]; after_results_simp; rfl
theorem host1_v5 : after hostOps1 W (Proc.devRef .tc main_v5) = batchesH (W (Proc.devRef .tc main_v4)) := by
  simp only [hostOps1]; after_results_simp; rfl
theorem host1_v6_2 : after hostOps1_1 W (Proc.devRef .tc main_v6_2) = sigm (W (Proc.devRef .tc main_v5)) := by
  simp only [hostOps1_1, TRef.binary, TRef.nullary, TRef.unary, TRef.toBuf, TRef.ofBuf, cast_eq]; after_results_simp; rfl
theorem host1_v6_1 : after hostOps1_1 W (Proc.devRef .tc main_v6_1) = dsigm (W (Proc.devRef .tc main_v5)) := by
  simp only [hostOps1_1, TRef.binary, TRef.nullary, TRef.unary, TRef.toBuf, TRef.ofBuf, cast_eq]; after_results_simp; rfl
theorem host1_v6_0 : after hostOps1_1 W (Proc.devRef .tc main_v6_0) = silu (W (Proc.devRef .tc main_v5)) := by
  simp only [hostOps1_1, TRef.binary, TRef.nullary, TRef.unary, TRef.toBuf, TRef.ofBuf, cast_eq]; after_results_simp; rfl
theorem host1_v9 : after hostOps1_2 W (Proc.devRef .tc main_v9) = rows (W (Proc.devRef .tc main_arg0)) := by
  simp only [hostOps1_2]; after_results_simp; rfl
theorem host1_v10 : after hostOps1_2 W (Proc.devRef .tc main_v10) = matU (W (Proc.devRef .tc main_arg2)) := by
  simp only [hostOps1_2]; after_results_simp; rfl
theorem host2_v12 : after hostOps2 W (Proc.devRef .tc main_v12) = batchesH (W (Proc.devRef .tc main_v11)) := by
  simp only [hostOps2]; after_results_simp; rfl
theorem host2_v16 : after hostOps2 W (Proc.devRef .tc main_v16)
    = rowsH (mulf (W (Proc.devRef .tc main_v6_0) : HT) (batchesH (W (Proc.devRef .tc main_v11)))) := by
  simp only [hostOps2]; after_results_simp; rfl
theorem host2_v17 : after hostOps2 W (Proc.devRef .tc main_v17) = matD (W (Proc.devRef .tc main_arg3)) := by
  simp only [hostOps2]; after_results_simp; rfl
theorem host3_v19 : after hostOps3 W (Proc.devRef .tc main_v19) = batches (W (Proc.devRef .tc main_v18)) := by
  simp only [hostOps3]; after_results_simp; rfl
theorem host3_v21 : after hostOps3 W (Proc.devRef .tc main_v21) = rows (W (Proc.devRef .tc main_arg4)) := by
  simp only [hostOps3]; after_results_simp; rfl
theorem host5_v24 : after hostOps5 W (Proc.devRef .tc main_v24) = sumD (W (Proc.devRef .tc main_v23)) := by
  simp only [hostOps5]; after_results_simp; rfl
theorem host5_v27 : after hostOps5 W (Proc.devRef .tc main_v27)
    = mulf (batchesH (W (Proc.devRef .tc main_v22))) (W (Proc.devRef .tc main_v12) : HT) := by
  simp only [hostOps5]; after_results_simp; rfl
theorem host5_v29 : after hostOps5 W (Proc.devRef .tc main_v29)
    = rowsH (mulf (W (Proc.devRef .tc main_v6_0) : HT) (batchesH (W (Proc.devRef .tc main_v22)))) := by
  simp only [hostOps5]; after_results_simp; rfl
theorem host7_v32 : after hostOps7 W (Proc.devRef .tc main_v32) = sumU (W (Proc.devRef .tc main_v31)) := by
  simp only [hostOps7]; after_results_simp; rfl
theorem host7_v33 : after hostOps7 W (Proc.devRef .tc main_v33) = batches (W (Proc.devRef .tc main_v30)) := by
  simp only [hostOps7]; after_results_simp; rfl
theorem host7_v34 : after hostOps7_1 W (Proc.devRef .tc main_v34)
    = (addf (mulf (W (Proc.devRef .tc main_v27) : HT) (W (Proc.devRef .tc main_v6_2) : HT))
      (mulf (mulf (W (Proc.devRef .tc main_v5) : HT) (W (Proc.devRef .tc main_v27) : HT)) (W (Proc.devRef .tc main_v6_1) : HT)) : HT) := by
  simp only [hostOps7_1, TRef.binary, TRef.nullary, TRef.unary, TRef.toBuf, TRef.ofBuf, cast_eq]; after_results_simp
theorem host7_v36 : after hostOps7_2 W (Proc.devRef .tc main_v36) = rowsH (W (Proc.devRef .tc main_v34)) := by
  simp only [hostOps7_2]; after_results_simp; rfl
theorem host9_v39 : after hostOps9 W (Proc.devRef .tc main_v39) = sumU (W (Proc.devRef .tc main_v38)) := by
  simp only [hostOps9]; after_results_simp; rfl
theorem host9_v41 : after hostOps9 W (Proc.devRef .tc main_v41)
    = addf (W (Proc.devRef .tc main_v33) : XT) (batches (W (Proc.devRef .tc main_v37))) := by
  simp only [hostOps9]; after_results_simp; rfl

end Cert.Ffn
-- ==== Proof.FfnArrays.lean ====
module

public import proofs.«01_k».proof.Proof.FfnRegions
public import proofs.«01_k».proof.Proof.Mat

/-!
# The nine arrays of the gated feed-forward layer

Over the extended reals each region leaves one whole matrix product in its output array. Per region: where the windows'
blocks lie, and the product.
-/

@[expose] public section

set_option maxRecDepth 16384

noncomputable section

namespace Cert.Ffn

open Cert.Kernel2Ideal Cert.Kernel2Ideal.Gen
open Idealize.ShloMosaic Idealize.ShloMosaic.TcCoe Idealize.ShloMosaic.Tactic

/-! ### The printed products, entry by entry -/

theorem pay0_at (a : FVec Ideal S1x1024x2048 .bf16) (b : FVec Ideal S1x2048x512 .bf16) (x : Fin 1) (i : Fin 1024) (j : Fin 512) :
    k0_pay1 (F := Ideal) a b (ix3 x i j) = dot 2048 (fun k => a (ix3 0 i k)) fun k => b (ix3 0 k j) := by
  pointwise [k0_pay1, dot]
  done

theorem pay2_at (s : FVec Ideal S1x1024x1024 .f32) (a : FVec Ideal S1x1024x1408 .bf16) (b : FVec Ideal S1x1408x1024 .bf16) (y : S1x1024x1024.Idx) :
    k2_pay2 (F := Ideal) s a b y = s y + dot 1408 (fun k => a (ix3 0 (y 1) k)) fun k => b (ix3 0 k (y 2)) := by
  obtain ⟨x, i, j, rfl⟩ : ∃ x i j, y = ix3 x i j := ⟨_, _, _, eq_ix3 (n0 := 1) (n1 := 1024) (n2 := 1024) y⟩
  obtain rfl : x = 0 := Subsingleton.elim _ _
  pointwise [k2_pay2, dot]
  done

theorem pay3_at (a : FVec Ideal S1x1024x2048 .bf16) (b : FVec Ideal S1x512x2048 .bf16) (x : Fin 1) (i : Fin 1024) (j : Fin 512) :
    k3_pay1 (F := Ideal) a b (ix3 x i j) = dot 2048 (fun k => a (ix3 0 i k)) fun k => b (ix3 0 j k) := by
  pointwise [k3_pay1, dot]
  done

theorem pay4_at (s : FVec Ideal S1x512x1024 .f32) (a : FVec Ideal S1x2048x512 .bf16) (b : FVec Ideal S1x2048x1024 .bf16) (y : S1x512x1024.Idx) :
    k4_pay2 (F := Ideal) s a b y = s y + dot 2048 (fun k => a (ix3 0 k (y 1))) fun k => b (ix3 0 k (y 2)) := by
  obtain ⟨x, i, j, rfl⟩ : ∃ x i j, y = ix3 x i j := ⟨_, _, _, eq_ix3 (n0 := 1) (n1 := 512) (n2 := 1024) y⟩
  obtain rfl : x = 0 := Subsingleton.elim _ _
  pointwise [k4_pay2, dot]
  done

/-- Region 7 runs the same product. -/
theorem pay5_at (s : FVec Ideal S1x1024x1024 .f32) (a b : FVec Ideal S1x1024x1408 .bf16) (y : S1x1024x1024.Idx) :
    k5_pay2 (F := Ideal) s a b y = s y + dot 1408 (fun k => a (ix3 0 (y 1) k)) fun k => b (ix3 0 (y 2) k) := by
  obtain ⟨x, i, j, rfl⟩ : ∃ x i j, y = ix3 x i j := ⟨_, _, _, eq_ix3 (n0 := 1) (n1 := 1024) (n2 := 1024) y⟩
  obtain rfl : x = 0 := Subsingleton.elim _ _
  pointwise [k5_pay2, dot]
  done

/-- Region 8 runs the same product. -/
theorem pay6_at (s : FVec Ideal S1x1024x512 .f32) (a : FVec Ideal S1x2048x1024 .bf16) (b : FVec Ideal S1x2048x512 .bf16) (y : S1x1024x512.Idx) :
    k6_pay2 (F := Ideal) s a b y = s y + dot 2048 (fun k => a (ix3 0 k (y 1))) fun k => b (ix3 0 k (y 2)) := by
  obtain ⟨x, i, j, rfl⟩ : ∃ x i j, y = ix3 x i j := ⟨_, _, _, eq_ix3 (n0 := 1) (n1 := 1024) (n2 := 512) y⟩
  obtain rfl : x = 0 := Subsingleton.elim _ _
  pointwise [k6_pay2, dot]
  done

/-- A cleared scratch of the regions 2, 5 and 7. -/
theorem zero2_at (y : S1x1024x1024.Idx) : k2_pay1 (F := Ideal) y = 0 := by
  pointwise [k2_pay1]
  done

theorem zero4_at (y : S1x512x1024.Idx) : k4_pay1 (F := Ideal) y = 0 := by
  pointwise [k4_pay1]
  done

/-- A cleared scratch of the regions 6 and 8. -/
theorem zero6_at (y : S1x1024x512.Idx) : k6_pay1 (F := Ideal) y = 0 := by
  pointwise [k6_pay1]
  done

variable (V : Dev nD → Valuation τ sig (Elt Ideal)) (c : Dev nD)

/-! ### Region 0: the input by the gate matrix -/

theorem index0 : ∀ t : Fin cfg0.N, win0_0.index t = ![0, t.val / 11, 0] ∧ win0_1.index t = ![0, 0, t.val % 11]
    ∧ win0_2.index t = ![0, t.val / 11, t.val % 11] := (by decide +kernel : ∀ t : Fin grid0.N, _)

theorem blk0_0 (t : Fin cfg0.N) (x : Fin 1) (i : Fin 1024) (k : Fin 2048) (R : Fin 4096) (hR : R.val = t.val / 11 * 1024 + i.val) :
    blk cfg0 V c 0 t (ix3 x i k) = (V c (Proc.devRef .tc main_v2) : Mat 4096 2048) (ix3 0 R k) := by
  blk_ext [blk, index0 t]
  all_goals omega

theorem blk0_1 (t : Fin cfg0.N) (x : Fin 1) (k : Fin 2048) (j : Fin 512) (C : Fin 5632) (hC : C.val = t.val % 11 * 512 + j.val) :
    blk cfg0 V c 1 t (ix3 x k j) = (V c (Proc.devRef .tc main_v3) : Mat 2048 5632) (ix3 0 k C) := by
  blk_ext [blk, index0 t]
  all_goals omega

theorem emb0_2 (t : Fin cfg0.N) (x : Fin 1) (i : Fin 1024) (j : Fin 512) (R : Fin 4096) (C : Fin 5632)
    (hR : R.val = t.val / 11 * 1024 + i.val) (hC : C.val = t.val % 11 * 512 + j.val) :
    (win0_2.blk t).view.emb (ix3 x i j) = ix3 0 R C := by
  blk_ext [index0 t]
  all_goals omega

theorem arr0 : (dat0 V c).arrAt 2 cfg0.N
    = nn (M := 4096) (K := 2048) (N := 5632) (V c (Proc.devRef .tc main_v2)) (V c (Proc.devRef .tc main_v3)) := by
  refine (dat0 V c).arrAt_eq_of_covers 2 _ (by decide +kernel) fun t _ y => ?_
  blk_simp
  have ht : t.val < 44 := Nat.lt_of_lt_of_eq t.isLt N_0
  obtain ⟨x, i, j, rfl⟩ : ∃ x i j, y = ix3 x i j := ⟨_, _, _, eq_ix3 (n0 := 1) (n1 := 1024) (n2 := 512) y⟩
  rw [emb0_2 t x i j ⟨_, by omega⟩ ⟨_, by omega⟩ rfl rfl]
  exact (pay0_at _ _ x i j).trans (Finset.sum_congr rfl fun k _ =>
    congrArg₂ (· * ·) (blk0_0 V c t 0 i k ⟨_, by omega⟩ rfl) (blk0_1 V c t 0 k j ⟨_, by omega⟩ rfl))

/-! ### Region 1: the input by the up matrix -/

theorem index1 : ∀ t : Fin cfg1.N, win1_0.index t = ![0, t.val / 11, 0] ∧ win1_1.index t = ![0, 0, t.val % 11]
    ∧ win1_2.index t = ![0, t.val / 11, t.val % 11] := (by decide +kernel : ∀ t : Fin grid1.N, _)

theorem blk1_0 (t : Fin cfg1.N) (x : Fin 1) (i : Fin 1024) (k : Fin 2048) (R : Fin 4096) (hR : R.val = t.val / 11 * 1024 + i.val) :
    blk cfg1 V c 0 t (ix3 x i k) = (V c (Proc.devRef .tc main_v9) : Mat 4096 2048) (ix3 0 R k) := by
  blk_ext [blk, index1 t]
  all_goals omega

theorem blk1_1 (t : Fin cfg1.N) (x : Fin 1) (k : Fin 2048) (j : Fin 512) (C : Fin 5632) (hC : C.val = t.val % 11 * 512 + j.val) :
    blk cfg1 V c 1 t (ix3 x k j) = (V c (Proc.devRef .tc main_v10) : Mat 2048 5632) (ix3 0 k C) := by
  blk_ext [blk, index1 t]
  all_goals omega

theorem emb1_2 (t : Fin cfg1.N) (x : Fin 1) (i : Fin 1024) (j : Fin 512) (R : Fin 4096) (C : Fin 5632)
    (hR : R.val = t.val / 11 * 1024 + i.val) (hC : C.val = t.val % 11 * 512 + j.val) :
    (win1_2.blk t).view.emb (ix3 x i j) = ix3 0 R C := by
  blk_ext [index1 t]
  all_goals omega

theorem arr1 : (dat1 V c).arrAt 2 cfg1.N
    = nn (M := 4096) (K := 2048) (N := 5632) (V c (Proc.devRef .tc main_v9)) (V c (Proc.devRef .tc main_v10)) := by
  refine (dat1 V c).arrAt_eq_of_covers 2 _ (by decide +kernel) fun t _ y => ?_
  blk_simp
  have ht : t.val < 44 := Nat.lt_of_lt_of_eq t.isLt N_1
  obtain ⟨x, i, j, rfl⟩ : ∃ x i j, y = ix3 x i j := ⟨_, _, _, eq_ix3 (n0 := 1) (n1 := 1024) (n2 := 512) y⟩
  rw [emb1_2 t x i j ⟨_, by omega⟩ ⟨_, by omega⟩ rfl rfl]
  exact (pay0_at _ _ x i j).trans (Finset.sum_congr rfl fun k _ =>
    congrArg₂ (· * ·) (blk1_0 V c t 0 i k ⟨_, by omega⟩ rfl) (blk1_1 V c t 0 k j ⟨_, by omega⟩ rfl))

/-! ### Region 2: the gated rows by the down matrix -/

theorem index2 : ∀ t : Fin cfg2.N, win2_0.index t = ![0, t.val / 8, t.val % 4] ∧ win2_1.index t = ![0, t.val % 4, t.val / 4 % 2]
    ∧ win2_2.index t = ![0, t.val / 8, t.val / 4 % 2] := (by decide +kernel : ∀ t : Fin grid2.N, _)

theorem blk2_0 (t : Fin cfg2.N) (x : Fin 1) (i : Fin 1024) (k : Fin 1408) (R : Fin 4096) (L : Fin 5632)
    (hR : R.val = t.val / 8 * 1024 + i.val) (hL : L.val = t.val % 4 * 1408 + k.val) :
    blk cfg2 V c 0 t (ix3 x i k) = (V c (Proc.devRef .tc main_v16) : Mat 4096 5632) (ix3 0 R L) := by
  blk_ext [blk, index2 t]
  all_goals omega

theorem blk2_1 (t : Fin cfg2.N) (x : Fin 1) (k : Fin 1408) (j : Fin 1024) (C : Fin 2048) (L : Fin 5632)
    (hC : C.val = t.val / 4 % 2 * 1024 + j.val) (hL : L.val = t.val % 4 * 1408 + k.val) :
    blk cfg2 V c 1 t (ix3 x k j) = (V c (Proc.devRef .tc main_v17) : Mat 5632 2048) (ix3 0 L C) := by
  blk_ext [blk, index2 t]
  all_goals omega

theorem emb2_2 (t : Fin cfg2.N) (x : Fin 1) (i : Fin 1024) (j : Fin 1024) (R : Fin 4096) (C : Fin 2048)
    (hR : R.val = t.val / 8 * 1024 + i.val) (hC : C.val = t.val / 4 % 2 * 1024 + j.val) :
    (win2_2.blk t).view.emb (ix3 x i j) = ix3 0 R C := by
  blk_ext [index2 t]
  all_goals omega

theorem arr2 : (dat2 V c).arrAt 2 cfg2.N
    = nn (M := 4096) (K := 5632) (N := 2048) (V c (Proc.devRef .tc main_v16)) (V c (Proc.devRef .tc main_v17)) := by
  refine (dat2 V c).arrAt_eq_of_covers 2 _ (by decide +kernel) fun t hf y => ?_
  blk_simp
  have ht : t.val < 32 := Nat.lt_of_lt_of_eq t.isLt N_2
  obtain ⟨x, i, j, rfl⟩ : ∃ x i j, y = ix3 x i j := ⟨_, _, _, eq_ix3 (n0 := 1) (n1 := 1024) (n2 := 1024) y⟩
  rw [emb2_2 t x i j ⟨_, by omega⟩ ⟨_, by omega⟩ rfl rfl]
  exact fold_dot (J := 4) (by decide) (by decide) _ _ zero2_at (fun _ _ _ => pay2_at _ _ _ _) t ((flush2_2 t).1 hf) _ _ _
    (fun p k s hl h₁ h₂ => blk2_0 V c p 0 i k ⟨_, by omega⟩ ⟨_, hl⟩ (by dsimp only; omega) (by dsimp only; omega))
    (fun p k s hl h₁ h₂ => blk2_1 V c p 0 k j ⟨_, by omega⟩ ⟨_, hl⟩ (by dsimp only; omega) (by dsimp only; omega))

/-! ### Region 3: the cotangent by the down matrix, transposed -/

theorem index3 : ∀ t : Fin cfg3.N, win3_0.index t = ![0, t.val / 11, 0] ∧ win3_1.index t = ![0, t.val % 11, 0]
    ∧ win3_2.index t = ![0, t.val / 11, t.val % 11] := (by decide +kernel : ∀ t : Fin grid3.N, _)

theorem blk3_0 (t : Fin cfg3.N) (x : Fin 1) (i : Fin 1024) (k : Fin 2048) (R : Fin 4096) (hR : R.val = t.val / 11 * 1024 + i.val) :
    blk cfg3 V c 0 t (ix3 x i k) = (V c (Proc.devRef .tc main_v21) : Mat 4096 2048) (ix3 0 R k) := by
  blk_ext [blk, index3 t]
  all_goals omega

theorem blk3_1 (t : Fin cfg3.N) (x : Fin 1) (j : Fin 512) (k : Fin 2048) (C : Fin 5632) (hC : C.val = t.val % 11 * 512 + j.val) :
    blk cfg3 V c 1 t (ix3 x j k) = (V c (Proc.devRef .tc main_v17) : Mat 5632 2048) (ix3 0 C k) := by
  blk_ext [blk, index3 t]
  all_goals omega

theorem emb3_2 (t : Fin cfg3.N) (x : Fin 1) (i : Fin 1024) (j : Fin 512) (R : Fin 4096) (C : Fin 5632)
    (hR : R.val = t.val / 11 * 1024 + i.val) (hC : C.val = t.val % 11 * 512 + j.val) :
    (win3_2.blk t).view.emb (ix3 x i j) = ix3 0 R C := by
  blk_ext [index3 t]
  all_goals omega

theorem arr3 : (dat3 V c).arrAt 2 cfg3.N
    = nt (M := 4096) (K := 2048) (N := 5632) (V c (Proc.devRef .tc main_v21)) (V c (Proc.devRef .tc main_v17)) := by
  refine (dat3 V c).arrAt_eq_of_covers 2 _ (by decide +kernel) fun t _ y => ?_
  blk_simp
  have ht : t.val < 44 := Nat.lt_of_lt_of_eq t.isLt N_3
  obtain ⟨x, i, j, rfl⟩ : ∃ x i j, y = ix3 x i j := ⟨_, _, _, eq_ix3 (n0 := 1) (n1 := 1024) (n2 := 512) y⟩
  rw [emb3_2 t x i j ⟨_, by omega⟩ ⟨_, by omega⟩ rfl rfl]
  exact (pay3_at _ _ x i j).trans (Finset.sum_congr rfl fun k _ =>
    congrArg₂ (· * ·) (blk3_0 V c t 0 i k ⟨_, by omega⟩ rfl) (blk3_1 V c t 0 j k ⟨_, by omega⟩ rfl))

/-! ### Region 4: the gated rows, transposed, by the cotangent -/

theorem index4 : ∀ t : Fin cfg4.N, win4_0.index t = ![0, t.val % 2, t.val / 4] ∧ win4_1.index t = ![0, t.val % 2, t.val / 2 % 2]
    ∧ win4_2.index t = ![0, t.val / 4, t.val / 2 % 2] := (by decide +kernel : ∀ t : Fin grid4.N, _)

theorem blk4_0 (t : Fin cfg4.N) (x : Fin 1) (k : Fin 2048) (i : Fin 512) (L : Fin 4096) (R : Fin 5632)
    (hL : L.val = t.val % 2 * 2048 + k.val) (hR : R.val = t.val / 4 * 512 + i.val) :
    blk cfg4 V c 0 t (ix3 x k i) = (V c (Proc.devRef .tc main_v16) : Mat 4096 5632) (ix3 0 L R) := by
  blk_ext [blk, index4 t]
  all_goals omega

theorem blk4_1 (t : Fin cfg4.N) (x : Fin 1) (k : Fin 2048) (j : Fin 1024) (L : Fin 4096) (C : Fin 2048)
    (hL : L.val = t.val % 2 * 2048 + k.val) (hC : C.val = t.val / 2 % 2 * 1024 + j.val) :
    blk cfg4 V c 1 t (ix3 x k j) = (V c (Proc.devRef .tc main_v21) : Mat 4096 2048) (ix3 0 L C) := by
  blk_ext [blk, index4 t]
  all_goals omega

theorem emb4_2 (t : Fin cfg4.N) (x : Fin 1) (i : Fin 512) (j : Fin 1024) (R : Fin 5632) (C : Fin 2048)
    (hR : R.val = t.val / 4 * 512 + i.val) (hC : C.val = t.val / 2 % 2 * 1024 + j.val) :
    (win4_2.blk t).view.emb (ix3 x i j) = ix3 0 R C := by
  blk_ext [index4 t]
  all_goals omega

theorem arr4 : (dat4 V c).arrAt 2 cfg4.N
    = tn (M := 5632) (K := 4096) (N := 2048) (V c (Proc.devRef .tc main_v16)) (V c (Proc.devRef .tc main_v21)) := by
  refine (dat4 V c).arrAt_eq_of_covers 2 _ (by decide +kernel) fun t hf y => ?_
  blk_simp
  have ht : t.val < 44 := Nat.lt_of_lt_of_eq t.isLt N_4
  obtain ⟨x, i, j, rfl⟩ : ∃ x i j, y = ix3 x i j := ⟨_, _, _, eq_ix3 (n0 := 1) (n1 := 512) (n2 := 1024) y⟩
  rw [emb4_2 t x i j ⟨_, by omega⟩ ⟨_, by omega⟩ rfl rfl]
  exact fold_dot (J := 2) (by decide) (by decide) _ _ zero4_at (fun _ _ _ => pay4_at _ _ _ _) t ((flush4_2 t).1 hf) _ _ _
    (fun p k s hl h₁ h₂ => blk4_0 V c p 0 k i ⟨_, hl⟩ ⟨_, by omega⟩ (by dsimp only; omega) (by dsimp only; omega))
    (fun p k s hl h₁ h₂ => blk4_1 V c p 0 k j ⟨_, hl⟩ ⟨_, by omega⟩ (by dsimp only; omega) (by dsimp only; omega))

/-! ### Region 5: the up branch's cotangent by the up matrix, transposed -/

theorem index5 : ∀ t : Fin cfg5.N, win5_0.index t = ![0, t.val / 8, t.val % 4] ∧ win5_1.index t = ![0, t.val / 4 % 2, t.val % 4]
    ∧ win5_2.index t = ![0, t.val / 8, t.val / 4 % 2] := (by decide +kernel : ∀ t : Fin grid5.N, _)

theorem blk5_0 (t : Fin cfg5.N) (x : Fin 1) (i : Fin 1024) (k : Fin 1408) (R : Fin 4096) (L : Fin 5632)
    (hR : R.val = t.val / 8 * 1024 + i.val) (hL : L.val = t.val % 4 * 1408 + k.val) :
    blk cfg5 V c 0 t (ix3 x i k) = (V c (Proc.devRef .tc main_v29) : Mat 4096 5632) (ix3 0 R L) := by
  blk_ext [blk, index5 t]
  all_goals omega

theorem blk5_1 (t : Fin cfg5.N) (x : Fin 1) (j : Fin 1024) (k : Fin 1408) (C : Fin 2048) (L : Fin 5632)
    (hC : C.val = t.val / 4 % 2 * 1024 + j.val) (hL : L.val = t.val % 4 * 1408 + k.val) :
    blk cfg5 V c 1 t (ix3 x j k) = (V c (Proc.devRef .tc main_v10) : Mat 2048 5632) (ix3 0 C L) := by
  blk_ext [blk, index5 t]
  all_goals omega

theorem emb5_2 (t : Fin cfg5.N) (x : Fin 1) (i : Fin 1024) (j : Fin 1024) (R : Fin 4096) (C : Fin 2048)
    (hR : R.val = t.val / 8 * 1024 + i.val) (hC : C.val = t.val / 4 % 2 * 1024 + j.val) :
    (win5_2.blk t).view.emb (ix3 x i j) = ix3 0 R C := by
  blk_ext [index5 t]
  all_goals omega

theorem arr5 : (dat5 V c).arrAt 2 cfg5.N
    = nt (M := 4096) (K := 5632) (N := 2048) (V c (Proc.devRef .tc main_v29)) (V c (Proc.devRef .tc main_v10)) := by
  refine (dat5 V c).arrAt_eq_of_covers 2 _ (by decide +kernel) fun t hf y => ?_
  blk_simp
  have ht : t.val < 32 := Nat.lt_of_lt_of_eq t.isLt N_5
  obtain ⟨x, i, j, rfl⟩ : ∃ x i j, y = ix3 x i j := ⟨_, _, _, eq_ix3 (n0 := 1) (n1 := 1024) (n2 := 1024) y⟩
  rw [emb5_2 t x i j ⟨_, by omega⟩ ⟨_, by omega⟩ rfl rfl]
  exact fold_dot (J := 4) (by decide) (by decide) _ _ zero2_at (fun _ _ _ => pay5_at _ _ _ _) t ((flush5_2 t).1 hf) _ _ _
    (fun p k s hl h₁ h₂ => blk5_0 V c p 0 i k ⟨_, by omega⟩ ⟨_, hl⟩ (by dsimp only; omega) (by dsimp only; omega))
    (fun p k s hl h₁ h₂ => blk5_1 V c p 0 j k ⟨_, by omega⟩ ⟨_, hl⟩ (by dsimp only; omega) (by dsimp only; omega))

/-! ### Region 6: the input, transposed, by the up branch's cotangent -/

theorem index6 : ∀ t : Fin cfg6.N, win6_0.index t = ![0, t.val % 2, t.val / 22] ∧ win6_1.index t = ![0, t.val % 2, t.val / 2 % 11]
    ∧ win6_2.index t = ![0, t.val / 22, t.val / 2 % 11] := (by decide +kernel : ∀ t : Fin grid6.N, _)

theorem blk6_0 (t : Fin cfg6.N) (x : Fin 1) (k : Fin 2048) (i : Fin 1024) (L : Fin 4096) (R : Fin 2048)
    (hL : L.val = t.val % 2 * 2048 + k.val) (hR : R.val = t.val / 22 * 1024 + i.val) :
    blk cfg6 V c 0 t (ix3 x k i) = (V c (Proc.devRef .tc main_v9) : Mat 4096 2048) (ix3 0 L R) := by
  blk_ext [blk, index6 t]
  all_goals omega

theorem blk6_1 (t : Fin cfg6.N) (x : Fin 1) (k : Fin 2048) (j : Fin 512) (L : Fin 4096) (C : Fin 5632)
    (hL : L.val = t.val % 2 * 2048 + k.val) (hC : C.val = t.val / 2 % 11 * 512 + j.val) :
    blk cfg6 V c 1 t (ix3 x k j) = (V c (Proc.devRef .tc main_v29) : Mat 4096 5632) (ix3 0 L C) := by
  blk_ext [blk, index6 t]
  all_goals omega

theorem emb6_2 (t : Fin cfg6.N) (x : Fin 1) (i : Fin 1024) (j : Fin 512) (R : Fin 2048) (C : Fin 5632)
    (hR : R.val = t.val / 22 * 1024 + i.val) (hC : C.val = t.val / 2 % 11 * 512 + j.val) :
    (win6_2.blk t).view.emb (ix3 x i j) = ix3 0 R C := by
  blk_ext [index6 t]
  all_goals omega

theorem arr6 : (dat6 V c).arrAt 2 cfg6.N
    = tn (M := 2048) (K := 4096) (N := 5632) (V c (Proc.devRef .tc main_v9)) (V c (Proc.devRef .tc main_v29)) := by
  refine (dat6 V c).arrAt_eq_of_covers 2 _ (by decide +kernel) fun t hf y => ?_
  blk_simp
  have ht : t.val < 44 := Nat.lt_of_lt_of_eq t.isLt N_6
  obtain ⟨x, i, j, rfl⟩ : ∃ x i j, y = ix3 x i j := ⟨_, _, _, eq_ix3 (n0 := 1) (n1 := 1024) (n2 := 512) y⟩
  rw [emb6_2 t x i j ⟨_, by omega⟩ ⟨_, by omega⟩ rfl rfl]
  exact fold_dot (J := 2) (by decide) (by decide) _ _ zero6_at (fun _ _ _ => pay6_at _ _ _ _) t ((flush6_2 t).1 hf) _ _ _
    (fun p k s hl h₁ h₂ => blk6_0 V c p 0 k i ⟨_, hl⟩ ⟨_, by omega⟩ (by dsimp only; omega) (by dsimp only; omega))
    (fun p k s hl h₁ h₂ => blk6_1 V c p 0 k j ⟨_, hl⟩ ⟨_, by omega⟩ (by dsimp only; omega) (by dsimp only; omega))

/-! ### Region 7: the gate branch's cotangent by the gate matrix, transposed -/

theorem index7 : ∀ t : Fin cfg7.N, win7_0.index t = ![0, t.val / 8, t.val % 4] ∧ win7_1.index t = ![0, t.val / 4 % 2, t.val % 4]
    ∧ win7_2.index t = ![0, t.val / 8, t.val / 4 % 2] := (by decide +kernel : ∀ t : Fin grid7.N, _)

theorem blk7_0 (t : Fin cfg7.N) (x : Fin 1) (i : Fin 1024) (k : Fin 1408) (R : Fin 4096) (L : Fin 5632)
    (hR : R.val = t.val / 8 * 1024 + i.val) (hL : L.val = t.val % 4 * 1408 + k.val) :
    blk cfg7 V c 0 t (ix3 x i k) = (V c (Proc.devRef .tc main_v36) : Mat 4096 5632) (ix3 0 R L) := by
  blk_ext [blk, index7 t]
  all_goals omega

theorem blk7_1 (t : Fin cfg7.N) (x : Fin 1) (j : Fin 1024) (k : Fin 1408) (C : Fin 2048) (L : Fin 5632)
    (hC : C.val = t.val / 4 % 2 * 1024 + j.val) (hL : L.val = t.val % 4 * 1408 + k.val) :
    blk cfg7 V c 1 t (ix3 x j k) = (V c (Proc.devRef .tc main_v3) : Mat 2048 5632) (ix3 0 C L) := by
  blk_ext [blk, index7 t]
  all_goals omega

theorem emb7_2 (t : Fin cfg7.N) (x : Fin 1) (i : Fin 1024) (j : Fin 1024) (R : Fin 4096) (C : Fin 2048)
    (hR : R.val = t.val / 8 * 1024 + i.val) (hC : C.val = t.val / 4 % 2 * 1024 + j.val) :
    (win7_2.blk t).view.emb (ix3 x i j) = ix3 0 R C := by
  blk_ext [index7 t]
  all_goals omega

theorem arr7 : (dat7 V c).arrAt 2 cfg7.N
    = nt (M := 4096) (K := 5632) (N := 2048) (V c (Proc.devRef .tc main_v36)) (V c (Proc.devRef .tc main_v3)) := by
  refine (dat7 V c).arrAt_eq_of_covers 2 _ (by decide +kernel) fun t hf y => ?_
  blk_simp
  have ht : t.val < 32 := Nat.lt_of_lt_of_eq t.isLt N_7
  obtain ⟨x, i, j, rfl⟩ : ∃ x i j, y = ix3 x i j := ⟨_, _, _, eq_ix3 (n0 := 1) (n1 := 1024) (n2 := 1024) y⟩
  rw [emb7_2 t x i j ⟨_, by omega⟩ ⟨_, by omega⟩ rfl rfl]
  exact fold_dot (J := 4) (by decide) (by decide) _ _ zero2_at (fun _ _ _ => pay5_at _ _ _ _) t ((flush7_2 t).1 hf) _ _ _
    (fun p k s hl h₁ h₂ => blk7_0 V c p 0 i k ⟨_, by omega⟩ ⟨_, hl⟩ (by dsimp only; omega) (by dsimp only; omega))
    (fun p k s hl h₁ h₂ => blk7_1 V c p 0 j k ⟨_, by omega⟩ ⟨_, hl⟩ (by dsimp only; omega) (by dsimp only; omega))

/-! ### Region 8: the input, transposed, by the gate branch's cotangent -/

theorem index8 : ∀ t : Fin cfg8.N, win8_0.index t = ![0, t.val % 2, t.val / 22] ∧ win8_1.index t = ![0, t.val % 2, t.val / 2 % 11]
    ∧ win8_2.index t = ![0, t.val / 22, t.val / 2 % 11] := (by decide +kernel : ∀ t : Fin grid8.N, _)

theorem blk8_0 (t : Fin cfg8.N) (x : Fin 1) (k : Fin 2048) (i : Fin 1024) (L : Fin 4096) (R : Fin 2048)
    (hL : L.val = t.val % 2 * 2048 + k.val) (hR : R.val = t.val / 22 * 1024 + i.val) :
    blk cfg8 V c 0 t (ix3 x k i) = (V c (Proc.devRef .tc main_v2) : Mat 4096 2048) (ix3 0 L R) := by
  blk_ext [blk, index8 t]
  all_goals omega

theorem blk8_1 (t : Fin cfg8.N) (x : Fin 1) (k : Fin 2048) (j : Fin 512) (L : Fin 4096) (C : Fin 5632)
    (hL : L.val = t.val % 2 * 2048 + k.val) (hC : C.val = t.val / 2 % 11 * 512 + j.val) :
    blk cfg8 V c 1 t (ix3 x k j) = (V c (Proc.devRef .tc main_v36) : Mat 4096 5632) (ix3 0 L C) := by
  blk_ext [blk, index8 t]
  all_goals omega

theorem emb8_2 (t : Fin cfg8.N) (x : Fin 1) (i : Fin 1024) (j : Fin 512) (R : Fin 2048) (C : Fin 5632)
    (hR : R.val = t.val / 22 * 1024 + i.val) (hC : C.val = t.val / 2 % 11 * 512 + j.val) :
    (win8_2.blk t).view.emb (ix3 x i j) = ix3 0 R C := by
  blk_ext [index8 t]
  all_goals omega

theorem arr8 : (dat8 V c).arrAt 2 cfg8.N
    = tn (M := 2048) (K := 4096) (N := 5632) (V c (Proc.devRef .tc main_v2)) (V c (Proc.devRef .tc main_v36)) := by
  refine (dat8 V c).arrAt_eq_of_covers 2 _ (by decide +kernel) fun t hf y => ?_
  blk_simp
  have ht : t.val < 44 := Nat.lt_of_lt_of_eq t.isLt N_8
  obtain ⟨x, i, j, rfl⟩ : ∃ x i j, y = ix3 x i j := ⟨_, _, _, eq_ix3 (n0 := 1) (n1 := 1024) (n2 := 512) y⟩
  rw [emb8_2 t x i j ⟨_, by omega⟩ ⟨_, by omega⟩ rfl rfl]
  exact fold_dot (J := 2) (by decide) (by decide) _ _ zero6_at (fun _ _ _ => pay6_at _ _ _ _) t ((flush8_2 t).1 hf) _ _ _
    (fun p k s hl h₁ h₂ => blk8_0 V c p 0 k i ⟨_, hl⟩ ⟨_, by omega⟩ (by dsimp only; omega) (by dsimp only; omega))
    (fun p k s hl h₁ h₂ => blk8_1 V c p 0 k j ⟨_, hl⟩ ⟨_, by omega⟩ (by dsimp only; omega) (by dsimp only; omega))

end Cert.Ffn
-- ==== Proof.FfnVal.lean ====
module

public import proofs.«01_k».proof.Proof.FfnRun
public import proofs.«01_k».proof.Proof.FfnHost
public import proofs.«01_k».proof.Proof.FfnArrays

/-!
# The feed-forward program's values

From the launch's memory, item by item: every call's array and every host stretch's result is the reference's value of
the five arguments.
-/

@[expose] public section

set_option maxRecDepth 16384
set_option maxHeartbeats 1000000

noncomputable section

namespace Cert.Ffn

open Cert.Kernel2Ideal Cert.Kernel2Ideal.Gen
open Idealize.ShloMosaic Idealize.ShloMosaic.TcCoe Idealize.ShloMosaic.Tactic

variable (m : (ℓ : Loc nD τ sig) → Buf (Elt Ideal) ℓ) (c : Dev nD)

/-! ### The arguments -/

abbrev aX : XT := m ((c.tc : Thread nD τ).loc main_arg0)
abbrev aG : UT := m ((c.tc : Thread nD τ).loc main_arg1)
abbrev aU : UT := m ((c.tc : Thread nD τ).loc main_arg2)
abbrev aD : DT := m ((c.tc : Thread nD τ).loc main_arg3)
abbrev aC : XT := m ((c.tc : Thread nD τ).loc main_arg4)

theorem w0_arg0 : w0 m c (Proc.devRef .tc main_arg0) = aX m c := rfl

theorem w0_arg1 : w0 m c (Proc.devRef .tc main_arg1) = aG m c := rfl

theorem w0_arg2 : w0 m c (Proc.devRef .tc main_arg2) = aU m c := rfl

theorem w0_arg3 : w0 m c (Proc.devRef .tc main_arg3) = aD m c := rfl

theorem w0_arg4 : w0 m c (Proc.devRef .tc main_arg4) = aC m c := rfl

theorem w1_v2 : w1 m c (Proc.devRef .tc main_v2) = rows (aX m c) := by
  refine (host0_v2 (w0 m c)).trans ?_
  rw [w0_arg0 m c]

theorem w1_v3 : w1 m c (Proc.devRef .tc main_v3) = matU (aG m c) := by
  refine (host0_v3 (w0 m c)).trans ?_
  rw [w0_arg1 m c]

theorem w2_v4 : w2 m c (Proc.devRef .tc main_v4) = nn (rows (aX m c)) (matU (aG m c)) := by
  refine ((Pipeline.afterRegion_arr (dat0 (w1 m) c) (w1 m c) winFacts0.arr_inj 2).trans (arr0 (w1 m) c)).trans ?_
  rw [w1_v2 m c, w1_v3 m c]

theorem w3_v5 : w3 m c (Proc.devRef .tc main_v5) = lin (aX m c) (aG m c) := by
  refine (host1_v5 (w2 m c)).trans ?_
  rw [w2_v4 m c]
  exact lin_eq _ _

theorem w4_v6_2 : w4 m c (Proc.devRef .tc main_v6_2) = sigm (lin (aX m c) (aG m c)) := by
  refine (host1_v6_2 (w3 m c)).trans ?_
  rw [w3_v5 m c]

theorem w4_v6_1 : w4 m c (Proc.devRef .tc main_v6_1) = dsigm (lin (aX m c) (aG m c)) := by
  refine (host1_v6_1 (w3 m c)).trans ?_
  rw [w3_v5 m c]

theorem w4_v6_0 : w4 m c (Proc.devRef .tc main_v6_0) = silu (lin (aX m c) (aG m c)) := by
  refine (host1_v6_0 (w3 m c)).trans ?_
  rw [w3_v5 m c]

theorem w5_v9 : w5 m c (Proc.devRef .tc main_v9) = rows (aX m c) := by
  refine (host1_v9 (w4 m c)).trans ?_
  rw [w4_keeps m c main_arg0 (by decide), w3_keeps m c main_arg0 (by decide), w2_keeps m c main_arg0 (by decide), w1_keeps m c main_arg0 (by decide), w0_arg0 m c]

theorem w5_v10 : w5 m c (Proc.devRef .tc main_v10) = matU (aU m c) := by
  refine (host1_v10 (w4 m c)).trans ?_
  rw [w4_keeps m c main_arg2 (by decide), w3_keeps m c main_arg2 (by decide), w2_keeps m c main_arg2 (by decide), w1_keeps m c main_arg2 (by decide), w0_arg2 m c]

theorem w6_v11 : w6 m c (Proc.devRef .tc main_v11) = nn (rows (aX m c)) (matU (aU m c)) := by
  refine ((Pipeline.afterRegion_arr (dat1 (w5 m) c) (w5 m c) winFacts1.arr_inj 2).trans (arr1 (w5 m) c)).trans ?_
  rw [w5_v9 m c, w5_v10 m c]

theorem w7_v12 : w7 m c (Proc.devRef .tc main_v12) = lin (aX m c) (aU m c) := by
  refine (host2_v12 (w6 m c)).trans ?_
  rw [w6_v11 m c]
  exact lin_eq _ _

theorem w7_v16 : w7 m c (Proc.devRef .tc main_v16) = rowsH (hidden (aX m c) (aG m c) (aU m c)) := by
  refine (host2_v16 (w6 m c)).trans ?_
  rw [w6_keeps m c main_v6_0 (by decide), w5_keeps m c main_v6_0 (by decide), w4_v6_0 m c, w6_v11 m c]
  rw [lin_eq]
  rfl

theorem w7_v17 : w7 m c (Proc.devRef .tc main_v17) = matD (aD m c) := by
  refine (host2_v17 (w6 m c)).trans ?_
  rw [w6_keeps m c main_arg3 (by decide), w5_keeps m c main_arg3 (by decide), w4_keeps m c main_arg3 (by decide), w3_keeps m c main_arg3 (by decide), w2_keeps m c main_arg3 (by decide), w1_keeps m c main_arg3 (by decide), w0_arg3 m c]

theorem w8_v18 : w8 m c (Proc.devRef .tc main_v18) = nn (rowsH (hidden (aX m c) (aG m c) (aU m c))) (matD (aD m c)) := by
  refine ((Pipeline.afterRegion_arr (dat2 (w7 m) c) (w7 m c) winFacts2.arr_inj 2).trans (arr2 (w7 m) c)).trans ?_
  rw [w7_v16 m c, w7_v17 m c]

theorem w9_v19 : w9 m c (Proc.devRef .tc main_v19) = down (hidden (aX m c) (aG m c) (aU m c)) (aD m c) := by
  refine (host3_v19 (w8 m c)).trans ?_
  rw [w8_v18 m c]
  exact down_eq _ _

theorem w9_v21 : w9 m c (Proc.devRef .tc main_v21) = rows (aC m c) := by
  refine (host3_v21 (w8 m c)).trans ?_
  rw [w8_keeps m c main_arg4 (by decide), w7_keeps m c main_arg4 (by decide), w6_keeps m c main_arg4 (by decide), w5_keeps m c main_arg4 (by decide), w4_keeps m c main_arg4 (by decide), w3_keeps m c main_arg4 (by decide), w2_keeps m c main_arg4 (by decide), w1_keeps m c main_arg4 (by decide), w0_arg4 m c]

theorem w10_v22 : w10 m c (Proc.devRef .tc main_v22) = nt (rows (aC m c)) (matD (aD m c)) := by
  refine ((Pipeline.afterRegion_arr (dat3 (w9 m) c) (w9 m c) winFacts3.arr_inj 2).trans (arr3 (w9 m) c)).trans ?_
  rw [w9_v21 m c, w9_keeps m c main_v17 (by decide), w8_keeps m c main_v17 (by decide), w7_v17 m c]

theorem w11_v23 : w11 m c (Proc.devRef .tc main_v23) = tn (rowsH (hidden (aX m c) (aG m c) (aU m c))) (rows (aC m c)) := by
  refine ((Pipeline.afterRegion_arr (dat4 (w10 m) c) (w10 m c) winFacts4.arr_inj 2).trans (arr4 (w10 m) c)).trans ?_
  rw [w10_keeps m c main_v16 (by decide), w9_keeps m c main_v16 (by decide), w8_keeps m c main_v16 (by decide), w7_v16 m c, w10_keeps m c main_v21 (by decide), w9_v21 m c]

theorem w12_v24 : w12 m c (Proc.devRef .tc main_v24) = gradDown (aC m c) (hidden (aX m c) (aG m c) (aU m c)) := by
  refine (host5_v24 (w11 m c)).trans ?_
  rw [w11_v23 m c]
  exact gradDown_eq _ _

theorem w12_v27 : w12 m c (Proc.devRef .tc main_v27) = dAct (aX m c) (aU m c) (aD m c) (aC m c) := by
  refine (host5_v27 (w11 m c)).trans ?_
  rw [w11_keeps m c main_v22 (by decide), w10_v22 m c, w11_keeps m c main_v12 (by decide), w10_keeps m c main_v12 (by decide), w9_keeps m c main_v12 (by decide), w8_keeps m c main_v12 (by decide), w7_v12 m c]
  rw [backDown_eq]
  rfl

theorem w12_v29 : w12 m c (Proc.devRef .tc main_v29) = rowsH (dUp (aX m c) (aG m c) (aD m c) (aC m c)) := by
  refine (host5_v29 (w11 m c)).trans ?_
  rw [w11_keeps m c main_v6_0 (by decide), w10_keeps m c main_v6_0 (by decide), w9_keeps m c main_v6_0 (by decide), w8_keeps m c main_v6_0 (by decide), w7_keeps m c main_v6_0 (by decide), w6_keeps m c main_v6_0 (by decide), w5_keeps m c main_v6_0 (by decide), w4_v6_0 m c, w11_keeps m c main_v22 (by decide), w10_v22 m c]
  rw [backDown_eq]
  rfl

theorem w13_v30 : w13 m c (Proc.devRef .tc main_v30) = nt (rowsH (dUp (aX m c) (aG m c) (aD m c) (aC m c))) (matU (aU m c)) := by
  refine ((Pipeline.afterRegion_arr (dat5 (w12 m) c) (w12 m c) winFacts5.arr_inj 2).trans (arr5 (w12 m) c)).trans ?_
  rw [w12_v29 m c, w12_keeps m c main_v10 (by decide), w11_keeps m c main_v10 (by decide), w10_keeps m c main_v10 (by decide), w9_keeps m c main_v10 (by decide), w8_keeps m c main_v10 (by decide), w7_keeps m c main_v10 (by decide), w6_keeps m c main_v10 (by decide), w5_v10 m c]

theorem w14_v31 : w14 m c (Proc.devRef .tc main_v31) = tn (rows (aX m c)) (rowsH (dUp (aX m c) (aG m c) (aD m c) (aC m c))) := by
  refine ((Pipeline.afterRegion_arr (dat6 (w13 m) c) (w13 m c) winFacts6.arr_inj 2).trans (arr6 (w13 m) c)).trans ?_
  rw [w13_keeps m c main_v9 (by decide), w12_keeps m c main_v9 (by decide), w11_keeps m c main_v9 (by decide), w10_keeps m c main_v9 (by decide), w9_keeps m c main_v9 (by decide), w8_keeps m c main_v9 (by decide), w7_keeps m c main_v9 (by decide), w6_keeps m c main_v9 (by decide), w5_v9 m c, w13_keeps m c main_v29 (by decide), w12_v29 m c]

theorem w15_v32 : w15 m c (Proc.devRef .tc main_v32) = gradLin (dUp (aX m c) (aG m c) (aD m c) (aC m c)) (aX m c) := by
  refine (host7_v32 (w14 m c)).trans ?_
  rw [w14_v31 m c]
  exact gradLin_eq _ _

theorem w15_v33 : w15 m c (Proc.devRef .tc main_v33) = backLin (dUp (aX m c) (aG m c) (aD m c) (aC m c)) (aU m c) := by
  refine (host7_v33 (w14 m c)).trans ?_
  rw [w14_keeps m c main_v30 (by decide), w13_v30 m c]
  exact backLin_eq _ _

theorem w16_v34 : w16 m c (Proc.devRef .tc main_v34) = dGate (aX m c) (aG m c) (aU m c) (aD m c) (aC m c) := by
  refine (host7_v34 (w15 m c)).trans ?_
  rw [w15_keeps m c main_v27 (by decide), w14_keeps m c main_v27 (by decide), w13_keeps m c main_v27 (by decide), w12_v27 m c, w15_keeps m c main_v6_2 (by decide), w14_keeps m c main_v6_2 (by decide), w13_keeps m c main_v6_2 (by decide), w12_keeps m c main_v6_2 (by decide), w11_keeps m c main_v6_2 (by decide), w10_keeps m c main_v6_2 (by decide), w9_keeps m c main_v6_2 (by decide), w8_keeps m c main_v6_2 (by decide), w7_keeps m c main_v6_2 (by decide), w6_keeps m c main_v6_2 (by decide), w5_keeps m c main_v6_2 (by decide), w4_v6_2 m c, w15_keeps m c main_v5 (by decide), w14_keeps m c main_v5 (by decide), w13_keeps m c main_v5 (by decide), w12_keeps m c main_v5 (by decide), w11_keeps m c main_v5 (by decide), w10_keeps m c main_v5 (by decide), w9_keeps m c main_v5 (by decide), w8_keeps m c main_v5 (by decide), w7_keeps m c main_v5 (by decide), w6_keeps m c main_v5 (by decide), w5_keeps m c main_v5 (by decide), w4_keeps m c main_v5 (by decide), w3_v5 m c, w15_keeps m c main_v6_1 (by decide), w14_keeps m c main_v6_1 (by decide), w13_keeps m c main_v6_1 (by decide), w12_keeps m c main_v6_1 (by decide), w11_keeps m c main_v6_1 (by decide), w10_keeps m c main_v6_1 (by decide), w9_keeps m c main_v6_1 (by decide), w8_keeps m c main_v6_1 (by decide), w7_keeps m c main_v6_1 (by decide), w6_keeps m c main_v6_1 (by decide), w5_keeps m c main_v6_1 (by decide), w4_v6_1 m c]
  rfl

theorem w17_v36 : w17 m c (Proc.devRef .tc main_v36) = rowsH (dGate (aX m c) (aG m c) (aU m c) (aD m c) (aC m c)) := by
  refine (host7_v36 (w16 m c)).trans ?_
  rw [w16_v34 m c]

theorem w18_v37 : w18 m c (Proc.devRef .tc main_v37) = nt (rowsH (dGate (aX m c) (aG m c) (aU m c) (aD m c) (aC m c))) (matU (aG m c)) := by
  refine ((Pipeline.afterRegion_arr (dat7 (w17 m) c) (w17 m c) winFacts7.arr_inj 2).trans (arr7 (w17 m) c)).trans ?_
  rw [w17_v36 m c, w17_keeps m c main_v3 (by decide), w16_keeps m c main_v3 (by decide), w15_keeps m c main_v3 (by decide), w14_keeps m c main_v3 (by decide), w13_keeps m c main_v3 (by decide), w12_keeps m c main_v3 (by decide), w11_keeps m c main_v3 (by decide), w10_keeps m c main_v3 (by decide), w9_keeps m c main_v3 (by decide), w8_keeps m c main_v3 (by decide), w7_keeps m c main_v3 (by decide), w6_keeps m c main_v3 (by decide), w5_keeps m c main_v3 (by decide), w4_keeps m c main_v3 (by decide), w3_keeps m c main_v3 (by decide), w2_keeps m c main_v3 (by decide), w1_v3 m c]

theorem w19_v38 : w19 m c (Proc.devRef .tc main_v38) = tn (rows (aX m c)) (rowsH (dGate (aX m c) (aG m c) (aU m c) (aD m c) (aC m c))) := by
  refine ((Pipeline.afterRegion_arr (dat8 (w18 m) c) (w18 m c) winFacts8.arr_inj 2).trans (arr8 (w18 m) c)).trans ?_
  rw [w18_keeps m c main_v2 (by decide), w17_keeps m c main_v2 (by decide), w16_keeps m c main_v2 (by decide), w15_keeps m c main_v2 (by decide), w14_keeps m c main_v2 (by decide), w13_keeps m c main_v2 (by decide), w12_keeps m c main_v2 (by decide), w11_keeps m c main_v2 (by decide), w10_keeps m c main_v2 (by decide), w9_keeps m c main_v2 (by decide), w8_keeps m c main_v2 (by decide), w7_keeps m c main_v2 (by decide), w6_keeps m c main_v2 (by decide), w5_keeps m c main_v2 (by decide), w4_keeps m c main_v2 (by decide), w3_keeps m c main_v2 (by decide), w2_keeps m c main_v2 (by decide), w1_v2 m c, w18_keeps m c main_v36 (by decide), w17_v36 m c]

theorem w20_v39 : w20 m c (Proc.devRef .tc main_v39) = gradLin (dGate (aX m c) (aG m c) (aU m c) (aD m c) (aC m c)) (aX m c) := by
  refine (host9_v39 (w19 m c)).trans ?_
  rw [w19_v38 m c]
  exact gradLin_eq _ _

theorem w20_v41 : w20 m c (Proc.devRef .tc main_v41) = dIn (aX m c) (aG m c) (aU m c) (aD m c) (aC m c) := by
  refine (host9_v41 (w19 m c)).trans ?_
  rw [w19_keeps m c main_v33 (by decide), w18_keeps m c main_v33 (by decide), w17_keeps m c main_v33 (by decide), w16_keeps m c main_v33 (by decide), w15_v33 m c, w19_keeps m c main_v37 (by decide), w18_v37 m c]
  rw [backLin_eq]
  rfl

theorem end_v19 : w20 m c (Proc.devRef .tc main_v19) = down (hidden (aX m c) (aG m c) (aU m c)) (aD m c) := by
  rw [w20_keeps m c main_v19 (by decide), w19_keeps m c main_v19 (by decide), w18_keeps m c main_v19 (by decide), w17_keeps m c main_v19 (by decide), w16_keeps m c main_v19 (by decide), w15_keeps m c main_v19 (by decide), w14_keeps m c main_v19 (by decide), w13_keeps m c main_v19 (by decide), w12_keeps m c main_v19 (by decide), w11_keeps m c main_v19 (by decide), w10_keeps m c main_v19 (by decide), w9_v19 m c]

theorem end_v32 : w20 m c (Proc.devRef .tc main_v32) = gradLin (dUp (aX m c) (aG m c) (aD m c) (aC m c)) (aX m c) := by
  rw [w20_keeps m c main_v32 (by decide), w19_keeps m c main_v32 (by decide), w18_keeps m c main_v32 (by decide), w17_keeps m c main_v32 (by decide), w16_keeps m c main_v32 (by decide), w15_v32 m c]

theorem end_v24 : w20 m c (Proc.devRef .tc main_v24) = gradDown (aC m c) (hidden (aX m c) (aG m c) (aU m c)) := by
  rw [w20_keeps m c main_v24 (by decide), w19_keeps m c main_v24 (by decide), w18_keeps m c main_v24 (by decide), w17_keeps m c main_v24 (by decide), w16_keeps m c main_v24 (by decide), w15_keeps m c main_v24 (by decide), w14_keeps m c main_v24 (by decide), w13_keeps m c main_v24 (by decide), w12_v24 m c]

end Cert.Ffn
-- ==== Proof.FfnSameA.lean ====
module

public import proofs.«01_k».proof.Proof.Gen.Kernel2
public import proofs.«01_k».proof.Proof.Gen.Kernel2Ideal
public import Idealize.ShloMosaic.PureOps.BitExact

/-! # The bodies of regions 0, 1 and 3 of the feed-forward program are the same in its two printings -/

@[expose] public section

set_option maxHeartbeats 20000000

noncomputable section

namespace Cert.Ffn

open Idealize.ShloMosaic

theorem same_0 : @Cert.Kernel2.cc0_bmm_nn Bits _ _ = @Cert.Kernel2Ideal.cc0_bmm_nn Bits _ _ := rfl
theorem same_1 : @Cert.Kernel2.cc1_bmm_nn Bits _ _ = @Cert.Kernel2Ideal.cc1_bmm_nn Bits _ _ := rfl
theorem same_3 : @Cert.Kernel2.cc3_bmm_nt Bits _ _ = @Cert.Kernel2Ideal.cc3_bmm_nt Bits _ _ := rfl

end Cert.Ffn
-- ==== Proof.FfnSameB.lean ====
module

public import proofs.«01_k».proof.Proof.Gen.Kernel2
public import proofs.«01_k».proof.Proof.Gen.Kernel2Ideal
public import Idealize.ShloMosaic.PureOps.BitExact

/-! # The bodies of regions 2, 4 and 5 of the feed-forward program are the same in its two printings -/

@[expose] public section

set_option maxHeartbeats 20000000

noncomputable section

namespace Cert.Ffn

open Idealize.ShloMosaic

theorem same_2 : @Cert.Kernel2.cc2_bmm_nn Bits _ _ = @Cert.Kernel2Ideal.cc2_bmm_nn Bits _ _ := rfl
theorem same_4 : @Cert.Kernel2.cc4_bmm_tn Bits _ _ = @Cert.Kernel2Ideal.cc4_bmm_tn Bits _ _ := rfl
theorem same_5 : @Cert.Kernel2.cc5_bmm_nt Bits _ _ = @Cert.Kernel2Ideal.cc5_bmm_nt Bits _ _ := rfl

end Cert.Ffn
-- ==== Proof.FfnSameC.lean ====
module

public import proofs.«01_k».proof.Proof.Gen.Kernel2
public import proofs.«01_k».proof.Proof.Gen.Kernel2Ideal
public import Idealize.ShloMosaic.PureOps.BitExact

/-! # The bodies of regions 6, 7 and 8 of the feed-forward program are the same in its two printings -/

@[expose] public section

set_option maxHeartbeats 20000000

noncomputable section

namespace Cert.Ffn

open Idealize.ShloMosaic

theorem same_6 : @Cert.Kernel2.cc6_bmm_tn Bits _ _ = @Cert.Kernel2Ideal.cc6_bmm_tn Bits _ _ := rfl
theorem same_7 : @Cert.Kernel2.cc7_bmm_nt Bits _ _ = @Cert.Kernel2Ideal.cc7_bmm_nt Bits _ _ := rfl
theorem same_8 : @Cert.Kernel2.cc8_bmm_tn Bits _ _ = @Cert.Kernel2Ideal.cc8_bmm_tn Bits _ _ := rfl

end Cert.Ffn
-- ==== Proof.FfnSame.lean ====
module

public import proofs.«01_k».proof.Proof.Gen.Kernel2
public import proofs.«01_k».proof.Proof.Gen.Kernel2Ideal
public import proofs.«01_k».proof.Proof.FfnSameA
public import proofs.«01_k».proof.Proof.FfnSameB
public import proofs.«01_k».proof.Proof.FfnSameC

/-! The feed-forward program is printed twice, once for the frame over bits and once for the idealized claims, and the two
printings are the same program. -/

@[expose] public section

set_option maxHeartbeats 20000000

noncomputable section

namespace Cert.Ffn

open Idealize.ShloMosaic Idealize.ShloMosaic.TcCoe Idealize.SL.Sem

/-- Equal bodies of three operands, at equal operands. -/
theorem same3 {I A B C : Type} {R : Type 1} {PA : A → Prop} {PB : B → Prop} {PC : C → Prop}
    {f g : I → (a : A) → PA a → (b : B) → PB b → (c : C) → PC c → R} (h : f = g)
    (i i' : I) (a a' : A) (ha ha') (b b' : B) (hb hb') (c c' : C) (hc hc') (ei : i = i') (ea : a = a') (eb : b = b') (ec : c = c') :
    f i a ha b hb c hc = g i' a' ha' b' hb' c' hc' := by
  subst h ei ea eb ec; rfl

/-- Equal bodies of four operands, at equal operands. -/
theorem same4 {I A B C D : Type} {R : Type 1} {PA : A → Prop} {PB : B → Prop} {PC : C → Prop} {PD : D → Prop}
    {f g : I → (a : A) → PA a → (b : B) → PB b → (c : C) → PC c → (d : D) → PD d → R} (h : f = g)
    (i i' : I) (a a' : A) (ha ha') (b b' : B) (hb hb') (c c' : C) (hc hc') (d d' : D) (hd hd')
    (ei : i = i') (ea : a = a') (eb : b = b') (ec : c = c') (ed : d = d') :
    f i a ha b hb c hc d hd = g i' a' ha' b' hb' c' hc' d' hd' := by
  subst h ei ea eb ec ed; rfl

theorem bodies_same : Cert.Kernel2.defs₀ (F := Bits) = Cert.Kernel2Ideal.defs₀ (F := Bits) := by
  unfold Cert.Kernel2.defs₀ Cert.Kernel2Ideal.defs₀
  refine congrArg (Defs.onTc (nD := Cert.Kernel2Ideal.nD) (τ := Cert.Kernel2Ideal.τ) (sig := Cert.Kernel2Ideal.sig)
    (Val := Elt Bits)) (funext fun l => funext fun x => ?_)
  match l, x with
  | ⟨0, _⟩, (t, s) =>
    exact same3 same_0 _ _ _ _ _ _ _ _ _ _ _ _ _ _ rfl rfl rfl rfl
  | ⟨1, _⟩, (t, s) =>
    exact same3 same_1 _ _ _ _ _ _ _ _ _ _ _ _ _ _ rfl rfl rfl rfl
  | ⟨2, _⟩, (t, s) =>
    exact same4 same_2 _ _ _ _ _ _ _ _ _ _ _ _ _ _ _ _ _ _ rfl rfl rfl rfl rfl
  | ⟨3, _⟩, (t, s) =>
    exact same3 same_3 _ _ _ _ _ _ _ _ _ _ _ _ _ _ rfl rfl rfl rfl
  | ⟨4, _⟩, (t, s) =>
    exact same4 same_4 _ _ _ _ _ _ _ _ _ _ _ _ _ _ _ _ _ _ rfl rfl rfl rfl rfl
  | ⟨5, _⟩, (t, s) =>
    exact same4 same_5 _ _ _ _ _ _ _ _ _ _ _ _ _ _ _ _ _ _ rfl rfl rfl rfl rfl
  | ⟨6, _⟩, (t, s) =>
    exact same4 same_6 _ _ _ _ _ _ _ _ _ _ _ _ _ _ _ _ _ _ rfl rfl rfl rfl rfl
  | ⟨7, _⟩, (t, s) =>
    exact same4 same_7 _ _ _ _ _ _ _ _ _ _ _ _ _ _ _ _ _ _ rfl rfl rfl rfl rfl
  | ⟨8, _⟩, (t, s) =>
    exact same4 same_8 _ _ _ _ _ _ _ _ _ _ _ _ _ _ _ _ _ _ rfl rfl rfl rfl rfl
  | ⟨_ + 9, h⟩, _ => exact absurd h (Nat.not_lt.2 (Nat.le_add_left _ _))

theorem defs_same : Cert.Kernel2.defs (F := Bits) = Cert.Kernel2Ideal.defs (F := Bits) :=
  congrArg (Pipeline.defs (Cert.Kernel2Ideal.pcfgs (F := Bits))) bodies_same

end Cert.Ffn
-- ==== Proof.FfnClaim.lean ====
module

public import proofs.«01_k».proof.Defs
public import proofs.«01_k».proof.Proof.FfnVal
public import proofs.«01_k».proof.Proof.FfnSame
public import proofs.«01_k».proof.Proof.Gen.Reference2Ideal.Run

/-!
# The feed-forward layer's claims over the extended reals

The frames of the kernel's and the reference's programs, and the equality of their five results.
-/

@[expose] public section

set_option maxRecDepth 16384
set_option maxHeartbeats 1000000

noncomputable section

namespace Cert.Ffn

open Idealize.ShloMosaic Idealize.ShloMosaic.TcCoe Idealize.SL.Sem

/-- Over the extended reals the kernel ends every run with its arguments as launched and every counter at zero. -/
theorem frame_kernel2Ideal : Cert.quiescent_Kernel2Ideal := fun m ρ _ => run_main (F := Ideal) m ρ

/-- The kernel as printed is the same program, so its run is the same run. -/
theorem frame_kernel2 : Cert.quiescent_Kernel2 := fun m ρ _ => by
  have h := run_main (F := Bits) m ρ
  rw [← defs_same] at h
  exact h

theorem no_sems : ∀ s : SemLoc Cert.Reference2Ideal.sig, False := by decide

/-- The same of the reference, which has no counters. -/
theorem frame_reference2Ideal : Cert.quiescent_Reference2Ideal := fun m ρ _ =>
  (θ_run _ _ _).mono (fun _ h => ⟨fun c => (h c).2.2.2.2.2, funext fun g => (no_sems g.2).elim⟩)
    (Cert.Reference2Ideal.Value.run (F := Ideal) m ρ)

section
open Cert.Reference2Ideal
variable (m : (ℓ : Loc nD τ sig) → Buf (Elt Ideal) ℓ) (c : Dev nD)

/-! ### The reference's arguments -/

abbrev bX : XT := m ((c.tc : Thread nD τ).loc main_arg0)
abbrev bG : UT := m ((c.tc : Thread nD τ).loc main_arg1)
abbrev bU : UT := m ((c.tc : Thread nD τ).loc main_arg2)
abbrev bD : DT := m ((c.tc : Thread nD τ).loc main_arg3)
abbrev bC : XT := m ((c.tc : Thread nD τ).loc main_arg4)

/-- The reference's run, its results by name. -/
theorem ref_run (ρ : Dev nD → PrngReg) :
    θ_run defs (onTc (τ := τ) (main (F := Ideal))) ⟨m, fun _ => 0, ρ⟩ fun r => ∀ c : Dev nD,
      r.2.mem ((c.tc : Thread nD τ).loc main_v4) = down (hidden (bX m c) (bG m c) (bU m c)) (bD m c)
      ∧ r.2.mem ((c.tc : Thread nD τ).loc main_v17) = dIn (bX m c) (bG m c) (bU m c) (bD m c) (bC m c)
      ∧ r.2.mem ((c.tc : Thread nD τ).loc main_v15) = gradLin (dGate (bX m c) (bG m c) (bU m c) (bD m c) (bC m c)) (bX m c)
      ∧ r.2.mem ((c.tc : Thread nD τ).loc main_v11) = gradLin (dUp (bX m c) (bG m c) (bD m c) (bC m c)) (bX m c)
      ∧ r.2.mem ((c.tc : Thread nD τ).loc main_v6) = gradDown (bC m c) (hidden (bX m c) (bG m c) (bU m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => by
    obtain ⟨h0, h1, h2, h3, h4, hk⟩ := h c
    exact ⟨h0, h1, h2, h3, h4, hk⟩) (Value.run (F := Ideal) m ρ)
end

/-- Over the extended reals the kernel and the reference leave equal results from equal arguments. -/
theorem algebraic2 : Cert.algebraic_Kernel2Ideal_Reference2Ideal := by
  intro m g m' g' _ hargs
  refine ⟨fun c => down (hidden (aX m c) (aG m c) (aU m c)) (aD m c), fun c => dIn (aX m c) (aG m c) (aU m c) (aD m c) (aC m c),
    fun c => gradLin (dGate (aX m c) (aG m c) (aU m c) (aD m c) (aC m c)) (aX m c),
    fun c => gradLin (dUp (aX m c) (aG m c) (aD m c) (aC m c)) (aX m c),
    fun c => gradDown (aC m c) (hidden (aX m c) (aG m c) (aU m c)), ?_, ?_⟩
  · refine (θ_run _ _ _).mono (fun r h c => ?_) (run_all (F := Ideal) m g)
    have k := fun (b : Ref Kernel2Ideal.sig .tc) (hb : b.isScoped = false) => h.1 c _ (uc b hb)
    exact ⟨(k Kernel2Ideal.main_v19 rfl).trans (end_v19 m c), (k Kernel2Ideal.main_v41 rfl).trans (w20_v41 m c),
      (k Kernel2Ideal.main_v39 rfl).trans (w20_v39 m c), (k Kernel2Ideal.main_v32 rfl).trans (end_v32 m c),
      (k Kernel2Ideal.main_v24 rfl).trans (end_v24 m c),
      (k Kernel2Ideal.main_arg0 rfl).trans (end_keeps m c _ kept0), (k Kernel2Ideal.main_arg1 rfl).trans (end_keeps m c _ kept1),
      (k Kernel2Ideal.main_arg2 rfl).trans (end_keeps m c _ kept2), (k Kernel2Ideal.main_arg3 rfl).trans (end_keeps m c _ kept3),
      (k Kernel2Ideal.main_arg4 rfl).trans (end_keeps m c _ kept4)⟩
  · refine (θ_run _ _ _).mono (fun r h c => ?_) (ref_run m' g')
    obtain ⟨e0, e1, e2, e3, e4⟩ := hargs c
    have q0 : bX m' c = aX m c := e0
    have q1 : bG m' c = aG m c := e1
    have q2 : bU m' c = aU m c := e2
    have q3 : bD m' c = aD m c := e3
    have q4 : bC m' c = aC m c := e4
    obtain ⟨h0, h1, h2, h3, h4, hk⟩ := h c
    refine ⟨h0.trans ?_, h1.trans ?_, h2.trans ?_, h3.trans ?_, h4.trans ?_, hk⟩
    all_goals simp only [q0, q1, q2, q3, q4]

end Cert.Ffn
-- ==== Proof.ProjRegions.lean ====
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Region

/-!
# The six products of the projections

Two projections of the same rows: by a square matrix (regions 0, 2 and 3) and by the wide one (regions 1, 4 and 5). Each
region is an instance of `once_ok` or `fold_ok`.
-/

@[expose] public section

set_option maxRecDepth 16384

noncomputable section

namespace Cert.Proj

open Cert.Kernel3Ideal Cert.Kernel3Ideal.Gen
open Cert.Ffn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : Dev nD → Valuation τ sig (Elt F))

/-! ### Region 0: the rows by the square matrix -/

def after0 (c : Dev nD) : (w : Fin cfg0.W) → Fin cfg0.N → (cfg0.win w).block.Idx → Elt F (cfg0.win w).elt
  | ⟨0, _⟩, t => blk cfg0 V c 0 t
  | ⟨1, _⟩, t => blk cfg0 V c 1 t
  | ⟨2, _⟩, t => k0_pay1 (blk cfg0 V c 0 t) (blk cfg0 V c 1 t)

abbrev dat0 (c : Dev nD) : Dat τ (Elt F) Unit ℕ (UR sig nD τ) ℕ cfg0 c := onceDat (after0 V) V c

theorem row0 (t : Fin cfg0.N) : defs₀ (F := F) .tc cfg0.body (cfg0.bodyArgs t (cfg0.slots t))
    = onceBody ⟨![0, 0, 0], inb_S1x1024x2048_S1x1024x2048_0_0_0, h_S1x1024x2048⟩ ⟨![0, 0, 0], inb_S1x2048x1024_S1x2048x1024_0_0_0, h_S1x2048x1024⟩
        ⟨![0, 0, 0], inb_S1x1024x1024_S1x1024x1024_0_0_0, h_S1x1024x1024⟩ k0_pay1 (st0_0 t) (st0_1 t) (st0_2 t) := by
  unfold defs₀; rw [Defs.onTc_tc]; show bodyAt0 t = _; simp only [bodyAt0, cc0_bmm_nn_eq_skeleton]; rfl

theorem ok0 : RegionOk (defs₀ (F := F)) cfg0 (dat0 V) V :=
  once_ok (after0 V) 0 1 2 bigSep_W0 (fun _ => ⟨rfl, fun _ => rfl, fun _ _ _ => rfl, fun _ => rfl, fun _ _ => rfl⟩)
    (fun _ => ⟨rfl, fun _ => rfl, fun _ _ _ => rfl, fun _ => rfl, fun _ _ => rfl⟩) (fun _ => rfl) fun c t d Q => by
      rw [row0]
      exact once_triple _ _ _ c k0_pay1 _ (stage_whole0 0 _) _ (stage_whole0 1 _) _ (stage_whole0 2 _) _ _ d Q

/-! ### Region 1: the rows by the wide matrix -/

def after1 (c : Dev nD) : (w : Fin cfg1.W) → Fin cfg1.N → (cfg1.win w).block.Idx → Elt F (cfg1.win w).elt
  | ⟨0, _⟩, t => blk cfg1 V c 0 t
  | ⟨1, _⟩, t => blk cfg1 V c 1 t
  | ⟨2, _⟩, t => k1_pay1 (blk cfg1 V c 0 t) (blk cfg1 V c 1 t)

abbrev dat1 (c : Dev nD) : Dat τ (Elt F) Unit ℕ (UR sig nD τ) ℕ cfg1 c := onceDat (after1 V) V c

theorem row1 (t : Fin cfg1.N) : defs₀ (F := F) .tc cfg1.body (cfg1.bodyArgs t (cfg1.slots t))
    = onceBody ⟨![0, 0, 0], inb_S1x1024x2048_S1x1024x2048_0_0_0, h_S1x1024x2048⟩ ⟨![0, 0, 0], inb_S1x2048x512_S1x2048x512_0_0_0, h_S1x2048x512⟩
        ⟨![0, 0, 0], inb_S1x1024x512_S1x1024x512_0_0_0, h_S1x1024x512⟩ k1_pay1 (st1_0 t) (st1_1 t) (st1_2 t) := by
  unfold defs₀; rw [Defs.onTc_tc]; show bodyAt1 t = _; simp only [bodyAt1, cc1_bmm_nn_eq_skeleton]; rfl

theorem ok1 : RegionOk (defs₀ (F := F)) cfg1 (dat1 V) V :=
  once_ok (after1 V) 0 1 2 bigSep_W1 (fun _ => ⟨rfl, fun _ => rfl, fun _ _ _ => rfl, fun _ => rfl, fun _ _ => rfl⟩)
    (fun _ => ⟨rfl, fun _ => rfl, fun _ _ _ => rfl, fun _ => rfl, fun _ _ => rfl⟩) (fun _ => rfl) fun c t d Q => by
      rw [row1]
      exact once_triple _ _ _ c k1_pay1 _ (stage_whole1 0 _) _ (stage_whole1 1 _) _ (stage_whole1 2 _) _ _ d Q

/-! ### Region 2: the square projection's cotangent by its matrix, transposed -/

def after2 (c : Dev nD) : (w : Fin cfg2.W) → Fin cfg2.N → (cfg2.win w).block.Idx → Elt F (cfg2.win w).elt
  | ⟨0, _⟩, t => blk cfg2 V c 0 t
  | ⟨1, _⟩, t => blk cfg2 V c 1 t
  | ⟨2, _⟩, t => k2_pay1 (blk cfg2 V c 0 t) (blk cfg2 V c 1 t)

abbrev dat2 (c : Dev nD) : Dat τ (Elt F) Unit ℕ (UR sig nD τ) ℕ cfg2 c := onceDat (after2 V) V c

theorem row2 (t : Fin cfg2.N) : defs₀ (F := F) .tc cfg2.body (cfg2.bodyArgs t (cfg2.slots t))
    = onceBody ⟨![0, 0, 0], inb_S1x1024x2048_S1x1024x2048_0_0_0, h_S1x1024x2048⟩ ⟨![0, 0, 0], inb_S1x1024x2048_S1x1024x2048_0_0_0, h_S1x1024x2048⟩
        ⟨![0, 0, 0], inb_S1x1024x1024_S1x1024x1024_0_0_0, h_S1x1024x1024⟩ k2_pay1 (st2_0 t) (st2_1 t) (st2_2 t) := by
  unfold defs₀; rw [Defs.onTc_tc]; show bodyAt2 t = _; simp only [bodyAt2, cc2_bmm_nt_eq_skeleton]; rfl

theorem ok2 : RegionOk (defs₀ (F := F)) cfg2 (dat2 V) V :=
  once_ok (after2 V) 0 1 2 bigSep_W2 (fun _ => ⟨rfl, fun _ => rfl, fun _ _ _ => rfl, fun _ => rfl, fun _ _ => rfl⟩)
    (fun _ => ⟨rfl, fun _ => rfl, fun _ _ _ => rfl, fun _ => rfl, fun _ _ => rfl⟩) (fun _ => rfl) fun c t d Q => by
      rw [row2]
      exact once_triple _ _ _ c k2_pay1 _ (stage_whole2 0 _) _ (stage_whole2 1 _) _ (stage_whole2 2 _) _ _ d Q

/-! ### Region 3: the rows, transposed, by the square projection's cotangent, in two blocks of the contraction -/

def step3 (c : Dev nD) (t : Fin cfg3.N) (x : Vec F S1x1024x1024 .f32) : Vec F S1x1024x1024 .f32 :=
  k3_pay2 x (blk cfg3 V c 0 t) (blk cfg3 V c 1 t)

def after3 (c : Dev nD) : (w : Fin cfg3.W) → Fin cfg3.N → (cfg3.win w).block.Idx → Elt F (cfg3.win w).elt
  | ⟨0, _⟩, t => blk cfg3 V c 0 t
  | ⟨1, _⟩, t => blk cfg3 V c 1 t
  | ⟨2, _⟩, t => fold 2 k3_pay1 (stepAt (step3 V c)) (t.val + 1)

abbrev scr3 : Memref sig .tc .vmem S1x1024x1024 .f32 := Memref.whole cc3_scratch0

abbrev dat3 (c : Dev nD) : Dat τ (Elt F) Unit ℕ (UR sig nD τ) ℕ cfg3 c :=
  foldDat (after3 V) scr3 (fun c => Pipeline.scopedRestBut spec3 c [cc3_scratch0]) 2 k3_pay1 (step3 V) V c

theorem row3 (t : Fin cfg3.N) : defs₀ (F := F) .tc cfg3.body (cfg3.bodyArgs t (cfg3.slots t))
    = foldBody ⟨![0, 0, 0], inb_S1x2048x1024_S1x2048x1024_0_0_0, h_S1x2048x1024⟩ ⟨![0, 0, 0], inb_S1x2048x1024_S1x2048x1024_0_0_0, h_S1x2048x1024⟩
        ⟨![0, 0, 0], inb_S1x1024x1024_S1x1024x1024_0_0_0, h_S1x1024x1024⟩
        (Scalar.cmpi .ne (Scalar.extui (Scalar.cmpi .eq (BitVec.ofNat 32 (grid3.coords t 3).val) 0#32)) 0#32) (k3_cond2 (grid3.coords t))
        k3_pay1 k3_pay2 (st3_0 t) (st3_1 t) (st3_2 t) scr3 := by
  unfold defs₀; rw [Defs.onTc_tc]; show bodyAt3 t = _; simp only [bodyAt3, cc3_bmm_tn_eq_skeleton]; rfl

theorem ok3 : RegionOk (defs₀ (F := F)) cfg3 (dat3 V) V :=
  fold_ok (after3 V) 0 1 2 bigSep_W3 scr3 _ 2 k3_pay1 (step3 V) id (fun c => scratch_split spec3 c cc3_scratch0 (by decide))
    (fun _ => ⟨rfl, fun _ => rfl, fun _ _ _ => rfl, fun _ => rfl, fun _ _ => rfl⟩)
    (fun _ => ⟨rfl, fun _ => rfl, fun _ _ _ => rfl, fun _ => rfl, fun _ _ => rfl⟩) _ _
    (fun t => axis_test (G := grid3) t 3 0 (by decide) rfl (by decide) (by decide))
    (fun t => axis_test (G := grid3) t 3 1 (by decide) rfl (by decide) (by decide))
    (fun _ => rfl) flush3_2 (fun _ _ => rfl) fun c t d x Q => by
      rw [row3]
      exact fold_triple _ _ _ c _ _ k3_pay1 k3_pay2 _ (stage_whole3 0 _) _ (stage_whole3 1 _) _ (stage_whole3 2 _) _ (Memref.isWhole_whole _)
        _ _ d x Q

/-! ### Region 4: the wide projection's cotangent by its matrix, transposed, in four blocks of the contraction -/

def step4 (c : Dev nD) (t : Fin cfg4.N) (x : Vec F S1x1024x1024 .f32) : Vec F S1x1024x1024 .f32 :=
  k4_pay2 x (blk cfg4 V c 0 t) (blk cfg4 V c 1 t)

def after4 (c : Dev nD) : (w : Fin cfg4.W) → Fin cfg4.N → (cfg4.win w).block.Idx → Elt F (cfg4.win w).elt
  | ⟨0, _⟩, t => blk cfg4 V c 0 t
  | ⟨1, _⟩, t => blk cfg4 V c 1 t
  | ⟨2, _⟩, t => fold 4 k4_pay1 (stepAt (step4 V c)) (t.val + 1)

abbrev scr4 : Memref sig .tc .vmem S1x1024x1024 .f32 := Memref.whole cc4_scratch0

abbrev dat4 (c : Dev nD) : Dat τ (Elt F) Unit ℕ (UR sig nD τ) ℕ cfg4 c :=
  foldDat (after4 V) scr4 (fun c => Pipeline.scopedRestBut spec4 c [cc4_scratch0]) 4 k4_pay1 (step4 V) V c

theorem row4 (t : Fin cfg4.N) : defs₀ (F := F) .tc cfg4.body (cfg4.bodyArgs t (cfg4.slots t))
    = foldBody ⟨![0, 0, 0], inb_S1x1024x1664_S1x1024x1664_0_0_0, h_S1x1024x1664⟩ ⟨![0, 0, 0], inb_S1x1024x1664_S1x1024x1664_0_0_0, h_S1x1024x1664⟩
        ⟨![0, 0, 0], inb_S1x1024x1024_S1x1024x1024_0_0_0, h_S1x1024x1024⟩
        (Scalar.cmpi .ne (Scalar.extui (Scalar.cmpi .eq (BitVec.ofNat 32 (grid4.coords t 3).val) 0#32)) 0#32) (k4_cond2 (grid4.coords t))
        k4_pay1 k4_pay2 (st4_0 t) (st4_1 t) (st4_2 t) scr4 := by
  unfold defs₀; rw [Defs.onTc_tc]; show bodyAt4 t = _; simp only [bodyAt4, cc4_bmm_nt_eq_skeleton]; rfl

theorem ok4 : RegionOk (defs₀ (F := F)) cfg4 (dat4 V) V :=
  fold_ok (after4 V) 0 1 2 bigSep_W4 scr4 _ 4 k4_pay1 (step4 V) id (fun c => scratch_split spec4 c cc4_scratch0 (by decide))
    (fun _ => ⟨rfl, fun _ => rfl, fun _ _ _ => rfl, fun _ => rfl, fun _ _ => rfl⟩)
    (fun _ => ⟨rfl, fun _ => rfl, fun _ _ _ => rfl, fun _ => rfl, fun _ _ => rfl⟩) _ _
    (fun t => axis_test (G := grid4) t 3 0 (by decide) rfl (by decide) (by decide))
    (fun t => axis_test (G := grid4) t 3 3 (by decide) rfl (by decide) (by decide))
    (fun _ => rfl) flush4_2 (fun _ _ => rfl) fun c t d x Q => by
      rw [row4]
      exact fold_triple _ _ _ c _ _ k4_pay1 k4_pay2 _ (stage_whole4 0 _) _ (stage_whole4 1 _) _ (stage_whole4 2 _) _ (Memref.isWhole_whole _)
        _ _ d x Q

/-! ### Region 5: the rows, transposed, by the wide projection's cotangent, in two blocks of the contraction -/

def step5 (c : Dev nD) (t : Fin cfg5.N) (x : Vec F S1x1024x512 .f32) : Vec F S1x1024x512 .f32 :=
  k5_pay2 x (blk cfg5 V c 0 t) (blk cfg5 V c 1 t)

def after5 (c : Dev nD) : (w : Fin cfg5.W) → Fin cfg5.N → (cfg5.win w).block.Idx → Elt F (cfg5.win w).elt
  | ⟨0, _⟩, t => blk cfg5 V c 0 t
  | ⟨1, _⟩, t => blk cfg5 V c 1 t
  | ⟨2, _⟩, t => fold 2 k5_pay1 (stepAt (step5 V c)) (t.val + 1)

abbrev scr5 : Memref sig .tc .vmem S1x1024x512 .f32 := Memref.whole cc5_scratch0

abbrev dat5 (c : Dev nD) : Dat τ (Elt F) Unit ℕ (UR sig nD τ) ℕ cfg5 c :=
  foldDat (after5 V) scr5 (fun c => Pipeline.scopedRestBut spec5 c [cc5_scratch0]) 2 k5_pay1 (step5 V) V c

theorem row5 (t : Fin cfg5.N) : defs₀ (F := F) .tc cfg5.body (cfg5.bodyArgs t (cfg5.slots t))
    = foldBody ⟨![0, 0, 0], inb_S1x2048x1024_S1x2048x1024_0_0_0, h_S1x2048x1024⟩ ⟨![0, 0, 0], inb_S1x2048x512_S1x2048x512_0_0_0, h_S1x2048x512⟩
        ⟨![0, 0, 0], inb_S1x1024x512_S1x1024x512_0_0_0, h_S1x1024x512⟩
        (Scalar.cmpi .ne (Scalar.extui (Scalar.cmpi .eq (BitVec.ofNat 32 (grid5.coords t 3).val) 0#32)) 0#32) (k5_cond2 (grid5.coords t))
        k5_pay1 k5_pay2 (st5_0 t) (st5_1 t) (st5_2 t) scr5 := by
  unfold defs₀; rw [Defs.onTc_tc]; show bodyAt5 t = _; simp only [bodyAt5, cc5_bmm_tn_eq_skeleton]; rfl

theorem ok5 : RegionOk (defs₀ (F := F)) cfg5 (dat5 V) V :=
  fold_ok (after5 V) 0 1 2 bigSep_W5 scr5 _ 2 k5_pay1 (step5 V) id (fun c => scratch_split spec5 c cc5_scratch0 (by decide))
    (fun _ => ⟨rfl, fun _ => rfl, fun _ _ _ => rfl, fun _ => rfl, fun _ _ => rfl⟩)
    (fun _ => ⟨rfl, fun _ => rfl, fun _ _ _ => rfl, fun _ => rfl, fun _ _ => rfl⟩) _ _
    (fun t => axis_test (G := grid5) t 3 0 (by decide) rfl (by decide) (by decide))
    (fun t => axis_test (G := grid5) t 3 1 (by decide) rfl (by decide) (by decide))
    (fun _ => rfl) flush5_2 (fun _ _ => rfl) fun c t d x Q => by
      rw [row5]
      exact fold_triple _ _ _ c _ _ k5_pay1 k5_pay2 _ (stage_whole5 0 _) _ (stage_whole5 1 _) _ (stage_whole5 2 _) _ (Memref.isWhole_whole _)
        _ _ d x Q

end Cert.Proj
-- ==== Proof.ProjRun.lean ====
module

public import proofs.«01_k».proof.Proof.ProjRegions
public import proofs.«01_k».proof.Proof.Gen.Kernel3Ideal.Regions
public import Idealize.ShloMosaic.Lib.Pipeline.RegionArraysS

/-!
# The run of the projections

The program alternates host stretches with the six products. Between two items a core holds every unscoped buffer at a known
valuation: `w0` at launch, `w1` after the first item, up to `w11` after the last.
-/

@[expose] public section

set_option maxRecDepth 16384

noncomputable section

namespace Cert.Proj

open Cert.Kernel3Ideal Cert.Kernel3Ideal.Gen
open Cert.Ffn
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents at launch, per core, and after each item. -/
def w0 : Dev nD → Valuation τ sig (Elt F) := fun c b => m (c, b)
def w1 : Dev nD → Valuation τ sig (Elt F) := fun c => StableHlo.after hostOps0 (w0 m c)
def w2 : Dev nD → Valuation τ sig (Elt F) := fun c => Pipeline.afterRegion (dat0 (w1 m) c) (w1 m c)
def w3 : Dev nD → Valuation τ sig (Elt F) := fun c => StableHlo.after hostOps1 (w2 m c)
def w4 : Dev nD → Valuation τ sig (Elt F) := fun c => Pipeline.afterRegion (dat1 (w3 m) c) (w3 m c)
def w5 : Dev nD → Valuation τ sig (Elt F) := fun c => StableHlo.after hostOps2 (w4 m c)
def w6 : Dev nD → Valuation τ sig (Elt F) := fun c => Pipeline.afterRegion (dat2 (w5 m) c) (w5 m c)
def w7 : Dev nD → Valuation τ sig (Elt F) := fun c => Pipeline.afterRegion (dat3 (w6 m) c) (w6 m c)
def w8 : Dev nD → Valuation τ sig (Elt F) := fun c => StableHlo.after hostOps4 (w7 m c)
def w9 : Dev nD → Valuation τ sig (Elt F) := fun c => Pipeline.afterRegion (dat4 (w8 m) c) (w8 m c)
def w10 : Dev nD → Valuation τ sig (Elt F) := fun c => Pipeline.afterRegion (dat5 (w9 m) c) (w9 m c)
def w11 : Dev nD → Valuation τ sig (Elt F) := fun c => StableHlo.after hostOps6 (w10 m c)

/-- The six regions' proof data. -/
def data : (p : Fin 6) → (c : Dev nD) → Dat τ (Elt F) Unit ℕ (UR sig nD τ) ℕ (cfgs p) c
  | ⟨0, _⟩ => fun c => dat0 (w1 m) c
  | ⟨1, _⟩ => fun c => dat1 (w3 m) c
  | ⟨2, _⟩ => fun c => dat2 (w5 m) c
  | ⟨3, _⟩ => fun c => dat3 (w6 m) c
  | ⟨4, _⟩ => fun c => dat4 (w8 m) c
  | ⟨5, _⟩ => fun c => dat5 (w9 m) c

/-- What a region is entered with. -/
def entry : Fin 6 → Dev nD → Valuation τ sig (Elt F)
  | ⟨0, _⟩ => w1 m
  | ⟨1, _⟩ => w3 m
  | ⟨2, _⟩ => w5 m
  | ⟨3, _⟩ => w6 m
  | ⟨4, _⟩ => w8 m
  | ⟨5, _⟩ => w9 m

theorem ok : (p : Fin 6) → RegionOk (defs₀ (F := F)) (cfgs p) (data m p) (entry m p)
  | ⟨0, _⟩ => ok0 (w1 m)
  | ⟨1, _⟩ => ok1 (w3 m)
  | ⟨2, _⟩ => ok2 (w5 m)
  | ⟨3, _⟩ => ok3 (w6 m)
  | ⟨4, _⟩ => ok4 (w8 m)
  | ⟨5, _⟩ => ok5 (w9 m)

theorem launch : (p : Fin 6) → Pipeline.LaunchFacts (nD := nD) (τ := τ) cfgs p
  | ⟨0, _⟩ => launch0
  | ⟨1, _⟩ => launch1
  | ⟨2, _⟩ => launch2
  | ⟨3, _⟩ => launch3
  | ⟨4, _⟩ => launch4
  | ⟨5, _⟩ => launch5

/-- The arrays of every region are among the unscoped buffers. -/
theorem arrays_sub : ∀ p : Fin 6, Pipeline.arrRefs (pcfgs (F := F) p).spec ⊆ Pipeline.ucRefs τ sig
  | ⟨0, _⟩ => Pipeline.arrRefs_sub_ucRefs spec0 (by decide)
  | ⟨1, _⟩ => Pipeline.arrRefs_sub_ucRefs spec1 (by decide)
  | ⟨2, _⟩ => Pipeline.arrRefs_sub_ucRefs spec2 (by decide)
  | ⟨3, _⟩ => Pipeline.arrRefs_sub_ucRefs spec3 (by decide)
  | ⟨4, _⟩ => Pipeline.arrRefs_sub_ucRefs spec4 (by decide)
  | ⟨5, _⟩ => Pipeline.arrRefs_sub_ucRefs spec5 (by decide)

/-- Every cell of a TensorCore has the one index. -/
def lev : GSem nD τ sig → Finset Unit := fun g => if g.1.2 = .tc then {()} else ∅

theorem lev_tc (g : GSem nD τ sig) (h : g.1.2 = .tc) : () ∈ lev g := by
  unfold lev; rw [if_pos h]; exact Finset.mem_singleton_self _

/-- What rides beside the buffers: the core owes nothing. -/
abbrev idle (c : Dev nD) : sProp 𝕄 :=
  iprop((∃ W, owes (c : Thread nD τ) (0 : CellTallies nD τ sig Unit) W) ∗ BI.emp ∗ BI.emp)

theorem cut (p : Fin 6) : Pipeline.LevelCut (pcfgs (F := F)) adm () lev (fun _ _ => (0 : ℕ)) p (0 : Dev nD → CellTallies nD τ sig Unit) (fun _ => 0) where
  hι c w s := lev_tc _ rfl
  hιb _ _ _ := le_rfl
  hD _ _ _ h := absurd h (lt_irrefl _)

/-- A host stretch from the contents `W`. -/
def host (ops : List (HloOp τ sig (Elt F))) (hs : ops.Forall fun op => op.bufs ⊆ StableHlo.tcRefs τ sig)
    (hf : ops.Forall fun op => op.fresh = ∅) (W : Dev nD → Valuation τ sig (Elt F)) :
    HostSeg (Ix := Unit) (Name := ℕ) (U := UR sig nD τ) (Lvl := ℕ) (pcfgs (F := F)) defs₀ Variants.none lev (fun _ _ => (0 : ℕ)) :=
  HostSeg.ofOps _ _ _ _ _ (Pipeline.ucRefs τ sig) ops
    (fun op h => Pipeline.sub_ucRefs op ((List.forall_iff_forall_mem.mp hs) op h))
    (fun op h => (List.forall_iff_forall_mem.mp hf) op h) W idle

/-- A region's record: every unscoped buffer held. -/
def seg (p : Fin 6) : RegionSeg (pcfgs (F := F)) adm (data m) () defs₀ Variants.none lev (fun _ _ => (0 : ℕ)) p :=
  RegionSeg.ofHeldIn (pcfgs (F := F)) adm (data m) () defs₀ Variants.none lev (fun _ _ => (0 : ℕ)) p 0
    (Pipeline.ucRefs τ sig) (fun _ => BI.emp) (fun _ => BI.emp) (launch p).toP rfl
    (fun c => ((ok m p).body c).loose) (ok m p).owes (ok m p).waits (ok m p).share (ok m p).enter (ok m p).leave (fun _ => 0) (cut p)
    (fun _ => BI.emp) (entry m p) (ok m p).array

theorem seg_pre (p : Fin 6) (c : Dev nD) :
    iprop(StableHlo.held (c : Thread nD τ) (Pipeline.ucRefs τ sig) (entry m p c) ∗ idle c) ⊢ (seg m p).pre c :=
  RegionSeg.ofHeldIn_pre (pcs := pcfgs (F := F)) (a := adm) (pdats := data m) (p := p) (D := 0) (S := Pipeline.ucRefs τ sig) (X := fun _ => BI.emp)
    (Y := fun _ => BI.emp) (R := fun _ => BI.emp) (W := entry m p) (arrays_sub p) c

theorem seg_post (p : Fin 6) (c : Dev nD) : (seg m p).post c
    ⊢ iprop(StableHlo.held (c : Thread nD τ) (Pipeline.ucRefs τ sig) (Pipeline.afterRegion (data m p c) (entry m p c)) ∗ idle c) :=
  RegionSeg.ofHeldIn_post (pcs := pcfgs (F := F)) (a := adm) (pdats := data m) (p := p) (D := 0) (S := Pipeline.ucRefs τ sig) (X := fun _ => BI.emp)
    (Y := fun _ => BI.emp) (R := fun _ => BI.emp) (W := entry m p) (arrays_sub p) c

/-- The items as segments. -/
abbrev items : List (Seg (pcfgs (F := F)) adm (data m) () defs₀ Variants.none lev (fun _ _ => (0 : ℕ))) :=
  [.host (host hostOps0 hostOps0_sub hostOps0_fresh (w0 m)),
    .region (seg m 0),
    .host (host hostOps1 hostOps1_sub hostOps1_fresh (w2 m)),
    .region (seg m 1),
    .host (host hostOps2 hostOps2_sub hostOps2_fresh (w4 m)),
    .region (seg m 2),
    .region (seg m 3),
    .host (host hostOps4 hostOps4_sub hostOps4_fresh (w7 m)),
    .region (seg m 4),
    .region (seg m 5),
    .host (host hostOps6 hostOps6_sub hostOps6_fresh (w10 m))]

set_option maxHeartbeats 4000000 in
set_option backward.isDefEq.respectTransparency.types false in
/-- Every weakly fair run ends, with every unscoped buffer at `w11` and every counter at zero. -/
theorem run_all : θ_run defs (onTc (τ := τ) (main (F := F))) ⟨m, fun _ => 0, ρ⟩ (fun r => (∀ c : Dev nD,
      ∀ b ∈ Pipeline.ucRefs τ sig, r.2.mem ((c.tc : Thread nD τ).1, b) = w11 m c b) ∧ r.2.sem = fun _ => 0) := by
  refine Pipeline.θ_run_regions_kit_dev_sems (pcfgs (F := F)) adm (data m) () cellOf_inj emb₁ defs₀ Variants.none lev (fun _ _ => (0 : ℕ)) m ρ main
    (fun _ => items m)
    (fun c Q => by
      rewrite [main_chain c, Seg.run_eq_chain, show (items m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          Prog.lift (.customCall (Pipeline.entry 5) ()),
          StableHlo.seq hostOps6] from rfl]
      dsimp (config := { failIfUnchanged := false }) only
      exact .rfl)
    (fun c => by simp only [items, Seg.pipes_host, Seg.pipes_region, Seg.pipes_nil]; decide)
    (O₀ := 0) (hL := fun g h => by unfold lev; rw [if_neg h]) (G := fun _ => BI.emp)
    (u₀ := initOf (Pipeline.cells cfgs cellOf_inj) (Pipeline.launchToks cfgs cellOf_inj)) (hu₀ := ?_)
    (T₀ := fun c => iprop(StableHlo.held (c : Thread nD τ) (Pipeline.ucRefs τ sig) (w0 m c) ∗ idle c))
    (Tₙ := fun c => StableHlo.held (c : Thread nD τ) (Pipeline.ucRefs τ sig) (w11 m c))
    (hch := fun c => ⟨.rfl, seg_pre m 0 c, seg_post m 0 c, seg_pre m 1 c, seg_post m 1 c, seg_pre m 2 c,
      (seg_post m 2 c).trans (seg_pre m 3 c), seg_post m 3 c, seg_pre m 4 c, (seg_post m 4 c).trans (seg_pre m 5 c), seg_post m 5 c,
      sep_mono .rfl ?_⟩)
    (hinit := ?_) (QY := fun c s => ∀ b ∈ Pipeline.ucRefs τ sig, s.mem ((c.tc : Thread nD τ).1, b) = w11 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · iintro ⟨HO, -, -⟩; iexact HO
  · refine Pipeline.initEach lev (fun _ _ => (0 : ℕ)) fun c => ?_
    rw [show unscopedBufs c (fun b => m ((c.tc : Thread nD τ).loc b)) = StableHlo.held (c.tc : Thread nD τ) (Pipeline.ucRefs τ sig) (w0 m c)
        from Pipeline.unscopedBufs_held (Ix := Unit) (Name := ℕ) (U := UR sig nD τ) (Lvl := ℕ) c (w0 m c)]
    iintro ⟨⟨Hh, -, HO, -, -, -⟩, -⟩
    imodintro
    isplitl [Hh]; · iexact Hh
    isplitl [HO]; · iexists _; iexact HO
    isplitl []
    · iempintro
    · iempintro
  · unfold StableHlo.held
    iintro ⟨Hh, HSI⟩
    ihave Hr := (pointsTo_read_all (Pipeline.ucRefs τ sig) (fun b => ((c.tc : Thread nD τ).1, b)) (w11 m c) s') $$ [Hh HSI]
    · isplitl [Hh] <;> iassumption
    imodintro; iexact Hr

/-- The unscoped buffers are among those held. -/
theorem uc (r : Ref sig .tc) (h : r.isScoped = false) : Proc.devRef .tc r ∈ Pipeline.ucRefs τ sig :=
  Pipeline.devRef_mem_ucRefs h

/-! ### What an item does not write -/

section
variable (c : Dev nD) (r : Ref sig .tc)

theorem w1_keeps (h : r ∉ hostOps0_W) : w1 m c r = w0 m c r := StableHlo.after_of_writes_sub hostOps0 _ hostOps0_writes h
theorem w2_keeps (h : ∀ w, Pipeline.arrRef spec0 w = r → (cfg0.win w).isOut = false) : w2 m c r = w1 m c r :=
  Pipeline.afterRegion_keeps (dat0 (w1 m) c) (w1 m c) winFacts0.arr_inj (fun _ => rfl) r h
theorem w3_keeps (h : r ∉ hostOps1_W) : w3 m c r = w2 m c r := StableHlo.after_of_writes_sub hostOps1 _ hostOps1_writes h
theorem w4_keeps (h : ∀ w, Pipeline.arrRef spec1 w = r → (cfg1.win w).isOut = false) : w4 m c r = w3 m c r :=
  Pipeline.afterRegion_keeps (dat1 (w3 m) c) (w3 m c) winFacts1.arr_inj (fun _ => rfl) r h
theorem w5_keeps (h : r ∉ hostOps2_W) : w5 m c r = w4 m c r := StableHlo.after_of_writes_sub hostOps2 _ hostOps2_writes h
theorem w6_keeps (h : ∀ w, Pipeline.arrRef spec2 w = r → (cfg2.win w).isOut = false) : w6 m c r = w5 m c r :=
  Pipeline.afterRegion_keeps (dat2 (w5 m) c) (w5 m c) winFacts2.arr_inj (fun _ => rfl) r h
theorem w7_keeps (h : ∀ w, Pipeline.arrRef spec3 w = r → (cfg3.win w).isOut = false) : w7 m c r = w6 m c r :=
  Pipeline.afterRegion_keeps (dat3 (w6 m) c) (w6 m c) winFacts3.arr_inj (fun _ => rfl) r h
theorem w8_keeps (h : r ∉ hostOps4_W) : w8 m c r = w7 m c r := StableHlo.after_of_writes_sub hostOps4 _ hostOps4_writes h
theorem w9_keeps (h : ∀ w, Pipeline.arrRef spec4 w = r → (cfg4.win w).isOut = false) : w9 m c r = w8 m c r :=
  Pipeline.afterRegion_keeps (dat4 (w8 m) c) (w8 m c) winFacts4.arr_inj (fun _ => rfl) r h
theorem w10_keeps (h : ∀ w, Pipeline.arrRef spec5 w = r → (cfg5.win w).isOut = false) : w10 m c r = w9 m c r :=
  Pipeline.afterRegion_keeps (dat5 (w9 m) c) (w9 m c) winFacts5.arr_inj (fun _ => rfl) r h
theorem w11_keeps (h : r ∉ hostOps6_W) : w11 m c r = w10 m c r := StableHlo.after_of_writes_sub hostOps6 _ hostOps6_writes h
end

/-- The arguments. -/
abbrev args : List (Ref sig .tc) := [main_arg0, main_arg1, main_arg2, main_arg3, main_arg4]

/-- An argument ends as launched. -/
theorem end_args (c : Dev nD) : ∀ r ∈ args, w11 m c r = m ((c : Thread nD τ).loc r) := fun r h =>
  (w11_keeps m c r ((by decide : ∀ r ∈ args, r ∉ hostOps6_W) r h)).trans <|
  (w10_keeps m c r ((by decide : ∀ r ∈ args, ∀ w, Pipeline.arrRef spec5 w = r → (cfg5.win w).isOut = false) r h)).trans <|
  (w9_keeps m c r ((by decide : ∀ r ∈ args, ∀ w, Pipeline.arrRef spec4 w = r → (cfg4.win w).isOut = false) r h)).trans <|
  (w8_keeps m c r ((by decide : ∀ r ∈ args, r ∉ hostOps4_W) r h)).trans <|
  (w7_keeps m c r ((by decide : ∀ r ∈ args, ∀ w, Pipeline.arrRef spec3 w = r → (cfg3.win w).isOut = false) r h)).trans <|
  (w6_keeps m c r ((by decide : ∀ r ∈ args, ∀ w, Pipeline.arrRef spec2 w = r → (cfg2.win w).isOut = false) r h)).trans <|
  (w5_keeps m c r ((by decide : ∀ r ∈ args, r ∉ hostOps2_W) r h)).trans <|
  (w4_keeps m c r ((by decide : ∀ r ∈ args, ∀ w, Pipeline.arrRef spec1 w = r → (cfg1.win w).isOut = false) r h)).trans <|
  (w3_keeps m c r ((by decide : ∀ r ∈ args, r ∉ hostOps1_W) r h)).trans <|
  (w2_keeps m c r ((by decide : ∀ r ∈ args, ∀ w, Pipeline.arrRef spec0 w = r → (cfg0.win w).isOut = false) r h)).trans <|
  w1_keeps m c r ((by decide : ∀ r ∈ args, r ∉ hostOps0_W) r h)

/-- Every argument ends as launched and every counter at zero: the frame, at any float interpretation. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => by
    have k := fun (b : Ref sig .tc) (hb : b.isScoped = false) (ha : b ∈ args) => (h.1 c _ (uc b hb)).trans (end_args m c b ha)
    exact ⟨k main_arg0 rfl (by decide), k main_arg1 rfl (by decide), k main_arg2 rfl (by decide), k main_arg3 rfl (by decide),
      k main_arg4 rfl (by decide)⟩, h.2⟩) (run_all m ρ)

end Cert.Proj
-- ==== Proof.ProjArrays.lean ====
module

public import proofs.«01_k».proof.Proof.ProjRegions
public import proofs.«01_k».proof.Proof.Mat

/-!
# The six arrays of the projections

Over the extended reals each region leaves one whole matrix product in its output array. Per region: where the windows'
blocks lie, and the product.
-/

@[expose] public section

set_option maxRecDepth 16384

noncomputable section

namespace Cert.Proj

open Cert.Kernel3Ideal Cert.Kernel3Ideal.Gen
open Cert.Ffn
open Idealize.ShloMosaic Idealize.ShloMosaic.TcCoe Idealize.ShloMosaic.Tactic

/-! ### The printed products, entry by entry -/

theorem pay0_at (a : FVec Ideal S1x1024x2048 .bf16) (b : FVec Ideal S1x2048x1024 .bf16) (x : Fin 1) (i j : Fin 1024) :
    k0_pay1 (F := Ideal) a b (ix3 x i j) = dot 2048 (fun k => a (ix3 0 i k)) fun k => b (ix3 0 k j) := by
  pointwise [k0_pay1, dot]
  done

theorem pay1_at (a : FVec Ideal S1x1024x2048 .bf16) (b : FVec Ideal S1x2048x512 .bf16) (x : Fin 1) (i : Fin 1024) (j : Fin 512) :
    k1_pay1 (F := Ideal) a b (ix3 x i j) = dot 2048 (fun k => a (ix3 0 i k)) fun k => b (ix3 0 k j) := by
  pointwise [k1_pay1, dot]
  done

theorem pay2_at (a b : FVec Ideal S1x1024x2048 .bf16) (x : Fin 1) (i j : Fin 1024) :
    k2_pay1 (F := Ideal) a b (ix3 x i j) = dot 2048 (fun k => a (ix3 0 i k)) fun k => b (ix3 0 j k) := by
  pointwise [k2_pay1, dot]
  done

theorem pay3_at (s : FVec Ideal S1x1024x1024 .f32) (a b : FVec Ideal S1x2048x1024 .bf16) (y : S1x1024x1024.Idx) :
    k3_pay2 (F := Ideal) s a b y = s y + dot 2048 (fun k => a (ix3 0 k (y 1))) fun k => b (ix3 0 k (y 2)) := by
  obtain ⟨x, i, j, rfl⟩ : ∃ x i j, y = ix3 x i j := ⟨_, _, _, eq_ix3 (n0 := 1) (n1 := 1024) (n2 := 1024) y⟩
  obtain rfl : x = 0 := Subsingleton.elim _ _
  pointwise [k3_pay2, dot]
  done

theorem pay4_at (s : FVec Ideal S1x1024x1024 .f32) (a b : FVec Ideal S1x1024x1664 .bf16) (y : S1x1024x1024.Idx) :
    k4_pay2 (F := Ideal) s a b y = s y + dot 1664 (fun k => a (ix3 0 (y 1) k)) fun k => b (ix3 0 (y 2) k) := by
  obtain ⟨x, i, j, rfl⟩ : ∃ x i j, y = ix3 x i j := ⟨_, _, _, eq_ix3 (n0 := 1) (n1 := 1024) (n2 := 1024) y⟩
  obtain rfl : x = 0 := Subsingleton.elim _ _
  pointwise [k4_pay2, dot]
  done

theorem pay5_at (s : FVec Ideal S1x1024x512 .f32) (a : FVec Ideal S1x2048x1024 .bf16) (b : FVec Ideal S1x2048x512 .bf16) (y : S1x1024x512.Idx) :
    k5_pay2 (F := Ideal) s a b y = s y + dot 2048 (fun k => a (ix3 0 k (y 1))) fun k => b (ix3 0 k (y 2)) := by
  obtain ⟨x, i, j, rfl⟩ : ∃ x i j, y = ix3 x i j := ⟨_, _, _, eq_ix3 (n0 := 1) (n1 := 1024) (n2 := 512) y⟩
  obtain rfl : x = 0 := Subsingleton.elim _ _
  pointwise [k5_pay2, dot]
  done

/-- A cleared scratch of the regions 3 and 4. -/
theorem zero3_at (y : S1x1024x1024.Idx) : k3_pay1 (F := Ideal) y = 0 := by
  pointwise [k3_pay1]
  done

theorem zero5_at (y : S1x1024x512.Idx) : k5_pay1 (F := Ideal) y = 0 := by
  pointwise [k5_pay1]
  done

variable (V : Dev nD → Valuation τ sig (Elt Ideal)) (c : Dev nD)

/-! ### Region 0: the rows by the square matrix -/

theorem index0 : ∀ t : Fin cfg0.N, win0_0.index t = ![0, t.val / 2, 0] ∧ win0_1.index t = ![0, 0, t.val % 2]
    ∧ win0_2.index t = ![0, t.val / 2, t.val % 2] := (by decide +kernel : ∀ t : Fin grid0.N, _)

theorem blk0_0 (t : Fin cfg0.N) (x : Fin 1) (i : Fin 1024) (k : Fin 2048) (R : Fin 4096) (hR : R.val = t.val / 2 * 1024 + i.val) :
    blk cfg0 V c 0 t (ix3 x i k) = (V c (Proc.devRef .tc main_v2) : Mat 4096 2048) (ix3 0 R k) := by
  blk_ext [blk, index0 t]
  all_goals omega

theorem blk0_1 (t : Fin cfg0.N) (x : Fin 1) (k : Fin 2048) (j : Fin 1024) (C : Fin 2048) (hC : C.val = t.val % 2 * 1024 + j.val) :
    blk cfg0 V c 1 t (ix3 x k j) = (V c (Proc.devRef .tc main_v3) : Mat 2048 2048) (ix3 0 k C) := by
  blk_ext [blk, index0 t]
  all_goals omega

theorem emb0_2 (t : Fin cfg0.N) (x : Fin 1) (i j : Fin 1024) (R : Fin 4096) (C : Fin 2048)
    (hR : R.val = t.val / 2 * 1024 + i.val) (hC : C.val = t.val % 2 * 1024 + j.val) :
    (win0_2.blk t).view.emb (ix3 x i j) = ix3 0 R C := by
  blk_ext [index0 t]
  all_goals omega

theorem arr0 : (dat0 V c).arrAt 2 cfg0.N
    = nn (M := 4096) (K := 2048) (N := 2048) (V c (Proc.devRef .tc main_v2)) (V c (Proc.devRef .tc main_v3)) := by
  refine (dat0 V c).arrAt_eq_of_covers 2 _ (by decide +kernel) fun t _ y => ?_
  blk_simp
  have ht : t.val < 8 := Nat.lt_of_lt_of_eq t.isLt N_0
  obtain ⟨x, i, j, rfl⟩ : ∃ x i j, y = ix3 x i j := ⟨_, _, _, eq_ix3 (n0 := 1) (n1 := 1024) (n2 := 1024) y⟩
  rw [emb0_2 t x i j ⟨_, by omega⟩ ⟨_, by omega⟩ rfl rfl]
  exact (pay0_at _ _ x i j).trans (Finset.sum_congr rfl fun k _ =>
    congrArg₂ (· * ·) (blk0_0 V c t 0 i k ⟨_, by omega⟩ rfl) (blk0_1 V c t 0 k j ⟨_, by omega⟩ rfl))

/-! ### Region 1: the rows by the wide matrix -/

theorem index1 : ∀ t : Fin cfg1.N, win1_0.index t = ![0, t.val / 13, 0] ∧ win1_1.index t = ![0, 0, t.val % 13]
    ∧ win1_2.index t = ![0, t.val / 13, t.val % 13] := (by decide +kernel : ∀ t : Fin grid1.N, _)

theorem blk1_0 (t : Fin cfg1.N) (x : Fin 1) (i : Fin 1024) (k : Fin 2048) (R : Fin 4096) (hR : R.val = t.val / 13 * 1024 + i.val) :
    blk cfg1 V c 0 t (ix3 x i k) = (V c (Proc.devRef .tc main_v8) : Mat 4096 2048) (ix3 0 R k) := by
  blk_ext [blk, index1 t]
  all_goals omega

theorem blk1_1 (t : Fin cfg1.N) (x : Fin 1) (k : Fin 2048) (j : Fin 512) (C : Fin 6656) (hC : C.val = t.val % 13 * 512 + j.val) :
    blk cfg1 V c 1 t (ix3 x k j) = (V c (Proc.devRef .tc main_v9) : Mat 2048 6656) (ix3 0 k C) := by
  blk_ext [blk, index1 t]
  all_goals omega

theorem emb1_2 (t : Fin cfg1.N) (x : Fin 1) (i : Fin 1024) (j : Fin 512) (R : Fin 4096) (C : Fin 6656)
    (hR : R.val = t.val / 13 * 1024 + i.val) (hC : C.val = t.val % 13 * 512 + j.val) :
    (win1_2.blk t).view.emb (ix3 x i j) = ix3 0 R C := by
  blk_ext [index1 t]
  all_goals omega

theorem arr1 : (dat1 V c).arrAt 2 cfg1.N
    = nn (M := 4096) (K := 2048) (N := 6656) (V c (Proc.devRef .tc main_v8)) (V c (Proc.devRef .tc main_v9)) := by
  refine (dat1 V c).arrAt_eq_of_covers 2 _ (by decide +kernel) fun t _ y => ?_
  blk_simp
  have ht : t.val < 52 := Nat.lt_of_lt_of_eq t.isLt N_1
  obtain ⟨x, i, j, rfl⟩ : ∃ x i j, y = ix3 x i j := ⟨_, _, _, eq_ix3 (n0 := 1) (n1 := 1024) (n2 := 512) y⟩
  rw [emb1_2 t x i j ⟨_, by omega⟩ ⟨_, by omega⟩ rfl rfl]
  exact (pay1_at _ _ x i j).trans (Finset.sum_congr rfl fun k _ =>
    congrArg₂ (· * ·) (blk1_0 V c t 0 i k ⟨_, by omega⟩ rfl) (blk1_1 V c t 0 k j ⟨_, by omega⟩ rfl))

/-! ### Region 2: the square projection's cotangent by its matrix, transposed -/

theorem index2 : ∀ t : Fin cfg2.N, win2_0.index t = ![0, t.val / 2, 0] ∧ win2_1.index t = ![0, t.val % 2, 0]
    ∧ win2_2.index t = ![0, t.val / 2, t.val % 2] := (by decide +kernel : ∀ t : Fin grid2.N, _)

theorem blk2_0 (t : Fin cfg2.N) (x : Fin 1) (i : Fin 1024) (k : Fin 2048) (R : Fin 4096) (hR : R.val = t.val / 2 * 1024 + i.val) :
    blk cfg2 V c 0 t (ix3 x i k) = (V c (Proc.devRef .tc main_v13) : Mat 4096 2048) (ix3 0 R k) := by
  blk_ext [blk, index2 t]
  all_goals omega

theorem blk2_1 (t : Fin cfg2.N) (x : Fin 1) (j : Fin 1024) (k : Fin 2048) (C : Fin 2048) (hC : C.val = t.val % 2 * 1024 + j.val) :
    blk cfg2 V c 1 t (ix3 x j k) = (V c (Proc.devRef .tc main_v3) : Mat 2048 2048) (ix3 0 C k) := by
  blk_ext [blk, index2 t]
  all_goals omega

theorem emb2_2 (t : Fin cfg2.N) (x : Fin 1) (i j : Fin 1024) (R : Fin 4096) (C : Fin 2048)
    (hR : R.val = t.val / 2 * 1024 + i.val) (hC : C.val = t.val % 2 * 1024 + j.val) :
    (win2_2.blk t).view.emb (ix3 x i j) = ix3 0 R C := by
  blk_ext [index2 t]
  all_goals omega

theorem arr2 : (dat2 V c).arrAt 2 cfg2.N
    = nt (M := 4096) (K := 2048) (N := 2048) (V c (Proc.devRef .tc main_v13)) (V c (Proc.devRef .tc main_v3)) := by
  refine (dat2 V c).arrAt_eq_of_covers 2 _ (by decide +kernel) fun t _ y => ?_
  blk_simp
  have ht : t.val < 8 := Nat.lt_of_lt_of_eq t.isLt N_2
  obtain ⟨x, i, j, rfl⟩ : ∃ x i j, y = ix3 x i j := ⟨_, _, _, eq_ix3 (n0 := 1) (n1 := 1024) (n2 := 1024) y⟩
  rw [emb2_2 t x i j ⟨_, by omega⟩ ⟨_, by omega⟩ rfl rfl]
  exact (pay2_at _ _ x i j).trans (Finset.sum_congr rfl fun k _ =>
    congrArg₂ (· * ·) (blk2_0 V c t 0 i k ⟨_, by omega⟩ rfl) (blk2_1 V c t 0 j k ⟨_, by omega⟩ rfl))

/-! ### Region 3: the rows, transposed, by the square projection's cotangent -/

theorem index3 : ∀ t : Fin cfg3.N, win3_0.index t = ![0, t.val % 2, t.val / 4] ∧ win3_1.index t = ![0, t.val % 2, t.val / 2 % 2]
    ∧ win3_2.index t = ![0, t.val / 4, t.val / 2 % 2] := (by decide +kernel : ∀ t : Fin grid3.N, _)

theorem blk3_0 (t : Fin cfg3.N) (x : Fin 1) (k : Fin 2048) (i : Fin 1024) (L : Fin 4096) (R : Fin 2048)
    (hL : L.val = t.val % 2 * 2048 + k.val) (hR : R.val = t.val / 4 * 1024 + i.val) :
    blk cfg3 V c 0 t (ix3 x k i) = (V c (Proc.devRef .tc main_v2) : Mat 4096 2048) (ix3 0 L R) := by
  blk_ext [blk, index3 t]
  all_goals omega

theorem blk3_1 (t : Fin cfg3.N) (x : Fin 1) (k : Fin 2048) (j : Fin 1024) (L : Fin 4096) (C : Fin 2048)
    (hL : L.val = t.val % 2 * 2048 + k.val) (hC : C.val = t.val / 2 % 2 * 1024 + j.val) :
    blk cfg3 V c 1 t (ix3 x k j) = (V c (Proc.devRef .tc main_v13) : Mat 4096 2048) (ix3 0 L C) := by
  blk_ext [blk, index3 t]
  all_goals omega

theorem emb3_2 (t : Fin cfg3.N) (x : Fin 1) (i j : Fin 1024) (R C : Fin 2048)
    (hR : R.val = t.val / 4 * 1024 + i.val) (hC : C.val = t.val / 2 % 2 * 1024 + j.val) :
    (win3_2.blk t).view.emb (ix3 x i j) = ix3 0 R C := by
  blk_ext [index3 t]
  all_goals omega

theorem arr3 : (dat3 V c).arrAt 2 cfg3.N
    = tn (M := 2048) (K := 4096) (N := 2048) (V c (Proc.devRef .tc main_v2)) (V c (Proc.devRef .tc main_v13)) := by
  refine (dat3 V c).arrAt_eq_of_covers 2 _ (by decide +kernel) fun t hf y => ?_
  blk_simp
  have ht : t.val < 8 := Nat.lt_of_lt_of_eq t.isLt N_3
  obtain ⟨x, i, j, rfl⟩ : ∃ x i j, y = ix3 x i j := ⟨_, _, _, eq_ix3 (n0 := 1) (n1 := 1024) (n2 := 1024) y⟩
  rw [emb3_2 t x i j ⟨_, by omega⟩ ⟨_, by omega⟩ rfl rfl]
  exact fold_dot (J := 2) (by decide) (by decide) _ _ zero3_at (fun _ _ _ => pay3_at _ _ _ _) t ((flush3_2 t).1 hf) _ _ _
    (fun p k s hl h₁ h₂ => blk3_0 V c p 0 k i ⟨_, hl⟩ ⟨_, by omega⟩ (by dsimp only; omega) (by dsimp only; omega))
    (fun p k s hl h₁ h₂ => blk3_1 V c p 0 k j ⟨_, hl⟩ ⟨_, by omega⟩ (by dsimp only; omega) (by dsimp only; omega))

/-! ### Region 4: the wide projection's cotangent by its matrix, transposed -/

theorem index4 : ∀ t : Fin cfg4.N, win4_0.index t = ![0, t.val / 8, t.val % 4] ∧ win4_1.index t = ![0, t.val / 4 % 2, t.val % 4]
    ∧ win4_2.index t = ![0, t.val / 8, t.val / 4 % 2] := (by decide +kernel : ∀ t : Fin grid4.N, _)

theorem blk4_0 (t : Fin cfg4.N) (x : Fin 1) (i : Fin 1024) (k : Fin 1664) (R : Fin 4096) (L : Fin 6656)
    (hR : R.val = t.val / 8 * 1024 + i.val) (hL : L.val = t.val % 4 * 1664 + k.val) :
    blk cfg4 V c 0 t (ix3 x i k) = (V c (Proc.devRef .tc main_v19) : Mat 4096 6656) (ix3 0 R L) := by
  blk_ext [blk, index4 t]
  all_goals omega

theorem blk4_1 (t : Fin cfg4.N) (x : Fin 1) (j : Fin 1024) (k : Fin 1664) (C : Fin 2048) (L : Fin 6656)
    (hC : C.val = t.val / 4 % 2 * 1024 + j.val) (hL : L.val = t.val % 4 * 1664 + k.val) :
    blk cfg4 V c 1 t (ix3 x j k) = (V c (Proc.devRef .tc main_v9) : Mat 2048 6656) (ix3 0 C L) := by
  blk_ext [blk, index4 t]
  all_goals omega

theorem emb4_2 (t : Fin cfg4.N) (x : Fin 1) (i j : Fin 1024) (R : Fin 4096) (C : Fin 2048)
    (hR : R.val = t.val / 8 * 1024 + i.val) (hC : C.val = t.val / 4 % 2 * 1024 + j.val) :
    (win4_2.blk t).view.emb (ix3 x i j) = ix3 0 R C := by
  blk_ext [index4 t]
  all_goals omega

theorem arr4 : (dat4 V c).arrAt 2 cfg4.N
    = nt (M := 4096) (K := 6656) (N := 2048) (V c (Proc.devRef .tc main_v19)) (V c (Proc.devRef .tc main_v9)) := by
  refine (dat4 V c).arrAt_eq_of_covers 2 _ (by decide +kernel) fun t hf y => ?_
  blk_simp
  have ht : t.val < 32 := Nat.lt_of_lt_of_eq t.isLt N_4
  obtain ⟨x, i, j, rfl⟩ : ∃ x i j, y = ix3 x i j := ⟨_, _, _, eq_ix3 (n0 := 1) (n1 := 1024) (n2 := 1024) y⟩
  rw [emb4_2 t x i j ⟨_, by omega⟩ ⟨_, by omega⟩ rfl rfl]
  exact fold_dot (J := 4) (by decide) (by decide) _ _ zero3_at (fun _ _ _ => pay4_at _ _ _ _) t ((flush4_2 t).1 hf) _ _ _
    (fun p k s hl h₁ h₂ => blk4_0 V c p 0 i k ⟨_, by omega⟩ ⟨_, hl⟩ (by dsimp only; omega) (by dsimp only; omega))
    (fun p k s hl h₁ h₂ => blk4_1 V c p 0 j k ⟨_, by omega⟩ ⟨_, hl⟩ (by dsimp only; omega) (by dsimp only; omega))

/-! ### Region 5: the rows, transposed, by the wide projection's cotangent -/

theorem index5 : ∀ t : Fin cfg5.N, win5_0.index t = ![0, t.val % 2, t.val / 26] ∧ win5_1.index t = ![0, t.val % 2, t.val / 2 % 13]
    ∧ win5_2.index t = ![0, t.val / 26, t.val / 2 % 13] := (by decide +kernel : ∀ t : Fin grid5.N, _)

theorem blk5_0 (t : Fin cfg5.N) (x : Fin 1) (k : Fin 2048) (i : Fin 1024) (L : Fin 4096) (R : Fin 2048)
    (hL : L.val = t.val % 2 * 2048 + k.val) (hR : R.val = t.val / 26 * 1024 + i.val) :
    blk cfg5 V c 0 t (ix3 x k i) = (V c (Proc.devRef .tc main_v8) : Mat 4096 2048) (ix3 0 L R) := by
  blk_ext [blk, index5 t]
  all_goals omega

theorem blk5_1 (t : Fin cfg5.N) (x : Fin 1) (k : Fin 2048) (j : Fin 512) (L : Fin 4096) (C : Fin 6656)
    (hL : L.val = t.val % 2 * 2048 + k.val) (hC : C.val = t.val / 2 % 13 * 512 + j.val) :
    blk cfg5 V c 1 t (ix3 x k j) = (V c (Proc.devRef .tc main_v19) : Mat 4096 6656) (ix3 0 L C) := by
  blk_ext [blk, index5 t]
  all_goals omega

theorem emb5_2 (t : Fin cfg5.N) (x : Fin 1) (i : Fin 1024) (j : Fin 512) (R : Fin 2048) (C : Fin 6656)
    (hR : R.val = t.val / 26 * 1024 + i.val) (hC : C.val = t.val / 2 % 13 * 512 + j.val) :
    (win5_2.blk t).view.emb (ix3 x i j) = ix3 0 R C := by
  blk_ext [index5 t]
  all_goals omega

theorem arr5 : (dat5 V c).arrAt 2 cfg5.N
    = tn (M := 2048) (K := 4096) (N := 6656) (V c (Proc.devRef .tc main_v8)) (V c (Proc.devRef .tc main_v19)) := by
  refine (dat5 V c).arrAt_eq_of_covers 2 _ (by decide +kernel) fun t hf y => ?_
  blk_simp
  have ht : t.val < 52 := Nat.lt_of_lt_of_eq t.isLt N_5
  obtain ⟨x, i, j, rfl⟩ : ∃ x i j, y = ix3 x i j := ⟨_, _, _, eq_ix3 (n0 := 1) (n1 := 1024) (n2 := 512) y⟩
  rw [emb5_2 t x i j ⟨_, by omega⟩ ⟨_, by omega⟩ rfl rfl]
  exact fold_dot (J := 2) (by decide) (by decide) _ _ zero5_at (fun _ _ _ => pay5_at _ _ _ _) t ((flush5_2 t).1 hf) _ _ _
    (fun p k s hl h₁ h₂ => blk5_0 V c p 0 k i ⟨_, hl⟩ ⟨_, by omega⟩ (by dsimp only; omega) (by dsimp only; omega))
    (fun p k s hl h₁ h₂ => blk5_1 V c p 0 k j ⟨_, hl⟩ ⟨_, by omega⟩ (by dsimp only; omega) (by dsimp only; omega))

end Cert.Proj
-- ==== Proof.ProjVal.lean ====
module

public import proofs.«01_k».proof.Proof.ProjRun
public import proofs.«01_k».proof.Proof.ProjArrays
public import proofs.«01_k».proof.Proof.Gen.Reference3Ideal

/-!
# The projections' values

The kernel multiplies matrices of 4096 rows, the reference keeps the rows as two batches of 2048. From the launch's memory,
item by item, every call's array is a product of the arguments, and every result the reference's value.
-/

@[expose] public section

set_option maxRecDepth 16384
set_option maxHeartbeats 1000000

noncomputable section

namespace Cert.Proj

open Cert.Kernel3Ideal Cert.Kernel3Ideal.Gen
open Cert.Ffn
open Idealize.ShloMosaic Idealize.ShloMosaic.TcCoe Idealize.ShloMosaic.Tactic Idealize.ShloMosaic.StableHlo

/-- Two batches of rows, and of wide rows. -/
abbrev XT := FVec Ideal S2x2048x2048 .f32
abbrev ZT := FVec Ideal S2x2048x6656 .f32
/-- A square and a wide matrix. -/
abbrev ST := FVec Ideal S2048x2048 .f32
abbrev WT := FVec Ideal S2048x6656 .f32

/-! ### The reference's values -/

/-- The projection by a square matrix, a gradient back through it, and the matrix's gradient. -/
def lin (x : XT) (w : ST) : XT := Host.dotGeneral Cert.Reference3Ideal.dot_S2x2048x2048_S2048x2048_S2x2048x2048_2_0_01_1_n_n none x w
def back (d : XT) (w : ST) : XT := Host.dotGeneral Cert.Reference3Ideal.dot_S2x2048x2048_S2048x2048_S2x2048x2048_2_1_01_0_n_n none d w
def grad (d : XT) (x : XT) : ST :=
  transpose S2048x2048 [1, 0] (Host.dotGeneral (F := Ideal) Cert.Reference3Ideal.dot_S2x2048x2048_S2x2048x2048_S2048x2048_01_01_2_2_n_n none d x : ST)
    Cert.Reference3Ideal.Gen.transposes_S2048x2048_S2048x2048_1_0
/-- The same of the wide matrix. -/
def linW (x : XT) (w : WT) : ZT := Host.dotGeneral Cert.Reference3Ideal.dot_S2x2048x2048_S2048x6656_S2x2048x6656_2_0_01_1_n_n none x w
def backW (d : ZT) (w : WT) : XT := Host.dotGeneral Cert.Reference3Ideal.dot_S2x2048x6656_S2048x6656_S2x2048x2048_2_1_01_0_n_n none d w
def gradW (d : ZT) (x : XT) : WT :=
  transpose S2048x6656 [1, 0] (Host.dotGeneral (F := Ideal) Cert.Reference3Ideal.dot_S2x2048x6656_S2x2048x2048_S6656x2048_01_01_2_2_n_n none d x
    : FVec Ideal Cert.Reference3Ideal.S6656x2048 .f32)
    Cert.Reference3Ideal.Gen.transposes_S6656x2048_S2048x6656_1_0

/-! ### The rows and the matrices as a kernel call takes and leaves them -/

def rows (x : XT) : Mat 4096 2048 := truncf (F := Ideal) .bf16 (shapeCast S1x4096x2048 x shapeCasts_S2x2048x2048_S1x4096x2048) bitsLt_bf16_f32
def rowsW (z : ZT) : Mat 4096 6656 := truncf (F := Ideal) .bf16 (shapeCast S1x4096x6656 z shapeCasts_S2x2048x6656_S1x4096x6656) bitsLt_bf16_f32
def mat (w : ST) : Mat 2048 2048 := truncf (F := Ideal) .bf16 (broadcastInDim S1x2048x2048 ![1, 2] bcast_S2048x2048_S1x2048x2048_1_2 w) bitsLt_bf16_f32
def matW (w : WT) : Mat 2048 6656 := truncf (F := Ideal) .bf16 (broadcastInDim S1x2048x6656 ![1, 2] bcast_S2048x6656_S1x2048x6656_1_2 w) bitsLt_bf16_f32
/-- The two batches of a call's result. -/
def batches (a : Mat 4096 2048) : XT := shapeCast S2x2048x2048 (a : FVec Ideal S1x4096x2048 .f32) shapeCasts_S1x4096x2048_S2x2048x2048
def batchesW (a : Mat 4096 6656) : ZT := shapeCast S2x2048x6656 (a : FVec Ideal S1x4096x6656 .f32) shapeCasts_S1x4096x6656_S2x2048x6656
/-- The one matrix of a call's result. -/
def single (a : Mat 2048 2048) : ST := Host.reduceAdd (F := Ideal) (a : FVec Ideal S1x2048x2048 .f32) (constant S_ .f32 0x00000000#32) reducesTo_S1x2048x2048_S2048x2048_d0 h_S_
def singleW (a : Mat 2048 6656) : WT := Host.reduceAdd (F := Ideal) (a : FVec Ideal S1x2048x6656 .f32) (constant S_ .f32 0x00000000#32) reducesTo_S1x2048x6656_S2048x6656_d0 h_S_

/-! ### A product of the 4096 rows is the reference's contraction -/

theorem lin_eq (x : XT) (w : ST) : batches (nn (rows x) (mat w)) = lin x w := by
  funext i
  obtain ⟨b, s, j, rfl⟩ : ∃ b s j, i = ix3 b s j := ⟨_, _, _, eq_ix3 (n0 := 2) (n1 := 2048) (n2 := 2048) i⟩
  pointwise [batches, rows, mat, lin, nn]
  done

theorem linW_eq (x : XT) (w : WT) : batchesW (nn (rows x) (matW w)) = linW x w := by
  funext i
  obtain ⟨b, s, j, rfl⟩ : ∃ b s j, i = ix3 b s j := ⟨_, _, _, eq_ix3 (n0 := 2) (n1 := 2048) (n2 := 6656) i⟩
  pointwise [batchesW, rows, matW, linW, nn]
  done

theorem back_eq (d : XT) (w : ST) : batches (nt (rows d) (mat w)) = back d w := by
  funext i
  obtain ⟨b, s, j, rfl⟩ : ∃ b s j, i = ix3 b s j := ⟨_, _, _, eq_ix3 (n0 := 2) (n1 := 2048) (n2 := 2048) i⟩
  pointwise [batches, rows, mat, back, nt]
  done

theorem backW_eq (d : ZT) (w : WT) : batches (nt (rowsW d) (matW w)) = backW d w := by
  funext i
  obtain ⟨b, s, j, rfl⟩ : ∃ b s j, i = ix3 b s j := ⟨_, _, _, eq_ix3 (n0 := 2) (n1 := 2048) (n2 := 2048) i⟩
  pointwise [batches, rowsW, matW, backW, nt]
  done

theorem grad_eq (d x : XT) : single (tn (rows x) (rows d)) = grad d x := by
  funext i
  obtain ⟨p, q, rfl⟩ : ∃ p q, i = ix2 p q := ⟨_, _, eq_ix2 (n0 := 2048) (n1 := 2048) i⟩
  pointwise [single, rows, grad, tn]
  simp only [Finset.univ_unique, Finset.sum_singleton]
  refine (sum_rows (fun r s => x (ix3 r s p) * d (ix3 r s q)) _ _).trans ?_
  simp only [mul_comm]

theorem gradW_eq (d : ZT) (x : XT) : singleW (tn (rows x) (rowsW d)) = gradW d x := by
  funext i
  obtain ⟨p, q, rfl⟩ : ∃ p q, i = ix2 p q := ⟨_, _, eq_ix2 (n0 := 2048) (n1 := 6656) i⟩
  pointwise [singleW, rows, rowsW, gradW, tn]
  simp only [Finset.univ_unique, Finset.sum_singleton]
  refine (sum_rows (fun r s => x (ix3 r s p) * d (ix3 r s q)) _ _).trans ?_
  simp only [mul_comm]

/-! ### The host stretches -/

section
variable (W : Valuation τ sig (Elt Ideal))

theorem host0_v2 : after hostOps0 W (Proc.devRef .tc main_v2) = rows (W (Proc.devRef .tc main_arg0)) := by
  simp only [hostOps0]; after_results_simp; rfl
theorem host0_v3 : after hostOps0 W (Proc.devRef .tc main_v3) = mat (W (Proc.devRef .tc main_arg1)) := by
  simp only [hostOps0]; after_results_simp; rfl
theorem host1_v5 : after hostOps1 W (Proc.devRef .tc main_v5) = batches (W (Proc.devRef .tc main_v4)) := by
  simp only [hostOps1]; after_results_simp; rfl
theorem host1_v8 : after hostOps1 W (Proc.devRef .tc main_v8) = rows (W (Proc.devRef .tc main_arg0)) := by
  simp only [hostOps1]; after_results_simp; rfl
theorem host1_v9 : after hostOps1 W (Proc.devRef .tc main_v9) = matW (W (Proc.devRef .tc main_arg2)) := by
  simp only [hostOps1]; after_results_simp; rfl
theorem host2_v11 : after hostOps2 W (Proc.devRef .tc main_v11) = batchesW (W (Proc.devRef .tc main_v10)) := by
  simp only [hostOps2]; after_results_simp; rfl
theorem host2_v13 : after hostOps2 W (Proc.devRef .tc main_v13) = rows (W (Proc.devRef .tc main_arg3)) := by
  simp only [hostOps2]; after_results_simp; rfl
theorem host4_v16 : after hostOps4 W (Proc.devRef .tc main_v16) = single (W (Proc.devRef .tc main_v15)) := by
  simp only [hostOps4]; after_results_simp; rfl
theorem host4_v17 : after hostOps4 W (Proc.devRef .tc main_v17) = batches (W (Proc.devRef .tc main_v14)) := by
  simp only [hostOps4]; after_results_simp; rfl
theorem host4_v19 : after hostOps4 W (Proc.devRef .tc main_v19) = rowsW (W (Proc.devRef .tc main_arg4)) := by
  simp only [hostOps4]; after_results_simp; rfl
theorem host6_v22 : after hostOps6 W (Proc.devRef .tc main_v22) = singleW (W (Proc.devRef .tc main_v21)) := by
  simp only [hostOps6]; after_results_simp; rfl
theorem host6_v23 : after hostOps6 W (Proc.devRef .tc main_v23) = batches (W (Proc.devRef .tc main_v20)) := by
  simp only [hostOps6]; after_results_simp; rfl
end

/-! ### Item by item -/

variable (m : (ℓ : Loc nD τ sig) → Buf (Elt Ideal) ℓ) (c : Dev nD)

/-- The arguments: the rows, the square and the wide matrix, and a cotangent of either projection. -/
abbrev aX : XT := m ((c.tc : Thread nD τ).loc main_arg0)
abbrev aS : ST := m ((c.tc : Thread nD τ).loc main_arg1)
abbrev aW : WT := m ((c.tc : Thread nD τ).loc main_arg2)
abbrev aD : XT := m ((c.tc : Thread nD τ).loc main_arg3)
abbrev aE : ZT := m ((c.tc : Thread nD τ).loc main_arg4)

theorem w1_v2 : w1 m c (Proc.devRef .tc main_v2) = rows (aX m c) := host0_v2 (w0 m c)
theorem w1_v3 : w1 m c (Proc.devRef .tc main_v3) = mat (aS m c) := host0_v3 (w0 m c)

/-- Arguments up to the second region. -/
theorem w2_arg (r : Ref sig .tc) (h : r ∈ args) : w2 m c r = m ((c : Thread nD τ).loc r) :=
  (w2_keeps m c r ((by decide : ∀ r ∈ args, ∀ w, Pipeline.arrRef spec0 w = r → (cfg0.win w).isOut = false) r h)).trans
    (w1_keeps m c r ((by decide : ∀ r ∈ args, r ∉ hostOps0_W) r h))

theorem w2_v4 : w2 m c (Proc.devRef .tc main_v4) = nn (rows (aX m c)) (mat (aS m c)) := by
  refine ((Pipeline.afterRegion_arr (dat0 (w1 m) c) (w1 m c) winFacts0.arr_inj 2).trans (arr0 (w1 m) c)).trans ?_
  rw [w1_v2 m c, w1_v3 m c]

theorem w3_v5 : w3 m c (Proc.devRef .tc main_v5) = lin (aX m c) (aS m c) := by
  refine (host1_v5 (w2 m c)).trans ?_
  rw [w2_v4 m c]
  exact lin_eq _ _

theorem w3_v8 : w3 m c (Proc.devRef .tc main_v8) = rows (aX m c) :=
  (host1_v8 (w2 m c)).trans (congrArg rows (w2_arg m c main_arg0 (by decide)))
theorem w3_v9 : w3 m c (Proc.devRef .tc main_v9) = matW (aW m c) :=
  (host1_v9 (w2 m c)).trans (congrArg matW (w2_arg m c main_arg2 (by decide)))

theorem w4_v10 : w4 m c (Proc.devRef .tc main_v10) = nn (rows (aX m c)) (matW (aW m c)) := by
  refine ((Pipeline.afterRegion_arr (dat1 (w3 m) c) (w3 m c) winFacts1.arr_inj 2).trans (arr1 (w3 m) c)).trans ?_
  rw [w3_v8 m c, w3_v9 m c]

/-- Arguments up to the third region. -/
theorem w4_arg (r : Ref sig .tc) (h : r ∈ args) : w4 m c r = m ((c : Thread nD τ).loc r) :=
  (w4_keeps m c r ((by decide : ∀ r ∈ args, ∀ w, Pipeline.arrRef spec1 w = r → (cfg1.win w).isOut = false) r h)).trans <|
  (w3_keeps m c r ((by decide : ∀ r ∈ args, r ∉ hostOps1_W) r h)).trans (w2_arg m c r h)

theorem w5_v11 : w5 m c (Proc.devRef .tc main_v11) = linW (aX m c) (aW m c) := by
  refine (host2_v11 (w4 m c)).trans ?_
  rw [w4_v10 m c]
  exact linW_eq _ _

theorem w5_v13 : w5 m c (Proc.devRef .tc main_v13) = rows (aD m c) :=
  (host2_v13 (w4 m c)).trans (congrArg rows (w4_arg m c main_arg3 (by decide)))

theorem w5_v2 : w5 m c (Proc.devRef .tc main_v2) = rows (aX m c) := by
  rw [w5_keeps m c main_v2 (by decide), w4_keeps m c main_v2 (by decide), w3_keeps m c main_v2 (by decide),
    w2_keeps m c main_v2 (by decide), w1_v2 m c]
theorem w5_v3 : w5 m c (Proc.devRef .tc main_v3) = mat (aS m c) := by
  rw [w5_keeps m c main_v3 (by decide), w4_keeps m c main_v3 (by decide), w3_keeps m c main_v3 (by decide),
    w2_keeps m c main_v3 (by decide), w1_v3 m c]

theorem w6_v14 : w6 m c (Proc.devRef .tc main_v14) = nt (rows (aD m c)) (mat (aS m c)) := by
  refine ((Pipeline.afterRegion_arr (dat2 (w5 m) c) (w5 m c) winFacts2.arr_inj 2).trans (arr2 (w5 m) c)).trans ?_
  rw [w5_v13 m c, w5_v3 m c]

theorem w7_v15 : w7 m c (Proc.devRef .tc main_v15) = tn (rows (aX m c)) (rows (aD m c)) := by
  refine ((Pipeline.afterRegion_arr (dat3 (w6 m) c) (w6 m c) winFacts3.arr_inj 2).trans (arr3 (w6 m) c)).trans ?_
  rw [w6_keeps m c main_v2 (by decide), w6_keeps m c main_v13 (by decide), w5_v2 m c, w5_v13 m c]

/-- Arguments up to the fifth region. -/
theorem w7_arg (r : Ref sig .tc) (h : r ∈ args) : w7 m c r = m ((c : Thread nD τ).loc r) :=
  (w7_keeps m c r ((by decide : ∀ r ∈ args, ∀ w, Pipeline.arrRef spec3 w = r → (cfg3.win w).isOut = false) r h)).trans <|
  (w6_keeps m c r ((by decide : ∀ r ∈ args, ∀ w, Pipeline.arrRef spec2 w = r → (cfg2.win w).isOut = false) r h)).trans <|
  (w5_keeps m c r ((by decide : ∀ r ∈ args, r ∉ hostOps2_W) r h)).trans (w4_arg m c r h)

theorem w8_v16 : w8 m c (Proc.devRef .tc main_v16) = grad (aD m c) (aX m c) := by
  refine (host4_v16 (w7 m c)).trans ?_
  rw [w7_v15 m c]
  exact grad_eq _ _

theorem w8_v17 : w8 m c (Proc.devRef .tc main_v17) = back (aD m c) (aS m c) := by
  refine (host4_v17 (w7 m c)).trans ?_
  rw [w7_keeps m c main_v14 (by decide), w6_v14 m c]
  exact back_eq _ _

theorem w8_v19 : w8 m c (Proc.devRef .tc main_v19) = rowsW (aE m c) :=
  (host4_v19 (w7 m c)).trans (congrArg rowsW (w7_arg m c main_arg4 (by decide)))

theorem w8_v8 : w8 m c (Proc.devRef .tc main_v8) = rows (aX m c) := by
  rw [w8_keeps m c main_v8 (by decide), w7_keeps m c main_v8 (by decide), w6_keeps m c main_v8 (by decide),
    w5_keeps m c main_v8 (by decide), w4_keeps m c main_v8 (by decide), w3_v8 m c]
theorem w8_v9 : w8 m c (Proc.devRef .tc main_v9) = matW (aW m c) := by
  rw [w8_keeps m c main_v9 (by decide), w7_keeps m c main_v9 (by decide), w6_keeps m c main_v9 (by decide),
    w5_keeps m c main_v9 (by decide), w4_keeps m c main_v9 (by decide), w3_v9 m c]

theorem w9_v20 : w9 m c (Proc.devRef .tc main_v20) = nt (rowsW (aE m c)) (matW (aW m c)) := by
  refine ((Pipeline.afterRegion_arr (dat4 (w8 m) c) (w8 m c) winFacts4.arr_inj 2).trans (arr4 (w8 m) c)).trans ?_
  rw [w8_v19 m c, w8_v9 m c]

theorem w10_v21 : w10 m c (Proc.devRef .tc main_v21) = tn (rows (aX m c)) (rowsW (aE m c)) := by
  refine ((Pipeline.afterRegion_arr (dat5 (w9 m) c) (w9 m c) winFacts5.arr_inj 2).trans (arr5 (w9 m) c)).trans ?_
  rw [w9_keeps m c main_v8 (by decide), w9_keeps m c main_v19 (by decide), w8_v8 m c, w8_v19 m c]

/-! ### The six results at the end -/

theorem end_v22 : w11 m c (Proc.devRef .tc main_v22) = gradW (aE m c) (aX m c) := by
  refine (host6_v22 (w10 m c)).trans ?_
  rw [w10_v21 m c]
  exact gradW_eq _ _

theorem end_v23 : w11 m c (Proc.devRef .tc main_v23) = backW (aE m c) (aW m c) := by
  refine (host6_v23 (w10 m c)).trans ?_
  rw [w10_keeps m c main_v20 (by decide), w9_v20 m c]
  exact backW_eq _ _

/-- What the last three items leave. -/
theorem late (r : Ref sig .tc) (h : r ∈ ([main_v5, main_v11, main_v16, main_v17] : List (Ref sig .tc))) : w11 m c r = w8 m c r :=
  (w11_keeps m c r ((by decide : ∀ r ∈ ([main_v5, main_v11, main_v16, main_v17] : List (Ref sig .tc)), r ∉ hostOps6_W) r h)).trans <|
  (w10_keeps m c r ((by decide : ∀ r ∈ ([main_v5, main_v11, main_v16, main_v17] : List (Ref sig .tc)),
    ∀ w, Pipeline.arrRef spec5 w = r → (cfg5.win w).isOut = false) r h)).trans <|
  w9_keeps m c r ((by decide : ∀ r ∈ ([main_v5, main_v11, main_v16, main_v17] : List (Ref sig .tc)),
    ∀ w, Pipeline.arrRef spec4 w = r → (cfg4.win w).isOut = false) r h)

theorem end_v16 : w11 m c (Proc.devRef .tc main_v16) = grad (aD m c) (aX m c) := (late m c main_v16 (by decide)).trans (w8_v16 m c)
theorem end_v17 : w11 m c (Proc.devRef .tc main_v17) = back (aD m c) (aS m c) := (late m c main_v17 (by decide)).trans (w8_v17 m c)

/-- What the second half of the items leaves. -/
theorem mid (r : Ref sig .tc) (h : r ∈ ([main_v5, main_v11] : List (Ref sig .tc))) : w8 m c r = w5 m c r :=
  (w8_keeps m c r ((by decide : ∀ r ∈ ([main_v5, main_v11] : List (Ref sig .tc)), r ∉ hostOps4_W) r h)).trans <|
  (w7_keeps m c r ((by decide : ∀ r ∈ ([main_v5, main_v11] : List (Ref sig .tc)),
    ∀ w, Pipeline.arrRef spec3 w = r → (cfg3.win w).isOut = false) r h)).trans <|
  w6_keeps m c r ((by decide : ∀ r ∈ ([main_v5, main_v11] : List (Ref sig .tc)),
    ∀ w, Pipeline.arrRef spec2 w = r → (cfg2.win w).isOut = false) r h)

theorem end_v11 : w11 m c (Proc.devRef .tc main_v11) = linW (aX m c) (aW m c) :=
  (late m c main_v11 (by decide)).trans ((mid m c main_v11 (by decide)).trans (w5_v11 m c))

theorem end_v5 : w11 m c (Proc.devRef .tc main_v5) = lin (aX m c) (aS m c) := by
  refine (late m c main_v5 (by decide)).trans ((mid m c main_v5 (by decide)).trans ?_)
  rw [w5_keeps m c main_v5 (by decide), w4_keeps m c main_v5 (by decide), w3_v5 m c]

end Cert.Proj
-- ==== Proof.ProjSameA.lean ====
module

public import proofs.«01_k».proof.Proof.Gen.Kernel3
public import proofs.«01_k».proof.Proof.Gen.Kernel3Ideal
public import Idealize.ShloMosaic.PureOps.BitExact

/-! # Bodies of the projections' program that are the same in its two printings: regions 0, 1 and 2 -/

@[expose] public section

set_option maxHeartbeats 20000000

noncomputable section

namespace Cert.Proj

open Idealize.ShloMosaic

theorem same_0 : @Cert.Kernel3.cc0_bmm_nn Bits _ _ = @Cert.Kernel3Ideal.cc0_bmm_nn Bits _ _ := rfl
theorem same_1 : @Cert.Kernel3.cc1_bmm_nn Bits _ _ = @Cert.Kernel3Ideal.cc1_bmm_nn Bits _ _ := rfl
theorem same_2 : @Cert.Kernel3.cc2_bmm_nt Bits _ _ = @Cert.Kernel3Ideal.cc2_bmm_nt Bits _ _ := rfl

end Cert.Proj
-- ==== Proof.ProjSameB.lean ====
module

public import proofs.«01_k».proof.Proof.Gen.Kernel3
public import proofs.«01_k».proof.Proof.Gen.Kernel3Ideal
public import Idealize.ShloMosaic.PureOps.BitExact

/-! # Bodies of the projections' program that are the same in its two printings: regions 3 and 4 -/

@[expose] public section

set_option maxHeartbeats 20000000

noncomputable section

namespace Cert.Proj

open Idealize.ShloMosaic

theorem same_3 : @Cert.Kernel3.cc3_bmm_tn Bits _ _ = @Cert.Kernel3Ideal.cc3_bmm_tn Bits _ _ := rfl
theorem same_4 : @Cert.Kernel3.cc4_bmm_nt Bits _ _ = @Cert.Kernel3Ideal.cc4_bmm_nt Bits _ _ := rfl

end Cert.Proj
-- ==== Proof.ProjSameC.lean ====
module

public import proofs.«01_k».proof.Proof.Gen.Kernel3
public import proofs.«01_k».proof.Proof.Gen.Kernel3Ideal
public import Idealize.ShloMosaic.PureOps.BitExact

/-! # Bodies of the projections' program that are the same in its two printings: region 5 -/

@[expose] public section

set_option maxHeartbeats 20000000

noncomputable section

namespace Cert.Proj

open Idealize.ShloMosaic

theorem same_5 : @Cert.Kernel3.cc5_bmm_tn Bits _ _ = @Cert.Kernel3Ideal.cc5_bmm_tn Bits _ _ := rfl

end Cert.Proj
-- ==== Proof.ProjSame.lean ====
module

public import proofs.«01_k».proof.Proof.FfnSame
public import proofs.«01_k».proof.Proof.ProjSameA
public import proofs.«01_k».proof.Proof.ProjSameB
public import proofs.«01_k».proof.Proof.ProjSameC

/-! The projections' program is printed twice, once for the frame over bits and once for the idealized claims, and the two
printings are the same program. -/

@[expose] public section

set_option maxHeartbeats 20000000

noncomputable section

namespace Cert.Proj

open Idealize.ShloMosaic Idealize.ShloMosaic.TcCoe Idealize.SL.Sem
open Cert.Ffn (same3 same4)

theorem bodies_same : Cert.Kernel3.defs₀ (F := Bits) = Cert.Kernel3Ideal.defs₀ (F := Bits) := by
  unfold Cert.Kernel3.defs₀ Cert.Kernel3Ideal.defs₀
  refine congrArg (Defs.onTc (nD := Cert.Kernel3Ideal.nD) (τ := Cert.Kernel3Ideal.τ) (sig := Cert.Kernel3Ideal.sig)
    (Val := Elt Bits)) (funext fun l => funext fun x => ?_)
  match l, x with
  | ⟨0, _⟩, (t, s) => exact same3 same_0 _ _ _ _ _ _ _ _ _ _ _ _ _ _ rfl rfl rfl rfl
  | ⟨1, _⟩, (t, s) => exact same3 same_1 _ _ _ _ _ _ _ _ _ _ _ _ _ _ rfl rfl rfl rfl
  | ⟨2, _⟩, (t, s) => exact same3 same_2 _ _ _ _ _ _ _ _ _ _ _ _ _ _ rfl rfl rfl rfl
  | ⟨3, _⟩, (t, s) => exact same4 same_3 _ _ _ _ _ _ _ _ _ _ _ _ _ _ _ _ _ _ rfl rfl rfl rfl rfl
  | ⟨4, _⟩, (t, s) => exact same4 same_4 _ _ _ _ _ _ _ _ _ _ _ _ _ _ _ _ _ _ rfl rfl rfl rfl rfl
  | ⟨5, _⟩, (t, s) => exact same4 same_5 _ _ _ _ _ _ _ _ _ _ _ _ _ _ _ _ _ _ rfl rfl rfl rfl rfl
  | ⟨_ + 6, h⟩, _ => exact absurd h (Nat.not_lt.2 (Nat.le_add_left _ _))

theorem defs_same : Cert.Kernel3.defs (F := Bits) = Cert.Kernel3Ideal.defs (F := Bits) :=
  congrArg (Pipeline.defs (Cert.Kernel3Ideal.pcfgs (F := Bits))) bodies_same

end Cert.Proj
-- ==== Proof.ProjClaim.lean ====
module

public import proofs.«01_k».proof.Defs
public import proofs.«01_k».proof.Proof.ProjVal
public import proofs.«01_k».proof.Proof.ProjSame
public import proofs.«01_k».proof.Proof.Gen.Reference3Ideal.Run

/-!
# The projections' claims over the extended reals

The frames of the kernel's and the reference's programs, and the equality of their six results.
-/

@[expose] public section

set_option maxRecDepth 16384
set_option maxHeartbeats 1000000

noncomputable section

namespace Cert.Proj

open Idealize.ShloMosaic Idealize.ShloMosaic.TcCoe Idealize.SL.Sem

/-- Over the extended reals the kernel ends every run with its arguments as launched and every counter at zero. -/
theorem frame_kernel3Ideal : Cert.quiescent_Kernel3Ideal := fun m ρ _ => run_main (F := Ideal) m ρ

/-- The kernel as printed is the same program, so its run is the same run. -/
theorem frame_kernel3 : Cert.quiescent_Kernel3 := fun m ρ _ => by
  have h := run_main (F := Bits) m ρ
  rw [← defs_same] at h
  exact h

theorem no_sems : ∀ s : SemLoc Cert.Reference3Ideal.sig, False := by decide

/-- The same of the reference, which has no counters. -/
theorem frame_reference3Ideal : Cert.quiescent_Reference3Ideal := fun m ρ _ =>
  (θ_run _ _ _).mono (fun _ h => ⟨fun c => (h c).2.2.2.2.2.2, funext fun g => (no_sems g.2).elim⟩)
    (Cert.Reference3Ideal.Value.run (F := Ideal) m ρ)

section
open Cert.Reference3Ideal
variable (m : (ℓ : Loc nD τ sig) → Buf (Elt Ideal) ℓ) (c : Dev nD)

/-! ### The reference's arguments -/

abbrev bX : XT := m ((c.tc : Thread nD τ).loc main_arg0)
abbrev bS : ST := m ((c.tc : Thread nD τ).loc main_arg1)
abbrev bW : WT := m ((c.tc : Thread nD τ).loc main_arg2)
abbrev bD : XT := m ((c.tc : Thread nD τ).loc main_arg3)
abbrev bE : ZT := m ((c.tc : Thread nD τ).loc main_arg4)

/-- The reference's run, its results by name. -/
theorem ref_run (ρ : Dev nD → PrngReg) :
    θ_run defs (onTc (τ := τ) (main (F := Ideal))) ⟨m, fun _ => 0, ρ⟩ fun r => ∀ c : Dev nD,
      r.2.mem ((c.tc : Thread nD τ).loc main_v0) = lin (bX m c) (bS m c)
      ∧ r.2.mem ((c.tc : Thread nD τ).loc main_v4) = back (bD m c) (bS m c)
      ∧ r.2.mem ((c.tc : Thread nD τ).loc main_v3) = grad (bD m c) (bX m c)
      ∧ r.2.mem ((c.tc : Thread nD τ).loc main_v1) = linW (bX m c) (bW m c)
      ∧ r.2.mem ((c.tc : Thread nD τ).loc main_v7) = backW (bE m c) (bW m c)
      ∧ r.2.mem ((c.tc : Thread nD τ).loc main_v6) = gradW (bE m c) (bX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => by
    obtain ⟨h0, h1, h2, h3, h4, h5, hk⟩ := h c
    exact ⟨h0, h1, h2, h3, h4, h5, hk⟩) (Value.run (F := Ideal) m ρ)
end

/-- Over the extended reals the kernel and the reference leave equal results from equal arguments. -/
theorem algebraic3 : Cert.algebraic_Kernel3Ideal_Reference3Ideal := by
  intro m g m' g' _ hargs
  refine ⟨fun c => lin (aX m c) (aS m c), fun c => back (aD m c) (aS m c), fun c => grad (aD m c) (aX m c),
    fun c => linW (aX m c) (aW m c), fun c => backW (aE m c) (aW m c), fun c => gradW (aE m c) (aX m c), ?_, ?_⟩
  · refine (θ_run _ _ _).mono (fun r h c => ?_) (run_all (F := Ideal) m g)
    have k := fun (b : Ref Kernel3Ideal.sig .tc) (hb : b.isScoped = false) => h.1 c _ (uc b hb)
    have e := end_args m c
    exact ⟨(k Kernel3Ideal.main_v5 rfl).trans (end_v5 m c), (k Kernel3Ideal.main_v17 rfl).trans (end_v17 m c),
      (k Kernel3Ideal.main_v16 rfl).trans (end_v16 m c), (k Kernel3Ideal.main_v11 rfl).trans (end_v11 m c),
      (k Kernel3Ideal.main_v23 rfl).trans (end_v23 m c), (k Kernel3Ideal.main_v22 rfl).trans (end_v22 m c),
      (k Kernel3Ideal.main_arg0 rfl).trans (e _ (by decide)), (k Kernel3Ideal.main_arg1 rfl).trans (e _ (by decide)),
      (k Kernel3Ideal.main_arg2 rfl).trans (e _ (by decide)), (k Kernel3Ideal.main_arg3 rfl).trans (e _ (by decide)),
      (k Kernel3Ideal.main_arg4 rfl).trans (e _ (by decide))⟩
  · refine (θ_run _ _ _).mono (fun r h c => ?_) (ref_run m' g')
    obtain ⟨e0, e1, e2, e3, e4⟩ := hargs c
    have q0 : bX m' c = aX m c := e0
    have q1 : bS m' c = aS m c := e1
    have q2 : bW m' c = aW m c := e2
    have q3 : bD m' c = aD m c := e3
    have q4 : bE m' c = aE m c := e4
    obtain ⟨h0, h1, h2, h3, h4, h5, hk⟩ := h c
    refine ⟨h0.trans ?_, h1.trans ?_, h2.trans ?_, h3.trans ?_, h4.trans ?_, h5.trans ?_, hk⟩
    all_goals simp only [q0, q1, q2, q3, q4]

end Cert.Proj
-- ==== Proof.AdamEv.lean ====
module

public import proofs.«01_k».proof.Defs
public import proofs.«01_k».proof.Proof.Adam
public import proofs.«01_k».proof.Proof.Gen.Kernel4Ideal.Frame
public import proofs.«01_k».proof.Proof.Gen.Reference4Ideal.Run
public import proofs.«01_k».proof.Proof.Gen.Kernel5Ideal.Frame
public import proofs.«01_k».proof.Proof.Gen.Reference5Ideal.Run
public import proofs.«01_k».proof.Proof.Gen.Kernel6Ideal.Frame
public import proofs.«01_k».proof.Proof.Gen.Reference6Ideal.Run
public import proofs.«01_k».proof.Proof.Gen.Kernel7Ideal.Frame
public import proofs.«01_k».proof.Proof.Gen.Reference7Ideal.Run
public import proofs.«01_k».proof.Proof.Gen.Kernel8Ideal.Frame
public import proofs.«01_k».proof.Proof.Gen.Reference8Ideal.Run

/-!
# The AdamW step of the even layer's matrices

For each shape: `Adam`'s facts about a block, applied to the blocks that the grid walks, give the three result arrays.
-/

@[expose] public section

set_option maxRecDepth 16384
set_option maxHeartbeats 1000000

noncomputable section

namespace Cert.Adam

open Idealize.ShloMosaic Idealize.ShloMosaic.TcCoe Idealize.ShloMosaic.StableHlo Idealize.SL.Sem

/-! ### The even layer's input projection -/

section
open Cert.Kernel4Ideal Cert.Kernel4Ideal.Gen
variable (m : (ℓ : Loc nD τ sig) → Buf (Elt Ideal) ℓ) (c : Dev nD)

/-- What the body writes, from the four blocks it reads. -/
theorem block4 (x0 x1 x2 x3 : Vec Ideal S256x980 .f32) :
    out0_4 x0 x1 x2 x3 = (fun y => chg (x0 y) (x1 y) (x2 y) (x3 y)) ∧ out0_5 x0 x1 x2 x3 = (fun y => mom (x1 y) (x2 y))
    ∧ out0_6 x0 x1 x2 x3 = fun y => sec (x1 y) (x3 y) :=
  ⟨chg_block hz x0 x1 x2 x3, mom_block hz x1 x2, sec_block hz x1 x3⟩

/-- The result arrays after the last grid point: the step of the whole arrays. -/
theorem ends4 :
    (dats m 0 c).arrAt 4 cfg0.N = chgs shapeCasts_S1x2048x980_S2048x980 (m (c.tc.loc main_arg0)) (m (c.tc.loc main_arg1)) (m (c.tc.loc main_arg2)) (m (c.tc.loc main_arg3))
    ∧ (dats m 0 c).arrAt 5 cfg0.N = moms shapeCasts_S1x2048x980_S2048x980 (m (c.tc.loc main_arg1)) (m (c.tc.loc main_arg2))
    ∧ (dats m 0 c).arrAt 6 cfg0.N = secs shapeCasts_S1x2048x980_S2048x980 (m (c.tc.loc main_arg1)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · rw [after0_4, (block4 _ _ _ _).1]; rfl
  · rw [after0_5, (block4 _ _ _ _).2.1]; rfl
  · rw [after0_6, (block4 _ _ _ _).2.2]; rfl

/-- The kernel's three results are the reference's. -/
theorem algebraic4 : Cert.algebraic_Kernel4Ideal_Reference4Ideal := by
  intro m g m' g' _ hargs
  refine ⟨fun c => (dats m 0 c).arrAt 4 cfg0.N, fun c => (dats m 0 c).arrAt 5 cfg0.N, fun c => (dats m 0 c).arrAt 6 cfg0.N,
    (θ_run _ _ _).mono (fun r h c => ⟨(h.1 c).1 4, (h.1 c).1 5, (h.1 c).1 6, h.2.1 c⟩)
      (θ_run_and (run_main (F := Ideal) m g) (frame (F := Ideal) m g)),
    (θ_run _ _ _).mono (fun r h c => ?_) (Cert.Reference4Ideal.Value.run (F := Ideal) m' g')⟩
  obtain ⟨h0, h1, h2, hk⟩ := h c
  obtain ⟨a0, a1, a2, a3⟩ := hargs c
  obtain ⟨e0, e1, e2⟩ := ends4 m c
  rw [a0, a1, a2, a3] at h0
  rw [a1, a2] at h1
  rw [a1, a3] at h2
  exact ⟨h0.trans e0.symm, h1.trans e1.symm, h2.trans e2.symm, hk⟩

/-- The reference leaves its arguments as launched; it has no counters. -/
theorem frame_reference4 : Cert.quiescent_Reference4Ideal := fun m ρ _ =>
  (θ_run _ _ _).mono (fun _ h => ⟨fun c => (h c).2.2.2, funext fun g =>
      ((by decide : ∀ s : SemLoc Cert.Reference4Ideal.sig, False) g.2).elim⟩) (Cert.Reference4Ideal.Value.run (F := Ideal) m ρ)

end

/-! ### MLA's second query projection -/

section
open Cert.Kernel5Ideal Cert.Kernel5Ideal.Gen
variable (m : (ℓ : Loc nD τ sig) → Buf (Elt Ideal) ℓ) (c : Dev nD)

/-- What the body writes, from the four blocks it reads. -/
theorem block5 (x0 x1 x2 x3 : Vec Ideal S512x384 .f32) :
    out0_4 x0 x1 x2 x3 = (fun y => chg (x0 y) (x1 y) (x2 y) (x3 y)) ∧ out0_5 x0 x1 x2 x3 = (fun y => mom (x1 y) (x2 y))
    ∧ out0_6 x0 x1 x2 x3 = fun y => sec (x1 y) (x3 y) :=
  ⟨chg_block hz x0 x1 x2 x3, mom_block hz x1 x2, sec_block hz x1 x3⟩

/-- The result arrays after the last grid point: the step of the whole arrays. -/
theorem ends5 :
    (dats m 0 c).arrAt 4 cfg0.N = chgs shapeCasts_S1x512x384_S512x384 (m (c.tc.loc main_arg0)) (m (c.tc.loc main_arg1)) (m (c.tc.loc main_arg2)) (m (c.tc.loc main_arg3))
    ∧ (dats m 0 c).arrAt 5 cfg0.N = moms shapeCasts_S1x512x384_S512x384 (m (c.tc.loc main_arg1)) (m (c.tc.loc main_arg2))
    ∧ (dats m 0 c).arrAt 6 cfg0.N = secs shapeCasts_S1x512x384_S512x384 (m (c.tc.loc main_arg1)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · rw [after0_4, (block5 _ _ _ _).1]; rfl
  · rw [after0_5, (block5 _ _ _ _).2.1]; rfl
  · rw [after0_6, (block5 _ _ _ _).2.2]; rfl

/-- The kernel's three results are the reference's. -/
theorem algebraic5 : Cert.algebraic_Kernel5Ideal_Reference5Ideal := by
  intro m g m' g' _ hargs
  refine ⟨fun c => (dats m 0 c).arrAt 4 cfg0.N, fun c => (dats m 0 c).arrAt 5 cfg0.N, fun c => (dats m 0 c).arrAt 6 cfg0.N,
    (θ_run _ _ _).mono (fun r h c => ⟨(h.1 c).1 4, (h.1 c).1 5, (h.1 c).1 6, h.2.1 c⟩)
      (θ_run_and (run_main (F := Ideal) m g) (frame (F := Ideal) m g)),
    (θ_run _ _ _).mono (fun r h c => ?_) (Cert.Reference5Ideal.Value.run (F := Ideal) m' g')⟩
  obtain ⟨h0, h1, h2, hk⟩ := h c
  obtain ⟨a0, a1, a2, a3⟩ := hargs c
  obtain ⟨e0, e1, e2⟩ := ends5 m c
  rw [a0, a1, a2, a3] at h0
  rw [a1, a2] at h1
  rw [a1, a3] at h2
  exact ⟨h0.trans e0.symm, h1.trans e1.symm, h2.trans e2.symm, hk⟩

/-- The reference leaves its arguments as launched; it has no counters. -/
theorem frame_reference5 : Cert.quiescent_Reference5Ideal := fun m ρ _ =>
  (θ_run _ _ _).mono (fun _ h => ⟨fun c => (h c).2.2.2, funext fun g =>
      ((by decide : ∀ s : SemLoc Cert.Reference5Ideal.sig, False) g.2).elim⟩) (Cert.Reference5Ideal.Value.run (F := Ideal) m ρ)

end

/-! ### MLA's second key and value projection -/

section
open Cert.Kernel6Ideal Cert.Kernel6Ideal.Gen
variable (m : (ℓ : Loc nD τ sig) → Buf (Elt Ideal) ℓ) (c : Dev nD)

/-- What the body writes, from the four blocks it reads. -/
theorem block6 (x0 x1 x2 x3 : Vec Ideal S256x512 .f32) :
    out0_4 x0 x1 x2 x3 = (fun y => chg (x0 y) (x1 y) (x2 y) (x3 y)) ∧ out0_5 x0 x1 x2 x3 = (fun y => mom (x1 y) (x2 y))
    ∧ out0_6 x0 x1 x2 x3 = fun y => sec (x1 y) (x3 y) :=
  ⟨chg_block hz x0 x1 x2 x3, mom_block hz x1 x2, sec_block hz x1 x3⟩

/-- The result arrays after the last grid point: the step of the whole arrays. -/
theorem ends6 :
    (dats m 0 c).arrAt 4 cfg0.N = chgs shapeCasts_S1x256x512_S256x512 (m (c.tc.loc main_arg0)) (m (c.tc.loc main_arg1)) (m (c.tc.loc main_arg2)) (m (c.tc.loc main_arg3))
    ∧ (dats m 0 c).arrAt 5 cfg0.N = moms shapeCasts_S1x256x512_S256x512 (m (c.tc.loc main_arg1)) (m (c.tc.loc main_arg2))
    ∧ (dats m 0 c).arrAt 6 cfg0.N = secs shapeCasts_S1x256x512_S256x512 (m (c.tc.loc main_arg1)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · rw [after0_4, (block6 _ _ _ _).1]; rfl
  · rw [after0_5, (block6 _ _ _ _).2.1]; rfl
  · rw [after0_6, (block6 _ _ _ _).2.2]; rfl

/-- The kernel's three results are the reference's. -/
theorem algebraic6 : Cert.algebraic_Kernel6Ideal_Reference6Ideal := by
  intro m g m' g' _ hargs
  refine ⟨fun c => (dats m 0 c).arrAt 4 cfg0.N, fun c => (dats m 0 c).arrAt 5 cfg0.N, fun c => (dats m 0 c).arrAt 6 cfg0.N,
    (θ_run _ _ _).mono (fun r h c => ⟨(h.1 c).1 4, (h.1 c).1 5, (h.1 c).1 6, h.2.1 c⟩)
      (θ_run_and (run_main (F := Ideal) m g) (frame (F := Ideal) m g)),
    (θ_run _ _ _).mono (fun r h c => ?_) (Cert.Reference6Ideal.Value.run (F := Ideal) m' g')⟩
  obtain ⟨h0, h1, h2, hk⟩ := h c
  obtain ⟨a0, a1, a2, a3⟩ := hargs c
  obtain ⟨e0, e1, e2⟩ := ends6 m c
  rw [a0, a1, a2, a3] at h0
  rw [a1, a2] at h1
  rw [a1, a3] at h2
  exact ⟨h0.trans e0.symm, h1.trans e1.symm, h2.trans e2.symm, hk⟩

/-- The reference leaves its arguments as launched; it has no counters. -/
theorem frame_reference6 : Cert.quiescent_Reference6Ideal := fun m ρ _ =>
  (θ_run _ _ _).mono (fun _ h => ⟨fun c => (h c).2.2.2, funext fun g =>
      ((by decide : ∀ s : SemLoc Cert.Reference6Ideal.sig, False) g.2).elim⟩) (Cert.Reference6Ideal.Value.run (F := Ideal) m ρ)

end

/-! ### GLA's second gate projection -/

section
open Cert.Kernel7Ideal Cert.Kernel7Ideal.Gen
variable (m : (ℓ : Loc nD τ sig) → Buf (Elt Ideal) ℓ) (c : Dev nD)

/-- What the body writes, from the four blocks it reads. -/
theorem block7 (x0 x1 x2 x3 : Vec Ideal S16x128 .f32) :
    out0_4 x0 x1 x2 x3 = (fun y => chg (x0 y) (x1 y) (x2 y) (x3 y)) ∧ out0_5 x0 x1 x2 x3 = (fun y => mom (x1 y) (x2 y))
    ∧ out0_6 x0 x1 x2 x3 = fun y => sec (x1 y) (x3 y) :=
  ⟨chg_block hz x0 x1 x2 x3, mom_block hz x1 x2, sec_block hz x1 x3⟩

/-- The result arrays after the last grid point: the step of the whole arrays. -/
theorem ends7 :
    (dats m 0 c).arrAt 4 cfg0.N = chgs shapeCasts_S1x16x128_S16x128 (m (c.tc.loc main_arg0)) (m (c.tc.loc main_arg1)) (m (c.tc.loc main_arg2)) (m (c.tc.loc main_arg3))
    ∧ (dats m 0 c).arrAt 5 cfg0.N = moms shapeCasts_S1x16x128_S16x128 (m (c.tc.loc main_arg1)) (m (c.tc.loc main_arg2))
    ∧ (dats m 0 c).arrAt 6 cfg0.N = secs shapeCasts_S1x16x128_S16x128 (m (c.tc.loc main_arg1)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · rw [after0_4, (block7 _ _ _ _).1]; rfl
  · rw [after0_5, (block7 _ _ _ _).2.1]; rfl
  · rw [after0_6, (block7 _ _ _ _).2.2]; rfl

/-- The kernel's three results are the reference's. -/
theorem algebraic7 : Cert.algebraic_Kernel7Ideal_Reference7Ideal := by
  intro m g m' g' _ hargs
  refine ⟨fun c => (dats m 0 c).arrAt 4 cfg0.N, fun c => (dats m 0 c).arrAt 5 cfg0.N, fun c => (dats m 0 c).arrAt 6 cfg0.N,
    (θ_run _ _ _).mono (fun r h c => ⟨(h.1 c).1 4, (h.1 c).1 5, (h.1 c).1 6, h.2.1 c⟩)
      (θ_run_and (run_main (F := Ideal) m g) (frame (F := Ideal) m g)),
    (θ_run _ _ _).mono (fun r h c => ?_) (Cert.Reference7Ideal.Value.run (F := Ideal) m' g')⟩
  obtain ⟨h0, h1, h2, hk⟩ := h c
  obtain ⟨a0, a1, a2, a3⟩ := hargs c
  obtain ⟨e0, e1, e2⟩ := ends7 m c
  rw [a0, a1, a2, a3] at h0
  rw [a1, a2] at h1
  rw [a1, a3] at h2
  exact ⟨h0.trans e0.symm, h1.trans e1.symm, h2.trans e2.symm, hk⟩

/-- The reference leaves its arguments as launched; it has no counters. -/
theorem frame_reference7 : Cert.quiescent_Reference7Ideal := fun m ρ _ =>
  (θ_run _ _ _).mono (fun _ h => ⟨fun c => (h c).2.2.2, funext fun g =>
      ((by decide : ∀ s : SemLoc Cert.Reference7Ideal.sig, False) g.2).elim⟩) (Cert.Reference7Ideal.Value.run (F := Ideal) m ρ)

end

/-! ### The output projection of either mixer -/

section
open Cert.Kernel8Ideal Cert.Kernel8Ideal.Gen
variable (m : (ℓ : Loc nD τ sig) → Buf (Elt Ideal) ℓ) (c : Dev nD)

/-- What the body writes, from the four blocks it reads. -/
theorem block8 (x0 x1 x2 x3 : Vec Ideal S128x2048 .f32) :
    out0_4 x0 x1 x2 x3 = (fun y => chg (x0 y) (x1 y) (x2 y) (x3 y)) ∧ out0_5 x0 x1 x2 x3 = (fun y => mom (x1 y) (x2 y))
    ∧ out0_6 x0 x1 x2 x3 = fun y => sec (x1 y) (x3 y) :=
  ⟨chg_block hz x0 x1 x2 x3, mom_block hz x1 x2, sec_block hz x1 x3⟩

/-- The result arrays after the last grid point: the step of the whole arrays. -/
theorem ends8 :
    (dats m 0 c).arrAt 4 cfg0.N = chgs shapeCasts_S1x512x2048_S512x2048 (m (c.tc.loc main_arg0)) (m (c.tc.loc main_arg1)) (m (c.tc.loc main_arg2)) (m (c.tc.loc main_arg3))
    ∧ (dats m 0 c).arrAt 5 cfg0.N = moms shapeCasts_S1x512x2048_S512x2048 (m (c.tc.loc main_arg1)) (m (c.tc.loc main_arg2))
    ∧ (dats m 0 c).arrAt 6 cfg0.N = secs shapeCasts_S1x512x2048_S512x2048 (m (c.tc.loc main_arg1)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · rw [after0_4, (block8 _ _ _ _).1]; rfl
  · rw [after0_5, (block8 _ _ _ _).2.1]; rfl
  · rw [after0_6, (block8 _ _ _ _).2.2]; rfl

/-- The kernel's three results are the reference's. -/
theorem algebraic8 : Cert.algebraic_Kernel8Ideal_Reference8Ideal := by
  intro m g m' g' _ hargs
  refine ⟨fun c => (dats m 0 c).arrAt 4 cfg0.N, fun c => (dats m 0 c).arrAt 5 cfg0.N, fun c => (dats m 0 c).arrAt 6 cfg0.N,
    (θ_run _ _ _).mono (fun r h c => ⟨(h.1 c).1 4, (h.1 c).1 5, (h.1 c).1 6, h.2.1 c⟩)
      (θ_run_and (run_main (F := Ideal) m g) (frame (F := Ideal) m g)),
    (θ_run _ _ _).mono (fun r h c => ?_) (Cert.Reference8Ideal.Value.run (F := Ideal) m' g')⟩
  obtain ⟨h0, h1, h2, hk⟩ := h c
  obtain ⟨a0, a1, a2, a3⟩ := hargs c
  obtain ⟨e0, e1, e2⟩ := ends8 m c
  rw [a0, a1, a2, a3] at h0
  rw [a1, a2] at h1
  rw [a1, a3] at h2
  exact ⟨h0.trans e0.symm, h1.trans e1.symm, h2.trans e2.symm, hk⟩

/-- The reference leaves its arguments as launched; it has no counters. -/
theorem frame_reference8 : Cert.quiescent_Reference8Ideal := fun m ρ _ =>
  (θ_run _ _ _).mono (fun _ h => ⟨fun c => (h c).2.2.2, funext fun g =>
      ((by decide : ∀ s : SemLoc Cert.Reference8Ideal.sig, False) g.2).elim⟩) (Cert.Reference8Ideal.Value.run (F := Ideal) m ρ)

end

end Cert.Adam

end
-- ==== Proof.AdamOd.lean ====
module

public import proofs.«01_k».proof.Defs
public import proofs.«01_k».proof.Proof.Adam
public import proofs.«01_k».proof.Proof.Gen.Kernel9Ideal.Frame
public import proofs.«01_k».proof.Proof.Gen.Reference9Ideal.Run
public import proofs.«01_k».proof.Proof.Gen.Kernel10Ideal.Frame
public import proofs.«01_k».proof.Proof.Gen.Reference10Ideal.Run
public import proofs.«01_k».proof.Proof.Gen.Kernel11Ideal.Frame
public import proofs.«01_k».proof.Proof.Gen.Reference11Ideal.Run

/-!
# The AdamW step of the odd layer's matrices

For each shape: `Adam`'s facts about a block, applied to the blocks that the grid walks, give the three result arrays.
-/

@[expose] public section

set_option maxRecDepth 16384
set_option maxHeartbeats 1000000

noncomputable section

namespace Cert.Adam

open Idealize.ShloMosaic Idealize.ShloMosaic.TcCoe Idealize.ShloMosaic.StableHlo Idealize.SL.Sem

/-! ### The odd layer's input projection -/

section
open Cert.Kernel9Ideal Cert.Kernel9Ideal.Gen
variable (m : (ℓ : Loc nD τ sig) → Buf (Elt Ideal) ℓ) (c : Dev nD)

/-- What the body writes, from the four blocks it reads. -/
theorem block9 (x0 x1 x2 x3 : Vec Ideal S128x1648 .f32) :
    out0_4 x0 x1 x2 x3 = (fun y => chg (x0 y) (x1 y) (x2 y) (x3 y)) ∧ out0_5 x0 x1 x2 x3 = (fun y => mom (x1 y) (x2 y))
    ∧ out0_6 x0 x1 x2 x3 = fun y => sec (x1 y) (x3 y) :=
  ⟨chg_block hz x0 x1 x2 x3, mom_block hz x1 x2, sec_block hz x1 x3⟩

/-- The result arrays after the last grid point: the step of the whole arrays. -/
theorem ends9 :
    (dats m 0 c).arrAt 4 cfg0.N = chgs shapeCasts_S1x2048x1648_S2048x1648 (m (c.tc.loc main_arg0)) (m (c.tc.loc main_arg1)) (m (c.tc.loc main_arg2)) (m (c.tc.loc main_arg3))
    ∧ (dats m 0 c).arrAt 5 cfg0.N = moms shapeCasts_S1x2048x1648_S2048x1648 (m (c.tc.loc main_arg1)) (m (c.tc.loc main_arg2))
    ∧ (dats m 0 c).arrAt 6 cfg0.N = secs shapeCasts_S1x2048x1648_S2048x1648 (m (c.tc.loc main_arg1)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · rw [after0_4, (block9 _ _ _ _).1]; rfl
  · rw [after0_5, (block9 _ _ _ _).2.1]; rfl
  · rw [after0_6, (block9 _ _ _ _).2.2]; rfl

/-- The kernel's three results are the reference's. -/
theorem algebraic9 : Cert.algebraic_Kernel9Ideal_Reference9Ideal := by
  intro m g m' g' _ hargs
  refine ⟨fun c => (dats m 0 c).arrAt 4 cfg0.N, fun c => (dats m 0 c).arrAt 5 cfg0.N, fun c => (dats m 0 c).arrAt 6 cfg0.N,
    (θ_run _ _ _).mono (fun r h c => ⟨(h.1 c).1 4, (h.1 c).1 5, (h.1 c).1 6, h.2.1 c⟩)
      (θ_run_and (run_main (F := Ideal) m g) (frame (F := Ideal) m g)),
    (θ_run _ _ _).mono (fun r h c => ?_) (Cert.Reference9Ideal.Value.run (F := Ideal) m' g')⟩
  obtain ⟨h0, h1, h2, hk⟩ := h c
  obtain ⟨a0, a1, a2, a3⟩ := hargs c
  obtain ⟨e0, e1, e2⟩ := ends9 m c
  rw [a0, a1, a2, a3] at h0
  rw [a1, a2] at h1
  rw [a1, a3] at h2
  exact ⟨h0.trans e0.symm, h1.trans e1.symm, h2.trans e2.symm, hk⟩

/-- The reference leaves its arguments as launched; it has no counters. -/
theorem frame_reference9 : Cert.quiescent_Reference9Ideal := fun m ρ _ =>
  (θ_run _ _ _).mono (fun _ h => ⟨fun c => (h c).2.2.2, funext fun g =>
      ((by decide : ∀ s : SemLoc Cert.Reference9Ideal.sig, False) g.2).elim⟩) (Cert.Reference9Ideal.Value.run (F := Ideal) m ρ)

end

/-! ### RWKV-7's second projections of the decay and of a -/

section
open Cert.Kernel10Ideal Cert.Kernel10Ideal.Gen
variable (m : (ℓ : Loc nD τ sig) → Buf (Elt Ideal) ℓ) (c : Dev nD)

/-- What the body writes, from the four blocks it reads. -/
theorem block10 (x0 x1 x2 x3 : Vec Ideal S96x256 .f32) :
    out0_4 x0 x1 x2 x3 = (fun y => chg (x0 y) (x1 y) (x2 y) (x3 y)) ∧ out0_5 x0 x1 x2 x3 = (fun y => mom (x1 y) (x2 y))
    ∧ out0_6 x0 x1 x2 x3 = fun y => sec (x1 y) (x3 y) :=
  ⟨chg_block hz x0 x1 x2 x3, mom_block hz x1 x2, sec_block hz x1 x3⟩

/-- The result arrays after the last grid point: the step of the whole arrays. -/
theorem ends10 :
    (dats m 0 c).arrAt 4 cfg0.N = chgs shapeCasts_S1x96x256_S96x256 (m (c.tc.loc main_arg0)) (m (c.tc.loc main_arg1)) (m (c.tc.loc main_arg2)) (m (c.tc.loc main_arg3))
    ∧ (dats m 0 c).arrAt 5 cfg0.N = moms shapeCasts_S1x96x256_S96x256 (m (c.tc.loc main_arg1)) (m (c.tc.loc main_arg2))
    ∧ (dats m 0 c).arrAt 6 cfg0.N = secs shapeCasts_S1x96x256_S96x256 (m (c.tc.loc main_arg1)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · rw [after0_4, (block10 _ _ _ _).1]; rfl
  · rw [after0_5, (block10 _ _ _ _).2.1]; rfl
  · rw [after0_6, (block10 _ _ _ _).2.2]; rfl

/-- The kernel's three results are the reference's. -/
theorem algebraic10 : Cert.algebraic_Kernel10Ideal_Reference10Ideal := by
  intro m g m' g' _ hargs
  refine ⟨fun c => (dats m 0 c).arrAt 4 cfg0.N, fun c => (dats m 0 c).arrAt 5 cfg0.N, fun c => (dats m 0 c).arrAt 6 cfg0.N,
    (θ_run _ _ _).mono (fun r h c => ⟨(h.1 c).1 4, (h.1 c).1 5, (h.1 c).1 6, h.2.1 c⟩)
      (θ_run_and (run_main (F := Ideal) m g) (frame (F := Ideal) m g)),
    (θ_run _ _ _).mono (fun r h c => ?_) (Cert.Reference10Ideal.Value.run (F := Ideal) m' g')⟩
  obtain ⟨h0, h1, h2, hk⟩ := h c
  obtain ⟨a0, a1, a2, a3⟩ := hargs c
  obtain ⟨e0, e1, e2⟩ := ends10 m c
  rw [a0, a1, a2, a3] at h0
  rw [a1, a2] at h1
  rw [a1, a3] at h2
  exact ⟨h0.trans e0.symm, h1.trans e1.symm, h2.trans e2.symm, hk⟩

/-- The reference leaves its arguments as launched; it has no counters. -/
theorem frame_reference10 : Cert.quiescent_Reference10Ideal := fun m ρ _ =>
  (θ_run _ _ _).mono (fun _ h => ⟨fun c => (h c).2.2.2, funext fun g =>
      ((by decide : ∀ s : SemLoc Cert.Reference10Ideal.sig, False) g.2).elim⟩) (Cert.Reference10Ideal.Value.run (F := Ideal) m ρ)

end

/-! ### RWKV-7's second gate projection -/

section
open Cert.Kernel11Ideal Cert.Kernel11Ideal.Gen
variable (m : (ℓ : Loc nD τ sig) → Buf (Elt Ideal) ℓ) (c : Dev nD)

/-- What the body writes, from the four blocks it reads. -/
theorem block11 (x0 x1 x2 x3 : Vec Ideal S256x256 .f32) :
    out0_4 x0 x1 x2 x3 = (fun y => chg (x0 y) (x1 y) (x2 y) (x3 y)) ∧ out0_5 x0 x1 x2 x3 = (fun y => mom (x1 y) (x2 y))
    ∧ out0_6 x0 x1 x2 x3 = fun y => sec (x1 y) (x3 y) :=
  ⟨chg_block hz x0 x1 x2 x3, mom_block hz x1 x2, sec_block hz x1 x3⟩

/-- The result arrays after the last grid point: the step of the whole arrays. -/
theorem ends11 :
    (dats m 0 c).arrAt 4 cfg0.N = chgs shapeCasts_S1x256x256_S256x256 (m (c.tc.loc main_arg0)) (m (c.tc.loc main_arg1)) (m (c.tc.loc main_arg2)) (m (c.tc.loc main_arg3))
    ∧ (dats m 0 c).arrAt 5 cfg0.N = moms shapeCasts_S1x256x256_S256x256 (m (c.tc.loc main_arg1)) (m (c.tc.loc main_arg2))
    ∧ (dats m 0 c).arrAt 6 cfg0.N = secs shapeCasts_S1x256x256_S256x256 (m (c.tc.loc main_arg1)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · rw [after0_4, (block11 _ _ _ _).1]; rfl
  · rw [after0_5, (block11 _ _ _ _).2.1]; rfl
  · rw [after0_6, (block11 _ _ _ _).2.2]; rfl

/-- The kernel's three results are the reference's. -/
theorem algebraic11 : Cert.algebraic_Kernel11Ideal_Reference11Ideal := by
  intro m g m' g' _ hargs
  refine ⟨fun c => (dats m 0 c).arrAt 4 cfg0.N, fun c => (dats m 0 c).arrAt 5 cfg0.N, fun c => (dats m 0 c).arrAt 6 cfg0.N,
    (θ_run _ _ _).mono (fun r h c => ⟨(h.1 c).1 4, (h.1 c).1 5, (h.1 c).1 6, h.2.1 c⟩)
      (θ_run_and (run_main (F := Ideal) m g) (frame (F := Ideal) m g)),
    (θ_run _ _ _).mono (fun r h c => ?_) (Cert.Reference11Ideal.Value.run (F := Ideal) m' g')⟩
  obtain ⟨h0, h1, h2, hk⟩ := h c
  obtain ⟨a0, a1, a2, a3⟩ := hargs c
  obtain ⟨e0, e1, e2⟩ := ends11 m c
  rw [a0, a1, a2, a3] at h0
  rw [a1, a2] at h1
  rw [a1, a3] at h2
  exact ⟨h0.trans e0.symm, h1.trans e1.symm, h2.trans e2.symm, hk⟩

/-- The reference leaves its arguments as launched; it has no counters. -/
theorem frame_reference11 : Cert.quiescent_Reference11Ideal := fun m ρ _ =>
  (θ_run _ _ _).mono (fun _ h => ⟨fun c => (h c).2.2.2, funext fun g =>
      ((by decide : ∀ s : SemLoc Cert.Reference11Ideal.sig, False) g.2).elim⟩) (Cert.Reference11Ideal.Value.run (F := Ideal) m ρ)

end

end Cert.Adam

end
-- ==== Proof.AdamXa.lean ====
module

public import proofs.«01_k».proof.Defs
public import proofs.«01_k».proof.Proof.Adam
public import proofs.«01_k».proof.Proof.Gen.Kernel12Ideal.Frame
public import proofs.«01_k».proof.Proof.Gen.Reference12Ideal.Run
public import proofs.«01_k».proof.Proof.Gen.Kernel13Ideal.Frame
public import proofs.«01_k».proof.Proof.Gen.Reference13Ideal.Run
public import proofs.«01_k».proof.Proof.Gen.Kernel14Ideal.Frame
public import proofs.«01_k».proof.Proof.Gen.Reference14Ideal.Run

/-!
# The AdamW step of the matrices that both layers have

For each shape: `Adam`'s facts about a block, applied to the blocks that the grid walks, give the three result arrays.
-/

@[expose] public section

set_option maxRecDepth 16384
set_option maxHeartbeats 1000000

noncomputable section

namespace Cert.Adam

open Idealize.ShloMosaic Idealize.ShloMosaic.TcCoe Idealize.ShloMosaic.StableHlo Idealize.SL.Sem

/-! ### The four projections of the cross-attention -/

section
open Cert.Kernel12Ideal Cert.Kernel12Ideal.Gen
variable (m : (ℓ : Loc nD τ sig) → Buf (Elt Ideal) ℓ) (c : Dev nD)

/-- What the body writes, from the four blocks it reads. -/
theorem block12 (x0 x1 x2 x3 : Vec Ideal S128x2048 .f32) :
    out0_4 x0 x1 x2 x3 = (fun y => chg (x0 y) (x1 y) (x2 y) (x3 y)) ∧ out0_5 x0 x1 x2 x3 = (fun y => mom (x1 y) (x2 y))
    ∧ out0_6 x0 x1 x2 x3 = fun y => sec (x1 y) (x3 y) :=
  ⟨chg_block hz x0 x1 x2 x3, mom_block hz x1 x2, sec_block hz x1 x3⟩

/-- The result arrays after the last grid point: the step of the whole arrays. -/
theorem ends12 :
    (dats m 0 c).arrAt 4 cfg0.N = chgs shapeCasts_S2x512x2048_S1024x2048 (m (c.tc.loc main_arg0)) (m (c.tc.loc main_arg1)) (m (c.tc.loc main_arg2)) (m (c.tc.loc main_arg3))
    ∧ (dats m 0 c).arrAt 5 cfg0.N = moms shapeCasts_S2x512x2048_S1024x2048 (m (c.tc.loc main_arg1)) (m (c.tc.loc main_arg2))
    ∧ (dats m 0 c).arrAt 6 cfg0.N = secs shapeCasts_S2x512x2048_S1024x2048 (m (c.tc.loc main_arg1)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · rw [after0_4, (block12 _ _ _ _).1]; rfl
  · rw [after0_5, (block12 _ _ _ _).2.1]; rfl
  · rw [after0_6, (block12 _ _ _ _).2.2]; rfl

/-- The kernel's three results are the reference's. -/
theorem algebraic12 : Cert.algebraic_Kernel12Ideal_Reference12Ideal := by
  intro m g m' g' _ hargs
  refine ⟨fun c => (dats m 0 c).arrAt 4 cfg0.N, fun c => (dats m 0 c).arrAt 5 cfg0.N, fun c => (dats m 0 c).arrAt 6 cfg0.N,
    (θ_run _ _ _).mono (fun r h c => ⟨(h.1 c).1 4, (h.1 c).1 5, (h.1 c).1 6, h.2.1 c⟩)
      (θ_run_and (run_main (F := Ideal) m g) (frame (F := Ideal) m g)),
    (θ_run _ _ _).mono (fun r h c => ?_) (Cert.Reference12Ideal.Value.run (F := Ideal) m' g')⟩
  obtain ⟨h0, h1, h2, hk⟩ := h c
  obtain ⟨a0, a1, a2, a3⟩ := hargs c
  obtain ⟨e0, e1, e2⟩ := ends12 m c
  rw [a0, a1, a2, a3] at h0
  rw [a1, a2] at h1
  rw [a1, a3] at h2
  exact ⟨h0.trans e0.symm, h1.trans e1.symm, h2.trans e2.symm, hk⟩

/-- The reference leaves its arguments as launched; it has no counters. -/
theorem frame_reference12 : Cert.quiescent_Reference12Ideal := fun m ρ _ =>
  (θ_run _ _ _).mono (fun _ h => ⟨fun c => (h c).2.2.2, funext fun g =>
      ((by decide : ∀ s : SemLoc Cert.Reference12Ideal.sig, False) g.2).elim⟩) (Cert.Reference12Ideal.Value.run (F := Ideal) m ρ)

end

/-! ### The feed-forward network's matrices w_gate and w_up -/

section
open Cert.Kernel13Ideal Cert.Kernel13Ideal.Gen
variable (m : (ℓ : Loc nD τ sig) → Buf (Elt Ideal) ℓ) (c : Dev nD)

/-- What the body writes, from the four blocks it reads. -/
theorem block13 (x0 x1 x2 x3 : Vec Ideal S128x1408 .f32) :
    out0_4 x0 x1 x2 x3 = (fun y => chg (x0 y) (x1 y) (x2 y) (x3 y)) ∧ out0_5 x0 x1 x2 x3 = (fun y => mom (x1 y) (x2 y))
    ∧ out0_6 x0 x1 x2 x3 = fun y => sec (x1 y) (x3 y) :=
  ⟨chg_block hz x0 x1 x2 x3, mom_block hz x1 x2, sec_block hz x1 x3⟩

/-- The result arrays after the last grid point: the step of the whole arrays. -/
theorem ends13 :
    (dats m 0 c).arrAt 4 cfg0.N = chgs shapeCasts_S2x2048x1408_S4096x1408 (m (c.tc.loc main_arg0)) (m (c.tc.loc main_arg1)) (m (c.tc.loc main_arg2)) (m (c.tc.loc main_arg3))
    ∧ (dats m 0 c).arrAt 5 cfg0.N = moms shapeCasts_S2x2048x1408_S4096x1408 (m (c.tc.loc main_arg1)) (m (c.tc.loc main_arg2))
    ∧ (dats m 0 c).arrAt 6 cfg0.N = secs shapeCasts_S2x2048x1408_S4096x1408 (m (c.tc.loc main_arg1)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · rw [after0_4, (block13 _ _ _ _).1]; rfl
  · rw [after0_5, (block13 _ _ _ _).2.1]; rfl
  · rw [after0_6, (block13 _ _ _ _).2.2]; rfl

/-- The kernel's three results are the reference's. -/
theorem algebraic13 : Cert.algebraic_Kernel13Ideal_Reference13Ideal := by
  intro m g m' g' _ hargs
  refine ⟨fun c => (dats m 0 c).arrAt 4 cfg0.N, fun c => (dats m 0 c).arrAt 5 cfg0.N, fun c => (dats m 0 c).arrAt 6 cfg0.N,
    (θ_run _ _ _).mono (fun r h c => ⟨(h.1 c).1 4, (h.1 c).1 5, (h.1 c).1 6, h.2.1 c⟩)
      (θ_run_and (run_main (F := Ideal) m g) (frame (F := Ideal) m g)),
    (θ_run _ _ _).mono (fun r h c => ?_) (Cert.Reference13Ideal.Value.run (F := Ideal) m' g')⟩
  obtain ⟨h0, h1, h2, hk⟩ := h c
  obtain ⟨a0, a1, a2, a3⟩ := hargs c
  obtain ⟨e0, e1, e2⟩ := ends13 m c
  rw [a0, a1, a2, a3] at h0
  rw [a1, a2] at h1
  rw [a1, a3] at h2
  exact ⟨h0.trans e0.symm, h1.trans e1.symm, h2.trans e2.symm, hk⟩

/-- The reference leaves its arguments as launched; it has no counters. -/
theorem frame_reference13 : Cert.quiescent_Reference13Ideal := fun m ρ _ =>
  (θ_run _ _ _).mono (fun _ h => ⟨fun c => (h c).2.2.2, funext fun g =>
      ((by decide : ∀ s : SemLoc Cert.Reference13Ideal.sig, False) g.2).elim⟩) (Cert.Reference13Ideal.Value.run (F := Ideal) m ρ)

end

/-! ### The feed-forward network's matrix w_down -/

section
open Cert.Kernel14Ideal Cert.Kernel14Ideal.Gen
variable (m : (ℓ : Loc nD τ sig) → Buf (Elt Ideal) ℓ) (c : Dev nD)

/-- What the body writes, from the four blocks it reads. -/
theorem block14 (x0 x1 x2 x3 : Vec Ideal S128x2048 .f32) :
    out0_4 x0 x1 x2 x3 = (fun y => chg (x0 y) (x1 y) (x2 y) (x3 y)) ∧ out0_5 x0 x1 x2 x3 = (fun y => mom (x1 y) (x2 y))
    ∧ out0_6 x0 x1 x2 x3 = fun y => sec (x1 y) (x3 y) :=
  ⟨chg_block hz x0 x1 x2 x3, mom_block hz x1 x2, sec_block hz x1 x3⟩

/-- The result arrays after the last grid point: the step of the whole arrays. -/
theorem ends14 :
    (dats m 0 c).arrAt 4 cfg0.N = chgs shapeCasts_S2x1408x2048_S2816x2048 (m (c.tc.loc main_arg0)) (m (c.tc.loc main_arg1)) (m (c.tc.loc main_arg2)) (m (c.tc.loc main_arg3))
    ∧ (dats m 0 c).arrAt 5 cfg0.N = moms shapeCasts_S2x1408x2048_S2816x2048 (m (c.tc.loc main_arg1)) (m (c.tc.loc main_arg2))
    ∧ (dats m 0 c).arrAt 6 cfg0.N = secs shapeCasts_S2x1408x2048_S2816x2048 (m (c.tc.loc main_arg1)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · rw [after0_4, (block14 _ _ _ _).1]; rfl
  · rw [after0_5, (block14 _ _ _ _).2.1]; rfl
  · rw [after0_6, (block14 _ _ _ _).2.2]; rfl

/-- The kernel's three results are the reference's. -/
theorem algebraic14 : Cert.algebraic_Kernel14Ideal_Reference14Ideal := by
  intro m g m' g' _ hargs
  refine ⟨fun c => (dats m 0 c).arrAt 4 cfg0.N, fun c => (dats m 0 c).arrAt 5 cfg0.N, fun c => (dats m 0 c).arrAt 6 cfg0.N,
    (θ_run _ _ _).mono (fun r h c => ⟨(h.1 c).1 4, (h.1 c).1 5, (h.1 c).1 6, h.2.1 c⟩)
      (θ_run_and (run_main (F := Ideal) m g) (frame (F := Ideal) m g)),
    (θ_run _ _ _).mono (fun r h c => ?_) (Cert.Reference14Ideal.Value.run (F := Ideal) m' g')⟩
  obtain ⟨h0, h1, h2, hk⟩ := h c
  obtain ⟨a0, a1, a2, a3⟩ := hargs c
  obtain ⟨e0, e1, e2⟩ := ends14 m c
  rw [a0, a1, a2, a3] at h0
  rw [a1, a2] at h1
  rw [a1, a3] at h2
  exact ⟨h0.trans e0.symm, h1.trans e1.symm, h2.trans e2.symm, hk⟩

/-- The reference leaves its arguments as launched; it has no counters. -/
theorem frame_reference14 : Cert.quiescent_Reference14Ideal := fun m ρ _ =>
  (θ_run _ _ _).mono (fun _ h => ⟨fun c => (h c).2.2.2, funext fun g =>
      ((by decide : ∀ s : SemLoc Cert.Reference14Ideal.sig, False) g.2).elim⟩) (Cert.Reference14Ideal.Value.run (F := Ideal) m ρ)

end

end Cert.Adam

end
-- ==== Proof.lean ====
module

public import proofs.«01_k».proof.Defs
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.Loss
public import proofs.«01_k».proof.Proof.AdamVec
public import proofs.«01_k».proof.Proof.Sum
public import proofs.«01_k».proof.Proof.Gen.Kernel15
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel
public import proofs.«01_k».proof.Proof.Same
public import proofs.«01_k».proof.Proof.KerVal
public import proofs.«01_k».proof.Proof.RefVal
public import proofs.«01_k».proof.Proof.FfnClaim
public import proofs.«01_k».proof.Proof.ProjClaim
public import proofs.«01_k».proof.Proof.AdamEv
public import proofs.«01_k».proof.Proof.AdamOd
public import proofs.«01_k».proof.Proof.AdamXa
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Regions
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Regions
public import proofs.«01_k».proof.Proof.Gen.Reference3Ideal.Run

@[expose] public section

noncomputable section

namespace Cert.Proof

open Idealize.ShloMosaic Idealize.ShloMosaic.TcCoe Idealize.SL.Sem

/-- Over the extended reals the kernel ends every run with its arguments as launched and every counter at zero. -/
theorem frame_kernelIdeal : Cert.quiescent_KernelIdeal := fun m ρ _ => Cert.Scan.run_main (F := Ideal) m ρ

/-- The same of the reference over the extended reals. -/
theorem frame_referenceIdeal : Cert.quiescent_ReferenceIdeal := fun m ρ _ => Cert.Ref.run_main (F := Ideal) m ρ

/-- Over the extended reals the kernel and the reference leave equal results from equal arguments. -/
theorem algebraic : Cert.algebraic_KernelIdeal_ReferenceIdeal := by
  intro m g m' g' _ hargs
  refine ⟨fun c => Math.out (Scan.aq c m) (Scan.ak c m) (Scan.av c m) (Scan.adec c m),
    fun c => Math.gq (Scan.ak c m) (Scan.av c m) (Scan.adec c m) (Scan.adO c m),
    fun c => Math.gk (Scan.aq c m) (Scan.av c m) (Scan.adec c m) (Scan.adO c m),
    fun c => Math.gv (Scan.aq c m) (Scan.ak c m) (Scan.adec c m) (Scan.adO c m),
    fun c => Math.gdec (Scan.aq c m) (Scan.ak c m) (Scan.av c m) (Scan.adec c m) (Scan.adO c m), ?_, ?_⟩
  · refine (θ_run _ _ _).mono (fun r h c => ?_) (Scan.run_all (F := Ideal) m g)
    have k := fun (b : Ref KernelIdeal.sig .tc) (hb : b.isScoped = false) => h.1 c _ (Scan.uc b hb)
    exact ⟨(k KernelIdeal.main_v0_0 rfl).trans (Scan.result_out c m), (k KernelIdeal.main_v1_0 rfl).trans (Scan.result_dq c m),
      (k KernelIdeal.main_v1_1 rfl).trans (Scan.result_dk c m), (k KernelIdeal.main_v1_2 rfl).trans (Scan.result_dv c m),
      (k KernelIdeal.main_v1_3 rfl).trans (Scan.result_ddec c m),
      (k KernelIdeal.main_arg0 rfl).trans (Scan.w2_keeps m c _ (by decide) (by decide)),
      (k KernelIdeal.main_arg1 rfl).trans (Scan.w2_keeps m c _ (by decide) (by decide)),
      (k KernelIdeal.main_arg2 rfl).trans (Scan.w2_keeps m c _ (by decide) (by decide)),
      (k KernelIdeal.main_arg3 rfl).trans (Scan.w2_keeps m c _ (by decide) (by decide)),
      (k KernelIdeal.main_arg4 rfl).trans (Scan.w2_keeps m c _ (by decide) (by decide))⟩
  · refine (θ_run _ _ _).mono (fun r h c => ?_) (θ_run_and (Ref.run_all (F := Ideal) m' g') (Ref.run_main (F := Ideal) m' g'))
    obtain ⟨⟨h, _⟩, hf, _⟩ := h
    have k := fun (b : Ref ReferenceIdeal.sig .tc) (hb : b.isScoped = false) => h c _ (Pipeline.devRef_mem_ucRefs hb)
    obtain ⟨e0, e1, e2, e3, e4⟩ := hargs c
    have q0 : Ref.aq m' c = Scan.aq c m := e0
    have q1 : Ref.ak m' c = Scan.ak c m := e1
    have q2 : Ref.av m' c = Scan.av c m := e2
    have q3 : Ref.adec m' c = Scan.adec c m := e3
    have q4 : Ref.adO m' c = Scan.adO c m := e4
    refine ⟨(k ReferenceIdeal.main_v8 rfl).trans ((Ref.result_out m' c).trans ?_), (k ReferenceIdeal.main_v20 rfl).trans ((Ref.result_dq m' c).trans ?_),
      (k ReferenceIdeal.main_v19 rfl).trans ((Ref.result_dk m' c).trans ?_), (k ReferenceIdeal.main_v18 rfl).trans ((Ref.result_dv m' c).trans ?_),
      (k ReferenceIdeal.main_v17 rfl).trans ((Ref.result_ddec m' c).trans ?_), hf c⟩
    all_goals simp only [q0, q1, q2, q3, q4]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  frame_kernel, frame_kernelIdeal,
  frame_referenceIdeal, Cert.Ffn.frame_kernel2, Cert.Ffn.frame_kernel2Ideal, Cert.Ffn.frame_reference2Ideal,
  Cert.Proj.frame_kernel3, Cert.Proj.frame_kernel3Ideal, Cert.Proj.frame_reference3Ideal,
  fun m ρ _ => Cert.Kernel4.Gen.frame m ρ, fun m ρ _ => Cert.Kernel4Ideal.Gen.frame m ρ, Cert.Adam.frame_reference4,
  fun m ρ _ => Cert.Kernel5.Gen.frame m ρ, fun m ρ _ => Cert.Kernel5Ideal.Gen.frame m ρ, Cert.Adam.frame_reference5,
  fun m ρ _ => Cert.Kernel6.Gen.frame m ρ, fun m ρ _ => Cert.Kernel6Ideal.Gen.frame m ρ, Cert.Adam.frame_reference6,
  fun m ρ _ => Cert.Kernel7.Gen.frame m ρ, fun m ρ _ => Cert.Kernel7Ideal.Gen.frame m ρ, Cert.Adam.frame_reference7,
  fun m ρ _ => Cert.Kernel8.Gen.frame m ρ, fun m ρ _ => Cert.Kernel8Ideal.Gen.frame m ρ, Cert.Adam.frame_reference8,
  fun m ρ _ => Cert.Kernel9.Gen.frame m ρ, fun m ρ _ => Cert.Kernel9Ideal.Gen.frame m ρ, Cert.Adam.frame_reference9,
  fun m ρ _ => Cert.Kernel10.Gen.frame m ρ, fun m ρ _ => Cert.Kernel10Ideal.Gen.frame m ρ, Cert.Adam.frame_reference10,
  fun m ρ _ => Cert.Kernel11.Gen.frame m ρ, fun m ρ _ => Cert.Kernel11Ideal.Gen.frame m ρ, Cert.Adam.frame_reference11,
  fun m ρ _ => Cert.Kernel12.Gen.frame m ρ, fun m ρ _ => Cert.Kernel12Ideal.Gen.frame m ρ, Cert.Adam.frame_reference12,
  fun m ρ _ => Cert.Kernel13.Gen.frame m ρ, fun m ρ _ => Cert.Kernel13Ideal.Gen.frame m ρ, Cert.Adam.frame_reference13,
  fun m ρ _ => Cert.Kernel14.Gen.frame m ρ, fun m ρ _ => Cert.Kernel14Ideal.Gen.frame m ρ, Cert.Adam.frame_reference14,
  fun m ρ _ => Cert.Kernel15.Gen.frame m ρ, fun m ρ _ => Cert.Kernel15Ideal.Gen.frame m ρ, Cert.Loss.frame_reference15,
  fun m ρ _ => Cert.Kernel16.Gen.frame m ρ, fun m ρ _ => Cert.Kernel16Ideal.Gen.frame m ρ, Cert.Adam.frame_reference16,
  fun m ρ _ => Cert.Kernel17.Gen.frame m ρ, fun m ρ _ => Cert.Kernel17Ideal.Gen.frame m ρ, Cert.Sum.frame_reference17,
  fun m ρ _ => Cert.Kernel18.Gen.frame m ρ, fun m ρ _ => Cert.Kernel18Ideal.Gen.frame m ρ, Cert.Sum.frame_reference18,
  fun m ρ _ => Cert.Kernel19.Gen.frame m ρ, fun m ρ _ => Cert.Kernel19Ideal.Gen.frame m ρ, Cert.Sum.frame_reference19,
  trivial,
  algebraic, trivial, Cert.Ffn.algebraic2, trivial, Cert.Proj.algebraic3,
  trivial, Cert.Adam.algebraic4, trivial, Cert.Adam.algebraic5, trivial, Cert.Adam.algebraic6, trivial, Cert.Adam.algebraic7, trivial, Cert.Adam.algebraic8, trivial, Cert.Adam.algebraic9, trivial, Cert.Adam.algebraic10, trivial, Cert.Adam.algebraic11, trivial, Cert.Adam.algebraic12, trivial, Cert.Adam.algebraic13, trivial, Cert.Adam.algebraic14, trivial, Cert.Loss.algebraic15, trivial, Cert.Adam.algebraic16, trivial, Cert.Sum.algebraic17, trivial, Cert.Sum.algebraic18, trivial, Cert.Sum.algebraic19⟩

end Cert.Proof

end
